-- ==== Defs.lean ====
def Pre_Kernel3 [hPre_pre_mlp : Cert.Pre_pre_mlp.Facts] (m : (ℓ : Loc Cert.Kernel3.nD Cert.Kernel3.τ Cert.Kernel3.sig) → Buf (Elt Bits) ℓ) : Prop :=
  ∀ c : Dev Cert.Kernel3.nD,
    (Cert.Pre_pre_mlp.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))) = (fun _ => 1#1)

def Pre_Kernel3Ideal [hPre_pre_mlp : Cert.Pre_pre_mlp.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_pre_mlp.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_pre_mlp [hPre_pre_mlp : Cert.Pre_pre_mlp.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_pre_mlp.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_pre_select [hPre_pre_select : Cert.Pre_pre_select.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pre_select.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_pre_select [hPre_pre_select : Cert.Pre_pre_select.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pre_select.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def Pre_KernelIdeal [hPre_pre_whole : Cert.Pre_pre_whole.Facts] (m : (ℓ : Loc Cert.KernelIdeal.nD Cert.KernelIdeal.τ Cert.KernelIdeal.sig) → Buf (Elt Ideal) ℓ) : Prop :=
  ∀ c : Dev Cert.KernelIdeal.nD,
    (Cert.Pre_pre_whole.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_whole [hPre_pre_whole : Cert.Pre_pre_whole.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_whole.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel3 [hKernel3 : Cert.Kernel3.Facts] [hPre_pre_mlp : Cert.Pre_pre_mlp.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_pre_mlp : Cert.Pre_pre_mlp.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_pre_mlp [hReference3Ideal : Cert.Reference3Ideal.Facts] [hPre_pre_mlp : Cert.Pre_pre_mlp.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_pre_mlp m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_pre_select [hKernel2Ideal : Cert.Kernel2Ideal.Facts] [hPre_pre_select : Cert.Pre_pre_select.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_pre_select m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_pre_select [hReference2Ideal : Cert.Reference2Ideal.Facts] [hPre_pre_select : Cert.Pre_pre_select.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_pre_select m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_KernelIdeal [hKernelIdeal : Cert.KernelIdeal.Facts] [hPre_pre_whole : Cert.Pre_pre_whole.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre_whole [hReferenceIdeal : Cert.ReferenceIdeal.Facts] [hPre_pre_whole : Cert.Pre_pre_whole.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_whole m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] [hPre_pre_mlp : Cert.Pre_pre_mlp.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)) →
    ∃ (v0 : (c : Dev Cert.Kernel1Ideal.nD) → Buf (Elt Ideal) ((c.tc : Thread Cert.Kernel1Ideal.nD Cert.Kernel1Ideal.τ).loc Cert.Kernel1Ideal.main_v11)) (v1 : (c : Dev Cert.Kernel1Ideal.nD) → Buf (Elt Ideal) ((c.tc : Thread Cert.Kernel1Ideal.nD Cert.Kernel1Ideal.τ).loc Cert.Kernel1Ideal.main_v12)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v11) = v0 c
          ∧ r.2.mem ((c.tc : Thread Cert.Kernel1Ideal.nD Cert.Kernel1Ideal.τ).loc Cert.Kernel1Ideal.main_v12) = v1 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v3) = v0 c
          ∧ r.2.mem ((c.tc : Thread Cert.Reference1Ideal.nD Cert.Reference1Ideal.τ).loc Cert.Reference1Ideal.main_v4) = v1 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1))

def preserves_Kernel2_Kernel2Ideal : Prop :=
  True

def algebraic_Kernel2Ideal_Reference2Ideal_pre_pre_select [hKernel2Ideal : Cert.Kernel2Ideal.Facts] [hReference2Ideal : Cert.Reference2Ideal.Facts] [hPre_pre_select : Cert.Pre_pre_select.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_pre_select m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_KernelIdeal_ReferenceIdeal [hKernelIdeal : Cert.KernelIdeal.Facts] [hReferenceIdeal : Cert.ReferenceIdeal.Facts] [hPre_pre_whole : Cert.Pre_pre_whole.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel3 : Cert.Kernel3.Facts) (hKernel3Ideal : Cert.Kernel3Ideal.Facts) (hReference3Ideal : Cert.Reference3Ideal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernelIdeal : Cert.KernelIdeal.Facts) (hReferenceIdeal : Cert.ReferenceIdeal.Facts) (hPre_pre_mlp : Cert.Pre_pre_mlp.Facts) (hPre_pre_select : Cert.Pre_pre_select.Facts) (hPre_pre_whole : Cert.Pre_pre_whole.Facts),
    quiescent_Kernel3 (hKernel3 := hKernel3) (hPre_pre_mlp := hPre_pre_mlp)
    ∧ quiescent_Kernel3Ideal (hKernel3Ideal := hKernel3Ideal) (hPre_pre_mlp := hPre_pre_mlp)
    ∧ quiescent_Reference3Ideal (hReference3Ideal := hReference3Ideal)
    ∧ quiescent_Reference3Ideal_pre_pre_mlp (hReference3Ideal := hReference3Ideal) (hPre_pre_mlp := hPre_pre_mlp)
    ∧ quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Kernel2Ideal_pre_pre_select (hKernel2Ideal := hKernel2Ideal) (hPre_pre_select := hPre_pre_select)
    ∧ quiescent_Reference2Ideal (hReference2Ideal := hReference2Ideal)
    ∧ quiescent_Reference2Ideal_pre_pre_select (hReference2Ideal := hReference2Ideal) (hPre_pre_select := hPre_pre_select)
    ∧ quiescent_KernelIdeal (hKernelIdeal := hKernelIdeal) (hPre_pre_whole := hPre_pre_whole)
    ∧ quiescent_ReferenceIdeal (hReferenceIdeal := hReferenceIdeal)
    ∧ quiescent_ReferenceIdeal_pre_pre_whole (hReferenceIdeal := hReferenceIdeal) (hPre_pre_whole := hPre_pre_whole)
    ∧ preserves_Kernel3_Kernel3Ideal
    ∧ algebraic_Kernel3Ideal_Reference3Ideal (hKernel3Ideal := hKernel3Ideal) (hReference3Ideal := hReference3Ideal) (hPre_pre_mlp := hPre_pre_mlp)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal_pre_pre_select (hKernel2Ideal := hKernel2Ideal) (hReference2Ideal := hReference2Ideal) (hPre_pre_select := hPre_pre_select)
    ∧ algebraic_KernelIdeal_ReferenceIdeal (hKernelIdeal := hKernelIdeal) (hReferenceIdeal := hReferenceIdeal) (hPre_pre_whole := hPre_pre_whole)
-- ==== Pre_pre_mlp.lean ====
abbrev S10000x128 : Shape := ⟨2, ![10000, 128]⟩
abbrev S10000x3 : Shape := ⟨2, ![10000, 3]⟩
abbrev S5120x3 : Shape := ⟨2, ![5120, 3]⟩
abbrev S5120x32 : Shape := ⟨2, ![5120, 32]⟩
abbrev S131x128 : Shape := ⟨2, ![131, 128]⟩
abbrev S128 : Shape := ⟨1, ![128]⟩
abbrev S128x128 : Shape := ⟨2, ![128, 128]⟩
abbrev S_ : Shape := ⟨0, ![]⟩
abbrev S3x128 : Shape := ⟨2, ![3, 128]⟩

class Facts : Prop where
  bcast_S_S5120x32 : S_.BroadcastsInDim S5120x32 (![] : Fin 0 → Fin S5120x32.rank)
  reducesTo_S5120x32_S_d0_1 : S5120x32.ReducesTo [0, 1] S_
  h_S_ : 0 < S_.numel
  bcast_S_S10000x3 : S_.BroadcastsInDim S10000x3 (![] : Fin 0 → Fin S10000x3.rank)
  reducesTo_S10000x3_S_d0_1 : S10000x3.ReducesTo [0, 1] S_
  bcast_S_S5120x3 : S_.BroadcastsInDim S5120x3 (![] : Fin 0 → Fin S5120x3.rank)
  reducesTo_S5120x3_S_d0_1 : S5120x3.ReducesTo [0, 1] S_
  slices_S131x128_S3x128_128_0 : S131x128.Slices ![128, 0] S3x128
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v15 : IVec S_ 1) (main_v16 : FVec F S3x128 .f32) : IVec S_ 1 :=
  let main_v17 : FVec F S3x128 .f32 := Host.absf main_v16
  let main_cst_5 : FVec F S_ .f32 := constant S_ .f32 0x7F800000#32
  let main_v18 : FVec F S3x128 .f32 := broadcastInDim S3x128 ![] bcast_S_S3x128 main_cst_5
  let main_v19 : IVec S3x128 1 := cmpf .olt main_v17 main_v18
  let main_c_6 : IVec S_ 1 := constantI S_ 1 1#1
  let main_v20 : IVec S_ 1 := (fun x v => Host.reduce IntOp.andi x v reducesTo_S3x128_S_d0_1 h_S_) main_v19 main_c_6
  let main_v21 : IVec S_ 1 := andi main_v15 main_v20
  main_v21

def fn {F : FTy → Type} [FloatOps F] (main_arg0 : FVec F S10000x128 .f32) (main_arg1 : FVec F S10000x3 .f32) (main_arg2 : FVec F S5120x3 .f32) (main_arg3 : IVec S5120x32 32) (main_arg4 : FVec F S5120x32 .f32) (main_arg5 : FVec F S131x128 .f32) (main_arg6 : FVec F S128 .f32) (main_arg7 : FVec F S128x128 .f32) (main_arg8 : FVec F S128 .f32) : IVec S_ 1 :=
  let main_c : IVec S_ 32 := constantI S_ 32 0#32
  let main_v0 : IVec S5120x32 32 := broadcastInDim S5120x32 ![] bcast_S_S5120x32 main_c
  let main_v1 : IVec S5120x32 1 := cmpi .sge main_arg3 main_v0
  let main_c_0 : IVec S_ 32 := constantI S_ 32 10000#32
  let main_v2 : IVec S5120x32 32 := broadcastInDim S5120x32 ![] bcast_S_S5120x32 main_c_0
  let main_v3 : IVec S5120x32 1 := cmpi .slt main_arg3 main_v2
  let main_v4 : IVec S5120x32 1 := andi main_v1 main_v3
  let main_c_1 : IVec S_ 1 := constantI S_ 1 1#1
  let main_v5 : IVec S_ 1 := (fun x v => Host.reduce IntOp.andi x v reducesTo_S5120x32_S_d0_1 h_S_) main_v4 main_c_1
  let main_v6 : FVec F S10000x3 .f32 := Host.absf main_arg1
  let main_cst : FVec F S_ .f32 := constant S_ .f32 0x7F800000#32
  let main_v7 : FVec F S10000x3 .f32 := broadcastInDim S10000x3 ![] bcast_S_S10000x3 main_cst
  let main_v8 : IVec S10000x3 1 := cmpf .olt main_v6 main_v7
  let main_c_2 : IVec S_ 1 := constantI S_ 1 1#1
  let main_v9 : IVec S_ 1 := (fun x v => Host.reduce IntOp.andi x v reducesTo_S10000x3_S_d0_1 h_S_) main_v8 main_c_2
  let main_v10 : IVec S_ 1 := andi main_v5 main_v9
  let main_v11 : FVec F S5120x3 .f32 := Host.absf main_arg2
  let main_cst_3 : FVec F S_ .f32 := constant S_ .f32 0x7F800000#32
  let main_v12 : FVec F S5120x3 .f32 := broadcastInDim S5120x3 ![] bcast_S_S5120x3 main_cst_3
  let main_v13 : IVec S5120x3 1 := cmpf .olt main_v11 main_v12
  let main_c_4 : IVec S_ 1 := constantI S_ 1 1#1
  let main_v14 : IVec S_ 1 := (fun x v => Host.reduce IntOp.andi x v reducesTo_S5120x3_S_d0_1 h_S_) main_v13 main_c_4
  let main_v15 : IVec S_ 1 := andi main_v10 main_v14
  let main_v16 : FVec F S3x128 .f32 := (extractStridedSlice S3x128 ![128, 0] · slices_S131x128_S3x128_128_0) main_arg5
  fn_part1 (F := F) main_v15 main_v16
-- ==== Pre_pre_select.lean ====
abbrev S10000x3 : Shape := ⟨2, ![10000, 3]⟩
abbrev S5000x3 : Shape := ⟨2, ![5000, 3]⟩
abbrev S_ : Shape := ⟨0, ![]⟩

class Facts : Prop where
  bcast_S_S10000x3 : S_.BroadcastsInDim S10000x3 (![] : Fin 0 → Fin S10000x3.rank)
  reducesTo_S10000x3_S_d0_1 : S10000x3.ReducesTo [0, 1] S_
  h_S_ : 0 < S_.numel
  bcast_S_S5000x3 : S_.BroadcastsInDim S5000x3 (![] : Fin 0 → Fin S5000x3.rank)
  reducesTo_S5000x3_S_d0_1 : S5000x3.ReducesTo [0, 1] S_

variable [Facts]

def fn {F : FTy → Type} [FloatOps F] (main_arg0 : FVec F S10000x3 .f32) (main_arg1 : FVec F S5000x3 .f32) : IVec S_ 1 :=
  let main_v0 : FVec F S10000x3 .f32 := Host.absf main_arg0
  let main_cst : FVec F S_ .f32 := constant S_ .f32 0x4CBEBC20#32
  let main_v1 : FVec F S10000x3 .f32 := broadcastInDim S10000x3 ![] bcast_S_S10000x3 main_cst
  let main_v2 : IVec S10000x3 1 := cmpf .olt main_v0 main_v1
  let main_c : IVec S_ 1 := constantI S_ 1 1#1
  let main_v3 : IVec S_ 1 := (fun x v => Host.reduce IntOp.andi x v reducesTo_S10000x3_S_d0_1 h_S_) main_v2 main_c
  let main_v4 : FVec F S5000x3 .f32 := Host.absf main_arg1
  let main_cst_0 : FVec F S_ .f32 := constant S_ .f32 0x4CBEBC20#32
  let main_v5 : FVec F S5000x3 .f32 := broadcastInDim S5000x3 ![] bcast_S_S5000x3 main_cst_0
  let main_v6 : IVec S5000x3 1 := cmpf .olt main_v4 main_v5
  let main_c_1 : IVec S_ 1 := constantI S_ 1 1#1
  let main_v7 : IVec S_ 1 := (fun x v => Host.reduce IntOp.andi x v reducesTo_S5000x3_S_d0_1 h_S_) main_v6 main_c_1
  let main_v8 : IVec S_ 1 := andi main_v3 main_v7
  main_v8
-- ==== Pre_pre_whole.lean ====
abbrev S10000x128 : Shape := ⟨2, ![10000, 128]⟩
abbrev S10000x3 : Shape := ⟨2, ![10000, 3]⟩
abbrev S10000 : Shape := ⟨1, ![10000]⟩
abbrev S131x128 : Shape := ⟨2, ![131, 128]⟩
abbrev S128 : Shape := ⟨1, ![128]⟩
abbrev S128x128 : Shape := ⟨2, ![128, 128]⟩
abbrev S_ : Shape := ⟨0, ![]⟩
abbrev S3x128 : Shape := ⟨2, ![3, 128]⟩

class Facts : Prop where
  bcast_S_S10000x3 : S_.BroadcastsInDim S10000x3 (![] : Fin 0 → Fin S10000x3.rank)
  reducesTo_S10000x3_S_d0_1 : S10000x3.ReducesTo [0, 1] S_
  h_S_ : 0 < S_.numel
  slices_S131x128_S3x128_128_0 : S131x128.Slices ![128, 0] S3x128
  bcast_S_S3x128 : S_.BroadcastsInDim S3x128 (![] : Fin 0 → Fin S3x128.rank)
  reducesTo_S3x128_S_d0_1 : S3x128.ReducesTo [0, 1] S_

variable [Facts]

def fn {F : FTy → Type} [FloatOps F] (main_arg0 : FVec F S10000x128 .f32) (main_arg1 : FVec F S10000x3 .f32) (main_arg2 : IVec S10000 32) (main_arg3 : FVec F S131x128 .f32) (main_arg4 : FVec F S128 .f32) (main_arg5 : FVec F S128x128 .f32) (main_arg6 : FVec F S128 .f32) : IVec S_ 1 :=
  let main_v0 : FVec F S10000x3 .f32 := Host.absf main_arg1
  let main_cst : FVec F S_ .f32 := constant S_ .f32 0x4CBEBC20#32
  let main_v1 : FVec F S10000x3 .f32 := broadcastInDim S10000x3 ![] bcast_S_S10000x3 main_cst
  let main_v2 : IVec S10000x3 1 := cmpf .olt main_v0 main_v1
  let main_c : IVec S_ 1 := constantI S_ 1 1#1
  let main_v3 : IVec S_ 1 := (fun x v => Host.reduce IntOp.andi x v reducesTo_S10000x3_S_d0_1 h_S_) main_v2 main_c
  let main_v4 : FVec F S3x128 .f32 := (extractStridedSlice S3x128 ![128, 0] · slices_S131x128_S3x128_128_0) main_arg3
  let main_v5 : FVec F S3x128 .f32 := Host.absf main_v4
  let main_cst_0 : FVec F S_ .f32 := constant S_ .f32 0x7F800000#32
  let main_v6 : FVec F S3x128 .f32 := broadcastInDim S3x128 ![] bcast_S_S3x128 main_cst_0
  let main_v7 : IVec S3x128 1 := cmpf .olt main_v5 main_v6
  let main_c_1 : IVec S_ 1 := constantI S_ 1 1#1
  let main_v8 : IVec S_ 1 := (fun x v => Host.reduce IntOp.andi x v reducesTo_S3x128_S_d0_1 h_S_) main_v7 main_c_1
  let main_v9 : IVec S_ 1 := andi main_v3 main_v8
  main_v9
-- ==== Kernel3.lean ====
abbrev S10000x128 : Shape := ⟨2, ![10000, 128]⟩
abbrev S10000x3 : Shape := ⟨2, ![10000, 3]⟩
abbrev S5120x3 : Shape := ⟨2, ![5120, 3]⟩
abbrev S5120x32 : Shape := ⟨2, ![5120, 32]⟩
abbrev S131x128 : Shape := ⟨2, ![131, 128]⟩
abbrev S128 : Shape := ⟨1, ![128]⟩
abbrev S128x128 : Shape := ⟨2, ![128, 128]⟩
abbrev S80x64x32 : Shape := ⟨3, ![80, 64, 32]⟩
abbrev S80x32x64 : Shape := ⟨3, ![80, 32, 64]⟩
abbrev S163840 : Shape := ⟨1, ![163840]⟩
abbrev S163840x1 : Shape := ⟨2, ![163840, 1]⟩
abbrev S_ : Shape := ⟨0, ![]⟩
abbrev S10000x5 : Shape := ⟨2, ![10000, 5]⟩
abbrev S10000x136 : Shape := ⟨2, ![10000, 136]⟩
abbrev S5120x8 : Shape := ⟨2, ![5120, 8]⟩
abbrev S5x128 : Shape := ⟨2, ![5, 128]⟩
abbrev S136x128 : Shape := ⟨2, ![136, 128]⟩
abbrev S3x128 : Shape := ⟨2, ![3, 128]⟩
abbrev S8x128 : Shape := ⟨2, ![8, 128]⟩
abbrev S1x128 : Shape := ⟨2, ![1, 128]⟩
abbrev S5120x128 : Shape := ⟨2, ![5120, 128]⟩
abbrev S2048 : Shape := ⟨1, ![2048]⟩
abbrev S2048x1 : Shape := ⟨2, ![2048, 1]⟩
abbrev S64x8 : Shape := ⟨2, ![64, 8]⟩
abbrev S64x128 : Shape := ⟨2, ![64, 128]⟩
abbrev S2048x136 : Shape := ⟨2, ![2048, 136]⟩
abbrev S1 : Shape := ⟨1, ![1]⟩
abbrev S1x136 : Shape := ⟨2, ![1, 136]⟩
abbrev S2048x128 : Shape := ⟨2, ![2048, 128]⟩

abbrev nBuf : Space → Nat
  | .hbm => 31
  | .vmem => 13
  | .smem => 2
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S5120x3, .f32⟩
  | .hbm, ⟨3, _⟩ => ⟨S5120x32, .i32⟩
  | .hbm, ⟨4, _⟩ => ⟨S5120x32, .f32⟩
  | .hbm, ⟨5, _⟩ => ⟨S131x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S80x64x32, .i32⟩
  | .hbm, ⟨10, _⟩ => ⟨S80x32x64, .i32⟩
  | .hbm, ⟨11, _⟩ => ⟨S163840, .i32⟩
  | .hbm, ⟨12, _⟩ => ⟨S80x64x32, .f32⟩
  | .hbm, ⟨13, _⟩ => ⟨S80x32x64, .f32⟩
  | .hbm, ⟨14, _⟩ => ⟨S163840x1, .f32⟩
  | .hbm, ⟨15, _⟩ => ⟨S_, .f32⟩
  | .hbm, ⟨16, _⟩ => ⟨S10000x5, .f32⟩
  | .hbm, ⟨17, _⟩ => ⟨S10000x136, .f32⟩
  | .hbm, ⟨18, _⟩ => ⟨S_, .i32⟩
  | .hbm, ⟨19, _⟩ => ⟨S_, .f32⟩
  | .hbm, ⟨20, _⟩ => ⟨S5120x8, .f32⟩
  | .hbm, ⟨21, _⟩ => ⟨S_, .f32⟩
  | .hbm, ⟨22, _⟩ => ⟨S5x128, .f32⟩
  | .hbm, ⟨23, _⟩ => ⟨S136x128, .f32⟩
  | .hbm, ⟨24, _⟩ => ⟨S3x128, .f32⟩
  | .hbm, ⟨25, _⟩ => ⟨S_, .f32⟩
  | .hbm, ⟨26, _⟩ => ⟨S5x128, .f32⟩
  | .hbm, ⟨27, _⟩ => ⟨S8x128, .f32⟩
  | .hbm, ⟨28, _⟩ => ⟨S1x128, .f32⟩
  | .hbm, ⟨29, _⟩ => ⟨S1x128, .f32⟩
  | .hbm, ⟨30, _⟩ => ⟨S5120x128, .f32⟩
  | .local _ .vmem, ⟨0, _⟩ => ⟨S2048x1, .f32⟩
  | .local _ .vmem, ⟨1, _⟩ => ⟨S2048x1, .f32⟩
  | .local _ .vmem, ⟨2, _⟩ => ⟨S10000x136, .f32⟩
  | .local _ .vmem, ⟨3, _⟩ => ⟨S64x8, .f32⟩
  | .local _ .vmem, ⟨4, _⟩ => ⟨S64x8, .f32⟩
  | .local _ .vmem, ⟨5, _⟩ => ⟨S136x128, .f32⟩
  | .local _ .vmem, ⟨6, _⟩ => ⟨S8x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S64x128, .f32⟩
  | .local _ .vmem, ⟨11, _⟩ => ⟨S64x128, .f32⟩
  | .local _ .vmem, ⟨12, _⟩ => ⟨S2048x136, .f32⟩
  | .local _ .smem, ⟨0, _⟩ => ⟨S2048, .i32⟩
  | .local _ .smem, ⟨1, _⟩ => ⟨S2048, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![80], ![false]⟩

@[reducible] def k0_t1_loop : Scf.Loop 32 :=
  let c0_i32 : BitVec 32 := 0#32
  let c2048_i32 : BitVec 32 := 2048#32
  let v0 : BitVec 32 := Scalar.addi c0_i32 c2048_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg12 : BitVec 32 := Scf.iv c0_i32 c1_i32 k0_t1
  let v98 : Index := Scalar.indexCast arg12
  ![v98.toNat]
def k0_off2 (v99 : BitVec 32) : Fin 2 → Nat :=
  let v100 : Index := Scalar.indexCast v99
  let c0_24 : Index := 0#32
  ![v100.toNat, 0]

def k0_chk1 (v99 : BitVec 32) : Prop :=
  (∀ a, (k0_off2 v99) a + S1x136.size a ≤ S10000x136.size a)
theorem k0_off2_inb : ∀ (v99 : BitVec 32) (k0_hw1 : k0_chk1 v99), ∀ a, (k0_off2 v99) a + S1x136.size a ≤ S10000x136.size a := fun v99 k0_hw1 => k0_hw1

def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let v103 : Index := Scalar.indexCast arg12
  let c0_25 : Index := 0#32
  ![v103.toNat, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x136 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S10000x128 : Shape := ⟨2, ![10000, 128]⟩
abbrev S10000x3 : Shape := ⟨2, ![10000, 3]⟩
abbrev S5120x3 : Shape := ⟨2, ![5120, 3]⟩
abbrev S5120x32 : Shape := ⟨2, ![5120, 32]⟩
abbrev S131x128 : Shape := ⟨2, ![131, 128]⟩
abbrev S128 : Shape := ⟨1, ![128]⟩
abbrev S128x128 : Shape := ⟨2, ![128, 128]⟩
abbrev S_ : Shape := ⟨0, ![]⟩
abbrev S163840 : Shape := ⟨1, ![163840]⟩
abbrev S5120x1x3 : Shape := ⟨3, ![5120, 1, 3]⟩
abbrev S5120x32x3 : Shape := ⟨3, ![5120, 32, 3]⟩
abbrev S163840x3 : Shape := ⟨2, ![163840, 3]⟩
abbrev S163840x1 : Shape := ⟨2, ![163840, 1]⟩
abbrev S163840x128 : Shape := ⟨2, ![163840, 128]⟩
abbrev S163840x131 : Shape := ⟨2, ![163840, 131]⟩
abbrev S1x128 : Shape := ⟨2, ![1, 128]⟩
abbrev S5120x32x128 : Shape := ⟨3, ![5120, 32, 128]⟩
abbrev S5120x128 : Shape := ⟨2, ![5120, 128]⟩

abbrev nBuf : Space → Nat
  | .hbm => 60
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S5120x3, .f32⟩
  | .hbm, ⟨3, _⟩ => ⟨S5120x32, .i32⟩
  | .hbm, ⟨4, _⟩ => ⟨S5120x32, .f32⟩
  | .hbm, ⟨5, _⟩ => ⟨S131x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S5120x32, .f32⟩
  | .hbm, ⟨11, _⟩ => ⟨S5120x32, .i1⟩
  | .hbm, ⟨12, _⟩ => ⟨S163840, .i32⟩
  | .hbm, ⟨13, _⟩ => ⟨S5120x1x3, .f32⟩
  | .hbm, ⟨14, _⟩ => ⟨S5120x32x3, .f32⟩
  | .hbm, ⟨15, _⟩ => ⟨S163840x3, .f32⟩
  | .hbm, ⟨16, _⟩ => ⟨S_, .i32⟩
  | .hbm, ⟨17, _⟩ => ⟨S163840, .i32⟩
  | .hbm, ⟨18, _⟩ => ⟨S163840, .i1⟩
  | .hbm, ⟨19, _⟩ => ⟨S_, .i32⟩
  | .hbm, ⟨20, _⟩ => ⟨S163840, .i32⟩
  | .hbm, ⟨21, _⟩ => ⟨S163840, .i32⟩
  | .hbm, ⟨22, _⟩ => ⟨S163840, .i32⟩
  | .hbm, ⟨23, _⟩ => ⟨S163840x1, .i32⟩
  | .hbm, ⟨24, _⟩ => ⟨S163840x128, .f32⟩
  | .hbm, ⟨25, _⟩ => ⟨S_, .i32⟩
  | .hbm, ⟨26, _⟩ => ⟨S163840, .i32⟩
  | .hbm, ⟨27, _⟩ => ⟨S163840, .i1⟩
  | .hbm, ⟨28, _⟩ => ⟨S_, .i32⟩
  | .hbm, ⟨29, _⟩ => ⟨S163840, .i32⟩
  | .hbm, ⟨30, _⟩ => ⟨S163840, .i32⟩
  | .hbm, ⟨31, _⟩ => ⟨S163840, .i32⟩
  | .hbm, ⟨32, _⟩ => ⟨S163840x1, .i32⟩
  | .hbm, ⟨33, _⟩ => ⟨S163840x3, .f32⟩
  | .hbm, ⟨34, _⟩ => ⟨S163840x3, .f32⟩
  | .hbm, ⟨35, _⟩ => ⟨S163840x131, .f32⟩
  | .hbm, ⟨36, _⟩ => ⟨S163840x128, .f32⟩
  | .hbm, ⟨37, _⟩ => ⟨S1x128, .f32⟩
  | .hbm, ⟨38, _⟩ => ⟨S163840x128, .f32⟩
  | .hbm, ⟨39, _⟩ => ⟨S163840x128, .f32⟩
  | .hbm, ⟨40, _⟩ => ⟨S_, .f32⟩
  | .hbm, ⟨41, _⟩ => ⟨S163840x128, .f32⟩
  | .hbm, ⟨42, _⟩ => ⟨S163840x128, .f32⟩
  | .hbm, ⟨43, _⟩ => ⟨S163840x128, .f32⟩
  | .hbm, ⟨44, _⟩ => ⟨S1x128, .f32⟩
  | .hbm, ⟨45, _⟩ => ⟨S163840x128, .f32⟩
  | .hbm, ⟨46, _⟩ => ⟨S163840x128, .f32⟩
  | .hbm, ⟨47, _⟩ => ⟨S_, .f32⟩
  | .hbm, ⟨48, _⟩ => ⟨S163840x128, .f32⟩
  | .hbm, ⟨49, _⟩ => ⟨S163840x128, .f32⟩
  | .hbm, ⟨50, _⟩ => ⟨S163840, .i1⟩
  | .hbm, ⟨51, _⟩ => ⟨S163840x1, .i1⟩
  | .hbm, ⟨52, _⟩ => ⟨S_, .f32⟩
  | .hbm, ⟨53, _⟩ => ⟨S_, .f32⟩
  | .hbm, ⟨54, _⟩ => ⟨S163840x128, .i1⟩
  | .hbm, ⟨55, _⟩ => ⟨S163840x128, .f32⟩
  | .hbm, ⟨56, _⟩ => ⟨S163840x128, .f32⟩
  | .hbm, ⟨57, _⟩ => ⟨S5120x32x128, .f32⟩
  | .hbm, ⟨58, _⟩ => ⟨S_, .f32⟩
  | .hbm, ⟨59, _⟩ => ⟨S5120x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Kernel1.lean ====
abbrev S10000x3 : Shape := ⟨2, ![10000, 3]⟩
abbrev S10000 : Shape := ⟨1, ![10000]⟩
abbrev S_ : Shape := ⟨0, ![]⟩
abbrev S10240x3 : Shape := ⟨2, ![10240, 3]⟩
abbrev S10240x1 : Shape := ⟨2, ![10240, 1]⟩
abbrev S10240 : Shape := ⟨1, ![10240]⟩
abbrev S8x1280 : Shape := ⟨2, ![8, 1280]⟩
abbrev S5000 : Shape := ⟨1, ![5000]⟩
abbrev S1 : Shape := ⟨1, ![1]⟩
abbrev S1x1 : Shape := ⟨2, ![1, 1]⟩
abbrev S8x128 : Shape := ⟨2, ![8, 128]⟩
abbrev S4x128 : Shape := ⟨2, ![4, 128]⟩
abbrev S2x128 : Shape := ⟨2, ![2, 128]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S1x8 : Shape := ⟨2, ![1, 8]⟩
abbrev S1x4 : Shape := ⟨2, ![1, 4]⟩
abbrev S1x2 : Shape := ⟨2, ![1, 2]⟩
abbrev S1x1x1 : Shape := ⟨3, ![1, 1, 1]⟩
abbrev S5000x1 : Shape := ⟨2, ![5000, 1]⟩
abbrev S5000x3 : Shape := ⟨2, ![5000, 3]⟩

abbrev nBuf : Space → Nat
  | .hbm => 60
  | .vmem => 3
  | .smem => 1
  | _ => 0

abbrev bufTy : (tb : Table) → Fin (tcTables nBuf tb) → BufTy
  | .hbm, ⟨0, _⟩ => ⟨S10000x3, .f32⟩
  | .hbm, ⟨1, _⟩ => ⟨S10000, .i32⟩
  | .hbm, ⟨2, _⟩ => ⟨S_, .i32⟩
  | .hbm, ⟨3, _⟩ => ⟨S_, .f32⟩
  | .hbm, ⟨4, _⟩ => ⟨S10240x3, .f32⟩
  | .hbm, ⟨5, _⟩ => ⟨S10240x1, .f32⟩
  | .hbm, ⟨6, _⟩ => ⟨S10240, .f32⟩
  | .hbm, ⟨7, _⟩ => ⟨S8x1280, .f32⟩
  | .hbm, ⟨8, _⟩ => ⟨S10240x1, .f32⟩
  | .hbm, ⟨9, _⟩ => ⟨S10240, .f32⟩
  | .hbm, ⟨10, _⟩ => ⟨S8x1280, .f32⟩
  | .hbm, ⟨11, _⟩ => ⟨S10240x1, .f32⟩
  | .hbm, ⟨12, _⟩ => ⟨S10240, .f32⟩
  | .hbm, ⟨13, _⟩ => ⟨S8x1280, .f32⟩
  | .hbm, ⟨14, _⟩ => ⟨S5000, .i32⟩
  | .hbm, ⟨15, _⟩ => ⟨S_, .i32⟩
  | .hbm, ⟨16, _⟩ => ⟨S5000, .i32⟩
  | .hbm, ⟨17, _⟩ => ⟨S5000, .i1⟩
  | .hbm, ⟨18, _⟩ => ⟨S_, .i32⟩
  | .hbm, ⟨19, _⟩ => ⟨S5000, .i32⟩
  | .hbm, ⟨20, _⟩ => ⟨S5000, .i32⟩
  | .hbm, ⟨21, _⟩ => ⟨S5000, .i32⟩
  | .hbm, ⟨22, _⟩ => ⟨S5000x1, .i32⟩
  | .hbm, ⟨23, _⟩ => ⟨S1, .i32⟩
  | .hbm, ⟨24, _⟩ => ⟨S_, .i32⟩
  | .hbm, ⟨25, _⟩ => ⟨S5000x1, .i32⟩
  | .hbm, ⟨26, _⟩ => ⟨S5000x1, .i1⟩
  | .hbm, ⟨27, _⟩ => ⟨S1x1, .i32⟩
  | .hbm, ⟨28, _⟩ => ⟨S5000x1, .i32⟩
  | .hbm, ⟨29, _⟩ => ⟨S5000x1, .i1⟩
  | .hbm, ⟨30, _⟩ => ⟨S5000x1, .i1⟩
  | .hbm, ⟨31, _⟩ => ⟨S_, .i1⟩
  | .hbm, ⟨32, _⟩ => ⟨S5000, .i1⟩
  | .hbm, ⟨33, _⟩ => ⟨S5000x3, .f32⟩
  | .hbm, ⟨34, _⟩ => ⟨S5000x3, .i1⟩
  | .hbm, ⟨35, _⟩ => ⟨S_, .f32⟩
  | .hbm, ⟨36, _⟩ => ⟨S5000x3, .f32⟩
  | .hbm, ⟨37, _⟩ => ⟨S5000x3, .f32⟩
  | .hbm, ⟨38, _⟩ => ⟨S_, .i32⟩
  | .hbm, ⟨39, _⟩ => ⟨S5000, .i32⟩
  | .hbm, ⟨40, _⟩ => ⟨S5000, .i1⟩
  | .hbm, ⟨41, _⟩ => ⟨S_, .i32⟩
  | .hbm, ⟨42, _⟩ => ⟨S5000, .i32⟩
  | .hbm, ⟨43, _⟩ => ⟨S5000, .i32⟩
  | .hbm, ⟨44, _⟩ => ⟨S5000, .i32⟩
  | .hbm, ⟨45, _⟩ => ⟨S5000x1, .i32⟩
  | .hbm, ⟨46, _⟩ => ⟨S1, .i32⟩
  | .hbm, ⟨47, _⟩ => ⟨S_, .i32⟩
  | .hbm, ⟨48, _⟩ => ⟨S5000x1, .i32⟩
  | .hbm, ⟨49, _⟩ => ⟨S5000x1, .i1⟩
  | .hbm, ⟨50, _⟩ => ⟨S1x1, .i32⟩
  | .hbm, ⟨51, _⟩ => ⟨S5000x1, .i32⟩
  | .hbm, ⟨52, _⟩ => ⟨S5000x1, .i1⟩
  | .hbm, ⟨53, _⟩ => ⟨S5000x1, .i1⟩
  | .hbm, ⟨54, _⟩ => ⟨S_, .i1⟩
  | .hbm, ⟨55, _⟩ => ⟨S5000, .i1⟩
  | .hbm, ⟨56, _⟩ => ⟨S5000, .i32⟩
  | .hbm, ⟨57, _⟩ => ⟨S_, .i32⟩
  | .hbm, ⟨58, _⟩ => ⟨S5000, .i32⟩
  | .hbm, ⟨59, _⟩ => ⟨S5000, .i32⟩
  | .local _ .vmem, ⟨0, _⟩ => ⟨S8x1280, .f32⟩
  | .local _ .vmem, ⟨1, _⟩ => ⟨S8x1280, .f32⟩
  | .local _ .vmem, ⟨2, _⟩ => ⟨S8x1280, .f32⟩
  | .local _ .smem, ⟨0, _⟩ => ⟨S5000, .i32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v11 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_c_4 : Ref sig .tc := ⟨.hbm, 57, rfl⟩
abbrev main_call2_v14 : Ref sig .tc := ⟨.hbm, 58, rfl⟩
abbrev main_v12 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c4999_i32 : BitVec 32 := 4999#32
  let v20 : BitVec 32 := Scalar.addi c1_i32 c4999_i32
  let c1_i32_7 : BitVec 32 := 1#32
  ⟨c1_i32, v20, c1_i32_7⟩
def k0_off1 (k0_t1 : Fin k0_t1_loop.trips) : Fin 1 → Nat :=
  let c1_i32 : BitVec 32 := 1#32
  let c1_i32_7 : BitVec 32 := 1#32
  let arg4 : BitVec 32 := Scf.iv c1_i32 c1_i32_7 k0_t1
  let v377 : Index := Scalar.indexCast arg4
  ![v377.toNat]
abbrev stage0_0 : Fin 1 → Memref sig .tc .vmem S8x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S5000 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference1Ideal.lean ====
abbrev S10000x3 : Shape := ⟨2, ![10000, 3]⟩
abbrev S10000 : Shape := ⟨1, ![10000]⟩
abbrev S_ : Shape := ⟨0, ![]⟩
abbrev S5000 : Shape := ⟨1, ![5000]⟩
abbrev S1 : Shape := ⟨1, ![1]⟩
abbrev S1x3 : Shape := ⟨2, ![1, 3]⟩
abbrev S3 : Shape := ⟨1, ![3]⟩
abbrev S5000x1 : Shape := ⟨2, ![5000, 1]⟩
abbrev S1x1 : Shape := ⟨2, ![1, 1]⟩
abbrev S5000x3 : Shape := ⟨2, ![5000, 3]⟩

abbrev nBuf : Space → Nat
  | .hbm => 109
  | .vmem => 0
  | .smem => 0
  | _ => 0

abbrev bufTy : (tb : Table) → Fin (tcTables nBuf tb) → BufTy
  | .hbm, ⟨0, _⟩ => ⟨S10000x3, .f32⟩
  | .hbm, ⟨1, _⟩ => ⟨S10000, .i32⟩
  | .hbm, ⟨2, _⟩ => ⟨S_, .i32⟩
  | .hbm, ⟨3, _⟩ => ⟨S5000, .i32⟩
  | .hbm, ⟨4, _⟩ => ⟨S_, .f32⟩
  | .hbm, ⟨5, _⟩ => ⟨S10000, .f32⟩
  | .hbm, ⟨6, _⟩ => ⟨S_, .i32⟩
  | .hbm, ⟨7, _⟩ => ⟨S_, .i32⟩
  | .hbm, ⟨8, _⟩ => ⟨S10000x3, .f32⟩
  | .hbm, ⟨9, _⟩ => ⟨S_, .i32⟩
  | .hbm, ⟨10, _⟩ => ⟨S_, .i32⟩
  | .hbm, ⟨11, _⟩ => ⟨S5000, .i32⟩
  | .hbm, ⟨12, _⟩ => ⟨S10000, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x3, .f32⟩
  | .hbm, ⟨41, _⟩ => ⟨S3, .f32⟩
  | .hbm, ⟨42, _⟩ => ⟨S1x3, .f32⟩
  | .hbm, ⟨43, _⟩ => ⟨S10000x3, .f32⟩
  | .hbm, ⟨44, _⟩ => ⟨S10000x3, .f32⟩
  | .hbm, ⟨45, _⟩ => ⟨S10000x3, .f32⟩
  | .hbm, ⟨46, _⟩ => ⟨S_, .f32⟩
  | .hbm, ⟨47, _⟩ => ⟨S10000, .f32⟩
  | .hbm, ⟨48, _⟩ => ⟨S10000, .f32⟩
  | .hbm, ⟨49, _⟩ => ⟨S10000, .i32⟩
  | .hbm, ⟨50, _⟩ => ⟨S_, .f32⟩
  | .hbm, ⟨51, _⟩ => ⟨S_, .i32⟩
  | .hbm, ⟨52, _⟩ => ⟨S_, .f32⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S1, .i32⟩
  | .hbm, ⟨61, _⟩ => ⟨S5000, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S5000, .i32⟩
  | .hbm, ⟨66, _⟩ => ⟨S5000, .i1⟩
  | .hbm, ⟨67, _⟩ => ⟨S_, .i32⟩
  | .hbm, ⟨68, _⟩ => ⟨S5000, .i32⟩
  | .hbm, ⟨69, _⟩ => ⟨S5000, .i32⟩
  | .hbm, ⟨70, _⟩ => ⟨S5000, .i32⟩
  | .hbm, ⟨71, _⟩ => ⟨S5000x1, .i32⟩
  | .hbm, ⟨72, _⟩ => ⟨S1, .i32⟩
  | .hbm, ⟨73, _⟩ => ⟨S_, .i32⟩
  | .hbm, ⟨74, _⟩ => ⟨S5000x1, .i32⟩
  | .hbm, ⟨75, _⟩ => ⟨S5000x1, .i1⟩
  | .hbm, ⟨76, _⟩ => ⟨S1x1, .i32⟩
  | .hbm, ⟨77, _⟩ => ⟨S5000x1, .i32⟩
  | .hbm, ⟨78, _⟩ => ⟨S5000x1, .i1⟩
  | .hbm, ⟨79, _⟩ => ⟨S5000x1, .i1⟩
  | .hbm, ⟨80, _⟩ => ⟨S_, .i1⟩
  | .hbm, ⟨81, _⟩ => ⟨S5000, .i1⟩
  | .hbm, ⟨82, _⟩ => ⟨S5000x3, .f32⟩
  | .hbm, ⟨83, _⟩ => ⟨S5000x3, .i1⟩
  | .hbm, ⟨84, _⟩ => ⟨S_, .f32⟩
  | .hbm, ⟨85, _⟩ => ⟨S5000x3, .f32⟩
  | .hbm, ⟨86, _⟩ => ⟨S5000x3, .f32⟩
  | .hbm, ⟨87, _⟩ => ⟨S_, .i32⟩
  | .hbm, ⟨88, _⟩ => ⟨S5000, .i32⟩
  | .hbm, ⟨89, _⟩ => ⟨S5000, .i1⟩
  | .hbm, ⟨90, _⟩ => ⟨S_, .i32⟩
  | .hbm, ⟨91, _⟩ => ⟨S5000, .i32⟩
  | .hbm, ⟨92, _⟩ => ⟨S5000, .i32⟩
  | .hbm, ⟨93, _⟩ => ⟨S5000, .i32⟩
  | .hbm, ⟨94, _⟩ => ⟨S5000x1, .i32⟩
  | .hbm, ⟨95, _⟩ => ⟨S1, .i32⟩
  | .hbm, ⟨96, _⟩ => ⟨S_, .i32⟩
  | .hbm, ⟨97, _⟩ => ⟨S5000x1, .i32⟩
  | .hbm, ⟨98, _⟩ => ⟨S5000x1, .i1⟩
  | .hbm, ⟨99, _⟩ => ⟨S1x1, .i32⟩
  | .hbm, ⟨100, _⟩ => ⟨S5000x1, .i32⟩
  | .hbm, ⟨101, _⟩ => ⟨S5000x1, .i1⟩
  | .hbm, ⟨102, _⟩ => ⟨S5000x1, .i1⟩
  | .hbm, ⟨103, _⟩ => ⟨S_, .i1⟩
  | .hbm, ⟨104, _⟩ => ⟨S5000, .i1⟩
  | .hbm, ⟨105, _⟩ => ⟨S5000, .i32⟩
  | .hbm, ⟨106, _⟩ => ⟨S_, .i32⟩
  | .hbm, ⟨107, _⟩ => ⟨S5000, .i32⟩
  | .hbm, ⟨108, _⟩ => ⟨S5000, .i32⟩
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c_0 : Ref sig .tc := ⟨.hbm, 6, rfl⟩
abbrev main_c_1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_while0c_c_6 : Ref sig .tc := ⟨.hbm, 13, rfl⟩
abbrev main_while0c_v5 : Ref sig .tc := ⟨.hbm, 14, rfl⟩
abbrev main_while0b_c_6 : Ref sig .tc := ⟨.hbm, 15, rfl⟩
abbrev main_while0b_v5 : Ref sig .tc := ⟨.hbm, 16, rfl⟩
abbrev main_while0b_c_7 : Ref sig .tc := ⟨.hbm, 17, rfl⟩
abbrev main_while0b_v6 : Ref sig .tc := ⟨.hbm, 18, rfl⟩
abbrev main_while0b_c_8 : Ref sig .tc := ⟨.hbm, 19, rfl⟩
abbrev main_while0b_v7 : Ref sig .tc := ⟨.hbm, 20, rfl⟩
abbrev main_while0b_v8 : Ref sig .tc := ⟨.hbm, 21, rfl⟩
abbrev main_while0b_c_9 : Ref sig .tc := ⟨.hbm, 22, rfl⟩
abbrev main_while0b_v9 : Ref sig .tc := ⟨.hbm, 23, rfl⟩
abbrev main_while0b_v10 : Ref sig .tc := ⟨.hbm, 24, rfl⟩
abbrev main_while0b_v11 : Ref sig .tc := ⟨.hbm, 25, rfl⟩
abbrev main_while0b_v12 : Ref sig .tc := ⟨.hbm, 26, rfl⟩
abbrev main_while0b_c_10 : Ref sig .tc := ⟨.hbm, 27, rfl⟩
abbrev main_while0b_v13 : Ref sig .tc := ⟨.hbm, 28, rfl⟩
abbrev main_while0b_c_11 : Ref sig .tc := ⟨.hbm, 29, rfl⟩
abbrev main_while0b_v14 : Ref sig .tc := ⟨.hbm, 30, rfl⟩
abbrev main_while0b_v15 : Ref sig .tc := ⟨.hbm, 31, rfl⟩
abbrev main_while0b_c_12 : Ref sig .tc := ⟨.hbm, 32, rfl⟩
abbrev main_while0b_c_13 : Ref sig .tc := ⟨.hbm, 33, rfl⟩
abbrev main_while0b_v16 : Ref sig .tc := ⟨.hbm, 34, rfl⟩
abbrev main_while0b_c_14 : Ref sig .tc := ⟨.hbm, 35, rfl⟩
abbrev main_while0b_c_15 : Ref sig .tc := ⟨.hbm, 36, rfl⟩
abbrev main_while0b_v17 : Ref sig .tc := ⟨.hbm, 37, rfl⟩
abbrev main_while0b_c_16 : Ref sig .tc := ⟨.hbm, 38, rfl⟩
abbrev main_while0b_v18 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_cst_17 : Ref sig .tc := ⟨.hbm, 46, rfl⟩
abbrev main_while0b_v25 : Ref sig .tc := ⟨.hbm, 47, rfl⟩
abbrev main_while0b_v26 : Ref sig .tc := ⟨.hbm, 48, rfl⟩
abbrev main_while0b_call0_v0 : Ref sig .tc := ⟨.hbm, 49, rfl⟩
abbrev main_while0b_call0_cst : Ref sig .tc := ⟨.hbm, 50, rfl⟩
abbrev main_while0b_call0_c : Ref sig .tc := ⟨.hbm, 51, rfl⟩
abbrev main_while0b_call0_v1_0 : Ref sig .tc := ⟨.hbm, 52, rfl⟩
abbrev main_while0b_v27 : Ref sig .tc := ⟨.hbm, 53, rfl⟩
abbrev main_while0b_c_18 : Ref sig .tc := ⟨.hbm, 54, rfl⟩
abbrev main_while0b_v28 : Ref sig .tc := ⟨.hbm, 55, rfl⟩
abbrev main_while0b_c_19 : Ref sig .tc := ⟨.hbm, 56, rfl⟩
abbrev main_while0b_v29 : Ref sig .tc := ⟨.hbm, 57, rfl⟩
abbrev main_while0b_v30 : Ref sig .tc := ⟨.hbm, 58, rfl⟩
abbrev main_while0b_v31 : Ref sig .tc := ⟨.hbm, 59, rfl⟩
abbrev main_while0b_v32 : Ref sig .tc := ⟨.hbm, 60, rfl⟩
abbrev main_while0b_v33 : Ref sig .tc := ⟨.hbm, 61, rfl⟩
abbrev main_while0b_c_20 : Ref sig .tc := ⟨.hbm, 62, rfl⟩
abbrev main_while0b_v34 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_v14 : Ref sig .tc := ⟨.hbm, 83, rfl⟩
abbrev main_call1_cst : Ref sig .tc := ⟨.hbm, 84, rfl⟩
abbrev main_call1_v15 : Ref sig .tc := ⟨.hbm, 85, rfl⟩
abbrev main_v3 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_c_4 : Ref sig .tc := ⟨.hbm, 106, rfl⟩
abbrev main_call2_v14 : Ref sig .tc := ⟨.hbm, 107, rfl⟩
abbrev main_v4 : Ref sig .tc := ⟨.hbm, 108, rfl⟩

abbrev nD : Nat := 1
abbrev τ : Topo := Topo.v7x

variable {F : FTy → Type} [FloatOps F]

abbrev main_while0_count : Scf.Loop 32 := ⟨0#32, 4999#32, 1#32⟩
-- ==== Kernel2.lean ====
abbrev S10000x3 : Shape := ⟨2, ![10000, 3]⟩
abbrev S5000x3 : Shape := ⟨2, ![5000, 3]⟩
abbrev S_ : Shape := ⟨0, ![]⟩
abbrev S5120x3 : Shape := ⟨2, ![5120, 3]⟩
abbrev S3x10000 : Shape := ⟨2, ![3, 10000]⟩
abbrev S8x10240 : Shape := ⟨2, ![8, 10240]⟩
abbrev S1 : Shape := ⟨1, ![1]⟩
abbrev S5x10240 : Shape := ⟨2, ![5, 10240]⟩
abbrev S5120x32 : Shape := ⟨2, ![5120, 32]⟩
abbrev S32x3 : Shape := ⟨2, ![32, 3]⟩
abbrev S32x32 : Shape := ⟨2, ![32, 32]⟩
abbrev S32x5 : Shape := ⟨2, ![32, 5]⟩
abbrev S32x8 : Shape := ⟨2, ![32, 8]⟩
abbrev S1x10240 : Shape := ⟨2, ![1, 10240]⟩
abbrev S32x1 : Shape := ⟨2, ![32, 1]⟩
abbrev S32x10240 : Shape := ⟨2, ![32, 10240]⟩
abbrev S32 : Shape := ⟨1, ![32]⟩

abbrev nBuf : Space → Nat
  | .hbm => 16
  | .vmem => 7
  | .smem => 0
  | _ => 0

abbrev bufTy : (tb : Table) → Fin (tcTables nBuf tb) → BufTy
  | .hbm, ⟨0, _⟩ => ⟨S10000x3, .f32⟩
  | .hbm, ⟨1, _⟩ => ⟨S5000x3, .f32⟩
  | .hbm, ⟨2, _⟩ => ⟨S_, .f32⟩
  | .hbm, ⟨3, _⟩ => ⟨S_, .f32⟩
  | .hbm, ⟨4, _⟩ => ⟨S5120x3, .f32⟩
  | .hbm, ⟨5, _⟩ => ⟨S3x10000, .f32⟩
  | .hbm, ⟨6, _⟩ => ⟨S_, .f32⟩
  | .hbm, ⟨7, _⟩ => ⟨S_, .f32⟩
  | .hbm, ⟨8, _⟩ => ⟨S8x10240, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S5x10240, .f32⟩
  | .hbm, ⟨13, _⟩ => ⟨S8x10240, .f32⟩
  | .hbm, ⟨14, _⟩ => ⟨S5120x32, .i32⟩
  | .hbm, ⟨15, _⟩ => ⟨S5120x32, .f32⟩
  | .local _ .vmem, ⟨0, _⟩ => ⟨S32x3, .f32⟩
  | .local _ .vmem, ⟨1, _⟩ => ⟨S32x3, .f32⟩
  | .local _ .vmem, ⟨2, _⟩ => ⟨S8x10240, .f32⟩
  | .local _ .vmem, ⟨3, _⟩ => ⟨S32x32, .i32⟩
  | .local _ .vmem, ⟨4, _⟩ => ⟨S32x32, .i32⟩
  | .local _ .vmem, ⟨5, _⟩ => ⟨S32x32, .f32⟩
  | .local _ .vmem, ⟨6, _⟩ => ⟨S32x32, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call1_v0 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S10000x3 : Shape := ⟨2, ![10000, 3]⟩
abbrev S5000x3 : Shape := ⟨2, ![5000, 3]⟩
abbrev S_ : Shape := ⟨0, ![]⟩
abbrev S5000 : Shape := ⟨1, ![5000]⟩
abbrev S5000x1 : Shape := ⟨2, ![5000, 1]⟩
abbrev S10000 : Shape := ⟨1, ![10000]⟩
abbrev S1x10000 : Shape := ⟨2, ![1, 10000]⟩
abbrev S5000x10000 : Shape := ⟨2, ![5000, 10000]⟩
abbrev S3x10000 : Shape := ⟨2, ![3, 10000]⟩
abbrev S5000x32 : Shape := ⟨2, ![5000, 32]⟩
abbrev S5120x32 : Shape := ⟨2, ![5120, 32]⟩

abbrev nBuf : Space → Nat
  | .hbm => 43
  | .vmem => 0
  | .smem => 0
  | _ => 0

abbrev bufTy : (tb : Table) → Fin (tcTables nBuf tb) → BufTy
  | .hbm, ⟨0, _⟩ => ⟨S10000x3, .f32⟩
  | .hbm, ⟨1, _⟩ => ⟨S5000x3, .f32⟩
  | .hbm, ⟨2, _⟩ => ⟨S5000x3, .f32⟩
  | .hbm, ⟨3, _⟩ => ⟨S_, .f32⟩
  | .hbm, ⟨4, _⟩ => ⟨S5000, .f32⟩
  | .hbm, ⟨5, _⟩ => ⟨S5000x1, .f32⟩
  | .hbm, ⟨6, _⟩ => ⟨S10000x3, .f32⟩
  | .hbm, ⟨7, _⟩ => ⟨S_, .f32⟩
  | .hbm, ⟨8, _⟩ => ⟨S10000, .f32⟩
  | .hbm, ⟨9, _⟩ => ⟨S1x10000, .f32⟩
  | .hbm, ⟨10, _⟩ => ⟨S5000x10000, .f32⟩
  | .hbm, ⟨11, _⟩ => ⟨S5000x10000, .f32⟩
  | .hbm, ⟨12, _⟩ => ⟨S5000x10000, .f32⟩
  | .hbm, ⟨13, _⟩ => ⟨S3x10000, .f32⟩
  | .hbm, ⟨14, _⟩ => ⟨S5000x10000, .f32⟩
  | .hbm, ⟨15, _⟩ => ⟨S_, .f32⟩
  | .hbm, ⟨16, _⟩ => ⟨S5000x10000, .f32⟩
  | .hbm, ⟨17, _⟩ => ⟨S5000x10000, .f32⟩
  | .hbm, ⟨18, _⟩ => ⟨S5000x10000, .f32⟩
  | .hbm, ⟨19, _⟩ => ⟨S_, .f32⟩
  | .hbm, ⟨20, _⟩ => ⟨S5000x10000, .f32⟩
  | .hbm, ⟨21, _⟩ => ⟨S5000x10000, .i1⟩
  | .hbm, ⟨22, _⟩ => ⟨S5000x10000, .f32⟩
  | .hbm, ⟨23, _⟩ => ⟨S_, .f32⟩
  | .hbm, ⟨24, _⟩ => ⟨S_, .f32⟩
  | .hbm, ⟨25, _⟩ => ⟨S5000x10000, .f32⟩
  | .hbm, ⟨26, _⟩ => ⟨S5000x10000, .f32⟩
  | .hbm, ⟨27, _⟩ => ⟨S5000x32, .f32⟩
  | .hbm, ⟨28, _⟩ => ⟨S5000x32, .i32⟩
  | .hbm, ⟨29, _⟩ => ⟨S_, .f32⟩
  | .hbm, ⟨30, _⟩ => ⟨S5000x32, .f32⟩
  | .hbm, ⟨31, _⟩ => ⟨S5000x32, .i1⟩
  | .hbm, ⟨32, _⟩ => ⟨S_, .i32⟩
  | .hbm, ⟨33, _⟩ => ⟨S_, .i32⟩
  | .hbm, ⟨34, _⟩ => ⟨S5000x32, .i32⟩
  | .hbm, ⟨35, _⟩ => ⟨S5000x32, .i32⟩
  | .hbm, ⟨36, _⟩ => ⟨S_, .i32⟩
  | .hbm, ⟨37, _⟩ => ⟨S_, .i32⟩
  | .hbm, ⟨38, _⟩ => ⟨S5120x32, .i32⟩
  | .hbm, ⟨39, _⟩ => ⟨S5000x32, .f32⟩
  | .hbm, ⟨40, _⟩ => ⟨S_, .i32⟩
  | .hbm, ⟨41, _⟩ => ⟨S_, .f32⟩
  | .hbm, ⟨42, _⟩ => ⟨S5120x32, .f32⟩
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_values : Ref sig .tc := ⟨.hbm, 27, rfl⟩
abbrev main_indices : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_call1_v0 : Ref sig .tc := ⟨.hbm, 33, rfl⟩
abbrev main_call1_v1 : Ref sig .tc := ⟨.hbm, 34, rfl⟩
abbrev main_v20 : Ref sig .tc := ⟨.hbm, 35, rfl⟩
abbrev main_c_5 : Ref sig .tc := ⟨.hbm, 36, rfl⟩
abbrev main_call2_v0 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_call3_v0 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== KernelIdeal.lean ====
abbrev S10000x128 : Shape := ⟨2, ![10000, 128]⟩
abbrev S10000x3 : Shape := ⟨2, ![10000, 3]⟩
abbrev S10000 : Shape := ⟨1, ![10000]⟩
abbrev S131x128 : Shape := ⟨2, ![131, 128]⟩
abbrev S128 : Shape := ⟨1, ![128]⟩
abbrev S128x128 : Shape := ⟨2, ![128, 128]⟩
abbrev S_ : Shape := ⟨0, ![]⟩
abbrev S10240x3 : Shape := ⟨2, ![10240, 3]⟩
abbrev S10240x1 : Shape := ⟨2, ![10240, 1]⟩
abbrev S10240 : Shape := ⟨1, ![10240]⟩
abbrev S8x1280 : Shape := ⟨2, ![8, 1280]⟩
abbrev S5000 : Shape := ⟨1, ![5000]⟩
abbrev S1 : Shape := ⟨1, ![1]⟩
abbrev S1x1 : Shape := ⟨2, ![1, 1]⟩
abbrev S8x128 : Shape := ⟨2, ![8, 128]⟩
abbrev S4x128 : Shape := ⟨2, ![4, 128]⟩
abbrev S2x128 : Shape := ⟨2, ![2, 128]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S1x8 : Shape := ⟨2, ![1, 8]⟩
abbrev S1x4 : Shape := ⟨2, ![1, 4]⟩
abbrev S1x2 : Shape := ⟨2, ![1, 2]⟩
abbrev S1x1x1 : Shape := ⟨3, ![1, 1, 1]⟩
abbrev S5000x1 : Shape := ⟨2, ![5000, 1]⟩
abbrev S5000x3 : Shape := ⟨2, ![5000, 3]⟩
abbrev S5120x3 : Shape := ⟨2, ![5120, 3]⟩
abbrev S3x10000 : Shape := ⟨2, ![3, 10000]⟩
abbrev S8x10240 : Shape := ⟨2, ![8, 10240]⟩
abbrev S5x10240 : Shape := ⟨2, ![5, 10240]⟩
abbrev S5120x32 : Shape := ⟨2, ![5120, 32]⟩
abbrev S32x3 : Shape := ⟨2, ![32, 3]⟩
abbrev S32x32 : Shape := ⟨2, ![32, 32]⟩
abbrev S32x5 : Shape := ⟨2, ![32, 5]⟩
abbrev S32x8 : Shape := ⟨2, ![32, 8]⟩
abbrev S1x10240 : Shape := ⟨2, ![1, 10240]⟩
abbrev S32x1 : Shape := ⟨2, ![32, 1]⟩
abbrev S32x10240 : Shape := ⟨2, ![32, 10240]⟩
abbrev S32 : Shape := ⟨1, ![32]⟩
abbrev S80x64x32 : Shape := ⟨3, ![80, 64, 32]⟩
abbrev S80x32x64 : Shape := ⟨3, ![80, 32, 64]⟩
abbrev S163840 : Shape := ⟨1, ![163840]⟩
abbrev S163840x1 : Shape := ⟨2, ![163840, 1]⟩
abbrev S10000x5 : Shape := ⟨2, ![10000, 5]⟩
abbrev S10000x136 : Shape := ⟨2, ![10000, 136]⟩
abbrev S5120x8 : Shape := ⟨2, ![5120, 8]⟩
abbrev S5x128 : Shape := ⟨2, ![5, 128]⟩
abbrev S136x128 : Shape := ⟨2, ![136, 128]⟩
abbrev S3x128 : Shape := ⟨2, ![3, 128]⟩
abbrev S5120x128 : Shape := ⟨2, ![5120, 128]⟩
abbrev S2048 : Shape := ⟨1, ![2048]⟩
abbrev S2048x1 : Shape := ⟨2, ![2048, 1]⟩
abbrev S64x8 : Shape := ⟨2, ![64, 8]⟩
abbrev S64x128 : Shape := ⟨2, ![64, 128]⟩
abbrev S2048x136 : Shape := ⟨2, ![2048, 136]⟩
abbrev S1x136 : Shape := ⟨2, ![1, 136]⟩
abbrev S2048x128 : Shape := ⟨2, ![2048, 128]⟩
abbrev S5000x128 : Shape := ⟨2, ![5000, 128]⟩

abbrev nBuf : Space → Nat
  | .hbm => 102
  | .vmem => 23
  | .smem => 3
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S10000, .i32⟩
  | .hbm, ⟨3, _⟩ => ⟨S131x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S_, .f32⟩
  | .hbm, ⟨9, _⟩ => ⟨S10240x3, .f32⟩
  | .hbm, ⟨10, _⟩ => ⟨S10240x1, .f32⟩
  | .hbm, ⟨11, _⟩ => ⟨S10240, .f32⟩
  | .hbm, ⟨12, _⟩ => ⟨S8x1280, .f32⟩
  | .hbm, ⟨13, _⟩ => ⟨S10240x1, .f32⟩
  | .hbm, ⟨14, _⟩ => ⟨S10240, .f32⟩
  | .hbm, ⟨15, _⟩ => ⟨S8x1280, .f32⟩
  | .hbm, ⟨16, _⟩ => ⟨S10240x1, .f32⟩
  | .hbm, ⟨17, _⟩ => ⟨S10240, .f32⟩
  | .hbm, ⟨18, _⟩ => ⟨S8x1280, .f32⟩
  | .hbm, ⟨19, _⟩ => ⟨S5000, .i32⟩
  | .hbm, ⟨20, _⟩ => ⟨S_, .i32⟩
  | .hbm, ⟨21, _⟩ => ⟨S5000, .i32⟩
  | .hbm, ⟨22, _⟩ => ⟨S5000, .i1⟩
  | .hbm, ⟨23, _⟩ => ⟨S_, .i32⟩
  | .hbm, ⟨24, _⟩ => ⟨S5000, .i32⟩
  | .hbm, ⟨25, _⟩ => ⟨S5000, .i32⟩
  | .hbm, ⟨26, _⟩ => ⟨S5000, .i32⟩
  | .hbm, ⟨27, _⟩ => ⟨S5000x1, .i32⟩
  | .hbm, ⟨28, _⟩ => ⟨S1, .i32⟩
  | .hbm, ⟨29, _⟩ => ⟨S_, .i32⟩
  | .hbm, ⟨30, _⟩ => ⟨S5000x1, .i32⟩
  | .hbm, ⟨31, _⟩ => ⟨S5000x1, .i1⟩
  | .hbm, ⟨32, _⟩ => ⟨S1x1, .i32⟩
  | .hbm, ⟨33, _⟩ => ⟨S5000x1, .i32⟩
  | .hbm, ⟨34, _⟩ => ⟨S5000x1, .i1⟩
  | .hbm, ⟨35, _⟩ => ⟨S5000x1, .i1⟩
  | .hbm, ⟨36, _⟩ => ⟨S_, .i1⟩
  | .hbm, ⟨37, _⟩ => ⟨S5000, .i1⟩
  | .hbm, ⟨38, _⟩ => ⟨S5000x3, .f32⟩
  | .hbm, ⟨39, _⟩ => ⟨S5000x3, .i1⟩
  | .hbm, ⟨40, _⟩ => ⟨S_, .f32⟩
  | .hbm, ⟨41, _⟩ => ⟨S5000x3, .f32⟩
  | .hbm, ⟨42, _⟩ => ⟨S5000x3, .f32⟩
  | .hbm, ⟨43, _⟩ => ⟨S_, .f32⟩
  | .hbm, ⟨44, _⟩ => ⟨S_, .f32⟩
  | .hbm, ⟨45, _⟩ => ⟨S5120x3, .f32⟩
  | .hbm, ⟨46, _⟩ => ⟨S3x10000, .f32⟩
  | .hbm, ⟨47, _⟩ => ⟨S_, .f32⟩
  | .hbm, ⟨48, _⟩ => ⟨S_, .f32⟩
  | .hbm, ⟨49, _⟩ => ⟨S8x10240, .f32⟩
  | .hbm, ⟨50, _⟩ => ⟨S_, .i32⟩
  | .hbm, ⟨51, _⟩ => ⟨S1, .i32⟩
  | .hbm, ⟨52, _⟩ => ⟨S_, .f32⟩
  | .hbm, ⟨53, _⟩ => ⟨S5x10240, .f32⟩
  | .hbm, ⟨54, _⟩ => ⟨S8x10240, .f32⟩
  | .hbm, ⟨55, _⟩ => ⟨S5120x32, .i32⟩
  | .hbm, ⟨56, _⟩ => ⟨S5120x32, .f32⟩
  | .hbm, ⟨57, _⟩ => ⟨S80x64x32, .i32⟩
  | .hbm, ⟨58, _⟩ => ⟨S80x32x64, .i32⟩
  | .hbm, ⟨59, _⟩ => ⟨S163840, .i32⟩
  | .hbm, ⟨60, _⟩ => ⟨S80x64x32, .f32⟩
  | .hbm, ⟨61, _⟩ => ⟨S80x32x64, .f32⟩
  | .hbm, ⟨62, _⟩ => ⟨S163840x1, .f32⟩
  | .hbm, ⟨63, _⟩ => ⟨S_, .f32⟩
  | .hbm, ⟨64, _⟩ => ⟨S10000x5, .f32⟩
  | .hbm, ⟨65, _⟩ => ⟨S10000x136, .f32⟩
  | .hbm, ⟨66, _⟩ => ⟨S_, .i32⟩
  | .hbm, ⟨67, _⟩ => ⟨S_, .f32⟩
  | .hbm, ⟨68, _⟩ => ⟨S5120x8, .f32⟩
  | .hbm, ⟨69, _⟩ => ⟨S_, .f32⟩
  | .hbm, ⟨70, _⟩ => ⟨S5x128, .f32⟩
  | .hbm, ⟨71, _⟩ => ⟨S136x128, .f32⟩
  | .hbm, ⟨72, _⟩ => ⟨S3x128, .f32⟩
  | .hbm, ⟨73, _⟩ => ⟨S_, .f32⟩
  | .hbm, ⟨74, _⟩ => ⟨S5x128, .f32⟩
  | .hbm, ⟨75, _⟩ => ⟨S8x128, .f32⟩
  | .hbm, ⟨76, _⟩ => ⟨S1x128, .f32⟩
  | .hbm, ⟨77, _⟩ => ⟨S1x128, .f32⟩
  | .hbm, ⟨78, _⟩ => ⟨S5120x128, .f32⟩
  | .hbm, ⟨79, _⟩ => ⟨S5000x128, .f32⟩
  | .hbm, ⟨80, _⟩ => ⟨S_, .i32⟩
  | .hbm, ⟨81, _⟩ => ⟨S5000, .i32⟩
  | .hbm, ⟨82, _⟩ => ⟨S5000, .i1⟩
  | .hbm, ⟨83, _⟩ => ⟨S_, .i32⟩
  | .hbm, ⟨84, _⟩ => ⟨S5000, .i32⟩
  | .hbm, ⟨85, _⟩ => ⟨S5000, .i32⟩
  | .hbm, ⟨86, _⟩ => ⟨S5000, .i32⟩
  | .hbm, ⟨87, _⟩ => ⟨S5000x1, .i32⟩
  | .hbm, ⟨88, _⟩ => ⟨S1, .i32⟩
  | .hbm, ⟨89, _⟩ => ⟨S_, .i32⟩
  | .hbm, ⟨90, _⟩ => ⟨S5000x1, .i32⟩
  | .hbm, ⟨91, _⟩ => ⟨S5000x1, .i1⟩
  | .hbm, ⟨92, _⟩ => ⟨S1x1, .i32⟩
  | .hbm, ⟨93, _⟩ => ⟨S5000x1, .i32⟩
  | .hbm, ⟨94, _⟩ => ⟨S5000x1, .i1⟩
  | .hbm, ⟨95, _⟩ => ⟨S5000x1, .i1⟩
  | .hbm, ⟨96, _⟩ => ⟨S_, .i1⟩
  | .hbm, ⟨97, _⟩ => ⟨S5000, .i1⟩
  | .hbm, ⟨98, _⟩ => ⟨S5000, .i32⟩
  | .hbm, ⟨99, _⟩ => ⟨S_, .i32⟩
  | .hbm, ⟨100, _⟩ => ⟨S5000, .i32⟩
  | .hbm, ⟨101, _⟩ => ⟨S5000, .i32⟩
  | .local _ .vmem, ⟨0, _⟩ => ⟨S8x1280, .f32⟩
  | .local _ .vmem, ⟨1, _⟩ => ⟨S8x1280, .f32⟩
  | .local _ .vmem, ⟨2, _⟩ => ⟨S8x1280, .f32⟩
  | .local _ .vmem, ⟨3, _⟩ => ⟨S32x3, .f32⟩
  | .local _ .vmem, ⟨4, _⟩ => ⟨S32x3, .f32⟩
  | .local _ .vmem, ⟨5, _⟩ => ⟨S8x10240, .f32⟩
  | .local _ .vmem, ⟨6, _⟩ => ⟨S32x32, .i32⟩
  | .local _ .vmem, ⟨7, _⟩ => ⟨S32x32, .i32⟩
  | .local _ .vmem, ⟨8, _⟩ => ⟨S32x32, .f32⟩
  | .local _ .vmem, ⟨9, _⟩ => ⟨S32x32, .f32⟩
  | .local _ .vmem, ⟨10, _⟩ => ⟨S2048x1, .f32⟩
  | .local _ .vmem, ⟨11, _⟩ => ⟨S2048x1, .f32⟩
  | .local _ .vmem, ⟨12, _⟩ => ⟨S10000x136, .f32⟩
  | .local _ .vmem, ⟨13, _⟩ => ⟨S64x8, .f32⟩
  | .local _ .vmem, ⟨14, _⟩ => ⟨S64x8, .f32⟩
  | .local _ .vmem, ⟨15, _⟩ => ⟨S136x128, .f32⟩
  | .local _ .vmem, ⟨16, _⟩ => ⟨S8x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S64x128, .f32⟩
  | .local _ .vmem, ⟨21, _⟩ => ⟨S64x128, .f32⟩
  | .local _ .vmem, ⟨22, _⟩ => ⟨S2048x136, .f32⟩
  | .local _ .smem, ⟨0, _⟩ => ⟨S5000, .i32⟩
  | .local _ .smem, ⟨1, _⟩ => ⟨S2048, .i32⟩
  | .local _ .smem, ⟨2, _⟩ => ⟨S2048, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v11 : Ref sig .tc := ⟨.hbm, 42, rfl⟩
abbrev main_cst : Ref sig .tc := ⟨.hbm, 43, rfl⟩
abbrev main_call2_v0 : Ref sig .tc := ⟨.hbm, 44, rfl⟩
abbrev main_v12 : Ref sig .tc := ⟨.hbm, 45, rfl⟩
abbrev main_v13 : Ref sig .tc := ⟨.hbm, 46, rfl⟩
abbrev main_cst_0 : Ref sig .tc := ⟨.hbm, 47, rfl⟩
abbrev main_call3_v0 : Ref sig .tc := ⟨.hbm, 48, rfl⟩
abbrev main_v14 : Ref sig .tc := ⟨.hbm, 49, rfl⟩
abbrev main_c_1 : Ref sig .tc := ⟨.hbm, 50, rfl⟩
abbrev main_v15 : Ref sig .tc := ⟨.hbm, 51, rfl⟩
abbrev main_cst_2 : Ref sig .tc := ⟨.hbm, 52, rfl⟩
abbrev main_v16 : Ref sig .tc := ⟨.hbm, 53, rfl⟩
abbrev main_v17 : Ref sig .tc := ⟨.hbm, 54, rfl⟩
abbrev main_v18_0 : Ref sig .tc := ⟨.hbm, 55, rfl⟩
abbrev main_v18_1 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_3 : Ref sig .tc := ⟨.hbm, 63, rfl⟩
abbrev main_v25 : Ref sig .tc := ⟨.hbm, 64, rfl⟩
abbrev main_v26 : Ref sig .tc := ⟨.hbm, 65, rfl⟩
abbrev main_c_4 : Ref sig .tc := ⟨.hbm, 66, rfl⟩
abbrev main_call4_v0 : Ref sig .tc := ⟨.hbm, 67, rfl⟩
abbrev main_v27 : Ref sig .tc := ⟨.hbm, 68, rfl⟩
abbrev main_cst_5 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_cst_6 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_call5_c : Ref sig .tc := ⟨.hbm, 80, rfl⟩
abbrev main_call5_v0 : Ref sig .tc := ⟨.hbm, 81, rfl⟩
abbrev main_call5_v1 : Ref sig .tc := ⟨.hbm, 82, rfl⟩
abbrev main_call5_c_0 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_call5_v5 : Ref sig .tc := ⟨.hbm, 87, rfl⟩
abbrev main_call5_c_1 : Ref sig .tc := ⟨.hbm, 88, rfl⟩
abbrev main_call5_c_2 : Ref sig .tc := ⟨.hbm, 89, rfl⟩
abbrev main_call5_v6 : Ref sig .tc := ⟨.hbm, 90, rfl⟩
abbrev main_call5_v7 : Ref sig .tc := ⟨.hbm, 91, rfl⟩
abbrev main_call5_v8 : Ref sig .tc := ⟨.hbm, 92, rfl⟩
abbrev main_call5_v9 : Ref sig .tc := ⟨.hbm, 93, rfl⟩
abbrev main_call5_v10 : Ref sig .tc := ⟨.hbm, 94, rfl⟩
abbrev main_call5_v11 : Ref sig .tc := ⟨.hbm, 95, rfl⟩
abbrev main_call5_c_3 : Ref sig .tc := ⟨.hbm, 96, rfl⟩
abbrev main_call5_v12 : Ref sig .tc := ⟨.hbm, 97, rfl⟩
abbrev main_call5_v13 : Ref sig .tc := ⟨.hbm, 98, rfl⟩
abbrev main_call5_c_4 : Ref sig .tc := ⟨.hbm, 99, rfl⟩
abbrev main_call5_v14 : Ref sig .tc := ⟨.hbm, 100, rfl⟩
abbrev main_v37 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg8_0 : Ref sig .tc := ⟨.vmem, 19, rfl⟩
abbrev cc2_stg9_0 : Ref sig .tc := ⟨.vmem, 20, rfl⟩
abbrev cc2_stg9_1 : Ref sig .tc := ⟨.vmem, 21, rfl⟩
abbrev cc2_scratch0 : Ref sig .tc := ⟨.vmem, 22, rfl⟩
abbrev cc0_stg3_0 : Ref sig .tc := ⟨.smem, 0, rfl⟩
abbrev cc2_stg0_0 : Ref sig .tc := ⟨.smem, 1, rfl⟩
abbrev cc2_stg0_1 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem9_1 : DmaSem sig := 24

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c4999_i32 : BitVec 32 := 4999#32
  let v20 : BitVec 32 := Scalar.addi c1_i32 c4999_i32
  let c1_i32_7 : BitVec 32 := 1#32
  ⟨c1_i32, v20, c1_i32_7⟩
def k0_off1 (k0_t1 : Fin k0_t1_loop.trips) : Fin 1 → Nat :=
  let c1_i32 : BitVec 32 := 1#32
  let c1_i32_7 : BitVec 32 := 1#32
  let arg4 : BitVec 32 := Scf.iv c1_i32 c1_i32_7 k0_t1
  let v377 : Index := Scalar.indexCast arg4
  ![v377.toNat]
abbrev stage0_0 : Fin 1 → Memref sig .tc .vmem S8x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S5000 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x10240 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x32 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

@[reducible] def k2_t1_loop : Scf.Loop 32 :=
  let c0_i32 : BitVec 32 := 0#32
  let c2048_i32 : BitVec 32 := 2048#32
  let v0 : BitVec 32 := Scalar.addi c0_i32 c2048_i32
  let c1_i32 : BitVec 32 := 1#32
  ⟨c0_i32, v0, c1_i32⟩
def k2_off1 (k2_t1 : Fin k2_t1_loop.trips) : Fin 1 → Nat :=
  let c0_i32 : BitVec 32 := 0#32
  let c1_i32 : BitVec 32 := 1#32
  let arg12 : BitVec 32 := Scf.iv c0_i32 c1_i32 k2_t1
  let v98 : Index := Scalar.indexCast arg12
  ![v98.toNat]
def k2_off2 (v99 : BitVec 32) : Fin 2 → Nat :=
  let v100 : Index := Scalar.indexCast v99
  let c0_24 : Index := 0#32
  ![v100.toNat, 0]

def k2_chk1 (v99 : BitVec 32) : Prop :=
  (∀ a, (k2_off2 v99) a + S1x136.size a ≤ S10000x136.size a)
theorem k2_off2_inb : ∀ (v99 : BitVec 32) (k2_hw1 : k2_chk1 v99), ∀ a, (k2_off2 v99) a + S1x136.size a ≤ S10000x136.size a := fun v99 k2_hw1 => k2_hw1

def k2_off3 (k2_t1 : Fin k2_t1_loop.trips) : Fin 2 → Nat :=
  let c0_i32 : BitVec 32 := 0#32
  let c1_i32 : BitVec 32 := 1#32
  let arg12 : BitVec 32 := Scf.iv c0_i32 c1_i32 k2_t1
  let v103 : Index := Scalar.indexCast arg12
  let c0_25 : Index := 0#32
  ![v103.toNat, 0]
def cc2_transform_0 (i : grid2.Coords) : Fin 1 → Nat :=
  let arg0 : BitVec 32 := BitVec.ofNat 32 (i 0).val
  let c0_i32 : BitVec 32 := 0#32
  ![arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .smem S2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x136 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S136x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S64x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== ReferenceIdeal.lean ====
abbrev S10000x128 : Shape := ⟨2, ![10000, 128]⟩
abbrev S10000x3 : Shape := ⟨2, ![10000, 3]⟩
abbrev S10000 : Shape := ⟨1, ![10000]⟩
abbrev S131x128 : Shape := ⟨2, ![131, 128]⟩
abbrev S128 : Shape := ⟨1, ![128]⟩
abbrev S128x128 : Shape := ⟨2, ![128, 128]⟩
abbrev S_ : Shape := ⟨0, ![]⟩
abbrev S5000 : Shape := ⟨1, ![5000]⟩
abbrev S1 : Shape := ⟨1, ![1]⟩
abbrev S1x3 : Shape := ⟨2, ![1, 3]⟩
abbrev S3 : Shape := ⟨1, ![3]⟩
abbrev S5000x1 : Shape := ⟨2, ![5000, 1]⟩
abbrev S1x1 : Shape := ⟨2, ![1, 1]⟩
abbrev S5000x3 : Shape := ⟨2, ![5000, 3]⟩
abbrev S1x10000 : Shape := ⟨2, ![1, 10000]⟩
abbrev S5000x10000 : Shape := ⟨2, ![5000, 10000]⟩
abbrev S3x10000 : Shape := ⟨2, ![3, 10000]⟩
abbrev S5000x32 : Shape := ⟨2, ![5000, 32]⟩
abbrev S160000 : Shape := ⟨1, ![160000]⟩
abbrev S5000x1x3 : Shape := ⟨3, ![5000, 1, 3]⟩
abbrev S5000x32x3 : Shape := ⟨3, ![5000, 32, 3]⟩
abbrev S160000x3 : Shape := ⟨2, ![160000, 3]⟩
abbrev S160000x1 : Shape := ⟨2, ![160000, 1]⟩
abbrev S160000x128 : Shape := ⟨2, ![160000, 128]⟩
abbrev S160000x131 : Shape := ⟨2, ![160000, 131]⟩
abbrev S1x128 : Shape := ⟨2, ![1, 128]⟩
abbrev S5000x32x128 : Shape := ⟨3, ![5000, 32, 128]⟩
abbrev S5000x128 : Shape := ⟨2, ![5000, 128]⟩

abbrev nBuf : Space → Nat
  | .hbm => 196
  | .vmem => 0
  | .smem => 0
  | _ => 0

abbrev hbmTy0_0 (i : Nat) : BufTy := match i % 128 with
  | 0 => ⟨S10000x128, .f32⟩
  | 1 => ⟨S10000x3, .f32⟩
  | 2 => ⟨S10000, .i32⟩
  | 3 => ⟨S131x128, .f32⟩
  | 4 => ⟨S128, .f32⟩
  | 5 => ⟨S128x128, .f32⟩
  | 6 => ⟨S128, .f32⟩
  | 7 => ⟨S_, .i32⟩
  | 8 => ⟨S5000, .i32⟩
  | 9 => ⟨S_, .f32⟩
  | 10 => ⟨S10000, .f32⟩
  | 11 => ⟨S_, .i32⟩
  | 12 => ⟨S_, .i32⟩
  | 13 => ⟨S10000x3, .f32⟩
  | 14 => ⟨S_, .i32⟩
  | 15 => ⟨S_, .i32⟩
  | 16 => ⟨S5000, .i32⟩
  | 17 => ⟨S10000, .f32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S1, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S1x3, .f32⟩
  | 46 => ⟨S3, .f32⟩
  | 47 => ⟨S1x3, .f32⟩
  | 48 => ⟨S10000x3, .f32⟩
  | 49 => ⟨S10000x3, .f32⟩
  | 50 => ⟨S10000x3, .f32⟩
  | 51 => ⟨S_, .f32⟩
  | 52 => ⟨S10000, .f32⟩
  | 53 => ⟨S10000, .f32⟩
  | 54 => ⟨S10000, .i32⟩
  | 55 => ⟨S_, .f32⟩
  | 56 => ⟨S_, .i32⟩
  | 57 => ⟨S_, .f32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S1, .i32⟩
  | 66 => ⟨S5000, .i32⟩
  | 67 => ⟨S_, .i32⟩
  | 68 => ⟨S_, .i32⟩
  | 69 => ⟨S_, .i32⟩
  | 70 => ⟨S5000, .i32⟩
  | 71 => ⟨S5000, .i1⟩
  | 72 => ⟨S_, .i32⟩
  | 73 => ⟨S5000, .i32⟩
  | 74 => ⟨S5000, .i32⟩
  | 75 => ⟨S5000, .i32⟩
  | 76 => ⟨S5000x1, .i32⟩
  | 77 => ⟨S1, .i32⟩
  | 78 => ⟨S_, .i32⟩
  | 79 => ⟨S5000x1, .i32⟩
  | 80 => ⟨S5000x1, .i1⟩
  | 81 => ⟨S1x1, .i32⟩
  | 82 => ⟨S5000x1, .i32⟩
  | 83 => ⟨S5000x1, .i1⟩
  | 84 => ⟨S5000x1, .i1⟩
  | 85 => ⟨S_, .i1⟩
  | 86 => ⟨S5000, .i1⟩
  | 87 => ⟨S5000x3, .f32⟩
  | 88 => ⟨S5000x3, .i1⟩
  | 89 => ⟨S_, .f32⟩
  | 90 => ⟨S5000x3, .f32⟩
  | 91 => ⟨S5000x3, .f32⟩
  | 92 => ⟨S_, .i32⟩
  | 93 => ⟨S5000, .i32⟩
  | 94 => ⟨S5000, .i1⟩
  | 95 => ⟨S_, .i32⟩
  | 96 => ⟨S5000, .i32⟩
  | 97 => ⟨S5000, .i32⟩
  | 98 => ⟨S5000, .i32⟩
  | 99 => ⟨S5000x1, .i32⟩
  | 100 => ⟨S1, .i32⟩
  | 101 => ⟨S_, .i32⟩
  | 102 => ⟨S5000x1, .i32⟩
  | 103 => ⟨S5000x1, .i1⟩
  | 104 => ⟨S1x1, .i32⟩
  | 105 => ⟨S5000x1, .i32⟩
  | 106 => ⟨S5000x1, .i1⟩
  | 107 => ⟨S5000x1, .i1⟩
  | 108 => ⟨S_, .i1⟩
  | 109 => ⟨S5000, .i1⟩
  | 110 => ⟨S5000, .i32⟩
  | 111 => ⟨S_, .i32⟩
  | 112 => ⟨S5000, .i32⟩
  | 113 => ⟨S5000, .i32⟩
  | 114 => ⟨S5000x3, .f32⟩
  | 115 => ⟨S_, .f32⟩
  | 116 => ⟨S5000, .f32⟩
  | 117 => ⟨S5000x1, .f32⟩
  | 118 => ⟨S10000x3, .f32⟩
  | 119 => ⟨S_, .f32⟩
  | 120 => ⟨S10000, .f32⟩
  | 121 => ⟨S1x10000, .f32⟩
  | 122 => ⟨S5000x10000, .f32⟩
  | 123 => ⟨S5000x10000, .f32⟩
  | 124 => ⟨S5000x10000, .f32⟩
  | 125 => ⟨S3x10000, .f32⟩
  | 126 => ⟨S5000x10000, .f32⟩
  | 127 => ⟨S_, .f32⟩
  | _ => ⟨S10000x128, .f32⟩

abbrev hbmTy0_1 (i : Nat) : BufTy := match i % 128 with
  | 0 => ⟨S5000x10000, .f32⟩
  | 1 => ⟨S5000x10000, .f32⟩
  | 2 => ⟨S5000x10000, .f32⟩
  | 3 => ⟨S_, .f32⟩
  | 4 => ⟨S5000x10000, .f32⟩
  | 5 => ⟨S5000x10000, .i1⟩
  | 6 => ⟨S5000x10000, .f32⟩
  | 7 => ⟨S_, .f32⟩
  | 8 => ⟨S_, .f32⟩
  | 9 => ⟨S5000x10000, .f32⟩
  | 10 => ⟨S5000x10000, .f32⟩
  | 11 => ⟨S5000x32, .f32⟩
  | 12 => ⟨S5000x32, .i32⟩
  | 13 => ⟨S_, .f32⟩
  | 14 => ⟨S5000x32, .f32⟩
  | 15 => ⟨S5000x32, .i1⟩
  | 16 => ⟨S_, .i32⟩
  | 17 => ⟨S_, .i32⟩
  | 18 => ⟨S5000x32, .i32⟩
  | 19 => ⟨S5000x32, .i32⟩
  | 20 => ⟨S160000, .i32⟩
  | 21 => ⟨S5000x1x3, .f32⟩
  | 22 => ⟨S5000x32x3, .f32⟩
  | 23 => ⟨S160000x3, .f32⟩
  | 24 => ⟨S_, .i32⟩
  | 25 => ⟨S160000, .i32⟩
  | 26 => ⟨S160000, .i1⟩
  | 27 => ⟨S_, .i32⟩
  | 28 => ⟨S160000, .i32⟩
  | 29 => ⟨S160000, .i32⟩
  | 30 => ⟨S160000, .i32⟩
  | 31 => ⟨S160000x1, .i32⟩
  | 32 => ⟨S160000x128, .f32⟩
  | 33 => ⟨S_, .i32⟩
  | 34 => ⟨S160000, .i32⟩
  | 35 => ⟨S160000, .i1⟩
  | 36 => ⟨S_, .i32⟩
  | 37 => ⟨S160000, .i32⟩
  | 38 => ⟨S160000, .i32⟩
  | 39 => ⟨S160000, .i32⟩
  | 40 => ⟨S160000x1, .i32⟩
  | 41 => ⟨S160000x3, .f32⟩
  | 42 => ⟨S160000x3, .f32⟩
  | 43 => ⟨S160000x131, .f32⟩
  | 44 => ⟨S160000x128, .f32⟩
  | 45 => ⟨S1x128, .f32⟩
  | 46 => ⟨S160000x128, .f32⟩
  | 47 => ⟨S160000x128, .f32⟩
  | 48 => ⟨S_, .f32⟩
  | 49 => ⟨S160000x128, .f32⟩
  | 50 => ⟨S160000x128, .f32⟩
  | 51 => ⟨S160000x128, .f32⟩
  | 52 => ⟨S1x128, .f32⟩
  | 53 => ⟨S160000x128, .f32⟩
  | 54 => ⟨S160000x128, .f32⟩
  | 55 => ⟨S_, .f32⟩
  | 56 => ⟨S160000x128, .f32⟩
  | 57 => ⟨S160000x128, .f32⟩
  | 58 => ⟨S160000, .i1⟩
  | 59 => ⟨S160000x1, .i1⟩
  | 60 => ⟨S_, .f32⟩
  | 61 => ⟨S_, .f32⟩
  | 62 => ⟨S160000x128, .i1⟩
  | 63 => ⟨S160000x128, .f32⟩
  | 64 => ⟨S160000x128, .f32⟩
  | 65 => ⟨S5000x32x128, .f32⟩
  | 66 => ⟨S_, .f32⟩
  | 67 => ⟨S5000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_c_0 : Ref sig .tc := ⟨.hbm, 11, rfl⟩
abbrev main_c_1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v2_4 : Ref sig .tc := ⟨.hbm, 17, rfl⟩
abbrev main_while0c_c_21 : Ref sig .tc := ⟨.hbm, 18, rfl⟩
abbrev main_while0c_v63 : Ref sig .tc := ⟨.hbm, 19, rfl⟩
abbrev main_while0b_c_21 : Ref sig .tc := ⟨.hbm, 20, rfl⟩
abbrev main_while0b_v63 : Ref sig .tc := ⟨.hbm, 21, rfl⟩
abbrev main_while0b_c_22 : Ref sig .tc := ⟨.hbm, 22, rfl⟩
abbrev main_while0b_v64 : Ref sig .tc := ⟨.hbm, 23, rfl⟩
abbrev main_while0b_c_23 : Ref sig .tc := ⟨.hbm, 24, rfl⟩
abbrev main_while0b_v65 : Ref sig .tc := ⟨.hbm, 25, rfl⟩
abbrev main_while0b_v66 : Ref sig .tc := ⟨.hbm, 26, rfl⟩
abbrev main_while0b_c_24 : Ref sig .tc := ⟨.hbm, 27, rfl⟩
abbrev main_while0b_v67 : Ref sig .tc := ⟨.hbm, 28, rfl⟩
abbrev main_while0b_v68 : Ref sig .tc := ⟨.hbm, 29, rfl⟩
abbrev main_while0b_v69 : Ref sig .tc := ⟨.hbm, 30, rfl⟩
abbrev main_while0b_v70 : Ref sig .tc := ⟨.hbm, 31, rfl⟩
abbrev main_while0b_c_25 : Ref sig .tc := ⟨.hbm, 32, rfl⟩
abbrev main_while0b_v71 : Ref sig .tc := ⟨.hbm, 33, rfl⟩
abbrev main_while0b_c_26 : Ref sig .tc := ⟨.hbm, 34, rfl⟩
abbrev main_while0b_v72 : Ref sig .tc := ⟨.hbm, 35, rfl⟩
abbrev main_while0b_v73 : Ref sig .tc := ⟨.hbm, 36, rfl⟩
abbrev main_while0b_c_27 : Ref sig .tc := ⟨.hbm, 37, rfl⟩
abbrev main_while0b_c_28 : Ref sig .tc := ⟨.hbm, 38, rfl⟩
abbrev main_while0b_v74 : Ref sig .tc := ⟨.hbm, 39, rfl⟩
abbrev main_while0b_c_29 : Ref sig .tc := ⟨.hbm, 40, rfl⟩
abbrev main_while0b_c_30 : Ref sig .tc := ⟨.hbm, 41, rfl⟩
abbrev main_while0b_v75 : Ref sig .tc := ⟨.hbm, 42, rfl⟩
abbrev main_while0b_c_31 : Ref sig .tc := ⟨.hbm, 43, rfl⟩
abbrev main_while0b_v76 : Ref sig .tc := ⟨.hbm, 44, rfl⟩
abbrev main_while0b_v77 : Ref sig .tc := ⟨.hbm, 45, rfl⟩
abbrev main_while0b_v78 : Ref sig .tc := ⟨.hbm, 46, rfl⟩
abbrev main_while0b_v79 : Ref sig .tc := ⟨.hbm, 47, rfl⟩
abbrev main_while0b_v80 : Ref sig .tc := ⟨.hbm, 48, rfl⟩
abbrev main_while0b_v81 : Ref sig .tc := ⟨.hbm, 49, rfl⟩
abbrev main_while0b_v82 : Ref sig .tc := ⟨.hbm, 50, rfl⟩
abbrev main_while0b_cst_32 : Ref sig .tc := ⟨.hbm, 51, rfl⟩
abbrev main_while0b_v83 : Ref sig .tc := ⟨.hbm, 52, rfl⟩
abbrev main_while0b_v84 : Ref sig .tc := ⟨.hbm, 53, rfl⟩
abbrev main_while0b_call0_v0 : Ref sig .tc := ⟨.hbm, 54, rfl⟩
abbrev main_while0b_call0_cst : Ref sig .tc := ⟨.hbm, 55, rfl⟩
abbrev main_while0b_call0_c : Ref sig .tc := ⟨.hbm, 56, rfl⟩
abbrev main_while0b_call0_v1_0 : Ref sig .tc := ⟨.hbm, 57, rfl⟩
abbrev main_while0b_v85 : Ref sig .tc := ⟨.hbm, 58, rfl⟩
abbrev main_while0b_c_33 : Ref sig .tc := ⟨.hbm, 59, rfl⟩
abbrev main_while0b_v86 : Ref sig .tc := ⟨.hbm, 60, rfl⟩
abbrev main_while0b_c_34 : Ref sig .tc := ⟨.hbm, 61, rfl⟩
abbrev main_while0b_v87 : Ref sig .tc := ⟨.hbm, 62, rfl⟩
abbrev main_while0b_v88 : Ref sig .tc := ⟨.hbm, 63, rfl⟩
abbrev main_while0b_v89 : Ref sig .tc := ⟨.hbm, 64, rfl⟩
abbrev main_while0b_v90 : Ref sig .tc := ⟨.hbm, 65, rfl⟩
abbrev main_while0b_v91 : Ref sig .tc := ⟨.hbm, 66, rfl⟩
abbrev main_while0b_c_35 : Ref sig .tc := ⟨.hbm, 67, rfl⟩
abbrev main_while0b_v92 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v3 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_c_1 : Ref sig .tc := ⟨.hbm, 100, rfl⟩
abbrev main_call2_c_2 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_c_3 : Ref sig .tc := ⟨.hbm, 108, rfl⟩
abbrev main_call2_v12 : Ref sig .tc := ⟨.hbm, 109, rfl⟩
abbrev main_call2_v13 : Ref sig .tc := ⟨.hbm, 110, rfl⟩
abbrev main_call2_c_4 : Ref sig .tc := ⟨.hbm, 111, rfl⟩
abbrev main_call2_v14 : Ref sig .tc := ⟨.hbm, 112, rfl⟩
abbrev main_v4 : Ref sig .tc := ⟨.hbm, 113, rfl⟩
abbrev main_v5 : Ref sig .tc := ⟨.hbm, 114, rfl⟩
abbrev main_cst_2 : Ref sig .tc := ⟨.hbm, 115, rfl⟩
abbrev main_v6 : Ref sig .tc := ⟨.hbm, 116, rfl⟩
abbrev main_v7 : Ref sig .tc := ⟨.hbm, 117, rfl⟩
abbrev main_v8 : Ref sig .tc := ⟨.hbm, 118, rfl⟩
abbrev main_cst_3 : Ref sig .tc := ⟨.hbm, 119, rfl⟩
abbrev main_v9 : Ref sig .tc := ⟨.hbm, 120, rfl⟩
abbrev main_v10 : Ref sig .tc := ⟨.hbm, 121, rfl⟩
abbrev main_v11 : Ref sig .tc := ⟨.hbm, 122, rfl⟩
abbrev main_v12 : Ref sig .tc := ⟨.hbm, 123, rfl⟩
abbrev main_v13 : Ref sig .tc := ⟨.hbm, 124, rfl⟩
abbrev main_v14 : Ref sig .tc := ⟨.hbm, 125, rfl⟩
abbrev main_v15 : Ref sig .tc := ⟨.hbm, 126, rfl⟩
abbrev main_cst_4 : Ref sig .tc := ⟨.hbm, 127, rfl⟩
abbrev main_v16 : Ref sig .tc := ⟨.hbm, 128, rfl⟩
abbrev main_v17 : Ref sig .tc := ⟨.hbm, 129, rfl⟩
abbrev main_v18 : Ref sig .tc := ⟨.hbm, 130, rfl⟩
abbrev main_cst_5 : Ref sig .tc := ⟨.hbm, 131, rfl⟩
abbrev main_v19 : Ref sig .tc := ⟨.hbm, 132, rfl⟩
abbrev main_v20 : Ref sig .tc := ⟨.hbm, 133, rfl⟩
abbrev main_v21 : Ref sig .tc := ⟨.hbm, 134, rfl⟩
abbrev main_cst_6 : Ref sig .tc := ⟨.hbm, 135, rfl⟩
abbrev main_call3_v0 : Ref sig .tc := ⟨.hbm, 136, rfl⟩
abbrev main_call3_v1 : Ref sig .tc := ⟨.hbm, 137, rfl⟩
abbrev main_v22 : Ref sig .tc := ⟨.hbm, 138, rfl⟩
abbrev main_values : Ref sig .tc := ⟨.hbm, 139, rfl⟩
abbrev main_indices : Ref sig .tc := ⟨.hbm, 140, rfl⟩
abbrev main_cst_7 : Ref sig .tc := ⟨.hbm, 141, rfl⟩
abbrev main_v23 : Ref sig .tc := ⟨.hbm, 142, rfl⟩
abbrev main_v24 : Ref sig .tc := ⟨.hbm, 143, rfl⟩
abbrev main_c_8 : Ref sig .tc := ⟨.hbm, 144, rfl⟩
abbrev main_call4_v0 : Ref sig .tc := ⟨.hbm, 145, rfl⟩
abbrev main_call4_v1 : Ref sig .tc := ⟨.hbm, 146, rfl⟩
abbrev main_v25 : Ref sig .tc := ⟨.hbm, 147, rfl⟩
abbrev main_v26 : Ref sig .tc := ⟨.hbm, 148, rfl⟩
abbrev main_v27 : Ref sig .tc := ⟨.hbm, 149, rfl⟩
abbrev main_v28 : Ref sig .tc := ⟨.hbm, 150, rfl⟩
abbrev main_v29 : Ref sig .tc := ⟨.hbm, 151, rfl⟩
abbrev main_c_9 : Ref sig .tc := ⟨.hbm, 152, rfl⟩
abbrev main_v30 : Ref sig .tc := ⟨.hbm, 153, rfl⟩
abbrev main_v31 : Ref sig .tc := ⟨.hbm, 154, rfl⟩
abbrev main_c_10 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_c_11 : Ref sig .tc := ⟨.hbm, 161, rfl⟩
abbrev main_v37 : Ref sig .tc := ⟨.hbm, 162, rfl⟩
abbrev main_v38 : Ref sig .tc := ⟨.hbm, 163, rfl⟩
abbrev main_c_12 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev main_v43 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_cst_13 : Ref sig .tc := ⟨.hbm, 176, rfl⟩
abbrev main_v50 : Ref sig .tc := ⟨.hbm, 177, rfl⟩
abbrev main_v51 : Ref sig .tc := ⟨.hbm, 178, rfl⟩
abbrev main_v52 : Ref sig .tc := ⟨.hbm, 179, rfl⟩
abbrev main_v53 : Ref sig .tc := ⟨.hbm, 180, rfl⟩
abbrev main_v54 : Ref sig .tc := ⟨.hbm, 181, rfl⟩
abbrev main_v55 : Ref sig .tc := ⟨.hbm, 182, rfl⟩
abbrev main_cst_14 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_cst_15 : Ref sig .tc := ⟨.hbm, 188, rfl⟩
abbrev main_call5_v0 : Ref sig .tc := ⟨.hbm, 189, rfl⟩
abbrev main_call5_v1 : Ref sig .tc := ⟨.hbm, 190, rfl⟩
abbrev main_call5_v2 : Ref sig .tc := ⟨.hbm, 191, rfl⟩
abbrev main_v60 : Ref sig .tc := ⟨.hbm, 192, rfl⟩
abbrev main_v61 : Ref sig .tc := ⟨.hbm, 193, rfl⟩
abbrev main_cst_16 : Ref sig .tc := ⟨.hbm, 194, rfl⟩
abbrev main_v62 : Ref sig .tc := ⟨.hbm, 195, rfl⟩

abbrev nD : Nat := 1
abbrev τ : Topo := Topo.v7x

variable {F : FTy → Type} [FloatOps F]

abbrev main_while0_count : Scf.Loop 32 := ⟨0#32, 4999#32, 1#32⟩
-- ==== Proof.MlpBody.lean ====
/- What one grid point of the MLP kernel leaves in its output block, as a term over its input blocks: the gather loop
   fills the scratch with the rows of the feature table that the point's words name, and the one store writes the
   payloads applied to that scratch and to the other blocks. -/
module

public import proofs.«01_k».proof.Proof.Gen.Kernel3Ideal.Value
public import Idealize.ShloMosaic.Lib.Pointwise

@[expose] public section

set_option maxRecDepth 16384

noncomputable section

namespace Cert.Kernel3Ideal.Mlp

open Cert.Kernel3Ideal Cert.Kernel3Ideal.Gen Idealize.ShloMosaic Idealize.ShloMosaic.TcCoe Idealize.SL.Sem

variable {F : FTy → Type} [FloatOps F]

/-- The row a word names (in range under the precondition). -/
def rowOf (w : BitVec 32) : Fin 10000 := ⟨w.toNat % 10000, Nat.mod_lt _ (by decide)⟩

/-- The gathered rows: row `t` is the table's row named by word `t`. -/
def gathered (x0 : Vec F S2048 .i32) (x2 : Vec F S10000x136 .f32) : Vec F S2048x136 .f32 :=
  fun j => x2 (ix2 (rowOf (x0 (ix1 (j 0)))) (j 1))

theorem off3 : ∀ k : Fin k0_t1_loop.trips, k0_off3 k = ![k.val, 0] := by decide +kernel
theorem off1 : ∀ k : Fin k0_t1_loop.trips, k0_off1 k = ![k.val] := by decide +kernel
theorem trips_eq : k0_t1_loop.trips = 2048 := by decide +kernel

theorem hz : (![0, 0] : Fin 2 → Nat) = fun _ => 0 := funext fun a => by fin_cases a <;> rfl

section Loop

variable (𝒱 : Variants) (c : Dev nD) (bd : Option 𝒱.V) (i : grid0.Coords) (arg1 : Memref sig .tc .smem S2048 .i32) (harg1 : arg1.IsWhole) (arg2 : Memref sig .tc .vmem S2048x1 .f32) (harg2 : arg2.IsWhole) (arg3 : Memref sig .tc .vmem S10000x136 .f32) (harg3 : arg3.IsWhole) (arg4 : Memref sig .tc .vmem S64x8 .f32) (harg4 : arg4.IsWhole) (arg5 : Memref sig .tc .vmem S136x128 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S2048x136 .f32) (harg11 : arg11.IsWhole)

/-- One trip stores one piece: the payload of the row loaded at the trip's word, at row `k` of the scratch. -/
theorem tripL_eq (X1 X3 k hw) :
    tripL_k0_t1 (F := F) 𝒱 c bd i arg1 harg1 arg2 harg2 arg3 harg3 arg4 harg4 arg5 harg5 arg6 harg6 arg7 harg7 arg8 harg8 arg9 harg9 arg10 harg10 arg11 harg11 X1 X3 k hw
      = [⟨Rect.unit (k0_off3 k) S1x136.size (k0_off3_inb k),
          k0_pay2 (View.readAt (Elt F) arg3.view (Rect.unit (s := S10000x136) (k0_off2 (arg1.view.readAt (Elt F) (Rect.unit (s := S2048) (k0_off1 k) S1.size (k0_off1_inb k)).toLoadRect X1 (Shape.Idx.first (numel1_S1.symm ▸ Nat.one_pos)))) S1x136.size (k0_off2_inb _ hw)).toLoadRect X3)⟩] := by
  unfold tripL_k0_t1 trip_k0_t1
  dsimp only
  sl_unfold_words
  rfl

variable (x0 : Vec F S2048 .i32) (x2 : Vec F S10000x136 .f32)

/-- The word trip `k` reads is word `k` of the block. -/
theorem word_eq (k : Fin k0_t1_loop.trips) :
    arg1.view.readAt (Elt F) (Rect.unit (s := S2048) (k0_off1 k) S1.size (k0_off1_inb k)).toLoadRect (harg1.unread x0) (Shape.Idx.first (numel1_S1.symm ▸ Nat.one_pos))
      = x0 (ix1 ⟨k.val, trips_eq ▸ k.isLt⟩) := by
  rw [View.readAt_eq_ld, harg1.read_unread]
  show x0 _ = x0 _
  congr 1
  funext a
  apply Fin.ext
  match a with
  | ⟨0, _⟩ =>
    show k0_off1 k 0 + 1 * 0 = k.val
    rw [off1]; rfl

/-- The row trip `k` stores is row `k` of the gathered table. -/
theorem piece_eq (k : Fin k0_t1_loop.trips) (w : BitVec 32) (hk : w = x0 (ix1 ⟨k.val, trips_eq ▸ k.isLt⟩)) (hw : k0_chk1 w) (x : S1x136.Idx) :
    k0_pay2 (View.readAt (Elt F) arg3.view (Rect.unit (s := S10000x136) (k0_off2 w) S1x136.size (k0_off2_inb w hw)).toLoadRect (harg3.unread x2)) x
      = gathered x0 x2 ((Rect.unit (s := S2048x136) (k0_off3 k) S1x136.size (k0_off3_inb k)).emb x) := by
  unfold k0_pay2 gathered
  simp only [shapeCast_self, View.readAt_eq_ld, harg3.read_unread]
  have hx : (x 0).val < 1 := (x 0).isLt
  have h1 : ((Rect.unit (s := S2048x136) (k0_off3 k) S1x136.size (k0_off3_inb k)).emb x) 0 = (⟨k.val, trips_eq ▸ k.isLt⟩ : Fin 2048) := by
    apply Fin.ext
    show k0_off3 k 0 + 1 * (x 0).val = k.val
    rw [off3]
    show k.val + 1 * (x 0).val = k.val
    omega
  have h2 : (((Rect.unit (s := S2048x136) (k0_off3 k) S1x136.size (k0_off3_inb k)).emb x) 1).val = (x 1).val := by
    show k0_off3 k 1 + 1 * (x 1).val = _
    rw [off3]
    show 0 + 1 * (x 1).val = _
    omega
  rw [h1, ← hk]
  have hb : w.toNat + 1 ≤ 10000 := hw 0
  show x2 _ = x2 _
  congr 1
  funext a
  apply Fin.ext
  match a with
  | ⟨0, _⟩ =>
    show w.toNat + 1 * (x 0).val = w.toNat % 10000
    rw [Nat.mod_eq_of_lt (by omega)]
    omega
  | ⟨1, _⟩ =>
    show 0 + 1 * (x 1).val = _
    rw [Nat.zero_add, Nat.one_mul]
    exact h2.symm

/-- Every piece of the trips before `n` is a piece of the gathered table, and those pieces cover its first `n` rows. -/
theorem pb_pieces (hw) : ∀ n : ℕ, n ≤ 2048 →
    (∀ p ∈ pb_k0_t1 (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw n, ∀ x : p.1.shape.Idx, p.2 x = gathered x0 x2 (p.1.emb x))
    ∧ (∀ y : S2048x136.Idx, (y 0).val < n → ∃ p ∈ pb_k0_t1 (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw n, y ∈ p.1.set)
  | 0, _ => ⟨fun p hp => absurd hp List.not_mem_nil, fun y hy => absurd hy (Nat.not_lt_zero _)⟩
  | n + 1, hn => by
    have ih := pb_pieces hw n (by omega)
    have hlt : n < k0_t1_loop.trips := by rw [trips_eq]; omega
    have e := pb_k0_t1_succ (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw ⟨n, hlt⟩
    rw [tripL_eq] at e
    change pb_k0_t1 (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw (n + 1) = _ at e
    rw [e]
    refine ⟨fun p hp => ?_, fun y hy => ?_⟩
    · rcases List.mem_append.mp hp with h | h
      · obtain rfl := List.mem_singleton.mp h
        intro x
        exact piece_eq arg3 harg3 x0 x2 ⟨n, hlt⟩ _ (word_eq arg1 harg1 x0 ⟨n, hlt⟩) (hw n hlt) x
      · exact ih.1 p h
    · by_cases hyn : (y 0).val < n
      · obtain ⟨p, hp, hm⟩ := ih.2 y hyn
        exact ⟨p, List.mem_append.mpr (Or.inr hp), hm⟩
      · refine ⟨_, List.mem_append.mpr (Or.inl (List.mem_singleton_self _)), ?_⟩
        show y ∈ (Rect.unit (s := S2048x136) (k0_off3 ⟨n, hlt⟩) S1x136.size (k0_off3_inb ⟨n, hlt⟩)).set
        rw [Rect.mem_set_unit]
        intro a
        have h1 : (y 1).val < 136 := (y 1).isLt
        rw [off3]
        match a with
        | ⟨0, _⟩ => show n ≤ (y 0).val ∧ (y 0).val < n + 1; omega
        | ⟨1, _⟩ => show 0 ≤ (y 1).val ∧ (y 1).val < 0 + 136; omega

/-- The scratch read back after the loop is the gathered table. -/
theorem scratch_eq (hw) :
    arg11.view.readCov (pb_k0_t1 (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw (Scf.trips k0_t1_loop.lb k0_t1_loop.ub k0_t1_loop.st))
      (Rect.unit ![0, 0] S2048x136.size inb_S2048x136_S2048x136_0_0).toLoadRect = gathered x0 x2 := by
  have hn : Scf.trips k0_t1_loop.lb k0_t1_loop.ub k0_t1_loop.st = 2048 := trips_eq
  rw [hn]
  have h := pb_pieces 𝒱 c bd i arg1 harg1 arg2 harg2 arg3 harg3 arg4 harg4 arg5 harg5 arg6 harg6 arg7 harg7 arg8 harg8 arg9 harg9 arg10 harg10 arg11 harg11 x0 x2 hw 2048 le_rfl
  have hc := fun y : S2048x136.Idx => h.2 y (y 0).isLt
  rw [View.readCov_eq_canon_ld _ _ _ hc, View.ld_unit_zero hz]
  funext y
  exact View.canon_apply_of_pieces _ _ h.1 y (hc y)

end Loop

/-- The block a grid point writes, over its input blocks. -/
def block (x0 : Vec F S2048 .i32) (x1 : Vec F S2048x1 .f32) (x2 : Vec F S10000x136 .f32) (x3 : Vec F S64x8 .f32) (x4 : Vec F S136x128 .f32) (x5 : Vec F S8x128 .f32) (x6 : Vec F S1x128 .f32) (x7 : Vec F S128x128 .f32) (x8 : Vec F S1x128 .f32) : Vec F S64x128 .f32 :=
  k0_pay1 (k0_pay5 (k0_pay3 (gathered x0 x2) x4 x3 x5 x6 x7 x8) (Scalar.ofBits .f32 0xFF800000#32) (k0_pay4 x1))
    (k0_pay6 (k0_pay3 (gathered x0 x2) x4 x3 x5 x6 x7 x8) (Scalar.ofBits .f32 0xFF800000#32) (k0_pay4 x1))

/-- What the run leaves in the output's staging buffer is that block. -/
theorem out_eq (c : Dev nD) (i : grid0.Coords) (arg1 : Memref sig .tc .smem S2048 .i32) (harg1 : arg1.IsWhole) (arg2 : Memref sig .tc .vmem S2048x1 .f32) (harg2 : arg2.IsWhole) (arg3 : Memref sig .tc .vmem S10000x136 .f32) (harg3 : arg3.IsWhole) (arg4 : Memref sig .tc .vmem S64x8 .f32) (harg4 : arg4.IsWhole) (arg5 : Memref sig .tc .vmem S136x128 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S2048x136 .f32) (harg11 : arg11.IsWhole)
    (x0 : Vec F S2048 .i32) (x1 : Vec F S2048x1 .f32) (x2 : Vec F S10000x136 .f32) (x3 : Vec F S64x8 .f32) (x4 : Vec F S136x128 .f32) (x5 : Vec F S8x128 .f32) (x6 : Vec F S1x128 .f32) (x7 : Vec F S128x128 .f32) (x8 : Vec F S1x128 .f32) (hw) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8 hw
      = block x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7 x8 hw)]
  unfold kernelRun0_A
  dsimp only
  sl_unfold_words
  rw [View.canon_unit_zero (S := S64x128) hz]
  rw [scratch_eq]
  simp only [View.readAt_eq_ld, harg2.read_unread, harg4.read_unread, harg5.read_unread, harg6.read_unread, harg7.read_unread, harg8.read_unread, harg9.read_unread,
    View.ld_unit_zero (S := S2048x1) hz, View.ld_unit_zero (S := S64x8) hz, View.ld_unit_zero (S := S136x128) hz, View.ld_unit_zero (S := S8x128) hz, View.ld_unit_zero (S := S1x128) hz, View.ld_unit_zero (S := S128x128) hz]
  rfl

end Cert.Kernel3Ideal.Mlp

end
-- ==== Proof.MlpPay.lean ====
/- The MLP block's payloads read at an index, over the extended reals. -/
module

public import proofs.«01_k».proof.Proof.MlpBody

@[expose] public section

set_option maxRecDepth 16384

noncomputable section

namespace Cert.Kernel3Ideal.Mlp

open Cert.Kernel3Ideal Cert.Kernel3Ideal.Gen Idealize.ShloMosaic Idealize.ShloMosaic.TcCoe

/-- A left-nested chain of 32 maxima is the maximum over `Fin 32` started at the least element. -/
theorem chain_eq (g : ℕ → EReal) :
    max (max (max (max (max (max (max (max (max (max (max (max (max (max (max (max (max (max (max (max (max (max (max (max (max (max (max (max (max (max (max (g 0) (g 1)) (g 2)) (g 3)) (g 4)) (g 5)) (g 6)) (g 7)) (g 8)) (g 9)) (g 10)) (g 11)) (g 12)) (g 13)) (g 14)) (g 15)) (g 16)) (g 17)) (g 18)) (g 19)) (g 20)) (g 21)) (g 22)) (g 23)) (g 24)) (g 25)) (g 26)) (g 27)) (g 28)) (g 29)) (g 30)) (g 31) = Finset.univ.fold max ⊥ fun s : Fin 32 => g s.val := by
  have hle : ∀ s : ℕ, s < 32 → g s ≤ Finset.univ.fold max ⊥ fun s : Fin 32 => g s.val := fun s hs =>
    (Finset.le_fold_max _).2 (Or.inr ⟨⟨s, hs⟩, Finset.mem_univ _, le_rfl⟩)
  refine le_antisymm ?_ ?_
  · refine max_le ?_ (hle _ (by decide))
    iterate 30 refine max_le ?_ (hle _ (by decide))
    exact hle _ (by decide)
  · refine (Finset.fold_max_le _).2 ⟨bot_le, fun s _ => ?_⟩
    obtain ⟨s, hs⟩ := s
    interval_cases s <;> simp only [le_max_iff, le_refl, true_or, or_true]

/-- 32 copies of a 64-row block one under another: row `i` is row `i % 64` of the block. -/
theorem copies_eq (v : FVec Ideal S64x128 .f32) (h) (i : Fin 2048) (j : Fin 128) :
    concatenate S2048x128 0 [⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩, ⟨S64x128, v⟩] h (ix2 i j) = v (ix2 ⟨i.val % 64, Nat.mod_lt _ (by decide)⟩ j) := by
  refine concatenate_replicate_apply (t := S2048x128) (s₁ := S64x128) 0 32 v h rfl (ix2 i j) _ rfl fun b hb => ?_
  match b, hb with
  | ⟨0, _⟩, hb => exact absurd rfl hb
  | ⟨1, _⟩, _ => rfl

/-- The two layers of the MLP on scratch row `i`. -/
theorem pay3_apply (v1 : FVec Ideal S2048x136 .f32) (v2 : FVec Ideal S136x128 .f32) (v5 : FVec Ideal S64x8 .f32) (v7 : FVec Ideal S8x128 .f32) (v12 : FVec Ideal S1x128 .f32) (v18 : FVec Ideal S128x128 .f32) (v20 : FVec Ideal S1x128 .f32) (i : Fin 2048) (j : Fin 128) :
    k0_pay3 v1 v2 v5 v7 v12 v18 v20 (ix2 i j)
      = max ((∑ k : Fin 128, max (((∑ a : Fin 136, v1 (ix2 i a) * v2 (ix2 a k)) - ∑ a : Fin 8, v5 (ix2 ⟨i.val % 64, Nat.mod_lt _ (by decide)⟩ a) * v7 (ix2 a k)) + v12 (ix2 0 k)) 0 * v18 (ix2 k j)) + v20 (ix2 0 j)) 0 := by
  unfold k0_pay3
  pointwise [copies_eq]

/-- The block's slices of 64 rows, folded by maximum, one row and lane. -/
theorem fold_apply (P : FVec Ideal S2048x128 .f32) (z : Ideal .f32) (M : IVec S2048x1 1) (r : Fin 64) (j : Fin 128) :
    k0_pay1 (k0_pay5 P z M) (k0_pay6 P z M) (ix2 r j)
      = Finset.univ.fold max ⊥ fun s : Fin 32 => k0_pay5 P z M (ix2 ⟨s.val * 64 + r.val, by omega⟩ j) := by
  unfold k0_pay6
  dsimp only
  change k0_pay1 (k0_pay5 P z M) _ _ = _
  generalize hV : k0_pay5 P z M = V
  have hg : ∀ n (hn : n < 32), V (ix2 ⟨n * 64 + r.val, by omega⟩ j) = V (ix2 ⟨(n * 64 + r.val) % 2048, Nat.mod_lt _ (by decide)⟩ j) := fun n hn => by
    congr 2; apply Fin.ext; show _ = _ % 2048; rw [Nat.mod_eq_of_lt (by omega)]
  have e : (fun s : Fin 32 => V (ix2 ⟨s.val * 64 + r.val, by omega⟩ j)) = fun s : Fin 32 => V (ix2 ⟨(s.val * 64 + r.val) % 2048, Nat.mod_lt _ (by decide)⟩ j) := funext fun s => hg s.val s.isLt
  rw [e, ← chain_eq fun n => V (ix2 ⟨(n * 64 + r.val) % 2048, Nat.mod_lt _ (by decide)⟩ j)]
  pointwise [k0_pay1]
  simp only [Nat.mod_eq_of_lt (show r.val < 2048 by omega), Nat.mod_eq_of_lt (show 64 + r.val < 2048 by omega), Nat.mod_eq_of_lt (show 128 + r.val < 2048 by omega), Nat.mod_eq_of_lt (show 192 + r.val < 2048 by omega), Nat.mod_eq_of_lt (show 256 + r.val < 2048 by omega), Nat.mod_eq_of_lt (show 320 + r.val < 2048 by omega), Nat.mod_eq_of_lt (show 384 + r.val < 2048 by omega), Nat.mod_eq_of_lt (show 448 + r.val < 2048 by omega), Nat.mod_eq_of_lt (show 512 + r.val < 2048 by omega), Nat.mod_eq_of_lt (show 576 + r.val < 2048 by omega), Nat.mod_eq_of_lt (show 640 + r.val < 2048 by omega), Nat.mod_eq_of_lt (show 704 + r.val < 2048 by omega), Nat.mod_eq_of_lt (show 768 + r.val < 2048 by omega), Nat.mod_eq_of_lt (show 832 + r.val < 2048 by omega), Nat.mod_eq_of_lt (show 896 + r.val < 2048 by omega), Nat.mod_eq_of_lt (show 960 + r.val < 2048 by omega), Nat.mod_eq_of_lt (show 1024 + r.val < 2048 by omega), Nat.mod_eq_of_lt (show 1088 + r.val < 2048 by omega), Nat.mod_eq_of_lt (show 1152 + r.val < 2048 by omega), Nat.mod_eq_of_lt (show 1216 + r.val < 2048 by omega), Nat.mod_eq_of_lt (show 1280 + r.val < 2048 by omega), Nat.mod_eq_of_lt (show 1344 + r.val < 2048 by omega), Nat.mod_eq_of_lt (show 1408 + r.val < 2048 by omega), Nat.mod_eq_of_lt (show 1472 + r.val < 2048 by omega), Nat.mod_eq_of_lt (show 1536 + r.val < 2048 by omega), Nat.mod_eq_of_lt (show 1600 + r.val < 2048 by omega), Nat.mod_eq_of_lt (show 1664 + r.val < 2048 by omega), Nat.mod_eq_of_lt (show 1728 + r.val < 2048 by omega), Nat.mod_eq_of_lt (show 1792 + r.val < 2048 by omega), Nat.mod_eq_of_lt (show 1856 + r.val < 2048 by omega), Nat.mod_eq_of_lt (show 1920 + r.val < 2048 by omega), Nat.mod_eq_of_lt (show 1984 + r.val < 2048 by omega)]

/-- A block's entry: the maximum over the neighbours of the valid messages. -/
theorem block_apply (x0 : Vec Ideal S2048 .i32) (x1 : FVec Ideal S2048x1 .f32) (x2 : FVec Ideal S10000x136 .f32) (x3 : FVec Ideal S64x8 .f32) (x4 : FVec Ideal S136x128 .f32) (x5 : FVec Ideal S8x128 .f32) (x6 : FVec Ideal S1x128 .f32) (x7 : FVec Ideal S128x128 .f32) (x8 : FVec Ideal S1x128 .f32) (r : Fin 64) (j : Fin 128) :
    block x0 x1 x2 x3 x4 x5 x6 x7 x8 (ix2 r j)
      = Finset.univ.fold max ⊥ fun s : Fin 32 =>
        if Ideal.ofBits .f32 0x3F000000#32 < x1 (ix2 ⟨s.val * 64 + r.val, by omega⟩ 0)
        then k0_pay3 (gathered x0 x2) x4 x3 x5 x6 x7 x8 (ix2 ⟨s.val * 64 + r.val, by omega⟩ j) else ⊥ := by
  unfold block
  generalize k0_pay3 (gathered x0 x2) x4 x3 x5 x6 x7 x8 = P
  rw [fold_apply]
  congr 1
  funext s
  have hbot : Ideal.ofBits .f32 4286578688#32 = ⊥ := by simp [Ideal.ofBits, Ideal.ieee]
  pointwise [k0_pay4, k0_pay5]
  rw [hbot]

end Cert.Kernel3Ideal.Mlp

end
-- ==== Proof.MlpHost.lean ====
/- The MLP kernel's operand arrays at the launch, as terms over the arguments, and its input blocks read at an index. -/
module

public import proofs.«01_k».proof.Proof.MlpPay
public import Idealize.ShloMosaic.Lib.Pipeline.ValueKit

@[expose] public section

set_option maxRecDepth 16384

noncomputable section

namespace Cert.Kernel3Ideal.Mlp

open Cert.Kernel3Ideal Cert.Kernel3Ideal.Gen Idealize.ShloMosaic Idealize.ShloMosaic.TcCoe Idealize.ShloMosaic.StableHlo

variable (m : (ℓ : Loc nD τ sig) → Buf (Elt Ideal) ℓ) (c : Dev nD)

abbrev A0 : FVec Ideal S10000x128 .f32 := m ((c : Thread nD τ).loc main_arg0)
abbrev A1 : FVec Ideal S10000x3 .f32 := m ((c : Thread nD τ).loc main_arg1)
abbrev A2 : FVec Ideal S5120x3 .f32 := m ((c : Thread nD τ).loc main_arg2)
abbrev A3 : IVec S5120x32 32 := m ((c : Thread nD τ).loc main_arg3)
abbrev A4 : FVec Ideal S5120x32 .f32 := m ((c : Thread nD τ).loc main_arg4)
abbrev A5 : FVec Ideal S131x128 .f32 := m ((c : Thread nD τ).loc main_arg5)
abbrev A6 : FVec Ideal S128 .f32 := m ((c : Thread nD τ).loc main_arg6)
abbrev A7 : FVec Ideal S128x128 .f32 := m ((c : Thread nD τ).loc main_arg7)
abbrev A8 : FVec Ideal S128 .f32 := m ((c : Thread nD τ).loc main_arg8)

theorem V2 : V m c main_v2 = shapeCast S163840 (transpose S80x32x64 [0, 2, 1] (shapeCast S80x64x32 (A3 m c) shapeCasts_S5120x32_S80x64x32) transposes_S80x64x32_S80x32x64_0_2_1) shapeCasts_S80x32x64_S163840 := by
  simp only [V, hostOps0, hostOps0_1, hostOps0_2, List.flatten_cons, List.flatten_nil, List.append_nil, List.cons_append, List.nil_append]
  after_results_simp <;> rfl

theorem V5 : V m c main_v5 = shapeCast S163840x1 (transpose S80x32x64 [0, 2, 1] (shapeCast S80x64x32 (A4 m c) shapeCasts_S5120x32_S80x64x32) transposes_S80x64x32_S80x32x64_0_2_1) shapeCasts_S80x32x64_S163840x1 := by
  simp only [V, hostOps0, hostOps0_1, hostOps0_2, List.flatten_cons, List.flatten_nil, List.append_nil, List.cons_append, List.nil_append]
  after_results_simp <;> rfl

theorem V7 : V m c main_v7 = concatenate S10000x136 1 [⟨S10000x128, A0 m c⟩, ⟨S10000x3, A1 m c⟩, ⟨S10000x5, broadcastInDim S10000x5 ![] bcast_S_S10000x5 (constant (F := Ideal) S_ .f32 0x00000000#32)⟩] concatenates_S10000x128_S10000x3_S10000x5_S10000x136_d1 := by
  simp only [V, hostOps0, hostOps0_1, hostOps0_2, List.flatten_cons, List.flatten_nil, List.append_nil, List.cons_append, List.nil_append]
  after_results_simp <;> rfl

theorem V8 : V m c main_v8 = pad S5120x8 ![0, 0] ![0, 5] ![0, 0] (A2 m c) (sitofp (F := Ideal) .f32 (constantI S_ 32 0#32)) pads_S5120x3_S5120x8_000_050 h_S_ := by
  simp only [V, hostOps0, hostOps0_1, hostOps0_2, List.flatten_cons, List.flatten_nil, List.append_nil, List.cons_append, List.nil_append, TRef.unary, TRef.binary, TRef.toBuf, TRef.ofBuf, cast_eq]
  after_results_simp <;> rfl

theorem V10 : V m c main_v10 = concatenate S136x128 0 [⟨S131x128, A5 m c⟩, ⟨S5x128, broadcastInDim S5x128 ![] bcast_S_S5x128 (constant (F := Ideal) S_ .f32 0x00000000#32)⟩] concatenates_S131x128_S5x128_S136x128_d0 := by
  simp only [V, hostOps0, hostOps0_1, hostOps0_2, List.flatten_cons, List.flatten_nil, List.append_nil, List.cons_append, List.nil_append]
  after_results_simp <;> rfl

theorem V13 : V m c main_v13 = concatenate S8x128 0 [⟨S3x128, extractStridedSlice S3x128 ![128, 0] (A5 m c) slices_S131x128_S3x128_128_0⟩, ⟨S5x128, broadcastInDim S5x128 ![] bcast_S_S5x128 (constant (F := Ideal) S_ .f32 0x00000000#32)⟩] concatenates_S3x128_S5x128_S8x128_d0 := by
  simp only [V, hostOps0, hostOps0_1, hostOps0_2, List.flatten_cons, List.flatten_nil, List.append_nil, List.cons_append, List.nil_append]
  after_results_simp <;> rfl

theorem V14 : V m c main_v14 = broadcastInDim S1x128 ![1] bcast_S128_S1x128_1 (A6 m c) := by
  simp only [V, hostOps0, hostOps0_1, hostOps0_2, List.flatten_cons, List.flatten_nil, List.append_nil, List.cons_append, List.nil_append]
  after_results_simp <;> rfl

theorem V15 : V m c main_v15 = broadcastInDim S1x128 ![1] bcast_S128_S1x128_1 (A8 m c) := by
  simp only [V, hostOps0, hostOps0_1, hostOps0_2, List.flatten_cons, List.flatten_nil, List.append_nil, List.cons_append, List.nil_append]
  after_results_simp <;> rfl

/-- Every window's block index at grid point `t`. -/
theorem idx : ∀ t : Fin cfg0.N, win0_0.index t = ![t.val] ∧ win0_1.index t = ![t.val, 0] ∧ win0_2.index t = ![0, 0] ∧ win0_3.index t = ![t.val, 0]
    ∧ win0_4.index t = ![0, 0] ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

theorem tlt (t : Fin cfg0.N) : t.val < 80 := t.isLt

theorem blk0 (t : Fin cfg0.N) (r : Fin 64) (s : Fin 32) :
    iblk m c 0 t (ix1 ⟨s.val * 64 + r.val, by omega⟩) = A3 m c (ix2 ⟨t.val * 64 + r.val, by have := tlt t; omega⟩ s) := by
  have ht := tlt t
  have e : iblk m c 0 t (ix1 ⟨s.val * 64 + r.val, by omega⟩) = V m c main_v2 (ix1 ⟨t.val * 2048 + (s.val * 64 + r.val), by omega⟩) := by
    blk_ext [iblk, idx t]
  rw [e, V2]
  pointwise []

theorem blk1 (t : Fin cfg0.N) (r : Fin 64) (s : Fin 32) :
    iblk m c 1 t (ix2 ⟨s.val * 64 + r.val, by omega⟩ 0) = A4 m c (ix2 ⟨t.val * 64 + r.val, by have := tlt t; omega⟩ s) := by
  have ht := tlt t
  have e : iblk m c 1 t (ix2 ⟨s.val * 64 + r.val, by omega⟩ 0) = V m c main_v5 (ix2 ⟨t.val * 2048 + (s.val * 64 + r.val), by omega⟩ 0) := by
    blk_ext [iblk, idx t]
  rw [e, V5]
  pointwise []

theorem blk2 (t : Fin cfg0.N) (i : Fin 10000) (a : Fin 136) :
    iblk m c 2 t (ix2 i a) = V m c main_v7 (ix2 i a) := by
  blk_ext [iblk, idx t]

theorem blk3 (t : Fin cfg0.N) (r : Fin 64) (a : Fin 8) :
    iblk m c 3 t (ix2 r a) = V m c main_v8 (ix2 ⟨t.val * 64 + r.val, by have := tlt t; omega⟩ a) := by
  blk_ext [iblk, idx t]

theorem blk4 (t : Fin cfg0.N) (i : Fin 136) (a : Fin 128) :
    iblk m c 4 t (ix2 i a) = V m c main_v10 (ix2 i a) := by
  blk_ext [iblk, idx t]

theorem blk5 (t : Fin cfg0.N) (i : Fin 8) (a : Fin 128) :
    iblk m c 5 t (ix2 i a) = V m c main_v13 (ix2 i a) := by
  blk_ext [iblk, idx t]

theorem blk6 (t : Fin cfg0.N) (a : Fin 128) :
    iblk m c 6 t (ix2 0 a) = V m c main_v14 (ix2 0 a) := by
  blk_ext [iblk, idx t]

theorem blk7 (t : Fin cfg0.N) (i : Fin 128) (a : Fin 128) :
    iblk m c 7 t (ix2 i a) = A7 m c (ix2 i a) := by
  blk_ext [iblk, V, idx t]

theorem blk8 (t : Fin cfg0.N) (a : Fin 128) :
    iblk m c 8 t (ix2 0 a) = V m c main_v15 (ix2 0 a) := by
  blk_ext [iblk, idx t]

end Cert.Kernel3Ideal.Mlp

end
-- ==== Proof.MlpRef.lean ====
/- The MLP reference's result read at an index, over the extended reals. -/
module

public import proofs.«01_k».proof.Proof.Gen.Reference3Ideal.Run
public import Idealize.ShloMosaic.Lib.Pointwise
public import Idealize.ShloMosaic.Lib.Routing.Ops

@[expose] public section

set_option maxRecDepth 16384

noncomputable section

namespace Cert.Reference3Ideal.Mlp

open Cert.Reference3Ideal Cert.Reference3Ideal.Gen Cert.Reference3Ideal.Facts Idealize.ShloMosaic Idealize.ShloMosaic.TcCoe

/-- The column numbers as gather indices: one per (centroid, neighbour) pair, negative ones counted from the end. -/
def colIdx (a3 : IVec S5120x32 32) : IVec S163840x1 32 :=
  broadcastInDim S163840x1 ![0] bcast_S163840_S163840x1_0 (select (cmpi .slt (shapeCast S163840 a3 shapeCasts_S5120x32_S163840) (broadcastInDim S163840 ![] bcast_S_S163840 (constantI S_ 32 0#32))) (addi (shapeCast S163840 a3 shapeCasts_S5120x32_S163840) (broadcastInDim S163840 ![] bcast_S_S163840 (constantI S_ 32 10000#32))) (shapeCast S163840 a3 shapeCasts_S5120x32_S163840))

/-- The neighbours' features. -/
def rowsX (a0 : FVec Ideal S10000x128 .f32) (a3 : IVec S5120x32 32) : FVec Ideal S163840x128 .f32 :=
  Host.gather gather_S10000x128_S163840x1_S163840x128_1_0_n_n_0_1_1128 a0 (colIdx a3)

/-- The neighbours' positions. -/
def rowsP (a1 : FVec Ideal S10000x3 .f32) (a3 : IVec S5120x32 32) : FVec Ideal S163840x3 .f32 :=
  Host.gather gather_S10000x3_S163840x1_S163840x3_1_0_n_n_0_1_13 a1 (colIdx a3)

/-- The reference's result as one term over its arguments. -/
def REF (a0 : FVec Ideal S10000x128 .f32) (a1 : FVec Ideal S10000x3 .f32) (a2 : FVec Ideal S5120x3 .f32) (a3 : IVec S5120x32 32) (a4 : FVec Ideal S5120x32 .f32)
    (a5 : FVec Ideal S131x128 .f32) (a6 : FVec Ideal S128 .f32) (a7 : FVec Ideal S128x128 .f32) (a8 : FVec Ideal S128 .f32) : FVec Ideal S5120x128 .f32 :=
  Host.reduce FloatOps.maximumf (shapeCast S5120x32x128 (select (broadcastInDim S163840x128 ![0, 1] bcast_S163840x1_S163840x128_0_1 (broadcastInDim S163840x1 ![0] bcast_S163840_S163840x1_0 (shapeCast S163840 (cmpf .ogt a4 (broadcastInDim S5120x32 ![] bcast_S_S5120x32 (constant S_ .f32 0x3F000000#32))) shapeCasts_S5120x32_S163840))) (maximumf (addf (Host.dotGeneral dot_S163840x128_S128x128_S163840x128_1_0_0_1_n_n none (maximumf (addf (Host.dotGeneral dot_S163840x131_S131x128_S163840x128_1_0_0_1_n_n none (concatenate S163840x131 1 [⟨S163840x128, (rowsX a0 a3)⟩, ⟨S163840x3, (subf (rowsP a1 a3) (shapeCast S163840x3 (broadcastInDim S5120x32x3 ![0, 1, 2] bcast_S5120x1x3_S5120x32x3_0_1_2 (broadcastInDim S5120x1x3 ![0, 2] bcast_S5120x3_S5120x1x3_0_2 a2)) shapeCasts_S5120x32x3_S163840x3))⟩] concatenates_S163840x128_S163840x3_S163840x131_d1) a5) (broadcastInDim S163840x128 ![0, 1] bcast_S1x128_S163840x128_0_1 (broadcastInDim S1x128 ![1] bcast_S128_S1x128_1 a6))) (broadcastInDim S163840x128 ![] bcast_S_S163840x128 (constant S_ .f32 0x00000000#32))) a7) (broadcastInDim S163840x128 ![0, 1] bcast_S1x128_S163840x128_0_1 (broadcastInDim S1x128 ![1] bcast_S128_S1x128_1 a8))) (broadcastInDim S163840x128 ![] bcast_S_S163840x128 (constant S_ .f32 0x00000000#32))) (broadcastInDim S163840x128 ![] bcast_S_S163840x128 (id (constant S_ .f32 0xFF800000#32)))) shapeCasts_S163840x128_S5120x32x128) (constant S_ .f32 0xFF800000#32) reducesTo_S5120x32x128_S5120x128_d1 h_S_

/-- The row a word names. -/
def rowOf (w : BitVec 32) : Fin 10000 := ⟨w.toNat % 10000, Nat.mod_lt _ (by decide)⟩

/-- For a column in range the gather index is the column. -/
theorem colIdx_apply (a3 : IVec S5120x32 32) (M : Fin 5120) (s : Fin 32) (h : (a3 (ix2 M s)).toNat < 10000) :
    colIdx a3 (ix2 ⟨M.val * 32 + s.val, by omega⟩ 0) = BitVec.ofNat 32 (rowOf (a3 (ix2 M s))).val := by
  pointwise [colIdx]
  generalize a3 (ix2 M s) = w at h
  have hs : IntOp.cmpi CmpIPredicate.slt w 0#32 = 0#1 := by
    have ofBool_eq_zero (p : Bool) : (BitVec.ofBool p = 0#1) ↔ p = false := by cases p <;> decide
    simp only [IntOp.cmpi, ofBool_eq_zero, BitVec.slt, decide_eq_false_iff_not, BitVec.toInt, BitVec.toNat_ofNat]
    omega
  rw [hs]
  show w = BitVec.ofNat 32 (w.toNat % 10000)
  rw [Nat.mod_eq_of_lt h, BitVec.ofNat_toNat, BitVec.setWidth_eq]

/-- A neighbour's features are the row its column names. -/
theorem rowsX_apply (a0 : FVec Ideal S10000x128 .f32) (a3 : IVec S5120x32 32) (M : Fin 5120) (s : Fin 32) (h : (a3 (ix2 M s)).toNat < 10000) (y : Fin 128) :
    rowsX a0 a3 (ix2 ⟨M.val * 32 + s.val, by omega⟩ y) = a0 (ix2 (rowOf (a3 (ix2 M s))) y) := by
  unfold rowsX
  simp only [ix2_eq_valueIdx]
  exact Routing.gather_row _ rfl rfl rfl rfl rfl _ _ _ _ _ (colIdx_apply a3 M s h) (by decide)

/-- A neighbour's position is the row its column names. -/
theorem rowsP_apply (a1 : FVec Ideal S10000x3 .f32) (a3 : IVec S5120x32 32) (M : Fin 5120) (s : Fin 32) (h : (a3 (ix2 M s)).toNat < 10000) (y : Fin 3) :
    rowsP a1 a3 (ix2 ⟨M.val * 32 + s.val, by omega⟩ y) = a1 (ix2 (rowOf (a3 (ix2 M s))) y) := by
  unfold rowsP
  simp only [ix2_eq_valueIdx]
  exact Routing.gather_row _ rfl rfl rfl rfl rfl _ _ _ _ _ (colIdx_apply a3 M s h) (by decide)

/-- The reference's entry: the maximum over the valid neighbours of the two-layer message. -/
theorem ref_apply (a0 : FVec Ideal S10000x128 .f32) (a1 : FVec Ideal S10000x3 .f32) (a2 : FVec Ideal S5120x3 .f32) (a3 : IVec S5120x32 32) (a4 : FVec Ideal S5120x32 .f32)
    (a5 : FVec Ideal S131x128 .f32) (a6 : FVec Ideal S128 .f32) (a7 : FVec Ideal S128x128 .f32) (a8 : FVec Ideal S128 .f32) (M : Fin 5120) (j : Fin 128) (h : ∀ y, (a3 y).toNat < 10000) :
    REF a0 a1 a2 a3 a4 a5 a6 a7 a8 (ix2 M j)
      = Finset.univ.fold max ⊥ fun s : Fin 32 => if Ideal.ofBits .f32 0x3F000000#32 < a4 (ix2 M s) then
          max ((∑ k : Fin 128, max (((∑ a : Fin 128, a0 (ix2 (rowOf (a3 (ix2 M s))) a) * a5 (ix2 ⟨a.val, by omega⟩ k))
              + ∑ a : Fin 3, (a1 (ix2 (rowOf (a3 (ix2 M s))) a) - a2 (ix2 M a)) * a5 (ix2 ⟨128 + a.val, by omega⟩ k)) + a6 (ix1 k)) 0 * a7 (ix2 k j)) + a8 (ix1 j)) 0
        else ⊥ := by
  have hbot : Ideal.ofBits .f32 4286578688#32 = ⊥ := by simp [Ideal.ofBits, Ideal.ieee]
  pointwise [REF, id_eq]
  rw [hbot]
  congr 1
  funext s
  simp only [rowsX_apply a0 a3 M s (h _), rowsP_apply a1 a3 M s (h _)]

end Cert.Reference3Ideal.Mlp

end
-- ==== Proof.MlpMath.lean ====
/- The extended-real identity between the MLP kernel's first layer and the reference's: the kernel multiplies the stacked
   features and positions by the whole first weight matrix and then subtracts the centroid's share; the reference
   subtracts the centroid from the neighbour first. -/
module

public import Mathlib.Data.EReal.Operations
public import Mathlib.Algebra.BigOperators.Fin

@[expose] public section

namespace Cert.MlpMath

/-- Over real numbers, a sum of three products less another is the sum of the products of the differences. -/
theorem diff3 (A : EReal) (p q w : Fin 3 → EReal) (hp : ∀ a, ∃ r : ℝ, p a = r) (hq : ∀ a, ∃ r : ℝ, q a = r) (hw : ∀ a, ∃ r : ℝ, w a = r) :
    (A + ∑ a, p a * w a) - ∑ a, q a * w a = A + ∑ a, (p a - q a) * w a := by
  choose p' hp' using hp
  choose q' hq' using hq
  choose w' hw' using hw
  obtain rfl : p = fun a => (p' a : EReal) := funext hp'
  obtain rfl : q = fun a => (q' a : EReal) := funext hq'
  obtain rfl : w = fun a => (w' a : EReal) := funext hw'
  have e1 : ∑ a, (p' a : EReal) * (w' a : EReal) = ((∑ a, p' a * w' a : ℝ) : EReal) := by
    simp only [Fin.sum_univ_three, EReal.coe_add, EReal.coe_mul]
  have e2 : ∑ a, (q' a : EReal) * (w' a : EReal) = ((∑ a, q' a * w' a : ℝ) : EReal) := by
    simp only [Fin.sum_univ_three, EReal.coe_add, EReal.coe_mul]
  have e3 : ∑ a, ((p' a : EReal) - (q' a : EReal)) * (w' a : EReal) = ((∑ a, p' a * w' a : ℝ) : EReal) + -((∑ a, q' a * w' a : ℝ) : EReal) := by
    simp only [← EReal.coe_sub, ← EReal.coe_mul, ← EReal.coe_add, ← EReal.coe_neg, Fin.sum_univ_three]
    congr 1
    ring
  rw [e1, e2, e3, sub_eq_add_neg, add_assoc]

/-- A sum over the stacked axis, cut where the features end and where the positions end. -/
theorem sum136 (f : Fin 136 → EReal) :
    ∑ a, f a = (∑ a : Fin 128, f ⟨a.val, by omega⟩ + ∑ a : Fin 3, f ⟨128 + a.val, by omega⟩) + ∑ a : Fin 5, f ⟨131 + a.val, by omega⟩ := by
  rw [show ∑ a, f a = _ from Fin.sum_univ_add (a := 131) (b := 5) f]
  rw [show ∑ a, f (Fin.castAdd 5 a) = _ from Fin.sum_univ_add (a := 128) (b := 3) fun a => f (Fin.castAdd 5 a)]
  rfl

end Cert.MlpMath
-- ==== Proof.MlpFinal.lean ====
/- The MLP kernel's result array is the reference's term over the same arguments. -/
module

public import proofs.«01_k».proof.Proof.MlpHost
public import proofs.«01_k».proof.Proof.MlpRef
public import proofs.«01_k».proof.Proof.MlpMath

@[expose] public section

set_option maxRecDepth 16384

noncomputable section

namespace Cert.Kernel3Ideal.Mlp

open Cert.Kernel3Ideal Cert.Kernel3Ideal.Gen Idealize.ShloMosaic Idealize.ShloMosaic.TcCoe

variable (m : (ℓ : Loc nD τ sig) → Buf (Elt Ideal) ℓ) (c : Dev nD)

/-- The first layer before its bias, at neighbour row `i` and centroid row `M`. -/
theorem layer1 (t : Fin cfg0.N) (i : Fin 10000) (r : Fin 64) (k : Fin 128)
    (hp : ∀ y, ∃ r : ℝ, A1 m c y = r) (hq : ∀ y, ∃ r : ℝ, A2 m c y = r) (hw : ∀ (a : Fin 3) (k : Fin 128), ∃ r : ℝ, A5 m c (ix2 ⟨128 + a.val, by omega⟩ k) = r) :
    (∑ a : Fin 136, (show EReal from V m c main_v7 (ix2 i a)) * (show EReal from V m c main_v10 (ix2 a k)))
      - (∑ a : Fin 8, (show EReal from V m c main_v8 (ix2 ⟨t.val * 64 + r.val, by have := tlt t; omega⟩ a)) * (show EReal from V m c main_v13 (ix2 a k)))
    = (∑ a : Fin 128, A0 m c (ix2 i a) * A5 m c (ix2 ⟨a.val, by omega⟩ k))
      + ∑ a : Fin 3, (A1 m c (ix2 i a) - A2 m c (ix2 ⟨t.val * 64 + r.val, by have := tlt t; omega⟩ a)) * A5 m c (ix2 ⟨128 + a.val, by omega⟩ k) := by
  have ht := tlt t
  have hM : t.val * 64 + r.val < 5120 := by omega
  rw [V7, V8, V10, V13, Cert.MlpMath.sum136]
  pointwise []
  simp only [hM, dif_pos, mul_zero, Finset.sum_const_zero, add_zero, Nat.add_sub_cancel_left, Fin.is_lt]
  have e1 : ∀ x : Fin 128, (if h : x.val < 131 then A5 m c (ix2 ⟨x.val, h⟩ k) else 0) = A5 m c (ix2 ⟨x.val, by omega⟩ k) := fun x => dif_pos (by omega)
  have e2 : ∀ x : Fin 3, (if h : 128 + x.val < 131 then A5 m c (ix2 ⟨128 + x.val, h⟩ k) else 0) = A5 m c (ix2 ⟨128 + x.val, by omega⟩ k) := fun x => dif_pos (by omega)
  simp only [e1, e2]
  exact Cert.MlpMath.diff3 _ (fun a => A1 m c (ix2 i a)) (fun a => A2 m c (ix2 ⟨t.val * 64 + r.val, hM⟩ a)) (fun a => A5 m c (ix2 ⟨128 + a.val, by omega⟩ k))
    (fun a => hp _) (fun a => hq _) (fun a => hw a k)

abbrev result : FVec Ideal S5120x128 .f32 :=
  Cert.Reference3Ideal.Mlp.REF (A0 m c) (A1 m c) (A2 m c) (A3 m c) (A4 m c) (A5 m c) (A6 m c) (A7 m c) (A8 m c)

/-- A grid point's block is the reference's rows. -/
theorem point (t : Fin cfg0.N) (r : Fin 64) (j : Fin 128) (hcol : ∀ y, (A3 m c y).toNat < 10000)
    (hp : ∀ y, ∃ r : ℝ, A1 m c y = r) (hq : ∀ y, ∃ r : ℝ, A2 m c y = r) (hw : ∀ (a : Fin 3) (k : Fin 128), ∃ r : ℝ, A5 m c (ix2 ⟨128 + a.val, by omega⟩ k) = r) :
    block (iblk m c 0 t) (iblk m c 1 t) (iblk m c 2 t) (iblk m c 3 t) (iblk m c 4 t) (iblk m c 5 t) (iblk m c 6 t) (iblk m c 7 t) (iblk m c 8 t) (ix2 r j)
      = result m c (ix2 ⟨t.val * 64 + r.val, by have := tlt t; omega⟩ j) := by
  rw [block_apply]
  refine Eq.trans ?_ (Cert.Reference3Ideal.Mlp.ref_apply (A0 m c) (A1 m c) (A2 m c) (A3 m c) (A4 m c) (A5 m c) (A6 m c) (A7 m c) (A8 m c) _ j hcol).symm
  congr 1
  funext s
  rw [pay3_apply, blk1 m c t r s]
  have hg : ∀ a : Fin 136, gathered (iblk m c 0 t) (iblk m c 2 t) (ix2 ⟨s.val * 64 + r.val, by omega⟩ a)
      = V m c main_v7 (ix2 (Cert.Reference3Ideal.Mlp.rowOf (A3 m c (ix2 ⟨t.val * 64 + r.val, by have := tlt t; omega⟩ s))) a) := fun a => by
    refine Eq.trans ?_ (blk2 m c t _ a)
    show iblk m c 2 t (ix2 (rowOf (iblk m c 0 t (ix1 ⟨s.val * 64 + r.val, by omega⟩))) a) = _
    rw [blk0 m c t r s]
    rfl
  have hr : (⟨(s.val * 64 + r.val) % 64, Nat.mod_lt _ (by decide)⟩ : Fin 64) = r := Fin.ext (by show (s.val * 64 + r.val) % 64 = r.val; omega)
  have h6 : ∀ k : Fin 128, iblk m c 6 t (ix2 0 k) = A6 m c (ix1 k) := fun k => by rw [blk6, V14]; pointwise []
  have h8 : ∀ k : Fin 128, iblk m c 8 t (ix2 0 k) = A8 m c (ix1 k) := fun k => by rw [blk8, V15]; pointwise []
  refine if_congr Iff.rfl ?_ rfl
  refine congrArg (max · 0) ?_
  refine Ideal.add_congr ?_ (h8 j)
  refine Finset.sum_congr rfl fun k _ => ?_
  refine Ideal.mul_congr ?_ (blk7 m c t k j)
  refine congrArg (max · 0) ?_
  refine Ideal.add_congr ?_ (h6 k)
  refine Eq.trans ?_ (layer1 m c t _ r k hp hq hw)
  rw [hr]
  refine congrArg₂ (· - ·) (Finset.sum_congr rfl fun a _ => Ideal.mul_congr (hg a) (blk4 m c t a k)) (Finset.sum_congr rfl fun a _ => Ideal.mul_congr (blk3 m c t r a) (blk5 m c t a k))

/-- The result array after the run. -/
theorem final (hH : Hyps m) (hcol : ∀ y, (A3 m c y).toNat < 10000)
    (hp : ∀ y, ∃ r : ℝ, A1 m c y = r) (hq : ∀ y, ∃ r : ℝ, A2 m c y = r) (hw : ∀ (a : Fin 3) (k : Fin 128), ∃ r : ℝ, A5 m c (ix2 ⟨128 + a.val, by omega⟩ k) = r) :
    (dats m hH 0 c).arrAt 9 (cfgs 0).N = result m c := by
  refine (dats m hH 0 c).arrAt_eq_of_covers 9 _ (by decide +kernel) fun t hf y => ?_
  blk_simp
  rw [after0_9]
  simp only [outsAt0]
  rw [out_eq]
  have hy : ((cfg0.win 9).blk t).view.emb y = ix2 ⟨t.val * 64 + (y 0).val, by have := tlt t; have h0 : (y 0).val < 64 := (y 0).isLt; omega⟩ (⟨(y 1).val, (y 1).isLt⟩ : Fin 128) := by
    blk_ext [idx t]
  rw [hy]
  refine Eq.trans ?_ (point m c t ⟨(y 0).val, (y 0).isLt⟩ ⟨(y 1).val, (y 1).isLt⟩ hcol hp hq hw)
  congr 1
  exact eq_ix2 _

end Cert.Kernel3Ideal.Mlp

end
-- ==== Proof.MlpPre.lean ====
/- What the MLP's precondition says of its arrays: every column names a row of the point table, and the coordinates and
   the coordinate rows of the first weight matrix are real numbers. -/
module

public import proofs.«01_k».proof.Defs
public import proofs.«01_k».proof.Proof.Gen.Pre_pre_mlp
public import Idealize.ShloMosaic.Lib.ReduceAll
public import Idealize.ShloMosaic.Lib.WordCmp
public import Idealize.ShloMosaic.Lib.Pointwise

@[expose] public section

namespace Cert.MlpPre

open Idealize.ShloMosaic Cert.Pre_pre_mlp Cert.Pre_pre_mlp.Facts

variable {F : FTy → Type} [FloatOps F]

instance : Subsingleton S_.Idx := ⟨fun a b => funext fun x => x.elim0⟩

theorem and_one {a b : BitVec 1} (h : IntOp.andi a b = 1#1) : a = 1#1 ∧ b = 1#1 := by
  revert a b; decide

/-- The four conjuncts of the precondition, each at every index. -/
theorem split (a0 : FVec F S10000x128 .f32) (a1 : FVec F S10000x3 .f32) (a2 : FVec F S5120x3 .f32) (a3 : IVec S5120x32 32) (a4 : FVec F S5120x32 .f32)
    (a5 : FVec F S131x128 .f32) (a6 : FVec F S128 .f32) (a7 : FVec F S128x128 .f32) (a8 : FVec F S128 .f32)
    (h : Cert.Pre_pre_mlp.fn a0 a1 a2 a3 a4 a5 a6 a7 a8 = fun _ => 1#1) :
    (∀ y, IntOp.andi (IntOp.cmpi .sge (a3 y) 0#32) (IntOp.cmpi .slt (a3 y) 10000#32) = 1#1)
    ∧ (∀ y, FloatOps.cmpf .olt (FloatOps.hostAbsf (a1 y)) (FloatOps.ofBits .f32 0x7F800000#32) = 1#1)
    ∧ (∀ y, FloatOps.cmpf .olt (FloatOps.hostAbsf (a2 y)) (FloatOps.ofBits .f32 0x7F800000#32) = 1#1)
    ∧ (∀ y, FloatOps.cmpf .olt (FloatOps.hostAbsf (extractStridedSlice S3x128 ![128, 0] a5 slices_S131x128_S3x128_128_0 y)) (FloatOps.ofBits .f32 0x7F800000#32) = 1#1) := by
  have e := congrFun h (fun x => x.elim0)
  unfold Cert.Pre_pre_mlp.fn fn_part1 at e
  dsimp only at e
  obtain ⟨e, e4⟩ := and_one e
  obtain ⟨e, e3⟩ := and_one e
  obtain ⟨e1, e2⟩ := and_one e
  exact ⟨fun y => Host.reduce_andi_all _ _ _ _ _ e1 y, fun y => Host.reduce_andi_all _ _ _ _ _ e2 y,
    fun y => Host.reduce_andi_all _ _ _ _ _ e3 y, fun y => Host.reduce_andi_all _ _ _ _ _ e4 y⟩

/-- A word tested to lie in `[0, 10000)` is below 10000. -/
theorem word_lt (w : BitVec 32) (h : IntOp.andi (IntOp.cmpi .sge w 0#32) (IntOp.cmpi .slt w 10000#32) = 1#1) : w.toNat < 10000 := by
  obtain ⟨h1, h2⟩ := and_one h
  have ofBool_eq_one (p : Bool) : (BitVec.ofBool p = 1#1) ↔ p = true := by cases p <;> decide
  simp only [IntOp.cmpi, ofBool_eq_one, BitVec.sle, BitVec.slt, decide_eq_true_eq, BitVec.toInt, BitVec.toNat_ofNat] at h1 h2
  omega

/-- An extended real of absolute value below infinity is a real number. -/
theorem real_of_lt (x : Ideal .f32) (h : FloatOps.cmpf .olt (FloatOps.hostAbsf x) (FloatOps.ofBits (F := Ideal) .f32 0x7F800000#32) = 1#1) :
    ∃ r : ℝ, x = (r : EReal) := by
  have ofBool_eq_one (p : Bool) : (BitVec.ofBool p = 1#1) ↔ p = true := by cases p <;> decide
  have htop : Ideal.ofBits .f32 0x7F800000#32 = ⊤ := by simp [Ideal.ofBits, Ideal.ieee]
  have e : max x (-x) < (⊤ : EReal) := by
    have h' : BitVec.ofBool (decide (max x (-x) < Ideal.ofBits .f32 0x7F800000#32)) = 1#1 := h
    rw [ofBool_eq_one, decide_eq_true_eq, htop] at h'
    exact h'
  have h1 : x ≠ (⊤ : EReal) := fun hx => by
    have := (max_lt_iff.mp e).1
    exact absurd hx (ne_of_lt this)
  have h2 : x ≠ (⊥ : EReal) := fun hx => by
    have := (max_lt_iff.mp e).2
    rw [hx] at this
    exact absurd EReal.neg_bot (ne_of_lt this)
  exact ⟨EReal.toReal x, (EReal.coe_toReal h1 h2).symm⟩

end Cert.MlpPre
-- ==== Proof.MlpHypsIdeal.lean ====
/- The MLP kernel's side condition, that every word its gather loop reads names a row of the feature table, from the
   certificate's precondition. -/
module

public import proofs.«01_k».proof.Proof.Gen.Kernel3Ideal.Frame
public import proofs.«01_k».proof.Proof.MlpPre

@[expose] public section

set_option maxRecDepth 16384

namespace Cert.Kernel3Ideal.MlpHyps

open Cert.Kernel3Ideal Cert.Kernel3Ideal.Gen Idealize.ShloMosaic Idealize.ShloMosaic.TcCoe Idealize.ShloMosaic.StableHlo

/-- The words staged at a grid point are words of the column argument, which the precondition bounds. -/
theorem hyps_of_pre (m : (ℓ : Loc nD τ sig) → Buf (Elt Ideal) ℓ) (h : Cert.Pre_Kernel3Ideal m) : Hyps m := by
  refine Hyps.of fun c t kq hkq => ?_
  have hb : ∀ y, (m ((c : Thread nD τ).loc main_arg3) y).toNat < 10000 := fun y =>
    Cert.MlpPre.word_lt _ ((Cert.MlpPre.split _ _ _ _ _ _ _ _ _ (h c)).1 y)
  have hV : ∀ y, (V m c main_v2 y).toNat < 10000 := fun y => by
    have e : V m c main_v2 = shapeCast S163840 (transpose S80x32x64 [0, 2, 1] (shapeCast S80x64x32 (m ((c : Thread nD τ).loc main_arg3)) shapeCasts_S5120x32_S80x64x32) transposes_S80x64x32_S80x32x64_0_2_1) shapeCasts_S80x32x64_S163840 := by
      simp only [V, hostOps0, hostOps0_1, hostOps0_2, List.flatten_cons, List.flatten_nil, List.append_nil, List.cons_append, List.nil_append]
      after_results_simp <;> rfl
    rw [e]
    exact hb _
  have rd : ∀ i, (iblk m c 0 t i).toNat < 10000 := fun i => by
    unfold iblk; rw [View.read_apply, cast_eq]; exact hV _
  simp only [View.readAt_apply, Memref.IsWhole.read_unread]
  have hr := rd ((Rect.unit (s := S2048) (k0_off1 ⟨kq, hkq⟩) S1.size (k0_off1_inb ⟨kq, hkq⟩)).toLoadRect.idx (Shape.Idx.first (numel1_S1.symm ▸ Nat.one_pos)))
  intro a
  match a with
  | ⟨0, _⟩ =>
    show BitVec.toNat _ + 1 ≤ 10000
    exact hr
  | ⟨1, _⟩ =>
    show 0 + 136 ≤ 136
    omega

end Cert.Kernel3Ideal.MlpHyps
-- ==== Proof.MlpClaims.lean ====
/- The claims about the MLP call: frames, and the value claim against the reference. -/
module

public import proofs.«01_k».proof.Defs
public import proofs.«01_k».proof.Proof.MlpFinal
public import proofs.«01_k».proof.Proof.MlpHyps
public import proofs.«01_k».proof.Proof.MlpHypsIdeal
public import Idealize.ShloMosaic.Adequacy
public import Idealize.ShloMosaic.Init

@[expose] public section

set_option maxRecDepth 16384

namespace Cert.MlpClaims

open Idealize.ShloMosaic Idealize.ShloMosaic.TcCoe Idealize.SL.Sem

theorem frame_kernel : Cert.quiescent_Kernel3 := fun m g h =>
  Cert.Kernel3.Gen.frame m g (Cert.Kernel3.MlpHyps.hyps_of_pre m h)

theorem frame_ideal : Cert.quiescent_Kernel3Ideal := fun m g h =>
  Cert.Kernel3Ideal.Gen.frame m g (Cert.Kernel3Ideal.MlpHyps.hyps_of_pre m h)

theorem frame_reference : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run m g)

theorem frame_reference_pre : Cert.quiescent_Reference3Ideal_pre_pre_mlp := fun m g _ =>
  (θ_run Cert.Reference3Ideal.defs _ _).mono (fun r h => ⟨fun c => (h c).2, Idealize.ShloMosaic.sem_eq_zero_of_no_sems (by decide) r.2⟩)
    (Cert.Reference3Ideal.Value.run m g)

/-- The kernel's result array is the reference's. -/
theorem algebraic : Cert.algebraic_Kernel3Ideal_Reference3Ideal := by
  intro m g m' g' hpre hagree
  have hH := Cert.Kernel3Ideal.MlpHyps.hyps_of_pre m hpre
  refine ⟨fun c => Cert.Kernel3Ideal.Mlp.result m c, ?_, ?_⟩
  · refine (θ_run Cert.Kernel3Ideal.defs _ _).mono (fun r h c => ⟨?_, (h c).2⟩) (Cert.Kernel3Ideal.Value.run_blocks m g hH)
    have hs := Cert.MlpPre.split _ _ _ _ _ _ _ _ _ (hpre c)
    refine ((h c).1).trans (Cert.Kernel3Ideal.Mlp.final m c hH (fun y => Cert.MlpPre.word_lt _ (hs.1 y)) (fun y => Cert.MlpPre.real_of_lt _ (hs.2.1 y))
      (fun y => Cert.MlpPre.real_of_lt _ (hs.2.2.1 y)) fun a k => ?_)
    have hw := Cert.MlpPre.real_of_lt _ (hs.2.2.2 (ix2 a k))
    pointwise at hw
    exact hw
  · refine (θ_run Cert.Reference3Ideal.defs _ _).mono (fun r h c => ⟨?_, (h c).2⟩) (Cert.Reference3Ideal.Value.run m' g')
    refine ((h c).1).trans ?_
    obtain ⟨h0, h1, h2, h3, h4, h5, h6, h7, h8⟩ := hagree c
    rw [h0, h1, h2, h3, h4, h5, h6, h7, h8]
    rfl

end Cert.MlpClaims
-- ==== Proof.FpsTree.lean ====
/- The sampling kernel's tournament as a term of its own: five vectors travel together (distance, point number and the
   three coordinates), a match keeps per lane the farther point (the smaller number on a tie), and the rounds halve the
   vectors down to one lane. -/
module

public import proofs.«01_k».proof.Proof.Gen.Kernel1Ideal.Loops
public import Idealize.ShloMosaic.Lib.Pointwise

@[expose] public section

set_option maxRecDepth 65536

noncomputable section

namespace Cert.Kernel1Ideal.Fps

open Cert.Kernel1Ideal Cert.Kernel1Ideal.Gen Idealize.ShloMosaic Idealize.ShloMosaic.TcCoe Idealize.SL.Sem

variable {F : FTy → Type} [FloatOps F]

/-- What travels together through the tournament. -/
structure Tup (F : FTy → Type) (s : Shape) where
  v : FVec F s .f32
  n : IVec s 32
  x : FVec F s .f32
  y : FVec F s .f32
  z : FVec F s .f32

/-- Where the challenger wins. -/
def wins {s : Shape} (a b : Tup F s) : IVec s 1 :=
  ori (cmpf .ogt b.v a.v) (andi (cmpf .oeq b.v a.v) (cmpi .slt b.n a.n))

/-- One match, lane by lane. -/
def duel {s : Shape} (a b : Tup F s) : Tup F s :=
  ⟨select (wins a b) b.v a.v, select (wins a b) b.n a.n, select (wins a b) b.x a.x, select (wins a b) b.y a.y,
    select (wins a b) b.z a.z⟩

/-- A window of the five vectors. -/
def cut {s : Shape} (t : Shape) (off : Fin s.rank → Nat) (a : Tup F s) (h : s.Slices off t) : Tup F t :=
  ⟨extractStridedSlice t off a.v h, extractStridedSlice t off a.n h, extractStridedSlice t off a.x h,
    extractStridedSlice t off a.y h, extractStridedSlice t off a.z h⟩

/-- Two neighbouring windows of 128 columns played against one another. -/
def pair0 (a : Tup F S8x1280) : Tup F S8x128 :=
  duel (cut S8x128 ![0, 0] a slices_S8x1280_o0_0_S8x128) (cut S8x128 ![0, 128] a slices_S8x1280_o0_128_S8x128)

def pair1 (a : Tup F S8x1280) : Tup F S8x128 :=
  duel (cut S8x128 ![0, 256] a slices_S8x1280_o0_256_S8x128) (cut S8x128 ![0, 384] a slices_S8x1280_o0_384_S8x128)

def pair2 (a : Tup F S8x1280) : Tup F S8x128 :=
  duel (cut S8x128 ![0, 512] a slices_S8x1280_o0_512_S8x128) (cut S8x128 ![0, 640] a slices_S8x1280_o0_640_S8x128)

def pair3 (a : Tup F S8x1280) : Tup F S8x128 :=
  duel (cut S8x128 ![0, 768] a slices_S8x1280_o0_768_S8x128) (cut S8x128 ![0, 896] a slices_S8x1280_o0_896_S8x128)

def pair4 (a : Tup F S8x1280) : Tup F S8x128 :=
  duel (cut S8x128 ![0, 1024] a slices_S8x1280_o0_1024_S8x128) (cut S8x128 ![0, 1152] a slices_S8x1280_o0_1152_S8x128)

/-- The five pairs of windows played against one another. -/
def rounds1 (a : Tup F S8x1280) : Tup F S8x128 :=
  duel (duel (duel (pair0 a) (pair1 a)) (duel (pair2 a) (pair3 a))) (pair4 a)

def rounds2 (a : Tup F S8x128) : Tup F S4x128 :=
  duel (cut S4x128 ![0, 0] a slices_S8x128_o0_0_S4x128) (cut S4x128 ![4, 0] a slices_S8x128_o4_0_S4x128)

def rounds3 (a : Tup F S4x128) : Tup F S2x128 :=
  duel (cut S2x128 ![0, 0] a slices_S4x128_o0_0_S2x128) (cut S2x128 ![2, 0] a slices_S4x128_o2_0_S2x128)

def rounds4 (a : Tup F S2x128) : Tup F S1x128 :=
  duel (cut S1x128 ![0, 0] a slices_S2x128_o0_0_S1x128) (cut S1x128 ![1, 0] a slices_S2x128_o1_0_S1x128)

def rounds5 (a : Tup F S1x128) : Tup F S1x64 :=
  duel (cut S1x64 ![0, 0] a slices_S1x128_o0_0_S1x64) (cut S1x64 ![0, 64] a slices_S1x128_o0_64_S1x64)

def rounds6 (a : Tup F S1x64) : Tup F S1x32 :=
  duel (cut S1x32 ![0, 0] a slices_S1x64_o0_0_S1x32) (cut S1x32 ![0, 32] a slices_S1x64_o0_32_S1x32)

def rounds7 (a : Tup F S1x32) : Tup F S1x16 :=
  duel (cut S1x16 ![0, 0] a slices_S1x32_o0_0_S1x16) (cut S1x16 ![0, 16] a slices_S1x32_o0_16_S1x16)

def rounds8 (a : Tup F S1x16) : Tup F S1x8 :=
  duel (cut S1x8 ![0, 0] a slices_S1x16_o0_0_S1x8) (cut S1x8 ![0, 8] a slices_S1x16_o0_8_S1x8)

def rounds9 (a : Tup F S1x8) : Tup F S1x4 :=
  duel (cut S1x4 ![0, 0] a slices_S1x8_o0_0_S1x4) (cut S1x4 ![0, 4] a slices_S1x8_o0_4_S1x4)

def rounds10 (a : Tup F S1x4) : Tup F S1x2 :=
  duel (cut S1x2 ![0, 0] a slices_S1x4_o0_0_S1x2) (cut S1x2 ![0, 2] a slices_S1x4_o0_2_S1x2)

def rounds11 (a : Tup F S1x2) : Tup F S1x1 :=
  duel (cut S1x1 ![0, 0] a slices_S1x2_o0_0_S1x1) (cut S1x1 ![0, 1] a slices_S1x2_o0_1_S1x1)

/-- The whole tournament. -/
def champion (a : Tup F S8x1280) : Tup F S1x1 :=
  rounds11 (rounds10 (rounds9 (rounds8 (rounds7 (rounds6 (rounds5 (rounds4 (rounds3 (rounds2 (rounds1 a))))))))))

/-- The distances after a trip. -/
abbrev newDist (v0 v2 v4 : Vec F S8x1280 .f32)
    (acc : FVec F S1x1 .f32 × FVec F S1x1 .f32 × FVec F S1x1 .f32 × FVec F S8x1280 .f32) : FVec F S8x1280 .f32 :=
  k0_pay9 (k0_pay1 v0) (k0_pay2 v2) (k0_pay3 v4) acc.1 acc.2.1 acc.2.2.1 acc.2.2.2

/-- What enters the tournament in a trip. -/
abbrev entrants (v0 v2 v4 : Vec F S8x1280 .f32)
    (acc : FVec F S1x1 .f32 × FVec F S1x1 .f32 × FVec F S1x1 .f32 × FVec F S8x1280 .f32) : Tup F S8x1280 :=
  ⟨newDist v0 v2 v4 acc, k0_pay4, k0_pay1 v0, k0_pay2 v2, k0_pay3 v4⟩

section Trip

variable (𝒱 : Variants) (c : Dev nD) (bd : Option 𝒱.V) (arg0 : Memref sig .tc .vmem S8x1280 .f32) (harg0 : arg0.IsWhole) (arg1 : Memref sig .tc .vmem S8x1280 .f32) (harg1 : arg1.IsWhole) (arg2 : Memref sig .tc .vmem S8x1280 .f32) (harg2 : arg2.IsWhole) (arg3 : Memref sig .tc .smem S5000 .i32) (harg3 : arg3.IsWhole)

variable (v0 v2 v4 : Vec F S8x1280 .f32)
  (acc : FVec F S1x1 .f32 × FVec F S1x1 .f32 × FVec F S1x1 .f32 × FVec F S8x1280 .f32)

theorem r38_eq : trip_k0_t1.sl.r_38 (F := F) v0 v2 v4 acc = (pair0 (entrants v0 v2 v4 acc)).x := rfl

theorem r39_eq : trip_k0_t1.sl.r_39 (F := F) v0 v2 v4 acc = (pair0 (entrants v0 v2 v4 acc)).y := rfl

theorem r40_eq : trip_k0_t1.sl.r_40 (F := F) v0 v2 v4 acc = (pair0 (entrants v0 v2 v4 acc)).z := rfl

theorem r41_eq : trip_k0_t1.sl.r_41 (F := F) v0 v2 v4 acc = (pair1 (entrants v0 v2 v4 acc)).x := rfl

theorem r42_eq : trip_k0_t1.sl.r_42 (F := F) v0 v2 v4 acc = (pair1 (entrants v0 v2 v4 acc)).y := rfl

theorem r43_eq : trip_k0_t1.sl.r_43 (F := F) v0 v2 v4 acc = (pair1 (entrants v0 v2 v4 acc)).z := rfl

theorem r44_eq : trip_k0_t1.sl.r_44 (F := F) v0 v2 v4 acc = (pair2 (entrants v0 v2 v4 acc)).v := rfl

theorem r45_eq : trip_k0_t1.sl.r_45 (F := F) v0 v2 v4 acc = (pair2 (entrants v0 v2 v4 acc)).n := rfl

theorem r46_eq : trip_k0_t1.sl.r_46 (F := F) v0 v2 v4 acc = (pair2 (entrants v0 v2 v4 acc)).x := rfl

theorem r47_eq : trip_k0_t1.sl.r_47 (F := F) v0 v2 v4 acc = (pair2 (entrants v0 v2 v4 acc)).y := rfl

theorem r48_eq : trip_k0_t1.sl.r_48 (F := F) v0 v2 v4 acc = (pair2 (entrants v0 v2 v4 acc)).z := rfl

theorem r49_eq : trip_k0_t1.sl.r_49 (F := F) v0 v2 v4 acc = (pair3 (entrants v0 v2 v4 acc)).v := rfl

theorem r50_eq : trip_k0_t1.sl.r_50 (F := F) v0 v2 v4 acc = (pair3 (entrants v0 v2 v4 acc)).n := rfl

theorem r51_eq : trip_k0_t1.sl.r_51 (F := F) v0 v2 v4 acc = (pair3 (entrants v0 v2 v4 acc)).x := rfl

theorem r52_eq : trip_k0_t1.sl.r_52 (F := F) v0 v2 v4 acc = (pair3 (entrants v0 v2 v4 acc)).y := rfl

theorem r53_eq : trip_k0_t1.sl.r_53 (F := F) v0 v2 v4 acc = (pair3 (entrants v0 v2 v4 acc)).z := rfl

theorem r54_eq : trip_k0_t1.sl.r_54 (F := F) v0 v2 v4 acc = (pair4 (entrants v0 v2 v4 acc)).v := rfl

theorem r55_eq : trip_k0_t1.sl.r_55 (F := F) v0 v2 v4 acc = (pair4 (entrants v0 v2 v4 acc)).n := rfl

theorem r56_eq : trip_k0_t1.sl.r_56 (F := F) v0 v2 v4 acc = (pair4 (entrants v0 v2 v4 acc)).x := rfl

theorem r57_eq : trip_k0_t1.sl.r_57 (F := F) v0 v2 v4 acc = (pair4 (entrants v0 v2 v4 acc)).y := rfl

theorem r58_eq : trip_k0_t1.sl.r_58 (F := F) v0 v2 v4 acc = (pair4 (entrants v0 v2 v4 acc)).z := rfl

theorem r59_eq : trip_k0_t1.sl.r_59 (F := F) v0 v2 v4 acc = wins (pair0 (entrants v0 v2 v4 acc)) (pair1 (entrants v0 v2 v4 acc)) := rfl

theorem r60_eq : trip_k0_t1.sl.r_60 (F := F) v0 v2 v4 acc = (duel (pair0 (entrants v0 v2 v4 acc)) (pair1 (entrants v0 v2 v4 acc))).v := rfl

theorem r61_eq : trip_k0_t1.sl.r_61 (F := F) v0 v2 v4 acc = (duel (pair0 (entrants v0 v2 v4 acc)) (pair1 (entrants v0 v2 v4 acc))).n := rfl

theorem r62_eq : trip_k0_t1.sl.r_62 (F := F) v0 v2 v4 acc = (rounds2 (rounds1 (entrants v0 v2 v4 acc))).x := by
  delta trip_k0_t1.sl.r_62
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r63_eq : trip_k0_t1.sl.r_63 (F := F) v0 v2 v4 acc = (rounds2 (rounds1 (entrants v0 v2 v4 acc))).y := by
  delta trip_k0_t1.sl.r_63
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r64_eq : trip_k0_t1.sl.r_64 (F := F) v0 v2 v4 acc = (rounds2 (rounds1 (entrants v0 v2 v4 acc))).z := by
  delta trip_k0_t1.sl.r_64
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r65_eq : trip_k0_t1.sl.r_65 (F := F) v0 v2 v4 acc = (cut S2x128 ![0, 0] (rounds2 (rounds1 (entrants v0 v2 v4 acc))) slices_S4x128_o0_0_S2x128).v := by
  delta trip_k0_t1.sl.r_65
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r66_eq : trip_k0_t1.sl.r_66 (F := F) v0 v2 v4 acc = (cut S2x128 ![0, 0] (rounds2 (rounds1 (entrants v0 v2 v4 acc))) slices_S4x128_o0_0_S2x128).n := by
  delta trip_k0_t1.sl.r_66
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r67_eq : trip_k0_t1.sl.r_67 (F := F) v0 v2 v4 acc = (cut S2x128 ![0, 0] (rounds2 (rounds1 (entrants v0 v2 v4 acc))) slices_S4x128_o0_0_S2x128).x := by
  delta trip_k0_t1.sl.r_67
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r68_eq : trip_k0_t1.sl.r_68 (F := F) v0 v2 v4 acc = (cut S2x128 ![0, 0] (rounds2 (rounds1 (entrants v0 v2 v4 acc))) slices_S4x128_o0_0_S2x128).y := by
  delta trip_k0_t1.sl.r_68
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r69_eq : trip_k0_t1.sl.r_69 (F := F) v0 v2 v4 acc = (cut S2x128 ![0, 0] (rounds2 (rounds1 (entrants v0 v2 v4 acc))) slices_S4x128_o0_0_S2x128).z := by
  delta trip_k0_t1.sl.r_69
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r70_eq : trip_k0_t1.sl.r_70 (F := F) v0 v2 v4 acc = (cut S2x128 ![2, 0] (rounds2 (rounds1 (entrants v0 v2 v4 acc))) slices_S4x128_o2_0_S2x128).v := by
  delta trip_k0_t1.sl.r_70
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r71_eq : trip_k0_t1.sl.r_71 (F := F) v0 v2 v4 acc = (cut S2x128 ![2, 0] (rounds2 (rounds1 (entrants v0 v2 v4 acc))) slices_S4x128_o2_0_S2x128).n := by
  delta trip_k0_t1.sl.r_71
  simp only [r38_eq, r39_eq, r40_eq, r41_eq, r42_eq, r43_eq, r44_eq, r45_eq, r46_eq, r47_eq, r48_eq, r49_eq, r50_eq, r51_eq, r52_eq, r53_eq, r54_eq, r55_eq, r56_eq, r57_eq, r58_eq, r59_eq, r60_eq, r61_eq]
  unfold rounds1
  generalize pair0 (entrants v0 v2 v4 acc) = p0
  generalize pair1 (entrants v0 v2 v4 acc) = p1
  generalize pair2 (entrants v0 v2 v4 acc) = p2
  generalize pair3 (entrants v0 v2 v4 acc) = p3
  generalize pair4 (entrants v0 v2 v4 acc) = p4
  rfl

theorem r72_eq : trip_k0_t1.sl.r_72 (F := F) v0 v2 v4 acc = (rounds5 (rounds4 (rounds3 (rounds2 (rounds1 (entrants v0 v2 v4 acc)))))).x := by
  delta trip_k0_t1.sl.r_72
  simp only [r62_eq, r63_eq, r64_eq, r65_eq, r66_eq, r67_eq, r68_eq, r69_eq, r70_eq, r71_eq]
  generalize rounds2 (rounds1 (entrants v0 v2 v4 acc)) = p
  rfl

theorem r73_eq : trip_k0_t1.sl.r_73 (F := F) v0 v2 v4 acc = (rounds5 (rounds4 (rounds3 (rounds2 (rounds1 (entrants v0 v2 v4 acc)))))).y := by
  delta trip_k0_t1.sl.r_73
  simp only [r62_eq, r63_eq, r64_eq, r65_eq, r66_eq, r67_eq, r68_eq, r69_eq, r70_eq, r71_eq]
  generalize rounds2 (rounds1 (entrants v0 v2 v4 acc)) = p
  rfl

theorem r74_eq : trip_k0_t1.sl.r_74 (F := F) v0 v2 v4 acc = (rounds5 (rounds4 (rounds3 (rounds2 (rounds1 (entrants v0 v2 v4 acc)))))).z := by
  delta trip_k0_t1.sl.r_74
  simp only [r62_eq, r63_eq, r64_eq, r65_eq, r66_eq, r67_eq, r68_eq, r69_eq, r70_eq, r71_eq]
  generalize rounds2 (rounds1 (entrants v0 v2 v4 acc)) = p
  rfl

theorem r75_eq : trip_k0_t1.sl.r_75 (F := F) v0 v2 v4 acc = (cut S1x32 ![0, 0] (rounds5 (rounds4 (rounds3 (rounds2 (rounds1 (entrants v0 v2 v4 acc)))))) slices_S1x64_o0_0_S1x32).v := by
  delta trip_k0_t1.sl.r_75
  simp only [r62_eq, r63_eq, r64_eq, r65_eq, r66_eq, r67_eq, r68_eq, r69_eq, r70_eq, r71_eq]
  generalize rounds2 (rounds1 (entrants v0 v2 v4 acc)) = p
  rfl

theorem r76_eq : trip_k0_t1.sl.r_76 (F := F) v0 v2 v4 acc = (cut S1x32 ![0, 0] (rounds5 (rounds4 (rounds3 (rounds2 (rounds1 (entrants v0 v2 v4 acc)))))) slices_S1x64_o0_0_S1x32).n := by
  delta trip_k0_t1.sl.r_76
  simp only [r62_eq, r63_eq, r64_eq, r65_eq, r66_eq, r67_eq, r68_eq, r69_eq, r70_eq, r71_eq]
  generalize rounds2 (rounds1 (entrants v0 v2 v4 acc)) = p
  rfl

theorem r77_eq : trip_k0_t1.sl.r_77 (F := F) v0 v2 v4 acc = (cut S1x32 ![0, 0] (rounds5 (rounds4 (rounds3 (rounds2 (rounds1 (entrants v0 v2 v4 acc)))))) slices_S1x64_o0_0_S1x32).x := by
  delta trip_k0_t1.sl.r_77
  simp only [r62_eq, r63_eq, r64_eq, r65_eq, r66_eq, r67_eq, r68_eq, r69_eq, r70_eq, r71_eq]
  generalize rounds2 (rounds1 (entrants v0 v2 v4 acc)) = p
  rfl

theorem r78_eq : trip_k0_t1.sl.r_78 (F := F) v0 v2 v4 acc = (cut S1x32 ![0, 0] (rounds5 (rounds4 (rounds3 (rounds2 (rounds1 (entrants v0 v2 v4 acc)))))) slices_S1x64_o0_0_S1x32).y := by
  delta trip_k0_t1.sl.r_78
  simp only [r62_eq, r63_eq, r64_eq, r65_eq, r66_eq, r67_eq, r68_eq, r69_eq, r70_eq, r71_eq]
  generalize rounds2 (rounds1 (entrants v0 v2 v4 acc)) = p
  rfl

theorem r79_eq : trip_k0_t1.sl.r_79 (F := F) v0 v2 v4 acc = (cut S1x32 ![0, 0] (rounds5 (rounds4 (rounds3 (rounds2 (rounds1 (entrants v0 v2 v4 acc)))))) slices_S1x64_o0_0_S1x32).z := by
  delta trip_k0_t1.sl.r_79
  simp only [r62_eq, r63_eq, r64_eq, r65_eq, r66_eq, r67_eq, r68_eq, r69_eq, r70_eq, r71_eq]
  generalize rounds2 (rounds1 (entrants v0 v2 v4 acc)) = p
  rfl

theorem r80_eq : trip_k0_t1.sl.r_80 (F := F) v0 v2 v4 acc = (cut S1x32 ![0, 32] (rounds5 (rounds4 (rounds3 (rounds2 (rounds1 (entrants v0 v2 v4 acc)))))) slices_S1x64_o0_32_S1x32).v := by
  delta trip_k0_t1.sl.r_80
  simp only [r62_eq, r63_eq, r64_eq, r65_eq, r66_eq, r67_eq, r68_eq, r69_eq, r70_eq, r71_eq]
  generalize rounds2 (rounds1 (entrants v0 v2 v4 acc)) = p
  rfl

theorem r81_eq : trip_k0_t1.sl.r_81 (F := F) v0 v2 v4 acc = (cut S1x32 ![0, 32] (rounds5 (rounds4 (rounds3 (rounds2 (rounds1 (entrants v0 v2 v4 acc)))))) slices_S1x64_o0_32_S1x32).n := by
  delta trip_k0_t1.sl.r_81
  simp only [r62_eq, r63_eq, r64_eq, r65_eq, r66_eq, r67_eq, r68_eq, r69_eq, r70_eq, r71_eq]
  generalize rounds2 (rounds1 (entrants v0 v2 v4 acc)) = p
  rfl

theorem r82_eq : trip_k0_t1.sl.r_82 (F := F) v0 v2 v4 acc = (rounds8 (rounds7 (rounds6 (rounds5 (rounds4 (rounds3 (rounds2 (rounds1 (entrants v0 v2 v4 acc))))))))).x := by
  delta trip_k0_t1.sl.r_82
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r83_eq : trip_k0_t1.sl.r_83 (F := F) v0 v2 v4 acc = (rounds8 (rounds7 (rounds6 (rounds5 (rounds4 (rounds3 (rounds2 (rounds1 (entrants v0 v2 v4 acc))))))))).y := by
  delta trip_k0_t1.sl.r_83
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r84_eq : trip_k0_t1.sl.r_84 (F := F) v0 v2 v4 acc = (rounds8 (rounds7 (rounds6 (rounds5 (rounds4 (rounds3 (rounds2 (rounds1 (entrants v0 v2 v4 acc))))))))).z := by
  delta trip_k0_t1.sl.r_84
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r85_eq : trip_k0_t1.sl.r_85 (F := F) v0 v2 v4 acc = (cut S1x4 ![0, 0] (rounds8 (rounds7 (rounds6 (rounds5 (rounds4 (rounds3 (rounds2 (rounds1 (entrants v0 v2 v4 acc))))))))) slices_S1x8_o0_0_S1x4).v := by
  delta trip_k0_t1.sl.r_85
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r86_eq : trip_k0_t1.sl.r_86 (F := F) v0 v2 v4 acc = (cut S1x4 ![0, 0] (rounds8 (rounds7 (rounds6 (rounds5 (rounds4 (rounds3 (rounds2 (rounds1 (entrants v0 v2 v4 acc))))))))) slices_S1x8_o0_0_S1x4).n := by
  delta trip_k0_t1.sl.r_86
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r87_eq : trip_k0_t1.sl.r_87 (F := F) v0 v2 v4 acc = (cut S1x4 ![0, 0] (rounds8 (rounds7 (rounds6 (rounds5 (rounds4 (rounds3 (rounds2 (rounds1 (entrants v0 v2 v4 acc))))))))) slices_S1x8_o0_0_S1x4).x := by
  delta trip_k0_t1.sl.r_87
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r88_eq : trip_k0_t1.sl.r_88 (F := F) v0 v2 v4 acc = (cut S1x4 ![0, 0] (rounds8 (rounds7 (rounds6 (rounds5 (rounds4 (rounds3 (rounds2 (rounds1 (entrants v0 v2 v4 acc))))))))) slices_S1x8_o0_0_S1x4).y := by
  delta trip_k0_t1.sl.r_88
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r89_eq : trip_k0_t1.sl.r_89 (F := F) v0 v2 v4 acc = (cut S1x4 ![0, 0] (rounds8 (rounds7 (rounds6 (rounds5 (rounds4 (rounds3 (rounds2 (rounds1 (entrants v0 v2 v4 acc))))))))) slices_S1x8_o0_0_S1x4).z := by
  delta trip_k0_t1.sl.r_89
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r90_eq : trip_k0_t1.sl.r_90 (F := F) v0 v2 v4 acc = (cut S1x4 ![0, 4] (rounds8 (rounds7 (rounds6 (rounds5 (rounds4 (rounds3 (rounds2 (rounds1 (entrants v0 v2 v4 acc))))))))) slices_S1x8_o0_4_S1x4).v := by
  delta trip_k0_t1.sl.r_90
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r91_eq : trip_k0_t1.sl.r_91 (F := F) v0 v2 v4 acc = (cut S1x4 ![0, 4] (rounds8 (rounds7 (rounds6 (rounds5 (rounds4 (rounds3 (rounds2 (rounds1 (entrants v0 v2 v4 acc))))))))) slices_S1x8_o0_4_S1x4).n := by
  delta trip_k0_t1.sl.r_91
  simp only [r72_eq, r73_eq, r74_eq, r75_eq, r76_eq, r77_eq, r78_eq, r79_eq, r80_eq, r81_eq]
  generalize rounds5 (rounds4 (rounds3 (rounds2 (rounds1 (entrants v0 v2 v4 acc))))) = p
  rfl

theorem r93_eq : trip_k0_t1.sl.r_93 (F := F) v0 v2 v4 acc = (champion (entrants v0 v2 v4 acc)).x := by
  delta trip_k0_t1.sl.r_93 champion
  simp only [r82_eq, r83_eq, r84_eq, r85_eq, r86_eq, r87_eq, r88_eq, r89_eq, r90_eq, r91_eq]
  generalize rounds8 (rounds7 (rounds6 (rounds5 (rounds4 (rounds3 (rounds2 (rounds1 (entrants v0 v2 v4 acc)))))))) = p
  rfl

theorem r94_eq : trip_k0_t1.sl.r_94 (F := F) v0 v2 v4 acc = (champion (entrants v0 v2 v4 acc)).y := by
  delta trip_k0_t1.sl.r_94 champion
  simp only [r82_eq, r83_eq, r84_eq, r85_eq, r86_eq, r87_eq, r88_eq, r89_eq, r90_eq, r91_eq]
  generalize rounds8 (rounds7 (rounds6 (rounds5 (rounds4 (rounds3 (rounds2 (rounds1 (entrants v0 v2 v4 acc)))))))) = p
  rfl

theorem r95_eq : trip_k0_t1.sl.r_95 (F := F) v0 v2 v4 acc = (champion (entrants v0 v2 v4 acc)).z := by
  delta trip_k0_t1.sl.r_95 champion
  simp only [r82_eq, r83_eq, r84_eq, r85_eq, r86_eq, r87_eq, r88_eq, r89_eq, r90_eq, r91_eq]
  generalize rounds8 (rounds7 (rounds6 (rounds5 (rounds4 (rounds3 (rounds2 (rounds1 (entrants v0 v2 v4 acc)))))))) = p
  rfl

theorem tripR_eq (k) :
    tripR_k0_t1 (F := F) 𝒱 c bd arg0 harg0 arg1 harg1 arg2 harg2 arg3 harg3 v0 v2 v4 k acc
      = ((champion (entrants v0 v2 v4 acc)).x, (champion (entrants v0 v2 v4 acc)).y,
          (champion (entrants v0 v2 v4 acc)).z, newDist v0 v2 v4 acc) := by
  unfold tripR_k0_t1 trip_k0_t1
  dsimp only
  rw [r93_eq, r94_eq, r95_eq]
  rfl

/-- The least of one number is that number. -/
theorem least_one (w : BitVec 32) : IntOp.minsi 2147483647#32 w = w := by
  have h : w.toInt < 2147483648 := by have := w.toInt_lt; simpa using this
  have e : (2147483647#32).toInt = 2147483647 := by decide
  unfold IntOp.minsi
  simp only [BitVec.slt, BitVec.sle, decide_eq_true_eq, e]
  split
  · apply BitVec.eq_of_toInt_eq; omega
  · rfl

theorem stored_eq :
    trip_k0_t1.sl.v376 (F := F) v0 v2 v4 acc = (champion (entrants v0 v2 v4 acc)).n (ix2 0 0) := by
  delta trip_k0_t1.sl.v376
  simp only [r85_eq, r86_eq, r90_eq, r91_eq]
  delta champion
  generalize rounds8 (rounds7 (rounds6 (rounds5 (rounds4 (rounds3 (rounds2 (rounds1 (entrants v0 v2 v4 acc)))))))) = p
  show _ = (rounds11 (rounds10 (rounds9 p))).n (ix2 0 0)
  unfold k0_pay185
  dsimp only
  have e : (select (k0_pay181 (cut S1x4 ![0, 0] p slices_S1x8_o0_0_S1x4).v (cut S1x4 ![0, 0] p slices_S1x8_o0_0_S1x4).n (cut S1x4 ![0, 4] p slices_S1x8_o0_4_S1x4).v (cut S1x4 ![0, 4] p slices_S1x8_o0_4_S1x4).n) (k0_pay180 (cut S1x4 ![0, 0] p slices_S1x8_o0_0_S1x4).v (cut S1x4 ![0, 0] p slices_S1x8_o0_0_S1x4).n (cut S1x4 ![0, 4] p slices_S1x8_o0_4_S1x4).v (cut S1x4 ![0, 4] p slices_S1x8_o0_4_S1x4).n) (k0_pay179 (cut S1x4 ![0, 0] p slices_S1x8_o0_0_S1x4).v (cut S1x4 ![0, 0] p slices_S1x8_o0_0_S1x4).n (cut S1x4 ![0, 4] p slices_S1x8_o0_4_S1x4).v (cut S1x4 ![0, 4] p slices_S1x8_o0_4_S1x4).n))
      = (rounds11 (rounds10 (rounds9 p))).n := rfl
  rw [e]
  generalize (rounds11 (rounds10 (rounds9 p))).n = w
  pointwise [extractAt]
  rw [Finset.fold_const _ (by rw [least_one]; unfold IntOp.minsi; split <;> rfl), least_one]
  exact if_neg (Finset.univ_nonempty.ne_empty)

/-- What a trip stores: the champion's number. -/
theorem tripL_eq (k) :
    tripL_k0_t1 (F := F) 𝒱 c bd arg0 harg0 arg1 harg1 arg2 harg2 arg3 harg3 v0 v2 v4 k acc
      = [⟨Rect.unit (k0_off1 k) S1.size (k0_off1_inb k), fun _ => (champion (entrants v0 v2 v4 acc)).n (ix2 0 0)⟩] := by
  unfold tripL_k0_t1 trip_k0_t1
  dsimp only
  rw [stored_eq]

end Trip

end Cert.Kernel1Ideal.Fps
-- ==== Proof.FpsMath.lean ====
/- Farthest point sampling on extended reals: who beats whom, the winner of a set of players, and the sequence of sampled
   points with the distances to the nearest one so far. -/
module

public import Idealize.ShloMosaic.PureOps.Ideal.Laws

@[expose] public section

noncomputable section

namespace Cert.FpsMath

/-- A point in the tournament: its distance, its number and its coordinates. -/
structure Player where
  v : EReal
  n : BitVec 32
  x : EReal
  y : EReal
  z : EReal

/-- `(v, n)` is at least as far as `(w, k)`, ties going to the smaller number. -/
def Beats (v : EReal) (n : BitVec 32) (w : EReal) (k : BitVec 32) : Prop :=
  w < v ∨ (w = v ∧ n.toInt ≤ k.toInt)

theorem Beats.refl (v : EReal) (n : BitVec 32) : Beats v n v n := Or.inr ⟨rfl, le_refl _⟩

theorem Beats.trans {u v w : EReal} {l n k : BitVec 32} (h : Beats u l v n) (h' : Beats v n w k) : Beats u l w k := by
  rcases h with h | ⟨rfl, h⟩
  · rcases h' with h' | ⟨rfl, h'⟩
    · exact Or.inl (h'.trans h)
    · exact Or.inl h
  · rcases h' with h' | ⟨rfl, h'⟩
    · exact Or.inl h'
    · exact Or.inr ⟨rfl, h.trans h'⟩

theorem Beats.total (v : EReal) (n : BitVec 32) (w : EReal) (k : BitVec 32) : Beats v n w k ∨ (v < w ∨ (w = v ∧ k.toInt < n.toInt)) := by
  rcases lt_trichotomy v w with h | h | h
  · exact Or.inr (Or.inl h)
  · rcases le_or_gt n.toInt k.toInt with h' | h'
    · exact Or.inl (Or.inr ⟨h.symm, h'⟩)
    · exact Or.inr (Or.inr ⟨h.symm, h'⟩)
  · exact Or.inl (Or.inl h)

theorem Beats.of_lt {v w : EReal} {n k : BitVec 32} (h : v < w ∨ (w = v ∧ k.toInt < n.toInt)) : Beats w k v n := by
  rcases h with h | ⟨rfl, h⟩
  · exact Or.inl h
  · exact Or.inr ⟨rfl, h.le⟩

open Classical in
/-- The winner of two. -/
def meet (a b : Player) : Player := if a.v < b.v ∨ (b.v = a.v ∧ b.n.toInt < a.n.toInt) then b else a

/-- `p` is the winner among the players of `S`. -/
def Best {ι : Type} (f : ι → Player) (S : ι → Prop) (p : Player) : Prop :=
  (∃ i, S i ∧ p = f i) ∧ ∀ i, S i → Beats p.v p.n (f i).v (f i).n

theorem Best.one {ι : Type} (f : ι → Player) (i : ι) : Best f (fun j => j = i) (f i) :=
  ⟨⟨i, rfl, rfl⟩, fun j h => by cases h; exact Beats.refl _ _⟩

theorem Best.meet {ι : Type} {f : ι → Player} {S T : ι → Prop} {p q : Player} (hp : Best f S p) (hq : Best f T q) :
    Best f (fun i => S i ∨ T i) (meet p q) := by
  obtain ⟨⟨i, hi, rfl⟩, hp⟩ := hp
  obtain ⟨⟨j, hj, rfl⟩, hq⟩ := hq
  unfold FpsMath.meet
  by_cases h : (f i).v < (f j).v ∨ ((f j).v = (f i).v ∧ (f j).n.toInt < (f i).n.toInt)
  · rw [if_pos h]
    exact ⟨⟨j, Or.inr hj, rfl⟩, fun l hl => hl.elim (fun hl => (Beats.of_lt h).trans (hp l hl)) (hq l)⟩
  · rw [if_neg h]
    have hb := (Beats.total (f i).v (f i).n (f j).v (f j).n).resolve_right h
    exact ⟨⟨i, Or.inl hi, rfl⟩, fun l hl => hl.elim (hp l) fun hl => hb.trans (hq l hl)⟩

theorem Best.of_iff {ι : Type} {f : ι → Player} {S T : ι → Prop} {p : Player} (h : Best f S p) (e : ∀ i, T i ↔ S i) : Best f T p := by
  obtain ⟨⟨i, hi, rfl⟩, h⟩ := h
  exact ⟨⟨i, (e i).2 hi, rfl⟩, fun j hj => h j ((e j).1 hj)⟩

/-- The squared distance between two points. -/
def gap (P : Fin 10000 → Fin 3 → EReal) (i j : Fin 10000) : EReal :=
  (P j 0 - P i 0) * (P j 0 - P i 0) + (P j 1 - P i 1) * (P j 1 - P i 1) + (P j 2 - P i 2) * (P j 2 - P i 2)

theorem sq_nonneg' (a : EReal) : 0 ≤ a * a := by
  rcases le_total 0 a with h | h
  · exact mul_nonneg h h
  · have h' : 0 ≤ -a := by rw [EReal.neg_nonneg]; exact h
    have := mul_nonneg h' h'
    rwa [neg_mul_neg] at this

theorem gap_nonneg (P : Fin 10000 → Fin 3 → EReal) (i j : Fin 10000) : 0 ≤ gap P i j :=
  add_nonneg (add_nonneg (sq_nonneg' _) (sq_nonneg' _)) (sq_nonneg' _)

/-- `N` is the farthest point, the first of several. -/
def IsFirst (D : Fin 10000 → EReal) (N : Fin 10000) : Prop := ∀ j, D j < D N ∨ (D j = D N ∧ N ≤ j)

theorem IsFirst.unique {D : Fin 10000 → EReal} {N M : Fin 10000} (h : IsFirst D N) (h' : IsFirst D M) : N = M := by
  rcases h M with a | ⟨a, b⟩
  · rcases h' N with c | ⟨c, d⟩
    · exact absurd (a.trans c) (lt_irrefl _)
    · exact absurd a (by rw [c]; exact lt_irrefl _)
  · rcases h' N with c | ⟨c, d⟩
    · exact absurd c (by rw [a]; exact lt_irrefl _)
    · exact le_antisymm b d

/-- The farthest point. -/
def first (D : Fin 10000 → EReal) : Fin 10000 := Classical.epsilon (IsFirst D)

theorem first_eq {D : Fin 10000 → EReal} {N : Fin 10000} (h : IsFirst D N) : first D = N :=
  (Classical.epsilon_spec (p := IsFirst D) ⟨N, h⟩).unique h

/-- The sampled point of step `k`, and every point's distance to the samples before it. -/
def far (P : Fin 10000 → Fin 3 → EReal) : ℕ → Fin 10000 × (Fin 10000 → EReal)
  | 0 => (0, fun _ => ⊤)
  | k + 1 =>
    let D := fun j => min ((far P k).2 j) (gap P (far P k).1 j)
    (first D, D)

theorem far_nonneg (P : Fin 10000 → Fin 3 → EReal) (k : ℕ) (j : Fin 10000) : 0 ≤ (far P k).2 j := by
  induction k with
  | zero => exact le_top
  | succ k ih => exact le_min ih (gap_nonneg P _ j)

/-- A fold that keeps the better of two pairs ends at a best one. -/
theorem foldl_best (f : EReal × BitVec 32 → EReal × BitVec 32 → EReal × BitVec 32)
    (hf : ∀ a b, (f a b = a ∧ Beats a.1 a.2 b.1 b.2) ∨ (f a b = b ∧ Beats b.1 b.2 a.1 a.2)) (L : List (EReal × BitVec 32)) (a : EReal × BitVec 32) :
    (L.foldl f a = a ∨ L.foldl f a ∈ L) ∧ Beats (L.foldl f a).1 (L.foldl f a).2 a.1 a.2
      ∧ ∀ q ∈ L, Beats (L.foldl f a).1 (L.foldl f a).2 q.1 q.2 := by
  induction L generalizing a with
  | nil => exact ⟨Or.inl rfl, Beats.refl _ _, fun q hq => absurd hq (by simp)⟩
  | cons b L ih =>
    obtain ⟨h1, h2, h3⟩ := ih (f a b)
    simp only [List.foldl_cons, List.mem_cons]
    rcases hf a b with ⟨e, hb⟩ | ⟨e, hb⟩ <;> rw [e] at h1 h2 h3 ⊢
    · refine ⟨h1.imp_right Or.inr, h2, ?_⟩
      rintro q (rfl | hq)
      · exact h2.trans hb
      · exact h3 q hq
    · refine ⟨Or.inr h1, h2.trans hb, ?_⟩
      rintro q (rfl | hq)
      · exact h2
      · exact h3 q hq

end Cert.FpsMath
-- ==== Proof.FpsTour.lean ====
/- The tournament's winner: at extended reals the champion is the farthest entrant of the grid, the one of smallest number on
   a tie. -/
module

public import proofs.«01_k».proof.Proof.FpsTree
public import proofs.«01_k».proof.Proof.FpsMath
public import Idealize.ShloMosaic.Lib.Routing.OpsOne

@[expose] public section

set_option maxRecDepth 65536

noncomputable section

namespace Cert.Kernel1Ideal.Fps

open Cert.Kernel1Ideal Cert.Kernel1Ideal.Gen Idealize.ShloMosaic Idealize.ShloMosaic.TcCoe Cert.FpsMath Idealize.ShloMosaic.Routing

/-- The player of one lane. -/
def lane {s : Shape} (a : Tup Ideal s) (i : s.Idx) : Player := ⟨a.v i, a.n i, a.x i, a.y i, a.z i⟩

theorem ofBool_one (p : Bool) : (BitVec.ofBool p = 1#1) ↔ p = true := by cases p <;> decide

theorem or_one (p q : BitVec 1) : (p ||| q = 1#1) ↔ (p = 1#1 ∨ q = 1#1) := by revert p q; decide
theorem and_one (p q : BitVec 1) : (p &&& q = 1#1) ↔ (p = 1#1 ∧ q = 1#1) := by revert p q; decide

theorem lane_duel {s : Shape} (a b : Tup Ideal s) (i : s.Idx) : lane (duel a b) i = meet (lane a i) (lane b i) := by
  have hw : wins a b i = 1#1 ↔ (a.v i < b.v i ∨ (b.v i = a.v i ∧ (b.n i).toInt < (a.n i).toInt)) := by
    have e : wins a b i = (BitVec.ofBool (decide (a.v i < b.v i)) ||| (BitVec.ofBool (decide (b.v i = a.v i)) &&& BitVec.ofBool ((b.n i).slt (a.n i)))) := rfl
    rw [e, or_one, and_one, ofBool_one, ofBool_one, ofBool_one, decide_eq_true_eq, decide_eq_true_eq]
    simp only [BitVec.slt, decide_eq_true_eq]
  unfold meet
  by_cases h : (lane a i).v < (lane b i).v ∨ ((lane b i).v = (lane a i).v ∧ (lane b i).n.toInt < (lane a i).n.toInt)
  · rw [if_pos h]
    have h1 := hw.2 h
    have g : ∀ {α : Type} (x y : s.Idx → α), select (wins a b) x y i = x i := fun x y => by
      show (if wins a b i = 1 then x i else y i) = x i
      exact if_pos h1
    show (⟨_, _, _, _, _⟩ : Player) = ⟨_, _, _, _, _⟩
    simp only [duel, g]
  · rw [if_neg h]
    have h1 : ¬ wins a b i = 1#1 := fun e => h (hw.1 e)
    have g : ∀ {α : Type} (x y : s.Idx → α), select (wins a b) x y i = y i := fun x y => by
      show (if wins a b i = 1 then x i else y i) = y i
      exact if_neg h1
    show (⟨_, _, _, _, _⟩ : Player) = ⟨_, _, _, _, _⟩
    simp only [duel, g]

/-- A lane of a window. -/
theorem lane_cut {A B A' B' : ℕ} (o p : ℕ) (a : Tup Ideal (shape2 A B)) (h : (shape2 A B).Slices ![o, p] (shape2 A' B')) (r : Fin A') (c : Fin B')
    (r' : Fin A) (c' : Fin B) (hr : r'.val = o + r.val) (hc : c'.val = p + c.val) :
    lane (cut (shape2 A' B') ![o, p] a h) (ix2 r c) = lane a (ix2 r' c') := by
  have g : ∀ {α : Type} (x : (shape2 A B).Idx → α), extractStridedSlice (shape2 A' B') ![o, p] x h (ix2 r c) = x (ix2 r' c') := fun x => by
    rw [Pointwise.extractStridedSlice_apply]
    congr 1
    funext d
    match d with
    | ⟨0, _⟩ => exact Fin.ext hr.symm
    | ⟨1, _⟩ => exact Fin.ext hc.symm
  unfold lane cut
  simp only [g]

/-- The winner so far of every lane: `S` says which entrants met there. -/
def Led (a : Tup Ideal S8x1280) {A B : ℕ} (S : Fin A → Fin B → Fin 8 × Fin 1280 → Prop) (t : Tup Ideal (shape2 A B)) : Prop :=
  ∀ r c, Best (fun i : Fin 8 × Fin 1280 => lane a (ix2 i.1 i.2)) (S r c) (lane t (ix2 r c))

/-- Two windows of a vector played against one another. -/
theorem Led.halve {a : Tup Ideal S8x1280} {A B A' B' : ℕ} {S : Fin A → Fin B → Fin 8 × Fin 1280 → Prop} {t : Tup Ideal (shape2 A B)} (H : Led a S t)
    (o p o' p' : ℕ) (h : (shape2 A B).Slices ![o, p] (shape2 A' B')) (h' : (shape2 A B).Slices ![o', p'] (shape2 A' B'))
    (T : Fin A' → Fin B' → Fin 8 × Fin 1280 → Prop)
    (hoA : o + A' ≤ A) (hpB : p + B' ≤ B) (hoA' : o' + A' ≤ A) (hpB' : p' + B' ≤ B)
    (e : ∀ r c i, T r c i ↔ (S ⟨o + r.val, by omega⟩ ⟨p + c.val, by omega⟩ i ∨ S ⟨o' + r.val, by omega⟩ ⟨p' + c.val, by omega⟩ i)) :
    Led a T (duel (cut (shape2 A' B') ![o, p] t h) (cut (shape2 A' B') ![o', p'] t h')) := fun r c => by
  rw [lane_duel, lane_cut o p t h r c ⟨o + r.val, by omega⟩ ⟨p + c.val, by omega⟩ rfl rfl,
    lane_cut o' p' t h' r c ⟨o' + r.val, by omega⟩ ⟨p' + c.val, by omega⟩ rfl rfl]
  exact ((H _ _).meet (H _ _)).of_iff (e r c)

theorem Led.duel {a : Tup Ideal S8x1280} {A B : ℕ} {S T : Fin A → Fin B → Fin 8 × Fin 1280 → Prop} {t u : Tup Ideal (shape2 A B)} (H : Led a S t) (K : Led a T u) :
    Led a (fun r c i => S r c i ∨ T r c i) (duel t u) := fun r c => by
  rw [lane_duel]
  exact (H r c).meet (K r c)

/-- Before the first round every lane holds its own entrant. -/
theorem led_start (a : Tup Ideal S8x1280) : Led a (A := 8) (B := 1280) (fun r c i => i = (r, c)) a := fun r c =>
  Best.one (fun i : Fin 8 × Fin 1280 => lane a (ix2 i.1 i.2)) (r, c)

theorem led_pair (a : Tup Ideal S8x1280) (p : ℕ) (hp : p + 256 ≤ 1280) (h : S8x1280.Slices ![0, p] S8x128) (h' : S8x1280.Slices ![0, p + 128] S8x128) :
    Led a (A := 8) (B := 128) (fun r c i => i.1 = r ∧ (i.2.val = p + c.val ∨ i.2.val = p + 128 + c.val)) (Fps.duel (cut S8x128 ![0, p] a h) (cut S8x128 ![0, p + 128] a h')) :=
  (led_start a).halve 0 p 0 (p + 128) h h' _ (by omega) (by omega) (by omega) (by omega) fun r c i => by
    obtain ⟨i1, i2⟩ := i
    simp only [Prod.mk.injEq, Fin.ext_iff]
    omega

theorem led1 (a : Tup Ideal S8x1280) : Led a (A := 8) (B := 128) (fun r c i => i.1.val = r.val ∧ i.2.val % 128 = c.val) (rounds1 a) := by
  have h := ((((led_pair a 0 (by omega) slices_S8x1280_o0_0_S8x128 slices_S8x1280_o0_128_S8x128).duel (led_pair a 256 (by omega) slices_S8x1280_o0_256_S8x128 slices_S8x1280_o0_384_S8x128)).duel
    ((led_pair a 512 (by omega) slices_S8x1280_o0_512_S8x128 slices_S8x1280_o0_640_S8x128).duel (led_pair a 768 (by omega) slices_S8x1280_o0_768_S8x128 slices_S8x1280_o0_896_S8x128))).duel (led_pair a 1024 (by omega) slices_S8x1280_o0_1024_S8x128 slices_S8x1280_o0_1152_S8x128))
  intro r c
  refine Best.of_iff (h r c) fun i => ?_
  obtain ⟨i1, i2⟩ := i
  simp only [Fin.ext_iff]
  omega

theorem led2 (a : Tup Ideal S8x1280) : Led a (A := 4) (B := 128) (fun r c i => i.1.val % 4 = r.val ∧ i.2.val % 128 = c.val) (rounds2 (rounds1 a)) :=
  (led1 a).halve 0 0 4 0 _ _ _ (by omega) (by omega) (by omega) (by omega) fun r c i => by dsimp only; omega

theorem led3 (a : Tup Ideal S8x1280) : Led a (A := 2) (B := 128) (fun r c i => i.1.val % 2 = r.val ∧ i.2.val % 128 = c.val) (rounds3 (rounds2 (rounds1 a))) :=
  (led2 a).halve 0 0 2 0 _ _ _ (by omega) (by omega) (by omega) (by omega) fun r c i => by dsimp only; omega

theorem led4 (a : Tup Ideal S8x1280) : Led a (A := 1) (B := 128) (fun r c i => i.2.val % 128 = c.val) (rounds4 (rounds3 (rounds2 (rounds1 a)))) :=
  (led3 a).halve 0 0 1 0 _ _ _ (by omega) (by omega) (by omega) (by omega) fun r c i => by dsimp only; omega

theorem led5 (a : Tup Ideal S8x1280) : Led a (A := 1) (B := 64) (fun r c i => i.2.val % 64 = c.val) (rounds5 (rounds4 (rounds3 (rounds2 (rounds1 a))))) :=
  (led4 a).halve 0 0 0 64 _ _ _ (by omega) (by omega) (by omega) (by omega) fun r c i => by dsimp only; omega

theorem led6 (a : Tup Ideal S8x1280) : Led a (A := 1) (B := 32) (fun r c i => i.2.val % 32 = c.val) (rounds6 (rounds5 (rounds4 (rounds3 (rounds2 (rounds1 a)))))) :=
  (led5 a).halve 0 0 0 32 _ _ _ (by omega) (by omega) (by omega) (by omega) fun r c i => by dsimp only; omega

theorem led7 (a : Tup Ideal S8x1280) : Led a (A := 1) (B := 16) (fun r c i => i.2.val % 16 = c.val) (rounds7 (rounds6 (rounds5 (rounds4 (rounds3 (rounds2 (rounds1 a))))))) :=
  (led6 a).halve 0 0 0 16 _ _ _ (by omega) (by omega) (by omega) (by omega) fun r c i => by dsimp only; omega

theorem led8 (a : Tup Ideal S8x1280) : Led a (A := 1) (B := 8) (fun r c i => i.2.val % 8 = c.val) (rounds8 (rounds7 (rounds6 (rounds5 (rounds4 (rounds3 (rounds2 (rounds1 a)))))))) :=
  (led7 a).halve 0 0 0 8 _ _ _ (by omega) (by omega) (by omega) (by omega) fun r c i => by dsimp only; omega

theorem led9 (a : Tup Ideal S8x1280) : Led a (A := 1) (B := 4) (fun r c i => i.2.val % 4 = c.val) (rounds9 (rounds8 (rounds7 (rounds6 (rounds5 (rounds4 (rounds3 (rounds2 (rounds1 a))))))))) :=
  (led8 a).halve 0 0 0 4 _ _ _ (by omega) (by omega) (by omega) (by omega) fun r c i => by dsimp only; omega

theorem led10 (a : Tup Ideal S8x1280) : Led a (A := 1) (B := 2) (fun r c i => i.2.val % 2 = c.val) (rounds10 (rounds9 (rounds8 (rounds7 (rounds6 (rounds5 (rounds4 (rounds3 (rounds2 (rounds1 a)))))))))) :=
  (led9 a).halve 0 0 0 2 _ _ _ (by omega) (by omega) (by omega) (by omega) fun r c i => by dsimp only; omega

theorem led11 (a : Tup Ideal S8x1280) : Led a (A := 1) (B := 1) (fun _ _ _ => True) (champion a) :=
  (led10 a).halve 0 0 0 1 _ _ _ (by omega) (by omega) (by omega) (by omega) fun r c i => iff_of_true trivial (by dsimp only; omega)

/-- The champion is the best of all entrants. -/
theorem champion_best (a : Tup Ideal S8x1280) :
    Best (fun i : Fin 8 × Fin 1280 => lane a (ix2 i.1 i.2)) (fun _ => True) (lane (champion a) (ix2 0 0)) := led11 a 0 0

end Cert.Kernel1Ideal.Fps
-- ==== Proof.FpsStep.lean ====
/- One trip of the sampling kernel's loop on extended reals: the carried point and distances step from sample to sample. -/
module

public import proofs.«01_k».proof.Proof.FpsTour

@[expose] public section

set_option maxRecDepth 65536

noncomputable section

namespace Cert.Kernel1Ideal.Fps

open Cert.Kernel1Ideal Cert.Kernel1Ideal.Gen Idealize.ShloMosaic Idealize.ShloMosaic.TcCoe Cert.FpsMath Idealize.ShloMosaic.Routing

theorem zero_bits : Ideal.ofBits .f32 0x00000000#32 = 0 := by simp [Ideal.ofBits, Ideal.ieee]
theorem top_bits : Ideal.ofBits .f32 0x7F800000#32 = ⊤ := by simp [Ideal.ofBits, Ideal.ieee]
theorem bot_bits : Ideal.ofBits .f32 0xFF800000#32 = ⊥ := by simp [Ideal.ofBits, Ideal.ieee]

/-- The grid's number at a place. -/
theorem number_apply (r : Fin 8) (c : Fin 1280) : k0_pay4 (ix2 r c) = BitVec.ofNat 32 (1280 * r.val + c.val) := by
  pointwise [k0_pay4]
  apply BitVec.eq_of_toNat_eq
  simp only [IntOp.addi, IntOp.muli, BitVec.toNat_ofNat, BitVec.toNat_add, BitVec.toNat_mul]
  omega

/-- The distances after a trip, at a place. -/
theorem newDist_apply (v0 v2 v4 : Vec Ideal S8x1280 .f32) (acc : FVec Ideal S1x1 .f32 × FVec Ideal S1x1 .f32 × FVec Ideal S1x1 .f32 × FVec Ideal S8x1280 .f32) (r : Fin 8) (c : Fin 1280) :
    newDist v0 v2 v4 acc (ix2 r c) = min (acc.2.2.2 (ix2 r c))
      ((v0 (ix2 r c) - acc.1 (ix2 0 0)) * (v0 (ix2 r c) - acc.1 (ix2 0 0)) + (v4 (ix2 r c) - acc.2.2.1 (ix2 0 0)) * (v4 (ix2 r c) - acc.2.2.1 (ix2 0 0))
        + (v2 (ix2 r c) - acc.2.1 (ix2 0 0)) * (v2 (ix2 r c) - acc.2.1 (ix2 0 0))) := by
  pointwise [newDist, k0_pay9, k0_pay1, k0_pay2, k0_pay3]

theorem start_apply (r : Fin 8) (c : Fin 1280) : (k0_pay8 (F := Ideal)) (ix2 r c) = if 10000 ≤ 1280 * r.val + c.val then ⊥ else ⊤ := by
  pointwise [k0_pay8, number_apply, top_bits, bot_bits]
  have e : IntOp.cmpi CmpIPredicate.sge (BitVec.ofNat 32 (1280 * r.val + c.val)) 10000#32 = 1#1 ↔ 10000 ≤ 1280 * r.val + c.val := by
    simp only [IntOp.cmpi, ofBool_one, BitVec.sle, decide_eq_true_eq, BitVec.toInt, BitVec.toNat_ofNat]
    omega
  show (if _ = 1 then _ else _) = _
  by_cases h : 10000 ≤ 1280 * r.val + c.val
  · rw [if_pos h]; exact if_pos (e.2 h)
  · rw [if_neg h]; exact if_neg fun h' => h (e.1 h')

/-- What the loop carries: three numbers and the distances. -/
abbrev Carry := FVec Ideal S1x1 .f32 × FVec Ideal S1x1 .f32 × FVec Ideal S1x1 .f32 × FVec Ideal S8x1280 .f32

/-- The three grids hold the points' coordinates. -/
def Holds (P : Fin 10000 → Fin 3 → EReal) (v0 v2 v4 : Vec Ideal S8x1280 .f32) : Prop :=
  ∀ (r : Fin 8) (c : Fin 1280) (N : Fin 10000), N.val = 1280 * r.val + c.val → v0 (ix2 r c) = P N 0 ∧ v2 (ix2 r c) = P N 1 ∧ v4 (ix2 r c) = P N 2

/-- What is carried before trip `k`: the last sample's coordinates and every point's distance, padding at the bottom. -/
structure Inv (P : Fin 10000 → Fin 3 → EReal) (k : ℕ) (acc : Carry) : Prop where
  x : acc.1 (ix2 0 0) = P (far P k).1 0
  y : acc.2.1 (ix2 0 0) = P (far P k).1 1
  z : acc.2.2.1 (ix2 0 0) = P (far P k).1 2
  d : ∀ (r : Fin 8) (c : Fin 1280) (N : Fin 10000), N.val = 1280 * r.val + c.val → acc.2.2.2 (ix2 r c) = (far P k).2 N
  pad : ∀ (r : Fin 8) (c : Fin 1280), 10000 ≤ 1280 * r.val + c.val → acc.2.2.2 (ix2 r c) = ⊥

theorem Inv.start {P : Fin 10000 → Fin 3 → EReal} {v0 v2 v4 : Vec Ideal S8x1280 .f32} (h : Holds P v0 v2 v4) :
    Inv P 0 (k0_pay5 v0, k0_pay6 v2, k0_pay7 v4, k0_pay8) := by
  obtain ⟨h0, h2, h4⟩ := h 0 0 0 rfl
  refine ⟨?_, ?_, ?_, fun r c N hN => ?_, fun r c hc => ?_⟩
  · pointwise [k0_pay5, k0_pay1]; exact h0
  · pointwise [k0_pay6, k0_pay2]; exact h2
  · pointwise [k0_pay7, k0_pay3]; exact h4
  · show k0_pay8 (ix2 r c) = _
    rw [start_apply, if_neg (by have := N.isLt; omega)]; rfl
  · show k0_pay8 (ix2 r c) = _
    rw [start_apply, if_pos hc]

theorem toInt_small (n : ℕ) (h : n < 2 ^ 31) : (BitVec.ofNat 32 n).toInt = n := by
  simp only [BitVec.toInt, BitVec.toNat_ofNat]
  omega

/-- A trip's champion is the next sample, and the carried values step with it. -/
theorem Inv.next {P : Fin 10000 → Fin 3 → EReal} {v0 v2 v4 : Vec Ideal S8x1280 .f32} (h : Holds P v0 v2 v4) {k : ℕ} {acc : Carry} (H : Inv P k acc) :
    Inv P (k + 1) ((champion (entrants v0 v2 v4 acc)).x, (champion (entrants v0 v2 v4 acc)).y, (champion (entrants v0 v2 v4 acc)).z, newDist v0 v2 v4 acc)
    ∧ (champion (entrants v0 v2 v4 acc)).n (ix2 0 0) = BitVec.ofNat 32 (far P (k + 1)).1.val := by
  have hd : ∀ (r : Fin 8) (c : Fin 1280) (N : Fin 10000), N.val = 1280 * r.val + c.val → newDist v0 v2 v4 acc (ix2 r c) = (far P (k + 1)).2 N := fun r c N hN => by
    obtain ⟨h0, h2, h4⟩ := h r c N hN
    rw [newDist_apply, H.x, H.y, H.z, H.d r c N hN, h0, h2, h4, add_right_comm]
    rfl
  have hp : ∀ (r : Fin 8) (c : Fin 1280), 10000 ≤ 1280 * r.val + c.val → newDist v0 v2 v4 acc (ix2 r c) = ⊥ := fun r c hc => by
    rw [newDist_apply, H.pad r c hc]
    exact min_eq_left bot_le
  obtain ⟨⟨⟨r, c⟩, -, e⟩, hb⟩ := champion_best (entrants v0 v2 v4 acc)
  have ev : ∀ (r : Fin 8) (c : Fin 1280), (lane (entrants v0 v2 v4 acc) (ix2 r c)).v = newDist v0 v2 v4 acc (ix2 r c) := fun _ _ => rfl
  have en : ∀ (r : Fin 8) (c : Fin 1280), (lane (entrants v0 v2 v4 acc) (ix2 r c)).n = BitVec.ofNat 32 (1280 * r.val + c.val) := fun r c => number_apply r c
  rw [e] at hb
  dsimp only at hb
  have hlt : 1280 * r.val + c.val < 10000 := by
    by_contra hn
    have h0 := hb (0, 0) trivial
    dsimp only at h0
    rw [ev, ev, hp r c (by omega), hd 0 0 0 rfl] at h0
    have hnn := far_nonneg P (k + 1) 0
    rcases h0 with h0 | ⟨h0, -⟩
    · exact absurd h0 (not_lt_bot)
    · rw [h0] at hnn
      exact absurd hnn (by simp)
  have hf : IsFirst (far P (k + 1)).2 ⟨1280 * r.val + c.val, hlt⟩ := fun j => by
    have hj := hb (⟨j.val / 1280, by have := j.isLt; omega⟩, ⟨j.val % 1280, Nat.mod_lt _ (by decide)⟩) trivial
    dsimp only at hj
    have hje : j.val = 1280 * (j.val / 1280) + j.val % 1280 := by omega
    rw [ev, ev, en, en, hd r c ⟨1280 * r.val + c.val, hlt⟩ rfl, hd ⟨j.val / 1280, by have := j.isLt; omega⟩ ⟨j.val % 1280, Nat.mod_lt _ (by decide)⟩ j hje] at hj
    refine hj.imp_right fun hj => ⟨hj.1, ?_⟩
    have h2 := hj.2
    rw [toInt_small _ (by omega), toInt_small _ (by have := j.isLt; dsimp only; omega)] at h2
    rw [Fin.le_def]
    dsimp only at h2 ⊢
    omega
  have hs : (far P (k + 1)).1 = ⟨1280 * r.val + c.val, hlt⟩ := first_eq hf
  obtain ⟨h0, h2, h4⟩ := h r c ⟨1280 * r.val + c.val, hlt⟩ rfl
  refine ⟨⟨?_, ?_, ?_, hd, hp⟩, ?_⟩
  · rw [hs, ← h0]
    refine (congrArg Player.x e).trans ?_
    show k0_pay1 v0 (ix2 r c) = _
    pointwise [k0_pay1]
  · rw [hs, ← h2]
    refine (congrArg Player.y e).trans ?_
    show k0_pay2 v2 (ix2 r c) = _
    pointwise [k0_pay2]
  · rw [hs, ← h4]
    refine (congrArg Player.z e).trans ?_
    show k0_pay3 v4 (ix2 r c) = _
    pointwise [k0_pay3]
  · rw [hs]
    exact (congrArg Player.n e).trans (en r c)

end Cert.Kernel1Ideal.Fps
-- ==== Proof.FpsBody.lean ====
/- What the sampling kernel leaves in its output: the sequence of samples, entry by entry. -/
module

public import proofs.«01_k».proof.Proof.FpsStep
public import proofs.«01_k».proof.Proof.Gen.Kernel1Ideal.Frame

@[expose] public section

set_option maxRecDepth 16384

noncomputable section

namespace Cert.Kernel1Ideal.Fps

open Cert.Kernel1Ideal Cert.Kernel1Ideal.Gen Idealize.ShloMosaic Idealize.ShloMosaic.TcCoe Idealize.SL.Sem Cert.FpsMath

theorem off1 : ∀ k : Fin k0_t1_loop.trips, k0_off1 k = ![k.val + 1] := by decide +kernel
theorem trips_eq : k0_t1_loop.trips = 4999 := by decide +kernel
theorem hz : (![0, 0] : Fin 2 → Nat) = fun _ => 0 := funext fun a => by fin_cases a <;> rfl

/-- The samples' numbers. -/
def samples (P : Fin 10000 → Fin 3 → EReal) : IVec S5000 32 := fun y => BitVec.ofNat 32 (far P (y 0).val).1.val

section Loop

variable (𝒱 : Variants) (c : Dev nD) (bd : Option 𝒱.V) (arg0 : Memref sig .tc .vmem S8x1280 .f32) (harg0 : arg0.IsWhole) (arg1 : Memref sig .tc .vmem S8x1280 .f32) (harg1 : arg1.IsWhole) (arg2 : Memref sig .tc .vmem S8x1280 .f32) (harg2 : arg2.IsWhole) (arg3 : Memref sig .tc .smem S5000 .i32) (harg3 : arg3.IsWhole)

/-- Before trip `n` the carried values are those of the sequence, and the stores so far hold samples and cover entries 1 to `n`. -/
theorem st_samples (P : Fin 10000 → Fin 3 → EReal) (v0 v2 v4 : Vec Ideal S8x1280 .f32) (h : Holds P v0 v2 v4) : ∀ n : ℕ, n ≤ 4999 →
    Inv P n (st_k0_t1 (F := Ideal) 𝒱 c bd arg0 harg0 arg1 harg1 arg2 harg2 arg3 harg3 v0 v2 v4 (k0_pay5 v0, k0_pay6 v2, k0_pay7 v4, k0_pay8) n).1
    ∧ (∀ p ∈ (st_k0_t1 (F := Ideal) 𝒱 c bd arg0 harg0 arg1 harg1 arg2 harg2 arg3 harg3 v0 v2 v4 (k0_pay5 v0, k0_pay6 v2, k0_pay7 v4, k0_pay8) n).2, ∀ x : p.1.shape.Idx, p.2 x = samples P (p.1.emb x))
    ∧ (∀ y : S5000.Idx, 0 < (y 0).val → (y 0).val ≤ n → ∃ p ∈ (st_k0_t1 (F := Ideal) 𝒱 c bd arg0 harg0 arg1 harg1 arg2 harg2 arg3 harg3 v0 v2 v4 (k0_pay5 v0, k0_pay6 v2, k0_pay7 v4, k0_pay8) n).2, y ∈ p.1.set)
  | 0, _ => ⟨Inv.start h, fun p hp => absurd hp List.not_mem_nil, fun y h1 h2 => absurd h1 (by omega)⟩
  | n + 1, hn => by
    obtain ⟨i1, i2, i3⟩ := st_samples P v0 v2 v4 h n (by omega)
    have hlt : n < k0_t1_loop.trips := by rw [trips_eq]; omega
    have e := st_k0_t1_succ (F := Ideal) 𝒱 c bd arg0 harg0 arg1 harg1 arg2 harg2 arg3 harg3 v0 v2 v4 (k0_pay5 v0, k0_pay6 v2, k0_pay7 v4, k0_pay8) ⟨n, hlt⟩
    rw [tripL_eq, tripR_eq] at e
    change st_k0_t1 (F := Ideal) 𝒱 c bd arg0 harg0 arg1 harg1 arg2 harg2 arg3 harg3 v0 v2 v4 (k0_pay5 v0, k0_pay6 v2, k0_pay7 v4, k0_pay8) (n + 1) = _ at e
    rw [e]
    obtain ⟨j1, j2⟩ := i1.next h
    refine ⟨j1, fun p hp => ?_, fun y h1 h2 => ?_⟩
    · rcases List.mem_append.mp hp with hp | hp
      · obtain rfl := List.mem_singleton.mp hp
        intro x
        refine j2.trans ?_
        have hx : (x 0).val < 1 := (x 0).isLt
        have hr : (((Rect.unit (s := S5000) (k0_off1 ⟨n, hlt⟩) S1.size (k0_off1_inb ⟨n, hlt⟩)).emb x) 0).val = n + 1 := by
          have ho : k0_off1 ⟨n, hlt⟩ 0 = n + 1 := by rw [off1]; rfl
          show k0_off1 ⟨n, hlt⟩ 0 + 1 * (x 0).val = n + 1
          omega
        show _ = BitVec.ofNat 32 (far P (((Rect.unit (s := S5000) (k0_off1 ⟨n, hlt⟩) S1.size (k0_off1_inb ⟨n, hlt⟩)).emb x) 0).val).1.val
        rw [hr]
      · exact i2 p hp
    · by_cases hy : (y 0).val ≤ n
      · obtain ⟨p, hp, hm⟩ := i3 y h1 hy
        exact ⟨p, List.mem_append.mpr (Or.inr hp), hm⟩
      · refine ⟨_, List.mem_append.mpr (Or.inl (List.mem_singleton_self _)), ?_⟩
        show y ∈ (Rect.unit (s := S5000) (k0_off1 ⟨n, hlt⟩) S1.size (k0_off1_inb ⟨n, hlt⟩)).set
        rw [Rect.mem_set_unit]
        intro a
        rw [off1]
        match a with
        | ⟨0, _⟩ => show n + 1 ≤ (y 0).val ∧ (y 0).val < n + 1 + 1; omega

end Loop

theorem out_eq (c : Dev nD) (arg0 : Memref sig .tc .vmem S8x1280 .f32) (harg0 : arg0.IsWhole) (arg1 : Memref sig .tc .vmem S8x1280 .f32) (harg1 : arg1.IsWhole) (arg2 : Memref sig .tc .vmem S8x1280 .f32) (harg2 : arg2.IsWhole) (arg3 : Memref sig .tc .smem S5000 .i32) (harg3 : arg3.IsWhole) (P : Fin 10000 → Fin 3 → EReal) (x0 x1 x2 : Vec Ideal S8x1280 .f32) (h : Holds P x0 x1 x2) :
    out0_A_3 c arg0 harg0 arg1 harg1 arg2 harg2 arg3 harg3 x0 x1 x2 = samples P := by
  have hc := cover0_A_3 c arg0 harg0 arg1 harg1 arg2 harg2 arg3 harg3 x0 x1 x2
  unfold out0_A_3
  rw [View.read_writes_eq_canon _ _ _ hc]
  funext y
  refine View.canon_apply_of_pieces _ _ (fun p hp => ?_) y (hc y)
  unfold kernelRun0_A at hp
  dsimp only at hp
  have ht : Scf.trips 1#32 (Scalar.addi 1#32 4999#32) 1#32 = 4999 := by decide +kernel
  rw [ht] at hp
  simp only [View.readAt_eq_ld, harg0.read_unread, harg1.read_unread, harg2.read_unread] at hp
  erw [View.ld_unit_zero (S := S8x1280) hz, View.ld_unit_zero (S := S8x1280) hz, View.ld_unit_zero (S := S8x1280) hz] at hp
  rcases List.mem_append.mp hp with hp | hp
  · exact (st_samples Variants.none c none arg0 harg0 arg1 harg1 arg2 harg2 arg3 harg3 P x0 x1 x2 h 4999 le_rfl).2.1 p hp
  · obtain rfl := List.mem_singleton.mp hp
    intro x
    have hx : (x 0).val < 1 := (x 0).isLt
    have hr : (((Rect.unit (s := S5000) ![0] S1.size inb_S5000_S1_0).emb x) 0).val = 0 := by
      show 0 + 1 * (x 0).val = 0
      omega
    show _ = BitVec.ofNat 32 (far P (((Rect.unit (s := S5000) ![0] S1.size inb_S5000_S1_0).emb x) 0).val).1.val
    rw [hr]
    rfl

end Cert.Kernel1Ideal.Fps
-- ==== Proof.FpsFinal.lean ====
/- The sampling program's operand arrays at the launch, its output array, and its two results after the lines that follow. -/
module

public import proofs.«01_k».proof.Proof.FpsBody
public import Idealize.ShloMosaic.Lib.Pipeline.ValueKit
public import Idealize.ShloMosaic.Lib.KernelVsHost
public import Idealize.ShloMosaic.Lib.Pointwise

@[expose] public section

set_option maxRecDepth 16384

noncomputable section

namespace Cert.Kernel1Ideal.Fps

open Cert.Kernel1Ideal Cert.Kernel1Ideal.Gen Idealize.ShloMosaic Idealize.ShloMosaic.TcCoe Idealize.ShloMosaic.StableHlo Idealize.SL.Sem Cert.FpsMath

variable (m : (ℓ : Loc nD τ sig) → Buf (Elt Ideal) ℓ) (c : Dev nD)

/-- The points. -/
abbrev A0 : FVec Ideal S10000x3 .f32 := m ((c : Thread nD τ).loc main_arg0)

/-- The points' coordinates. -/
def points (pos : FVec Ideal S10000x3 .f32) : Fin 10000 → Fin 3 → EReal := fun j d => pos (ix2 j d)

/-- The points followed by 240 more rows. -/
def padded (pos : FVec Ideal S10000x3 .f32) : FVec Ideal S10240x3 .f32 :=
  pad S10240x3 ![0, 0] ![240, 0] ![0, 0] pos (sitofp (F := Ideal) .f32 (constantI S_ 32 0#32)) pads_S10000x3_S10240x3_02400_000 h_S_

theorem padded_apply (pos : FVec Ideal S10000x3 .f32) (N : Fin 10240) (M : Fin 10000) (d : Fin 3) (h : N.val = M.val) :
    padded pos (ix2 N d) = pos (ix2 M d) := by
  refine pad_apply_of_inside _ _ _ _ _ _ _ _ (ix2 M d) fun a => ?_
  match a with
  | ⟨0, _⟩ => show N.val = 0 + M.val * (0 + 1); omega
  | ⟨1, _⟩ => show d.val = 0 + d.val * (0 + 1); omega

theorem V3 : V m c main_v3 = shapeCast S8x1280 (shapeCast S10240 (extractStridedSlice S10240x1 ![0, 0] (padded (A0 m c)) slices_S10240x3_S10240x1_0_0) shapeCasts_S10240x1_S10240) shapeCasts_S10240_S8x1280 := by
  simp only [V, V0, hostOps0, hostOps0_1, hostOps0_2, List.flatten_cons, List.flatten_nil, List.append_nil, List.cons_append, List.nil_append, TRef.unary, TRef.binary, TRef.toBuf, TRef.ofBuf, cast_eq]
  after_results_simp <;> rfl

theorem V6 : V m c main_v6 = shapeCast S8x1280 (shapeCast S10240 (extractStridedSlice S10240x1 ![0, 1] (padded (A0 m c)) slices_S10240x3_S10240x1_0_1) shapeCasts_S10240x1_S10240) shapeCasts_S10240_S8x1280 := by
  simp only [V, V0, hostOps0, hostOps0_1, hostOps0_2, List.flatten_cons, List.flatten_nil, List.append_nil, List.cons_append, List.nil_append, TRef.unary, TRef.binary, TRef.toBuf, TRef.ofBuf, cast_eq]
  after_results_simp <;> rfl

theorem V9 : V m c main_v9 = shapeCast S8x1280 (shapeCast S10240 (extractStridedSlice S10240x1 ![0, 2] (padded (A0 m c)) slices_S10240x3_S10240x1_0_2) shapeCasts_S10240x1_S10240) shapeCasts_S10240_S8x1280 := by
  simp only [V, V0, hostOps0, hostOps0_1, hostOps0_2, List.flatten_cons, List.flatten_nil, List.append_nil, List.cons_append, List.nil_append, TRef.unary, TRef.binary, TRef.toBuf, TRef.ofBuf, cast_eq]
  after_results_simp <;> rfl

theorem entry0 (r : Fin 8) (k : Fin 1280) (x : FVec Ideal S10240x3 .f32) :
    shapeCast S8x1280 (shapeCast S10240 (extractStridedSlice S10240x1 ![0, 0] x slices_S10240x3_S10240x1_0_0) shapeCasts_S10240x1_S10240) shapeCasts_S10240_S8x1280 (ix2 r k)
      = x (ix2 ⟨1280 * r.val + k.val, by omega⟩ 0) := by
  pointwise
  exact congrArg x (congrArg₂ ix2 (Fin.ext (by show r.val * 1280 + k.val = 1280 * r.val + k.val; omega)) rfl)
theorem entry1 (r : Fin 8) (k : Fin 1280) (x : FVec Ideal S10240x3 .f32) :
    shapeCast S8x1280 (shapeCast S10240 (extractStridedSlice S10240x1 ![0, 1] x slices_S10240x3_S10240x1_0_1) shapeCasts_S10240x1_S10240) shapeCasts_S10240_S8x1280 (ix2 r k)
      = x (ix2 ⟨1280 * r.val + k.val, by omega⟩ 1) := by
  pointwise
  exact congrArg x (congrArg₂ ix2 (Fin.ext (by show r.val * 1280 + k.val = 1280 * r.val + k.val; omega)) rfl)
theorem entry2 (r : Fin 8) (k : Fin 1280) (x : FVec Ideal S10240x3 .f32) :
    shapeCast S8x1280 (shapeCast S10240 (extractStridedSlice S10240x1 ![0, 2] x slices_S10240x3_S10240x1_0_2) shapeCasts_S10240x1_S10240) shapeCasts_S10240_S8x1280 (ix2 r k)
      = x (ix2 ⟨1280 * r.val + k.val, by omega⟩ 2) := by
  pointwise
  exact congrArg x (congrArg₂ ix2 (Fin.ext (by show r.val * 1280 + k.val = 1280 * r.val + k.val; omega)) rfl)

/-- Every window's block index is zero. -/
theorem idx : ∀ t : Fin cfg0.N, win0_0.index t = ![0, 0] ∧ win0_1.index t = ![0, 0] ∧ win0_2.index t = ![0, 0] ∧ win0_3.index t = ![0] :=
  (by decide +kernel : ∀ t : Fin grid0.N, _)

theorem blk0 (t : Fin cfg0.N) (r : Fin 8) (k : Fin 1280) : iblk m c 0 t (ix2 r k) = V m c main_v3 (ix2 r k) := by
  blk_ext [iblk, idx t]
theorem blk1 (t : Fin cfg0.N) (r : Fin 8) (k : Fin 1280) : iblk m c 1 t (ix2 r k) = V m c main_v6 (ix2 r k) := by
  blk_ext [iblk, idx t]
theorem blk2 (t : Fin cfg0.N) (r : Fin 8) (k : Fin 1280) : iblk m c 2 t (ix2 r k) = V m c main_v9 (ix2 r k) := by
  blk_ext [iblk, idx t]

theorem holds (t : Fin cfg0.N) : Holds (points (A0 m c)) (iblk m c 0 t) (iblk m c 1 t) (iblk m c 2 t) := by
  intro r k N hN
  refine ⟨(blk0 m c t r k).trans ?_, (blk1 m c t r k).trans ?_, (blk2 m c t r k).trans ?_⟩
  · rw [V3, entry0]; exact padded_apply _ _ N 0 hN.symm
  · rw [V6, entry1]; exact padded_apply _ _ N 1 hN.symm
  · rw [V9, entry2]; exact padded_apply _ _ N 2 hN.symm

/-- The output array after the run. -/
theorem final : (dats m 0 c).arrAt 3 (cfgs 0).N = samples (points (A0 m c)) := by
  refine (dats m 0 c).arrAt_eq_of_covers 3 _ (by decide +kernel) fun t hf y => ?_
  blk_simp
  rw [after0_3]
  simp only [outsAt0]
  rw [out_eq _ _ _ _ _ _ _ _ _ (points (A0 m c)) _ _ _ (holds m c t)]
  refine congrArg (samples _) ?_
  blk_ext [idx t]

end Cert.Kernel1Ideal.Fps

end
-- ==== Proof.FpsRefRun.lean ====
/- The sampling reference's run: its operations as lists around one counted loop, and from them what every buffer holds
   when @main ends. -/
module

public import proofs.«01_k».proof.Proof.Gen.Reference1Ideal
public import Idealize.ShloMosaic.Lib.StableHlo.RunLoop
public import Idealize.ShloMosaic.Lib.Scf.Counter
public import Idealize.ShloMosaic.Lib.Scf.ExitTest
public import Idealize.ShloMosaic.Lib.Pointwise

@[expose] public section

set_option maxRecDepth 16384

noncomputable section

namespace Cert.Reference1Ideal.Fps

open Cert.Reference1Ideal Cert.Reference1Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo

variable {F : FTy → Type} [FloatOps F]

/-- What stands before the loop. -/
abbrev preOps : List (HloOp τ sig (Elt F)) :=
  [ nullary main_c (constantI S_ 32 0#32),
    unary main_c main_v0 (broadcastInDim S5000 ![] bcast_S_S5000 : (⟨S_, .i32⟩ : BufTy).Contents (Elt F) → (⟨S5000, .i32⟩ : BufTy).Contents (Elt F)),
    nullary main_cst (constant S_ .f32 0x7F800000#32),
    unary main_cst main_v1 (broadcastInDim S10000 ![] bcast_S_S10000 : (⟨S_, .f32⟩ : BufTy).Contents (Elt F) → (⟨S10000, .f32⟩ : BufTy).Contents (Elt F)),
    nullary main_c_0 (constantI S_ 32 1#32),
    nullary main_c_1 (constantI S_ 32 0#32),
    unary main_arg0 main_v2_0 id,
    unary main_c_1 main_v2_1 id,
    unary main_c_0 main_v2_2 id,
    unary main_v0 main_v2_3 id,
    unary main_v1 main_v2_4 id ]

theorem preOps_sub : (preOps : List (HloOp τ sig (Elt F))).Forall fun op => op.bufs ⊆ tcRefs τ sig :=
  ⟨nullary_bufs_sub .., unary_bufs_sub .., nullary_bufs_sub .., unary_bufs_sub .., nullary_bufs_sub .., nullary_bufs_sub .., unary_bufs_sub .., unary_bufs_sub .., unary_bufs_sub .., unary_bufs_sub .., unary_bufs_sub ..⟩

/-- The loop's condition. -/
abbrev condOps : List (HloOp τ sig (Elt F)) :=
  [ nullary main_while0c_c_6 (constantI S_ 32 4999#32),
    binary main_v2_1 main_while0c_c_6 main_while0c_v5 (cmpi .slt : (⟨S_, .i32⟩ : BufTy).Contents (Elt F) → (⟨S_, .i32⟩ : BufTy).Contents (Elt F) → (⟨S_, .i1⟩ : BufTy).Contents (Elt F)) ]

theorem condOps_sub : (condOps : List (HloOp τ sig (Elt F))).Forall fun op => op.bufs ⊆ tcRefs τ sig :=
  ⟨nullary_bufs_sub .., binary_bufs_sub ..⟩

/-- A trip up to the new distances. -/
abbrev stepOps : List (HloOp τ sig (Elt F)) :=
  [ nullary main_while0b_c_6 (constantI S_ 32 1#32),
    binary main_v2_2 main_while0b_c_6 main_while0b_v5 (addi : (⟨S_, .i32⟩ : BufTy).Contents (Elt F) → (⟨S_, .i32⟩ : BufTy).Contents (Elt F) → (⟨S_, .i32⟩ : BufTy).Contents (Elt F)),
    nullary main_while0b_c_7 (constantI S_ 32 1#32),
    binary main_v2_2 main_while0b_c_7 main_while0b_v6 (subi : (⟨S_, .i32⟩ : BufTy).Contents (Elt F) → (⟨S_, .i32⟩ : BufTy).Contents (Elt F) → (⟨S_, .i32⟩ : BufTy).Contents (Elt F)),
    nullary main_while0b_c_8 (constantI S_ 32 0#32),
    binary main_while0b_v6 main_while0b_c_8 main_while0b_v7 (cmpi .slt : (⟨S_, .i32⟩ : BufTy).Contents (Elt F) → (⟨S_, .i32⟩ : BufTy).Contents (Elt F) → (⟨S_, .i1⟩ : BufTy).Contents (Elt F)),
    unary main_while0b_v6 main_while0b_v8 (id : (⟨S_, .i32⟩ : BufTy).Contents (Elt F) → (⟨S_, .i32⟩ : BufTy).Contents (Elt F)),
    nullary main_while0b_c_9 (constantI S_ 32 5000#32),
    binary main_while0b_v8 main_while0b_c_9 main_while0b_v9 (addi : (⟨S_, .i32⟩ : BufTy).Contents (Elt F) → (⟨S_, .i32⟩ : BufTy).Contents (Elt F) → (⟨S_, .i32⟩ : BufTy).Contents (Elt F)),
    ternary main_while0b_v7 main_while0b_v9 main_while0b_v6 main_while0b_v10 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v2_3 ![main_while0b_v10] ⟨S_, .i32⟩ main_while0b_v11 ((fun x i => Host.dynamicSlice S1 x (fun k => (i k (Shape.Idx.first h_S_)).toInt) sliceFits_S5000_S1) : (⟨S5000, .i32⟩ : BufTy).Contents (Elt F) → (Fin 1 → (⟨S_, .i32⟩ : BufTy).Contents (Elt F)) → (⟨S1, .i32⟩ : BufTy).Contents (Elt F)),
    reshape main_while0b_v11 main_while0b_v12 (rfl : (.i32 : EltTy) = .i32) shapeCasts_S1_S_,
    nullary main_while0b_c_10 (constantI S_ 32 0#32),
    binary main_while0b_v12 main_while0b_c_10 main_while0b_v13 (cmpi .slt : (⟨S_, .i32⟩ : BufTy).Contents (Elt F) → (⟨S_, .i32⟩ : BufTy).Contents (Elt F) → (⟨S_, .i1⟩ : BufTy).Contents (Elt F)),
    nullary main_while0b_c_11 (constantI S_ 32 10000#32),
    binary main_while0b_v12 main_while0b_c_11 main_while0b_v14 (addi : (⟨S_, .i32⟩ : BufTy).Contents (Elt F) → (⟨S_, .i32⟩ : BufTy).Contents (Elt F) → (⟨S_, .i32⟩ : BufTy).Contents (Elt F)),
    ternary main_while0b_v13 main_while0b_v14 main_while0b_v12 main_while0b_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_12 (constantI S_ 32 0#32),
    nullary main_while0b_c_13 (constantI S_ 32 0#32),
    binary main_while0b_c_12 main_while0b_c_13 main_while0b_v16 (cmpi .slt : (⟨S_, .i32⟩ : BufTy).Contents (Elt F) → (⟨S_, .i32⟩ : BufTy).Contents (Elt F) → (⟨S_, .i1⟩ : BufTy).Contents (Elt F)),
    nullary main_while0b_c_14 (constantI S_ 32 0#32),
    nullary main_while0b_c_15 (constantI S_ 32 3#32),
    binary main_while0b_c_14 main_while0b_c_15 main_while0b_v17 (addi : (⟨S_, .i32⟩ : BufTy).Contents (Elt F) → (⟨S_, .i32⟩ : BufTy).Contents (Elt F) → (⟨S_, .i32⟩ : BufTy).Contents (Elt F)),
    nullary main_while0b_c_16 (constantI S_ 32 0#32),
    ternary main_while0b_v16 main_while0b_v17 main_while0b_c_16 main_while0b_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v2_0 ![main_while0b_v15, main_while0b_v18] ⟨S_, .i32⟩ main_while0b_v19 ((fun x i => Host.dynamicSlice S1x3 x (fun k => (i k (Shape.Idx.first h_S_)).toInt) sliceFits_S10000x3_S1x3) : (⟨S10000x3, .f32⟩ : BufTy).Contents (Elt F) → (Fin 2 → (⟨S_, .i32⟩ : BufTy).Contents (Elt F)) → (⟨S1x3, .f32⟩ : BufTy).Contents (Elt F)),
    reshape main_while0b_v19 main_while0b_v20 (rfl : (.f32 : EltTy) = .f32) shapeCasts_S1x3_S3,
    unary main_while0b_v20 main_while0b_v21 (broadcastInDim S1x3 ![1] bcast_S3_S1x3_1 : (⟨S3, .f32⟩ : BufTy).Contents (Elt F) → (⟨S1x3, .f32⟩ : BufTy).Contents (Elt F)),
    unary main_while0b_v21 main_while0b_v22 (broadcastInDim S10000x3 ![0, 1] bcast_S1x3_S10000x3_0_1 : (⟨S1x3, .f32⟩ : BufTy).Contents (Elt F) → (⟨S10000x3, .f32⟩ : BufTy).Contents (Elt F)),
    binary main_v2_0 main_while0b_v22 main_while0b_v23 (subf : (⟨S10000x3, .f32⟩ : BufTy).Contents (Elt F) → (⟨S10000x3, .f32⟩ : BufTy).Contents (Elt F) → (⟨S10000x3, .f32⟩ : BufTy).Contents (Elt F)),
    binary main_while0b_v23 main_while0b_v23 main_while0b_v24 (mulf : (⟨S10000x3, .f32⟩ : BufTy).Contents (Elt F) → (⟨S10000x3, .f32⟩ : BufTy).Contents (Elt F) → (⟨S10000x3, .f32⟩ : BufTy).Contents (Elt F)),
    nullary main_while0b_cst_17 (constant S_ .f32 0x00000000#32),
    binary main_while0b_v24 main_while0b_cst_17 main_while0b_v25 ((fun x v => Host.reduceAdd x v reducesTo_S10000x3_S10000_d1 h_S_) : (⟨S10000x3, .f32⟩ : BufTy).Contents (Elt F) → (⟨S_, .f32⟩ : BufTy).Contents (Elt F) → (⟨S10000, .f32⟩ : BufTy).Contents (Elt F)),
    binary main_v2_4 main_while0b_v25 main_while0b_v26 (minimumf : (⟨S10000, .f32⟩ : BufTy).Contents (Elt F) → (⟨S10000, .f32⟩ : BufTy).Contents (Elt F) → (⟨S10000, .f32⟩ : BufTy).Contents (Elt F)) ]

theorem stepOps_sub : (stepOps : List (HloOp τ sig (Elt F))).Forall fun op => op.bufs ⊆ tcRefs τ sig :=
  ⟨nullary_bufs_sub .., binary_bufs_sub .., nullary_bufs_sub .., binary_bufs_sub .., nullary_bufs_sub .., binary_bufs_sub .., unary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., binary_bufs_sub .., nullary_bufs_sub .., binary_bufs_sub .., binary_bufs_sub ..⟩

/-- The farthest point. -/
abbrev argmaxOps : List (HloOp τ sig (Elt F)) :=
  [ TRef.nullary main_while0b_call0.v0 (iotaInDim S10000 32 0),
    TRef.nullary main_while0b_call0.cst (constant S_ .f32 0xFF800000#32),
    TRef.nullary main_while0b_call0.c (constantI S_ 32 0#32),
    TRef.quaternary (.of main_while0b_v26) main_while0b_call0.v0 main_while0b_call0.cst main_while0b_call0.c main_while0b_call0.v1_0 (fun x y u v j => (Host.argReduce reducer_argmax_f32_i32 x y u v reducesTo_S10000_S_d0 h_S_ j).1),
    TRef.quaternary (.of main_while0b_v26) main_while0b_call0.v0 main_while0b_call0.cst main_while0b_call0.c main_while0b_call0.v1_1 (fun x y u v j => (Host.argReduce reducer_argmax_f32_i32 x y u v reducesTo_S10000_S_d0 h_S_ j).2) ]

theorem argmaxOps_sub : (argmaxOps : List (HloOp τ sig (Elt F))).Forall fun op => op.bufs ⊆ tcRefs τ sig :=
  ⟨nullary_bufs_sub .., nullary_bufs_sub .., nullary_bufs_sub .., quaternary_bufs_sub .., quaternary_bufs_sub ..⟩

/-- The point's number into the list, and the carried values back. -/
abbrev carryOps : List (HloOp τ sig (Elt F)) :=
  [ nullary main_while0b_c_18 (constantI S_ 32 0#32),
    binary main_v2_2 main_while0b_c_18 main_while0b_v28 (cmpi .slt : (⟨S_, .i32⟩ : BufTy).Contents (Elt F) → (⟨S_, .i32⟩ : BufTy).Contents (Elt F) → (⟨S_, .i1⟩ : BufTy).Contents (Elt F)),
    nullary main_while0b_c_19 (constantI S_ 32 5000#32),
    binary main_v2_2 main_while0b_c_19 main_while0b_v29 (addi : (⟨S_, .i32⟩ : BufTy).Contents (Elt F) → (⟨S_, .i32⟩ : BufTy).Contents (Elt F) → (⟨S_, .i32⟩ : BufTy).Contents (Elt F)),
    ternary main_while0b_v28 main_while0b_v29 main_v2_2 main_while0b_v30 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v30 main_while0b_v31 (id : (⟨S_, .i32⟩ : BufTy).Contents (Elt F) → (⟨S_, .i32⟩ : BufTy).Contents (Elt F)),
    unary main_while0b_v31 main_while0b_v32 (broadcastInDim S1 ![] bcast_S_S1 : (⟨S_, .i32⟩ : BufTy).Contents (Elt F) → (⟨S1, .i32⟩ : BufTy).Contents (Elt F)),
    ternary main_v2_3 main_while0b_v32 main_while0b_v27 main_while0b_v33 ((fun x i u => Host.scatter scatter_S5000_S1_S__n_0_0_0 (fun _ b => b) x i u) : (⟨S5000, .i32⟩ : BufTy).Contents (Elt F) → (⟨S1, .i32⟩ : BufTy).Contents (Elt F) → (⟨S_, .i32⟩ : BufTy).Contents (Elt F) → (⟨S5000, .i32⟩ : BufTy).Contents (Elt F)),
    nullary main_while0b_c_20 (constantI S_ 32 1#32),
    binary main_v2_1 main_while0b_c_20 main_while0b_v34 (addi : (⟨S_, .i32⟩ : BufTy).Contents (Elt F) → (⟨S_, .i32⟩ : BufTy).Contents (Elt F) → (⟨S_, .i32⟩ : BufTy).Contents (Elt F)),
    unary main_while0b_v34 main_v2_1 id,
    unary main_while0b_v5 main_v2_2 id,
    unary main_while0b_v33 main_v2_3 id,
    unary main_while0b_v26 main_v2_4 id ]

theorem carryOps_sub : (carryOps : List (HloOp τ sig (Elt F))).Forall fun op => op.bufs ⊆ tcRefs τ sig :=
  ⟨nullary_bufs_sub .., binary_bufs_sub .., nullary_bufs_sub .., binary_bufs_sub .., ternary_bufs_sub .., unary_bufs_sub .., unary_bufs_sub .., ternary_bufs_sub .., nullary_bufs_sub .., binary_bufs_sub .., unary_bufs_sub .., unary_bufs_sub .., unary_bufs_sub .., unary_bufs_sub ..⟩

/-- The sampled positions. -/
abbrev takePosOps : List (HloOp τ sig (Elt F)) :=
  [ TRef.nullary main_call1.c (constantI S_ 32 0#32),
    TRef.unary main_call1.c main_call1.v0 (broadcastInDim S5000 ![] bcast_S_S5000),
    TRef.binary (.of main_v2_3) main_call1.v0 main_call1.v1 (cmpi .slt),
    TRef.nullary main_call1.c_0 (constantI S_ 32 10000#32),
    TRef.unary main_call1.c_0 main_call1.v2 (broadcastInDim S5000 ![] bcast_S_S5000),
    TRef.binary (.of main_v2_3) main_call1.v2 main_call1.v3 addi,
    TRef.ternary main_call1.v1 main_call1.v3 (.of main_v2_3) main_call1.call0.v0 select,
    TRef.unary main_call1.call0.v0 main_call1.v5 (broadcastInDim S5000x1 ![0] bcast_S5000_S5000x1_0),
    TRef.nullary main_call1.c_1 (constantI S1 32 9999#32),
    TRef.nullary main_call1.c_2 (constantI S_ 32 0#32),
    TRef.unary main_call1.c_2 main_call1.v6 (broadcastInDim S5000x1 ![] bcast_S_S5000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S5000x1 ![0, 1] bcast_S1x1_S5000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S5000x1_S5000_d1 h_S_),
    TRef.binary (.of main_arg0) main_call1.v5 main_call1.v13 (fun x i => Host.gather gather_S10000x3_S5000x1_S5000x3_1_0_n_n_0_1_13 x i),
    TRef.unary main_call1.v12 main_call1.v14 (broadcastInDim S5000x3 ![0] bcast_S5000_S5000x3_0),
    TRef.nullary main_call1.cst (constant S_ .f32 0x7FC00000#32),
    TRef.unary main_call1.cst main_call1.v15 (broadcastInDim S5000x3 ![] bcast_S_S5000x3),
    TRef.ternary main_call1.v14 main_call1.v13 main_call1.v15 main_call1.v16 select ]

theorem takePosOps_sub : (takePosOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The sampled batch numbers. -/
abbrev takeBatchOps : List (HloOp τ sig (Elt F)) :=
  [ TRef.nullary main_call2.c (constantI S_ 32 0#32),
    TRef.unary main_call2.c main_call2.v0 (broadcastInDim S5000 ![] bcast_S_S5000),
    TRef.binary (.of main_v2_3) main_call2.v0 main_call2.v1 (cmpi .slt),
    TRef.nullary main_call2.c_0 (constantI S_ 32 10000#32),
    TRef.unary main_call2.c_0 main_call2.v2 (broadcastInDim S5000 ![] bcast_S_S5000),
    TRef.binary (.of main_v2_3) main_call2.v2 main_call2.v3 addi,
    TRef.ternary main_call2.v1 main_call2.v3 (.of main_v2_3) main_call2.call0.v0 select,
    TRef.unary main_call2.call0.v0 main_call2.v5 (broadcastInDim S5000x1 ![0] bcast_S5000_S5000x1_0),
    TRef.nullary main_call2.c_1 (constantI S1 32 9999#32),
    TRef.nullary main_call2.c_2 (constantI S_ 32 0#32),
    TRef.unary main_call2.c_2 main_call2.v6 (broadcastInDim S5000x1 ![] bcast_S_S5000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S5000x1 ![0, 1] bcast_S1x1_S5000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S5000x1_S5000_d1 h_S_),
    TRef.binary (.of main_arg1) main_call2.v5 main_call2.v13 (fun x i => Host.gather gather_S10000_S5000x1_S5000_n_0_n_n_0_1_1 x i),
    TRef.nullary main_call2.c_4 (constantI S_ 32 2147483648#32),
    TRef.unary main_call2.c_4 main_call2.v14 (broadcastInDim S5000 ![] bcast_S_S5000),
    TRef.ternary main_call2.v12 main_call2.v13 main_call2.v14 main_call2.v15 select ]

theorem takeBatchOps_sub : (takeBatchOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

abbrev preI : List (List (HloOp τ sig (Elt F))) := [preOps]
abbrev bodyI : List (List (HloOp τ sig (Elt F))) := [stepOps, argmaxOps, carryOps]
abbrev postI : List (List (HloOp τ sig (Elt F))) := [takePosOps, takeBatchOps]

theorem hpre : Plain (preI (F := F)) := Plain.cons preOps_sub Plain.nil
theorem hbodyI : Plain (bodyI (F := F)) := Plain.cons stepOps_sub (Plain.cons argmaxOps_sub (Plain.cons carryOps_sub Plain.nil))
theorem hpost : Plain (postI (F := F)) := Plain.cons takePosOps_sub (Plain.cons takeBatchOps_sub Plain.nil)

theorem body_chain : main_while0_body (F := F) = Pipeline.chain (bodyI.map fun ops => (seq ops : Prog _ PUnit)) := by
  chain_rfl

theorem main_chain (c : Dev nD) : main (F := F) c
    = Pipeline.chain ((preI.map fun ops => (seq ops : Prog _ PUnit)) ++ HostLoop.enter 0 :: postI.map fun ops => (seq ops : Prog _ PUnit)) := by
  chain_rfl

/-- The sum of squares of every point's differences from a point: the host's reduction along the three coordinates. -/
def squares (pos : FVec F S10000x3 .f32) (w : FVec F S1x3 .f32) : FVec F S10000 .f32 :=
  let q := subf pos (broadcastInDim S10000x3 ![0, 1] bcast_S1x3_S10000x3_0_1
    (broadcastInDim S1x3 ![1] bcast_S3_S1x3_1 (shapeCast S3 w shapeCasts_S1x3_S3)))
  Host.reduceAdd (mulf q q) (constant S_ .f32 0x00000000#32) reducesTo_S10000x3_S10000_d1 h_S_

/-- A possibly negative number brought into range. -/
def fixNeg (n : BitVec 32) (i : IVec S_ 32) : IVec S_ 32 :=
  select (cmpi .slt i (constantI S_ 32 0#32)) (addi i (constantI S_ 32 n)) i

/-- The number of the point sampled last. -/
def lastOf (i : IVec S_ 32) (idx : IVec S5000 32) : IVec S_ 32 :=
  shapeCast S_ (Host.dynamicSlice S1 idx (fun k => ((![fixNeg 5000#32 (subi i (constantI S_ 32 1#32))] : Fin 1 → IVec S_ 32) k (Shape.Idx.first h_S_)).toInt) sliceFits_S5000_S1) shapeCasts_S1_S_

/-- That point's coordinates. -/
def rowOf (pos : FVec F S10000x3 .f32) (l : IVec S_ 32) : FVec F S1x3 .f32 :=
  Host.dynamicSlice S1x3 pos (fun k => ((![fixNeg 10000#32 l,
    select (cmpi .slt (constantI S_ 32 0#32) (constantI S_ 32 0#32)) (addi (constantI S_ 32 0#32) (constantI S_ 32 3#32)) (constantI S_ 32 0#32)] : Fin 2 → IVec S_ 32) k
      (Shape.Idx.first h_S_)).toInt) sliceFits_S10000x3_S1x3

/-- The distances after a trip. -/
def distOf (pos : FVec F S10000x3 .f32) (i : IVec S_ 32) (idx : IVec S5000 32) (d : FVec F S10000 .f32) : FVec F S10000 .f32 :=
  minimumf d (squares pos (rowOf pos (lastOf i idx)))

/-- The farthest point's number. -/
def farthest (d : FVec F S10000 .f32) : IVec S_ 32 :=
  fun j => (Host.argReduce reducer_argmax_f32_i32 d (iotaInDim S10000 32 0) (constant S_ .f32 0xFF800000#32) (constantI S_ 32 0#32) reducesTo_S10000_S_d0 h_S_ j).2

/-- The list of samples with an entry set. -/
def setAt (idx : IVec S5000 32) (i : IVec S_ 32) (w : IVec S_ 32) : IVec S5000 32 :=
  Host.scatter scatter_S5000_S1_S__n_0_0_0 (fun _ b => b) idx (broadcastInDim S1 ![] bcast_S_S1 (fixNeg 5000#32 i)) w

/-- The sampled rows of the points. -/
def takePos (pos : FVec F S10000x3 .f32) (idx : IVec S5000 32) : FVec F S5000x3 .f32 :=
  let j := broadcastInDim S5000x1 ![0] bcast_S5000_S5000x1_0 (select (cmpi .slt idx (broadcastInDim S5000 ![] bcast_S_S5000 (constantI S_ 32 0#32)))
    (addi idx (broadcastInDim S5000 ![] bcast_S_S5000 (constantI S_ 32 10000#32))) idx)
  select (broadcastInDim S5000x3 ![0] bcast_S5000_S5000x3_0 (Host.reduce IntOp.andi
      (andi (cmpi .sge j (broadcastInDim S5000x1 ![] bcast_S_S5000x1 (constantI S_ 32 0#32)))
        (cmpi .sle j (broadcastInDim S5000x1 ![0, 1] bcast_S1x1_S5000x1_0_1 (broadcastInDim S1x1 ![1] bcast_S1_S1x1_1 (constantI S1 32 9999#32)))))
      (constantI S_ 1 1#1) reducesTo_S5000x1_S5000_d1 h_S_))
    (Host.gather gather_S10000x3_S5000x1_S5000x3_1_0_n_n_0_1_13 pos j)
    (broadcastInDim S5000x3 ![] bcast_S_S5000x3 (constant S_ .f32 0x7FC00000#32))

/-- The sampled batch numbers. -/
def takeBatch (batch : IVec S10000 32) (idx : IVec S5000 32) : IVec S5000 32 :=
  let j := broadcastInDim S5000x1 ![0] bcast_S5000_S5000x1_0 (select (cmpi .slt idx (broadcastInDim S5000 ![] bcast_S_S5000 (constantI S_ 32 0#32)))
    (addi idx (broadcastInDim S5000 ![] bcast_S_S5000 (constantI S_ 32 10000#32))) idx)
  select (Host.reduce IntOp.andi
      (andi (cmpi .sge j (broadcastInDim S5000x1 ![] bcast_S_S5000x1 (constantI S_ 32 0#32)))
        (cmpi .sle j (broadcastInDim S5000x1 ![0, 1] bcast_S1x1_S5000x1_0_1 (broadcastInDim S1x1 ![1] bcast_S1_S1x1_1 (constantI S1 32 9999#32)))))
      (constantI S_ 1 1#1) reducesTo_S5000x1_S5000_d1 h_S_)
    (Host.gather gather_S10000_S5000x1_S5000_n_0_n_n_0_1_1 batch j)
    (broadcastInDim S5000 ![] bcast_S_S5000 (constantI S_ 32 2147483648#32))

/-- The sample list and the distances before trip `k`. -/
def state (pos : FVec F S10000x3 .f32) : ℕ → IVec S5000 32 × FVec F S10000 .f32
  | 0 => (broadcastInDim S5000 ![] bcast_S_S5000 (constantI S_ 32 0#32), broadcastInDim S10000 ![] bcast_S_S10000 (constant S_ .f32 0x7F800000#32))
  | k + 1 =>
    let d := distOf pos (fun _ => Scf.iv 1#32 1#32 k) (state pos k).1 (state pos k).2
    (setAt (state pos k).1 (fun _ => Scf.iv 1#32 1#32 k) (farthest d), d)

/-- One turn of the loop over a valuation. -/
abbrev turn (V : Valuation τ sig (Elt F)) : Valuation τ sig (Elt F) := afterL bodyI (after condOps V)

theorem turn_0 (V : Valuation τ sig (Elt F)) : turn V main_v2_0 = V main_v2_0 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

theorem turn_1 (V : Valuation τ sig (Elt F)) : turn V main_v2_1 = addi (V main_v2_1) (constantI S_ 32 1#32) := by
  simp only [turn, bodyI, afterL_cons, afterL_nil, stepOps, argmaxOps, carryOps, condOps, TRef.quaternary, TRef.nullary, TRef.ternary, TRef.unary, TRef.binary, TRef.toBuf, TRef.ofBuf, cast_eq]
  after_results_simp <;> rfl

theorem turn_2 (V : Valuation τ sig (Elt F)) : turn V main_v2_2 = addi (V main_v2_2) (constantI S_ 32 1#32) := by
  simp only [turn, bodyI, afterL_cons, afterL_nil, stepOps, argmaxOps, carryOps, condOps, TRef.quaternary, TRef.nullary, TRef.ternary, TRef.unary, TRef.binary, TRef.toBuf, TRef.ofBuf, cast_eq]
  after_results_simp <;> rfl

theorem turn_4 (V : Valuation τ sig (Elt F)) : turn V main_v2_4 = distOf (V main_v2_0) (V main_v2_2) (V main_v2_3) (V main_v2_4) := by
  simp only [turn, bodyI, afterL_cons, afterL_nil, stepOps, argmaxOps, carryOps, condOps, TRef.quaternary, TRef.nullary, TRef.ternary, TRef.unary, TRef.binary, TRef.toBuf, TRef.ofBuf, cast_eq]
  after_results_simp_entrywise <;> rfl

theorem turn_3 (V : Valuation τ sig (Elt F)) : turn V main_v2_3 = setAt (V main_v2_3) (V main_v2_2)
    (farthest (distOf (V main_v2_0) (V main_v2_2) (V main_v2_3) (V main_v2_4))) := by
  simp only [turn, bodyI, afterL_cons, afterL_nil, stepOps, argmaxOps, carryOps, condOps, TRef.quaternary, TRef.nullary, TRef.ternary, TRef.unary, TRef.binary, TRef.toBuf, TRef.ofBuf, cast_eq]
  after_results_simp_entrywise <;> rfl

theorem turn_arg0 (V : Valuation τ sig (Elt F)) : turn V main_arg0 = V main_arg0 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

theorem turn_arg1 (V : Valuation τ sig (Elt F)) : turn V main_arg1 = V main_arg1 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

/-- The loop's counter before trip `k`. -/
theorem counter (m : (ℓ : Loc nD τ sig) → Buf (Elt F) ℓ) (c : Dev nD) (k : Nat) :
    atTrip condOps bodyI (entryContents preI m) k c main_v2_1 = fun _ => Scf.iv 0#32 1#32 k := by
  induction k with
  | zero =>
    rw [atTrip_zero]
    simp only [entryContents, preI, afterL_cons, afterL_nil, preOps]
    after_results_simp
    funext _
    rfl
  | succ k ih =>
    rw [atTrip_succ]
    refine (turn_1 _).trans ?_
    rw [ih]
    funext _
    exact (Scf.iv_succ ..).symm

set_option backward.isDefEq.respectTransparency.types false in
theorem cond_spec (m : (ℓ : Loc nD τ sig) → Buf (Elt F) ℓ) :
    CondSpec (pcfgs (F := F)) defs₀ loops (main_while0_cond (F := F)) condOps bodyI (entryContents preI m) 4999 := by
  intro k hk c bd
  have hctr := counter (F := F) m c k
  generalize atTrip condOps bodyI (entryContents preI m) k c = W at hctr ⊢
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ W main_v2_1 HostLoop.idx0) (HloOp.result _ W main_while0c_c_6 HostLoop.idx0) = 1#1) (k < 4999)
    rw [nullary_result_ne _ _ _ _ (by decide), nullary_result, hctr]
    have ht : Scf.trips 0#32 4999#32 1#32 = 4999 := by decide +kernel
    have hx := Scf.cmpi_slt_iv_ub_iff (lb := 0#32) (ub := 4999#32) (st := 1#32) (k := k) (by decide +kernel) (by rw [ht]; exact hk)
    rw [ht] at hx
    generalize Scf.iv 0#32 1#32 k = w at hx ⊢
    simp only [constantI]
    exact hx
  isplitl [Hb]; · iexact Hb
  rw [after_cons, after_cons, after_nil]; iexact Hh

/-- What every carried buffer holds before trip `k`. -/
theorem carried (m : (ℓ : Loc nD τ sig) → Buf (Elt F) ℓ) (c : Dev nD) (k : ℕ) :
    atTrip condOps bodyI (entryContents preI m) k c main_arg0 = m ((c.tc : Thread nD τ).loc main_arg0)
    ∧ atTrip condOps bodyI (entryContents preI m) k c main_arg1 = m ((c.tc : Thread nD τ).loc main_arg1)
    ∧ atTrip condOps bodyI (entryContents preI m) k c main_v2_0 = m ((c.tc : Thread nD τ).loc main_arg0)
    ∧ (atTrip condOps bodyI (entryContents preI m) k c main_v2_2 = fun _ => Scf.iv 1#32 1#32 k)
    ∧ atTrip condOps bodyI (entryContents preI m) k c main_v2_3 = (state (m ((c.tc : Thread nD τ).loc main_arg0)) k).1
    ∧ atTrip condOps bodyI (entryContents preI m) k c main_v2_4 = (state (m ((c.tc : Thread nD τ).loc main_arg0)) k).2 := by
  induction k with
  | zero =>
    rw [atTrip_zero]
    refine ⟨?_, ?_, ?_, ?_, ?_, ?_⟩ <;> simp only [entryContents, preI, afterL_cons, afterL_nil, preOps] <;> after_results_simp <;> rfl
  | succ k ih =>
    obtain ⟨h0, h1, h2, h3, h4, h5⟩ := ih
    rw [atTrip_succ]
    refine ⟨(turn_arg0 _).trans h0, (turn_arg1 _).trans h1, (turn_0 _).trans h2, (turn_2 _).trans ?_, (turn_3 _).trans ?_, (turn_4 _).trans ?_⟩
    · rw [h3]; funext _; exact (Scf.iv_succ ..).symm
    · rw [h2, h3, h4, h5]; rfl
    · rw [h2, h3, h4, h5]; rfl

theorem post_3 (V : Valuation τ sig (Elt F)) : afterL postI V main_v3 = takePos (V main_arg0) (V main_v2_3) := by
  simp only [postI, afterL_cons, afterL_nil, takePosOps, takeBatchOps, TRef.quaternary, TRef.nullary, TRef.ternary, TRef.unary, TRef.binary, TRef.toBuf, TRef.ofBuf, cast_eq]
  after_results_simp <;> rfl

theorem post_4 (V : Valuation τ sig (Elt F)) : afterL postI V main_v4 = takeBatch (V main_arg1) (V main_v2_3) := by
  simp only [postI, afterL_cons, afterL_nil, takePosOps, takeBatchOps, TRef.quaternary, TRef.nullary, TRef.ternary, TRef.unary, TRef.binary, TRef.toBuf, TRef.ofBuf, cast_eq]
  after_results_simp <;> rfl

theorem post_arg0 (V : Valuation τ sig (Elt F)) : afterL postI V main_arg0 = V main_arg0 := by
  simp only [postI, afterL_cons, afterL_nil, takePosOps, takeBatchOps, TRef.quaternary, TRef.nullary, TRef.ternary, TRef.unary, TRef.binary, TRef.toBuf, TRef.ofBuf, cast_eq]
  after_results_simp

theorem post_arg1 (V : Valuation τ sig (Elt F)) : afterL postI V main_arg1 = V main_arg1 := by
  simp only [postI, afterL_cons, afterL_nil, takePosOps, takeBatchOps, TRef.quaternary, TRef.nullary, TRef.ternary, TRef.unary, TRef.binary, TRef.toBuf, TRef.ofBuf, cast_eq]
  after_results_simp

theorem cond_arg0 (V : Valuation τ sig (Elt F)) : after condOps V main_arg0 = V main_arg0 := by
  simp only [condOps]
  after_results_simp

theorem cond_arg1 (V : Valuation τ sig (Elt F)) : after condOps V main_arg1 = V main_arg1 := by
  simp only [condOps]
  after_results_simp

theorem cond_3 (V : Valuation τ sig (Elt F)) : after condOps V main_v2_3 = V main_v2_3 := by
  simp only [condOps]
  after_results_simp

/-- The reference's results and its arguments when it ends. -/
theorem run [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v3) = takePos (m ((c.tc : Thread nD τ).loc main_arg0)) (state (m ((c.tc : Thread nD τ).loc main_arg0)) 4999).1
      ∧ r.2.mem ((c.tc : Thread nD τ).loc main_v4) = takeBatch (m ((c.tc : Thread nD τ).loc main_arg1)) (state (m ((c.tc : Thread nD τ).loc main_arg0)) 4999).1
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_)
    (run_loop (F := F) pcfgs defs₀ loops main 0 main_while0_cond main_while0_body rfl preI bodyI postI condOps hpre hbodyI hpost main_chain body_chain 4999 m ρ (cond_spec m))
  obtain ⟨h0, h1, -, -, h4, -⟩ := carried m c 4999
  refine ⟨(h c main_v3 rfl).trans ?_, (h c main_v4 rfl).trans ?_, (h c main_arg0 rfl).trans ?_, (h c main_arg1 rfl).trans ?_⟩
  · refine (post_3 _).trans ?_
    rw [cond_arg0, cond_3, h0, h4]
  · refine (post_4 _).trans ?_
    rw [cond_arg1, cond_3, h1, h4]
  · exact (post_arg0 _).trans ((cond_arg0 _).trans h0)
  · exact (post_arg1 _).trans ((cond_arg1 _).trans h1)

end Cert.Reference1Ideal.Fps
-- ==== Proof.FpsRefVal.lean ====
/- The sampling reference on extended reals: before every trip the list holds the samples so far and the distances are those
   to them. -/
module

public import proofs.«01_k».proof.Proof.FpsRefRun
public import proofs.«01_k».proof.Proof.FpsMath
public import Idealize.ShloMosaic.Lib.Routing.OpsOne
public import Idealize.ShloMosaic.Lib.DynamicIndex

@[expose] public section

set_option maxRecDepth 65536

noncomputable section

namespace Cert.Reference1Ideal.Fps

open Cert.Reference1Ideal Cert.Reference1Ideal.Gen Idealize.ShloMosaic Idealize.ShloMosaic.TcCoe Cert.FpsMath Idealize.ShloMosaic.Routing

theorem zero_bits : Ideal.ofBits .f32 0x00000000#32 = 0 := by simp [Ideal.ofBits, Ideal.ieee]
theorem top_bits : Ideal.ofBits .f32 0x7F800000#32 = ⊤ := by simp [Ideal.ofBits, Ideal.ieee]
theorem bot_bits : Ideal.ofBits .f32 0xFF800000#32 = ⊥ := by simp [Ideal.ofBits, Ideal.ieee]
theorem ofBool_one (p : Bool) : (BitVec.ofBool p = 1#1) ↔ p = true := by cases p <;> decide
theorem or_one (p q : BitVec 1) : (p ||| q = 1#1) ↔ (p = 1#1 ∨ q = 1#1) := by revert p q; decide
theorem and_one (p q : BitVec 1) : (p &&& q = 1#1) ↔ (p = 1#1 ∧ q = 1#1) := by revert p q; decide

theorem toInt_small (n : ℕ) (h : n < 2 ^ 31) : (BitVec.ofNat 32 n).toInt = n := by
  simp only [BitVec.toInt, BitVec.toNat_ofNat]
  omega

theorem iv_eq (k : ℕ) : Scf.iv 1#32 1#32 k = BitVec.ofNat 32 (k + 1) := by
  induction k with
  | zero => rfl
  | succ k ih =>
    rw [Scf.iv_succ, ih]
    apply BitVec.eq_of_toNat_eq
    simp only [BitVec.toNat_ofNat, BitVec.toNat_add]
    omega

/-- A number in range is left as it is. -/
theorem fixNeg_toInt (n : BitVec 32) (i : IVec S_ 32) (j : S_.Idx) (l : ℕ) (hl : l < 2 ^ 31) (h : i j = BitVec.ofNat 32 l) : (fixNeg n i j).toInt = l := by
  unfold fixNeg
  rw [select_slt_zero_of_nonneg _ _ _ j (by rw [h, toInt_small l hl]; omega), h, toInt_small l hl]

theorem lastOf_apply (k : Fin 5000) (idx : IVec S5000 32) (j : S_.Idx) : lastOf (fun _ => Scf.iv 1#32 1#32 k.val) idx j = idx (ix1 k) := by
  have hs : (fixNeg 5000#32 (subi (fun _ => Scf.iv 1#32 1#32 k.val) (constantI S_ 32 1#32)) (Shape.Idx.first h_S_)).toInt = (k.val : Int) :=
    fixNeg_toInt _ _ _ k.val (by have := k.isLt; omega) (by
      show Scf.iv 1#32 1#32 k.val - 1#32 = _
      rw [iv_eq]
      apply BitVec.eq_of_toNat_eq
      have := k.isLt
      simp only [BitVec.toNat_ofNat, BitVec.toNat_sub]
      omega)
  have hoff : S5000.Slices ![k.val] S1 := ⟨rfl, fun a => by
    have := k.isLt
    match a with
    | ⟨0, _⟩ => show k.val + 1 ≤ 5000; omega⟩
  unfold lastOf
  rw [Host.dynamicSlice_eq_extractStridedSlice S1 idx _ ![k.val] _ hoff (fun a => by
    match a with
    | ⟨0, _⟩ => exact hs)]
  pointwise

theorem rowOf_apply (pos : FVec Ideal S10000x3 .f32) (l : IVec S_ 32) (N : Fin 10000) (h : l (Shape.Idx.first h_S_) = BitVec.ofNat 32 N.val) (d : Fin 3) :
    rowOf pos l (ix2 0 d) = pos (ix2 N d) := by
  have hs := fixNeg_toInt 10000#32 l (Shape.Idx.first h_S_) N.val (by have := N.isLt; omega) h
  have hoff : S10000x3.Slices ![N.val, 0] S1x3 := ⟨rfl, fun a => by
    have := N.isLt
    match a with
    | ⟨0, _⟩ => show N.val + 1 ≤ 10000; omega
    | ⟨1, _⟩ => show 0 + 3 ≤ 3; omega⟩
  unfold rowOf
  rw [Host.dynamicSlice_eq_extractStridedSlice S1x3 pos _ ![N.val, 0] _ hoff (fun a => by
    match a with
    | ⟨0, _⟩ => exact hs
    | ⟨1, _⟩ => rfl)]
  pointwise

theorem squares_apply (pos : FVec Ideal S10000x3 .f32) (w : FVec Ideal S1x3 .f32) (j : Fin 10000) :
    squares pos w (ix1 j) = (pos (ix2 j 0) - w (ix2 0 0)) * (pos (ix2 j 0) - w (ix2 0 0)) + (pos (ix2 j 1) - w (ix2 0 1)) * (pos (ix2 j 1) - w (ix2 0 1))
      + (pos (ix2 j 2) - w (ix2 0 2)) * (pos (ix2 j 2) - w (ix2 0 2)) := by
  pointwise [squares]
  exact Fin.sum_univ_three _

theorem setAt_apply (idx : IVec S5000 32) (k : ℕ) (hk : k < 4999) (w : IVec S_ 32) (e : Fin 5000) :
    setAt idx (fun _ => Scf.iv 1#32 1#32 k) w (ix1 e) = if e.val = k + 1 then w ix0 else idx (ix1 e) := by
  unfold setAt
  refine (scatter_one_signed scatter_S5000_S1_S__n_0_0_0 rfl rfl idx _ w ⟨k + 1, by omega⟩ ?_ e).trans ?_
  · pointwise
    exact fixNeg_toInt _ _ _ (k + 1) (by omega) (iv_eq k)
  · simp only [Fin.ext_iff]
    rfl

theorem reducer_best (a b : EReal × BitVec 32) :
    (reducer_argmax_f32_i32 (F := Ideal) a b = a ∧ Beats a.1 a.2 b.1 b.2) ∨ (reducer_argmax_f32_i32 (F := Ideal) a b = b ∧ Beats b.1 b.2 a.1 a.2) := by
  obtain ⟨v, n⟩ := a
  obtain ⟨w, k⟩ := b
  have e : reducer_argmax_f32_i32 (F := Ideal) (v, n) (w, k)
      = (Scalar.select (BitVec.ofBool (decide (w < v)) ||| BitVec.ofBool (decide (v ≠ v))) v w,
        Scalar.select ((BitVec.ofBool (decide (w < v)) ||| BitVec.ofBool (decide (v ≠ v))) ||| (BitVec.ofBool (decide (v = w)) &&& BitVec.ofBool (n.slt k))) n k) := rfl
  have p1 : (BitVec.ofBool (decide (w < v)) ||| BitVec.ofBool (decide (v ≠ v))) = 1#1 ↔ w < v := by
    rw [or_one, ofBool_one, ofBool_one, decide_eq_true_eq, decide_eq_true_eq]
    simp
  have p2 : ((BitVec.ofBool (decide (w < v)) ||| BitVec.ofBool (decide (v ≠ v))) ||| (BitVec.ofBool (decide (v = w)) &&& BitVec.ofBool (n.slt k))) = 1#1
      ↔ (w < v ∨ (v = w ∧ n.toInt < k.toInt)) := by
    rw [or_one, p1, and_one, ofBool_one, ofBool_one, decide_eq_true_eq]
    simp only [BitVec.slt, decide_eq_true_eq]
  have sel : ∀ {α : Type} (c : BitVec 1) (x y : α), Scalar.select c x y = if c = 1#1 then x else y := fun c x y => rfl
  rw [e, sel, sel]
  simp only [p1, p2]
  rcases lt_trichotomy v w with h | rfl | h
  · right
    rw [if_neg (not_lt.2 h.le), if_neg (by rintro (h' | ⟨h', -⟩); exacts [absurd h' (not_lt.2 h.le), h.ne h'])]
    exact ⟨rfl, Or.inl h⟩
  · by_cases h : n.toInt < k.toInt
    · left
      rw [if_neg (lt_irrefl _), if_pos (Or.inr ⟨rfl, h⟩)]
      exact ⟨rfl, Or.inr ⟨rfl, h.le⟩⟩
    · right
      rw [if_neg (lt_irrefl _), if_neg (by rintro (h' | ⟨-, h'⟩); exacts [lt_irrefl _ h', h h'])]
      exact ⟨rfl, Or.inr ⟨rfl, not_lt.1 h⟩⟩
  · left
    rw [if_pos h, if_pos (Or.inl h)]
    exact ⟨rfl, Or.inl h⟩

theorem farthest_apply (d : FVec Ideal S10000 .f32) (j : S_.Idx) : farthest d j = BitVec.ofNat 32 (first fun n => d (ix1 n)).val := by
  unfold farthest
  rw [Ideal.argReduce_eq_reduce2, Host.reduce2_eq_foldl_fiber]
  have hb := foldl_best (reducer_argmax_f32_i32 (F := Ideal)) reducer_best (Host.argReduceFiber d (iotaInDim S10000 32 0) reducesTo_S10000_S_d0 j)
    (constant (F := Ideal) S_ .f32 0xFF800000#32 (Shape.Idx.first h_S_), constantI S_ 32 0#32 (Shape.Idx.first h_S_))
  generalize List.foldl _ _ _ = p at hb ⊢
  obtain ⟨h1, -, h3⟩ := hb
  have hin : ∀ n : Fin 10000, (d (ix1 n), BitVec.ofNat 32 n.val) ∈ Host.argReduceFiber d (iotaInDim S10000 32 0) reducesTo_S10000_S_d0 j := fun n => by
    unfold Host.argReduceFiber
    refine List.mem_map.2 ⟨S10000.rowMajor (ix1 n), List.mem_filter.2 ⟨List.mem_finRange _, ?_⟩, ?_⟩
    · exact decide_eq_true (Subsingleton.elim _ _)
    · rw [Equiv.symm_apply_apply]; rfl
  have hout : ∀ q ∈ Host.argReduceFiber d (iotaInDim S10000 32 0) reducesTo_S10000_S_d0 j, ∃ n : Fin 10000, q = (d (ix1 n), BitVec.ofNat 32 n.val) := fun q hq => by
    unfold Host.argReduceFiber at hq
    obtain ⟨m, -, rfl⟩ := List.mem_map.1 hq
    refine ⟨S10000.rowMajor.symm m 0, ?_⟩
    have : S10000.rowMajor.symm m = ix1 (S10000.rowMajor.symm m 0) := by
      funext a
      match a with
      | ⟨0, _⟩ => rfl
    conv_lhs => rw [this]
    rfl
  have key : ∃ n : Fin 10000, p = (d (ix1 n), BitVec.ofNat 32 n.val) := by
    rcases h1 with h1 | h1
    · refine ⟨0, ?_⟩
      have h0 := h3 _ (hin 0)
      have hp1 : p.1 = ⊥ := by rw [h1]; exact bot_bits
      have hp2 : p.2 = 0#32 := by rw [h1]; rfl
      rw [hp1] at h0
      refine Prod.ext ?_ hp2
      rw [hp1]
      rcases h0 with h0 | ⟨h0, -⟩
      · exact absurd h0 not_lt_bot
      · exact h0.symm
    · exact hout p h1
  obtain ⟨n, rfl⟩ := key
  have hf : IsFirst (fun n => d (ix1 n)) n := fun i => by
    refine (h3 _ (hin i)).imp_right fun h => ⟨h.1, ?_⟩
    have h2 := h.2
    dsimp only at h2
    rw [toInt_small _ (by have := n.isLt; omega), toInt_small _ (by have := i.isLt; omega)] at h2
    rw [Fin.le_def]
    omega
  rw [first_eq hf]

/-- The points as functions. -/
def points (pos : FVec Ideal S10000x3 .f32) : Fin 10000 → Fin 3 → EReal := fun j d => pos (ix2 j d)

/-- Before trip `k` the list's first `k + 1` entries are the samples, and the distances are those of the sequence. -/
theorem state_far (pos : FVec Ideal S10000x3 .f32) (k : ℕ) (hk : k ≤ 4999) :
    (∀ i : Fin 5000, i.val ≤ k → (state pos k).1 (ix1 i) = BitVec.ofNat 32 (far (points pos) i.val).1.val)
    ∧ ∀ j : Fin 10000, (state pos k).2 (ix1 j) = (far (points pos) k).2 j := by
  induction k with
  | zero =>
    refine ⟨fun i hi => ?_, fun j => ?_⟩
    · have : i = 0 := Fin.ext (by simpa using hi)
      subst this
      show (broadcastInDim S5000 ![] bcast_S_S5000 (constantI S_ 32 0#32)) (ix1 0) = _
      pointwise
      rfl
    · show (broadcastInDim S10000 ![] bcast_S_S10000 (constant (F := Ideal) S_ .f32 0x7F800000#32)) (ix1 j) = _
      pointwise [top_bits]
      rfl
  | succ k ih =>
    obtain ⟨h1, h2⟩ := ih (by omega)
    have hd : ∀ j : Fin 10000, (state pos (k + 1)).2 (ix1 j) = (far (points pos) (k + 1)).2 j := fun j => by
      show min ((state pos k).2 (ix1 j)) (squares pos (rowOf pos (lastOf (fun _ => Scf.iv 1#32 1#32 k) (state pos k).1)) (ix1 j)) = _
      have hl := (lastOf_apply ⟨k, by omega⟩ (state pos k).1 (Shape.Idx.first h_S_)).trans (h1 ⟨k, by omega⟩ le_rfl)
      rw [h2, squares_apply, rowOf_apply pos _ _ hl, rowOf_apply pos _ _ hl, rowOf_apply pos _ _ hl]
      rfl
    refine ⟨fun i hi => ?_, hd⟩
    show setAt (state pos k).1 (fun _ => Scf.iv 1#32 1#32 k) (farthest (state pos (k + 1)).2) (ix1 i) = _
    rw [setAt_apply _ _ (by omega), farthest_apply]
    by_cases h : i.val = k + 1
    · rw [if_pos h, h]
      simp only [hd]
      rfl
    · rw [if_neg h]
      exact h1 i (by omega)

/-- The finished list is the samples. -/
theorem samples_apply (pos : FVec Ideal S10000x3 .f32) (i : Fin 5000) :
    (state pos 4999).1 (ix1 i) = BitVec.ofNat 32 (far (points pos) i.val).1.val :=
  (state_far pos 4999 le_rfl).1 i (by have := i.isLt; omega)

end Cert.Reference1Ideal.Fps
-- ==== Proof.FpsClaims.lean ====
/- The claims about the sampling call: frames, and the value claim against the reference. -/
module

public import proofs.«01_k».proof.Defs
public import proofs.«01_k».proof.Proof.FpsFinal
public import proofs.«01_k».proof.Proof.FpsRefVal
public import proofs.«01_k».proof.Proof.Gen.Kernel1.Frame
public import Idealize.ShloMosaic.Adequacy
public import Idealize.ShloMosaic.Init

@[expose] public section

set_option maxRecDepth 16384

noncomputable section

namespace Cert.Kernel1Ideal.Fps

open Cert.Kernel1Ideal Cert.Kernel1Ideal.Gen Idealize.ShloMosaic Idealize.ShloMosaic.TcCoe Idealize.ShloMosaic.StableHlo Idealize.SL.Sem Cert.FpsMath

variable (m : (ℓ : Loc nD τ sig) → Buf (Elt Ideal) ℓ) (c : Dev nD)

/-- The kernel's samples are the reference's. -/
theorem samples_eq (pos : FVec Ideal S10000x3 .f32) : samples (points pos) = (Cert.Reference1Ideal.Fps.state (F := Ideal) pos 4999).1 := by
  funext y
  have hy : y = ix1 (⟨(y 0).val, (y 0).isLt⟩ : Fin 5000) := by
    funext a; match a with | ⟨0, _⟩ => rfl
  refine Eq.trans ?_ (congrArg (Cert.Reference1Ideal.Fps.state (F := Ideal) pos 4999).1 hy.symm)
  exact (Cert.Reference1Ideal.Fps.samples_apply pos ⟨(y 0).val, (y 0).isLt⟩).symm

section Tail
variable (W : Valuation τ sig (Elt Ideal))

theorem tail_pos : after [hostOps1, hostOps1_1].flatten W (Proc.devRef .tc main_v11)
    = Cert.Reference1Ideal.Fps.takePos (F := Ideal) (W (Proc.devRef .tc main_arg0)) (W (Proc.devRef .tc main_v10)) := by
  simp only [hostOps1, hostOps1_1, List.flatten_cons, List.flatten_nil, List.append_nil, List.cons_append, List.nil_append, TRef.quaternary, TRef.nullary, TRef.ternary, TRef.unary, TRef.binary, TRef.toBuf, TRef.ofBuf, cast_eq]
  after_results_simp_entrywise <;> rfl

theorem tail_batch : after [hostOps1, hostOps1_1].flatten W (Proc.devRef .tc main_v12)
    = Cert.Reference1Ideal.Fps.takeBatch (W (Proc.devRef .tc main_arg1)) (W (Proc.devRef .tc main_v10)) := by
  simp only [hostOps1, hostOps1_1, List.flatten_cons, List.flatten_nil, List.append_nil, List.cons_append, List.nil_append, TRef.quaternary, TRef.nullary, TRef.ternary, TRef.unary, TRef.binary, TRef.toBuf, TRef.ofBuf, cast_eq]
  after_results_simp_entrywise <;> rfl
end Tail

/-- The memory before the lines after the kernel: its output array. -/
abbrev W0 : Valuation τ sig (Elt Ideal) := Pipeline.withArrays spec0 c (V0 m c) fun w => (dats m 0 c).arrAt w (cfgs 0).N

theorem W0_v10 : W0 m c (Proc.devRef .tc main_v10) = samples (points (A0 m c)) :=
  (Pipeline.withArrays_arr spec0 winFacts0.arr_inj c (V0 m c) (fun w => (dats m 0 c).arrAt w (cfgs 0).N) 3).trans (final m c)

theorem W0_arg0 : W0 m c (Proc.devRef .tc main_arg0) = A0 m c :=
  (Pipeline.withArrays_of_ne _ c (V0 m c) _ main_arg0 (by exact (by decide : ∀ w, Pipeline.arrRef spec0 w ≠ main_arg0))).trans (V_main_arg0 m c)

theorem W0_arg1 : W0 m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

/-- The run: the sampled positions and batch numbers. -/
theorem run (ρ : Dev nD → PrngReg) : θ_run defs (onTc (τ := τ) (main (F := Ideal))) ⟨m, fun _ => 0, ρ⟩ (fun r => ∀ c : Dev nD,
      r.2.mem ((c : Thread nD τ).loc main_v11) = Cert.Reference1Ideal.Fps.takePos (F := Ideal) (A0 m c) (Cert.Reference1Ideal.Fps.state (F := Ideal) (A0 m c) 4999).1
      ∧ r.2.mem ((c : Thread nD τ).loc main_v12) = Cert.Reference1Ideal.Fps.takeBatch (m ((c : Thread nD τ).loc main_arg1)) (Cert.Reference1Ideal.Fps.state (F := Ideal) (A0 m c) 4999).1
      ∧ r.2.mem ((c : Thread nD τ).loc main_arg0) = m ((c : Thread nD τ).loc main_arg0)
      ∧ r.2.mem ((c : Thread nD τ).loc main_arg1) = m ((c : Thread nD τ).loc main_arg1)) := by
  refine (θ_run defs _ _).mono (fun r h c => ⟨?_, ?_, ?_, ?_⟩) (run_main m ρ)
  · refine ((h c).2 main_v11 (Pipeline.mem_restRefs_of main_v11 (by decide) (by decide))).trans ?_
    refine (tail_pos (W0 m c)).trans ?_
    rw [W0_v10, W0_arg0, samples_eq]
  · refine ((h c).2 main_v12 (Pipeline.mem_restRefs_of main_v12 (by decide) (by decide))).trans ?_
    refine (tail_batch (W0 m c)).trans ?_
    rw [W0_v10, W0_arg1, samples_eq]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.Kernel1Ideal.Fps

namespace Cert.FpsClaims

open Idealize.ShloMosaic Idealize.ShloMosaic.TcCoe Idealize.SL.Sem

theorem frame_kernel : Cert.quiescent_Kernel1 := fun m g _ => Cert.Kernel1.Gen.frame m g

theorem frame_ideal : Cert.quiescent_Kernel1Ideal := fun m g _ => Cert.Kernel1Ideal.Gen.frame m g

theorem frame_reference : Cert.quiescent_Reference1Ideal := fun m g _ =>
  (θ_run Cert.Reference1Ideal.defs _ _).mono (fun r h => ⟨fun c => (h c).2.2, Idealize.ShloMosaic.sem_eq_zero_of_no_sems (by decide) r.2⟩)
    (Cert.Reference1Ideal.Fps.run m g)

/-- The kernel's sampled positions and batch numbers are the reference's. -/
theorem algebraic : Cert.algebraic_Kernel1Ideal_Reference1Ideal := by
  intro m g m' g' _ hagree
  refine ⟨_, _, Cert.Kernel1Ideal.Fps.run m g, ?_⟩
  refine (θ_run Cert.Reference1Ideal.defs _ _).mono (fun r h c => ?_) (Cert.Reference1Ideal.Fps.run m' g')
  obtain ⟨h0, h1⟩ := hagree c
  obtain ⟨r0, r1, r2⟩ := h c
  refine ⟨r0.trans ?_, r1.trans ?_, r2⟩
  · rw [h0]
  · rw [h0, h1]

end Cert.FpsClaims

end
-- ==== Proof.SelRounds.lean ====
/- The selection kernel's stores as rounds: each round takes the least entry of every row, its first column, and sets that
   column to infinity. -/
module

public import proofs.«01_k».proof.Proof.Gen.Kernel2Ideal.Frame
public import Idealize.ShloMosaic.PureOps.Ideal.Laws

@[expose] public section

set_option maxRecDepth 16384

noncomputable section

namespace Cert.Kernel2Ideal.Sel

open Cert.Kernel2Ideal Cert.Kernel2Ideal.Gen Idealize.ShloMosaic Idealize.ShloMosaic.TcCoe

/-- The columns' numbers. -/
def colno : IVec S32x10240 32 := iota .tc S32x10240 32 [1] iota_S32x10240_d1_w32

/-- Every row's least entry. -/
def least (d : FVec Ideal S32x10240 .f32) : FVec Ideal S32x1 .f32 :=
  shapeCast S32x1 (multiReduction .minimumf [1] S32 d 0x7F800000#32 reduces_S32x10240_S32 (.inl rfl) rfl) shapeCasts_S32_S32x1

/-- The entries equal to their row's least. -/
def ties (d : FVec Ideal S32x10240 .f32) : IVec S32x10240 1 := cmpf .oeq d (broadcastTo S32x10240 (least d) broadcasts_S32x1_S32x10240)

/-- Every row's first column with the least entry. -/
def firstCol (d : FVec Ideal S32x10240 .f32) : IVec S32x1 32 :=
  shapeCast S32x1 (multiReductionI .minsi [1] S32 (select (ties d) colno (broadcast S32x10240 1073741824#32)) 2147483647#32 reduces_S32x10240_S32 rfl) shapeCasts_S32_S32x1

/-- The first columns along their rows. -/
def firstCols (d : FVec Ideal S32x10240 .f32) : IVec S32x10240 32 := broadcastTo S32x10240 (firstCol d) broadcasts_S32x1_S32x10240

/-- Whether the least entry is below infinity. -/
def found (d : FVec Ideal S32x10240 .f32) : IVec S32x1 1 := cmpf .olt (least d) (broadcast S32x1 (Scalar.ofBits .f32 0x7F800000#32))

/-- The column stored: zero if none is left. -/
def colOf (d : FVec Ideal S32x10240 .f32) : IVec S32x1 32 := select (found d) (firstCol d) (broadcast S32x1 0#32)

/-- The mask stored. -/
def maskOf (d : FVec Ideal S32x10240 .f32) : FVec Ideal S32x1 .f32 :=
  select (found d) (broadcast S32x1 (Scalar.ofBits .f32 0x3F800000#32)) (broadcast S32x1 (Scalar.ofBits .f32 0x00000000#32))

/-- The entries left after a round. -/
def strike (d : FVec Ideal S32x10240 .f32) : FVec Ideal S32x10240 .f32 :=
  select (cmpi .eq colno (firstCols d)) (broadcast S32x10240 (Scalar.ofBits .f32 0x7F800000#32)) d

variable (x0 : Vec Ideal S32x3 .f32) (x1 : Vec Ideal S8x10240 .f32)

/-- The entries before round `k`. -/
def left : ℕ → FVec Ideal S32x10240 .f32
  | 0 => k0_pay4 (View.ld x0 r0_0) (View.ld x1 r0_1)
  | k + 1 => strike (left k)

theorem e202 : k0_pay202 (F := Ideal) x0 x1 = colno := rfl
theorem e203 : k0_pay203 (F := Ideal) x0 x1 = left x0 x1 0 := rfl
theorem e204 : k0_pay204 (F := Ideal) x0 x1 = firstCol (left x0 x1 0) := rfl
theorem e205 : k0_pay205 (F := Ideal) x0 x1 = found (left x0 x1 0) := rfl
theorem e206 : k0_pay206 (F := Ideal) x0 x1 = left x0 x1 2 := by
  unfold k0_pay206; simp only [e202, e203, e204]; rfl
theorem e207 : k0_pay207 (F := Ideal) x0 x1 = least (left x0 x1 2) := by
  unfold k0_pay207; simp only [e202, e203, e204]; rfl
theorem e208 : k0_pay208 (F := Ideal) x0 x1 = ties (left x0 x1 2) := by
  unfold k0_pay208; simp only [e202, e203, e204]; rfl
theorem e209 : k0_pay209 (F := Ideal) x0 x1 = left x0 x1 3 := by
  unfold k0_pay209; simp only [e202, e206, e208]; rfl
theorem e210 : k0_pay210 (F := Ideal) x0 x1 = firstCols (left x0 x1 3) := by
  unfold k0_pay210; simp only [e202, e206, e208]; rfl
theorem e211 : k0_pay211 (F := Ideal) x0 x1 = left x0 x1 5 := by
  unfold k0_pay211; simp only [e202, e209, e210]; rfl
theorem e212 : k0_pay212 (F := Ideal) x0 x1 = firstCol (left x0 x1 5) := by
  unfold k0_pay212; simp only [e202, e209, e210]; rfl
theorem e213 : k0_pay213 (F := Ideal) x0 x1 = left x0 x1 7 := by
  unfold k0_pay213; simp only [e202, e211, e212]; rfl
theorem e214 : k0_pay214 (F := Ideal) x0 x1 = least (left x0 x1 7) := by
  unfold k0_pay214; simp only [e202, e211, e212]; rfl
theorem e215 : k0_pay215 (F := Ideal) x0 x1 = firstCol (left x0 x1 7) := by
  unfold k0_pay215; simp only [e202, e211, e212]; rfl
theorem e216 : k0_pay216 (F := Ideal) x0 x1 = left x0 x1 9 := by
  unfold k0_pay216; simp only [e202, e213, e215]; rfl
theorem e217 : k0_pay217 (F := Ideal) x0 x1 = left x0 x1 10 := by
  unfold k0_pay217; simp only [e202, e216]; rfl
theorem e218 : k0_pay218 (F := Ideal) x0 x1 = firstCol (left x0 x1 10) := by
  unfold k0_pay218; simp only [e202, e216]; rfl
theorem e219 : k0_pay219 (F := Ideal) x0 x1 = left x0 x1 12 := by
  unfold k0_pay219; simp only [e202, e217, e218]; rfl
theorem e220 : k0_pay220 (F := Ideal) x0 x1 = firstCol (left x0 x1 12) := by
  unfold k0_pay220; simp only [e202, e217, e218]; rfl
theorem e221 : k0_pay221 (F := Ideal) x0 x1 = found (left x0 x1 12) := by
  unfold k0_pay221; simp only [e202, e217, e218]; rfl
theorem e222 : k0_pay222 (F := Ideal) x0 x1 = left x0 x1 14 := by
  unfold k0_pay222; simp only [e202, e219, e220]; rfl
theorem e223 : k0_pay223 (F := Ideal) x0 x1 = least (left x0 x1 14) := by
  unfold k0_pay223; simp only [e202, e219, e220]; rfl
theorem e224 : k0_pay224 (F := Ideal) x0 x1 = ties (left x0 x1 14) := by
  unfold k0_pay224; simp only [e202, e219, e220]; rfl
theorem e225 : k0_pay225 (F := Ideal) x0 x1 = left x0 x1 15 := by
  unfold k0_pay225; simp only [e202, e222, e224]; rfl
theorem e226 : k0_pay226 (F := Ideal) x0 x1 = firstCols (left x0 x1 15) := by
  unfold k0_pay226; simp only [e202, e222, e224]; rfl
theorem e227 : k0_pay227 (F := Ideal) x0 x1 = left x0 x1 17 := by
  unfold k0_pay227; simp only [e202, e225, e226]; rfl
theorem e228 : k0_pay228 (F := Ideal) x0 x1 = firstCol (left x0 x1 17) := by
  unfold k0_pay228; simp only [e202, e225, e226]; rfl
theorem e229 : k0_pay229 (F := Ideal) x0 x1 = left x0 x1 19 := by
  unfold k0_pay229; simp only [e202, e227, e228]; rfl
theorem e230 : k0_pay230 (F := Ideal) x0 x1 = least (left x0 x1 19) := by
  unfold k0_pay230; simp only [e202, e227, e228]; rfl
theorem e231 : k0_pay231 (F := Ideal) x0 x1 = firstCol (left x0 x1 19) := by
  unfold k0_pay231; simp only [e202, e227, e228]; rfl
theorem e232 : k0_pay232 (F := Ideal) x0 x1 = left x0 x1 21 := by
  unfold k0_pay232; simp only [e202, e229, e231]; rfl
theorem e233 : k0_pay233 (F := Ideal) x0 x1 = left x0 x1 22 := by
  unfold k0_pay233; simp only [e202, e232]; rfl
theorem e234 : k0_pay234 (F := Ideal) x0 x1 = firstCol (left x0 x1 22) := by
  unfold k0_pay234; simp only [e202, e232]; rfl
theorem e235 : k0_pay235 (F := Ideal) x0 x1 = left x0 x1 24 := by
  unfold k0_pay235; simp only [e202, e233, e234]; rfl
theorem e236 : k0_pay236 (F := Ideal) x0 x1 = firstCol (left x0 x1 24) := by
  unfold k0_pay236; simp only [e202, e233, e234]; rfl
theorem e237 : k0_pay237 (F := Ideal) x0 x1 = found (left x0 x1 24) := by
  unfold k0_pay237; simp only [e202, e233, e234]; rfl
theorem e238 : k0_pay238 (F := Ideal) x0 x1 = left x0 x1 26 := by
  unfold k0_pay238; simp only [e202, e235, e236]; rfl
theorem e239 : k0_pay239 (F := Ideal) x0 x1 = least (left x0 x1 26) := by
  unfold k0_pay239; simp only [e202, e235, e236]; rfl
theorem e240 : k0_pay240 (F := Ideal) x0 x1 = ties (left x0 x1 26) := by
  unfold k0_pay240; simp only [e202, e235, e236]; rfl
theorem e241 : k0_pay241 (F := Ideal) x0 x1 = left x0 x1 27 := by
  unfold k0_pay241; simp only [e202, e238, e240]; rfl
theorem e242 : k0_pay242 (F := Ideal) x0 x1 = firstCols (left x0 x1 27) := by
  unfold k0_pay242; simp only [e202, e238, e240]; rfl
theorem e243 : k0_pay243 (F := Ideal) x0 x1 = left x0 x1 29 := by
  unfold k0_pay243; simp only [e202, e241, e242]; rfl
theorem e244 : k0_pay244 (F := Ideal) x0 x1 = firstCol (left x0 x1 29) := by
  unfold k0_pay244; simp only [e202, e241, e242]; rfl
theorem e245 : k0_pay245 (F := Ideal) x0 x1 = least (left x0 x1 31) := by
  unfold k0_pay245; simp only [e202, e243, e244]; rfl
theorem c31 : (k0_pay2 (k0_pay245 x0 x1) (k0_pay201 (k0_pay202 x0 x1) (k0_pay243 x0 x1) (k0_pay244 x0 x1)) : IVec S32x1 32) = colOf (left x0 x1 31) := by
  simp only [e245, e202, e243, e244]; rfl
theorem c30 : (k0_pay197 (k0_pay202 x0 x1) (k0_pay243 x0 x1) (k0_pay244 x0 x1) : IVec S32x1 32) = colOf (left x0 x1 30) := by
  simp only [e202, e243, e244]; rfl
theorem c29 : (k0_pay191 (k0_pay202 x0 x1) (k0_pay241 x0 x1) (k0_pay242 x0 x1) : IVec S32x1 32) = colOf (left x0 x1 29) := by
  simp only [e202, e241, e242]; rfl
theorem c28 : (k0_pay185 (k0_pay202 x0 x1) (k0_pay241 x0 x1) (k0_pay242 x0 x1) : IVec S32x1 32) = colOf (left x0 x1 28) := by
  simp only [e202, e241, e242]; rfl
theorem c27 : (k0_pay178 (k0_pay202 x0 x1) (k0_pay238 x0 x1) (k0_pay240 x0 x1) 1073741824#32 : IVec S32x1 32) = colOf (left x0 x1 27) := by
  simp only [e202, e238, e240]; rfl
theorem c26 : (k0_pay172 (k0_pay202 x0 x1) (k0_pay239 x0 x1) (k0_pay240 x0 x1) 1073741824#32 : IVec S32x1 32) = colOf (left x0 x1 26) := by
  simp only [e202, e239, e240]; rfl
theorem c25 : (k0_pay165 (k0_pay202 x0 x1) (k0_pay235 x0 x1) (k0_pay236 x0 x1) : IVec S32x1 32) = colOf (left x0 x1 25) := by
  simp only [e202, e235, e236]; rfl
theorem c24 : (k0_pay159 (k0_pay236 x0 x1) (k0_pay237 x0 x1) k0_pay158 : IVec S32x1 32) = colOf (left x0 x1 24) := by
  simp only [e236, e237]; rfl
theorem c23 : (k0_pay152 (k0_pay202 x0 x1) (k0_pay233 x0 x1) (k0_pay234 x0 x1) : IVec S32x1 32) = colOf (left x0 x1 23) := by
  simp only [e202, e233, e234]; rfl
theorem c22 : (k0_pay146 (k0_pay202 x0 x1) (k0_pay232 x0 x1) : IVec S32x1 32) = colOf (left x0 x1 22) := by
  simp only [e202, e232]; rfl
theorem c21 : (k0_pay140 (k0_pay202 x0 x1) (k0_pay232 x0 x1) : IVec S32x1 32) = colOf (left x0 x1 21) := by
  simp only [e202, e232]; rfl
theorem c20 : (k0_pay134 (k0_pay202 x0 x1) (k0_pay229 x0 x1) (k0_pay231 x0 x1) : IVec S32x1 32) = colOf (left x0 x1 20) := by
  simp only [e202, e229, e231]; rfl
theorem c19 : (k0_pay128 (k0_pay230 x0 x1) (k0_pay231 x0 x1) : IVec S32x1 32) = colOf (left x0 x1 19) := by
  simp only [e230, e231]; rfl
theorem c18 : (k0_pay122 (k0_pay202 x0 x1) (k0_pay227 x0 x1) (k0_pay228 x0 x1) : IVec S32x1 32) = colOf (left x0 x1 18) := by
  simp only [e202, e227, e228]; rfl
theorem c17 : (k0_pay116 (k0_pay202 x0 x1) (k0_pay225 x0 x1) (k0_pay226 x0 x1) : IVec S32x1 32) = colOf (left x0 x1 17) := by
  simp only [e202, e225, e226]; rfl
theorem c16 : (k0_pay110 (k0_pay202 x0 x1) (k0_pay225 x0 x1) (k0_pay226 x0 x1) : IVec S32x1 32) = colOf (left x0 x1 16) := by
  simp only [e202, e225, e226]; rfl
theorem c15 : (k0_pay103 (k0_pay202 x0 x1) (k0_pay222 x0 x1) (k0_pay224 x0 x1) 1073741824#32 : IVec S32x1 32) = colOf (left x0 x1 15) := by
  simp only [e202, e222, e224]; rfl
theorem c14 : (k0_pay97 (k0_pay202 x0 x1) (k0_pay223 x0 x1) (k0_pay224 x0 x1) 1073741824#32 : IVec S32x1 32) = colOf (left x0 x1 14) := by
  simp only [e202, e223, e224]; rfl
theorem c13 : (k0_pay90 (k0_pay202 x0 x1) (k0_pay219 x0 x1) (k0_pay220 x0 x1) : IVec S32x1 32) = colOf (left x0 x1 13) := by
  simp only [e202, e219, e220]; rfl
theorem c12 : (k0_pay84 (k0_pay220 x0 x1) (k0_pay221 x0 x1) k0_pay83 : IVec S32x1 32) = colOf (left x0 x1 12) := by
  simp only [e220, e221]; rfl
theorem c11 : (k0_pay77 (k0_pay202 x0 x1) (k0_pay217 x0 x1) (k0_pay218 x0 x1) : IVec S32x1 32) = colOf (left x0 x1 11) := by
  simp only [e202, e217, e218]; rfl
theorem c10 : (k0_pay71 (k0_pay202 x0 x1) (k0_pay216 x0 x1) : IVec S32x1 32) = colOf (left x0 x1 10) := by
  simp only [e202, e216]; rfl
theorem c9 : (k0_pay65 (k0_pay202 x0 x1) (k0_pay216 x0 x1) : IVec S32x1 32) = colOf (left x0 x1 9) := by
  simp only [e202, e216]; rfl
theorem c8 : (k0_pay59 (k0_pay202 x0 x1) (k0_pay213 x0 x1) (k0_pay215 x0 x1) : IVec S32x1 32) = colOf (left x0 x1 8) := by
  simp only [e202, e213, e215]; rfl
theorem c7 : (k0_pay53 (k0_pay214 x0 x1) (k0_pay215 x0 x1) : IVec S32x1 32) = colOf (left x0 x1 7) := by
  simp only [e214, e215]; rfl
theorem c6 : (k0_pay47 (k0_pay202 x0 x1) (k0_pay211 x0 x1) (k0_pay212 x0 x1) : IVec S32x1 32) = colOf (left x0 x1 6) := by
  simp only [e202, e211, e212]; rfl
theorem c5 : (k0_pay41 (k0_pay202 x0 x1) (k0_pay209 x0 x1) (k0_pay210 x0 x1) : IVec S32x1 32) = colOf (left x0 x1 5) := by
  simp only [e202, e209, e210]; rfl
theorem c4 : (k0_pay35 (k0_pay202 x0 x1) (k0_pay209 x0 x1) (k0_pay210 x0 x1) : IVec S32x1 32) = colOf (left x0 x1 4) := by
  simp only [e202, e209, e210]; rfl
theorem c3 : (k0_pay28 (k0_pay202 x0 x1) (k0_pay206 x0 x1) (k0_pay208 x0 x1) 1073741824#32 : IVec S32x1 32) = colOf (left x0 x1 3) := by
  simp only [e202, e206, e208]; rfl
theorem c2 : (k0_pay22 (k0_pay202 x0 x1) (k0_pay207 x0 x1) (k0_pay208 x0 x1) 1073741824#32 : IVec S32x1 32) = colOf (left x0 x1 2) := by
  simp only [e202, e207, e208]; rfl
theorem c1 : (k0_pay15 (k0_pay202 x0 x1) (k0_pay203 x0 x1) (k0_pay204 x0 x1) : IVec S32x1 32) = colOf (left x0 x1 1) := by
  simp only [e202, e203, e204]; rfl
theorem c0 : (k0_pay9 (k0_pay204 x0 x1) (k0_pay205 x0 x1) k0_pay8 : IVec S32x1 32) = colOf (left x0 x1 0) := by
  simp only [e204, e205]; rfl

/-- What the body leaves in output 0: round `k` in column `k`. -/
theorem out_2 : out0_2 x0 x1 = View.canon [⟨r0_33, colOf (left x0 x1 31)⟩,
    ⟨r0_32, colOf (left x0 x1 30)⟩,
    ⟨r0_31, colOf (left x0 x1 29)⟩,
    ⟨r0_30, colOf (left x0 x1 28)⟩,
    ⟨r0_29, colOf (left x0 x1 27)⟩,
    ⟨r0_28, colOf (left x0 x1 26)⟩,
    ⟨r0_27, colOf (left x0 x1 25)⟩,
    ⟨r0_26, colOf (left x0 x1 24)⟩,
    ⟨r0_25, colOf (left x0 x1 23)⟩,
    ⟨r0_24, colOf (left x0 x1 22)⟩,
    ⟨r0_23, colOf (left x0 x1 21)⟩,
    ⟨r0_22, colOf (left x0 x1 20)⟩,
    ⟨r0_21, colOf (left x0 x1 19)⟩,
    ⟨r0_20, colOf (left x0 x1 18)⟩,
    ⟨r0_19, colOf (left x0 x1 17)⟩,
    ⟨r0_18, colOf (left x0 x1 16)⟩,
    ⟨r0_17, colOf (left x0 x1 15)⟩,
    ⟨r0_16, colOf (left x0 x1 14)⟩,
    ⟨r0_15, colOf (left x0 x1 13)⟩,
    ⟨r0_14, colOf (left x0 x1 12)⟩,
    ⟨r0_13, colOf (left x0 x1 11)⟩,
    ⟨r0_12, colOf (left x0 x1 10)⟩,
    ⟨r0_11, colOf (left x0 x1 9)⟩,
    ⟨r0_10, colOf (left x0 x1 8)⟩,
    ⟨r0_9, colOf (left x0 x1 7)⟩,
    ⟨r0_8, colOf (left x0 x1 6)⟩,
    ⟨r0_7, colOf (left x0 x1 5)⟩,
    ⟨r0_6, colOf (left x0 x1 4)⟩,
    ⟨r0_5, colOf (left x0 x1 3)⟩,
    ⟨r0_4, colOf (left x0 x1 2)⟩,
    ⟨r0_3, colOf (left x0 x1 1)⟩,
    ⟨r0_2, colOf (left x0 x1 0)⟩] := by
  unfold out0_2
  rw [c31, c30, c29, c28, c27, c26, c25, c24, c23, c22, c21, c20, c19, c18, c17, c16, c15, c14, c13, c12, c11, c10, c9, c8, c7, c6, c5, c4, c3, c2, c1, c0]

theorem m31 : (k0_pay3 (k0_pay245 x0 x1) : FVec Ideal S32x1 .f32) = maskOf (left x0 x1 31) := by
  simp only [e245]; rfl
theorem m30 : (k0_pay198 (k0_pay202 x0 x1) (k0_pay243 x0 x1) (k0_pay244 x0 x1) : FVec Ideal S32x1 .f32) = maskOf (left x0 x1 30) := by
  simp only [e202, e243, e244]; rfl
theorem m29 : (k0_pay192 (F := Ideal) (k0_pay190 (k0_pay202 x0 x1) (k0_pay241 x0 x1) (k0_pay242 x0 x1)) : FVec Ideal S32x1 .f32) = maskOf (left x0 x1 29) := by
  simp only [e202, e241, e242]; rfl
theorem m28 : (k0_pay186 (k0_pay202 x0 x1) (k0_pay241 x0 x1) (k0_pay242 x0 x1) : FVec Ideal S32x1 .f32) = maskOf (left x0 x1 28) := by
  simp only [e202, e241, e242]; rfl
theorem m27 : (k0_pay179 (k0_pay202 x0 x1) (k0_pay238 x0 x1) (k0_pay240 x0 x1) 1073741824#32 : FVec Ideal S32x1 .f32) = maskOf (left x0 x1 27) := by
  simp only [e202, e238, e240]; rfl
theorem m26 : (k0_pay173 (k0_pay239 x0 x1) : FVec Ideal S32x1 .f32) = maskOf (left x0 x1 26) := by
  simp only [e239]; rfl
theorem m25 : (k0_pay166 (k0_pay202 x0 x1) (k0_pay235 x0 x1) (k0_pay236 x0 x1) : FVec Ideal S32x1 .f32) = maskOf (left x0 x1 25) := by
  simp only [e202, e235, e236]; rfl
theorem m24 : (k0_pay160 (F := Ideal) (k0_pay237 x0 x1) : FVec Ideal S32x1 .f32) = maskOf (left x0 x1 24) := by
  simp only [e237]; rfl
theorem m23 : (k0_pay153 (k0_pay202 x0 x1) (k0_pay233 x0 x1) (k0_pay234 x0 x1) : FVec Ideal S32x1 .f32) = maskOf (left x0 x1 23) := by
  simp only [e202, e233, e234]; rfl
theorem m22 : (k0_pay147 (k0_pay202 x0 x1) (k0_pay232 x0 x1) : FVec Ideal S32x1 .f32) = maskOf (left x0 x1 22) := by
  simp only [e202, e232]; rfl
theorem m21 : (k0_pay141 (k0_pay232 x0 x1) : FVec Ideal S32x1 .f32) = maskOf (left x0 x1 21) := by
  simp only [e232]; rfl
theorem m20 : (k0_pay135 (k0_pay202 x0 x1) (k0_pay229 x0 x1) (k0_pay231 x0 x1) : FVec Ideal S32x1 .f32) = maskOf (left x0 x1 20) := by
  simp only [e202, e229, e231]; rfl
theorem m19 : (k0_pay129 (k0_pay230 x0 x1) : FVec Ideal S32x1 .f32) = maskOf (left x0 x1 19) := by
  simp only [e230]; rfl
theorem m18 : (k0_pay123 (k0_pay202 x0 x1) (k0_pay227 x0 x1) (k0_pay228 x0 x1) : FVec Ideal S32x1 .f32) = maskOf (left x0 x1 18) := by
  simp only [e202, e227, e228]; rfl
theorem m17 : (k0_pay117 (F := Ideal) (k0_pay115 (k0_pay202 x0 x1) (k0_pay225 x0 x1) (k0_pay226 x0 x1)) : FVec Ideal S32x1 .f32) = maskOf (left x0 x1 17) := by
  simp only [e202, e225, e226]; rfl
theorem m16 : (k0_pay111 (k0_pay202 x0 x1) (k0_pay225 x0 x1) (k0_pay226 x0 x1) : FVec Ideal S32x1 .f32) = maskOf (left x0 x1 16) := by
  simp only [e202, e225, e226]; rfl
theorem m15 : (k0_pay104 (k0_pay202 x0 x1) (k0_pay222 x0 x1) (k0_pay224 x0 x1) 1073741824#32 : FVec Ideal S32x1 .f32) = maskOf (left x0 x1 15) := by
  simp only [e202, e222, e224]; rfl
theorem m14 : (k0_pay98 (k0_pay223 x0 x1) : FVec Ideal S32x1 .f32) = maskOf (left x0 x1 14) := by
  simp only [e223]; rfl
theorem m13 : (k0_pay91 (k0_pay202 x0 x1) (k0_pay219 x0 x1) (k0_pay220 x0 x1) : FVec Ideal S32x1 .f32) = maskOf (left x0 x1 13) := by
  simp only [e202, e219, e220]; rfl
theorem m12 : (k0_pay85 (F := Ideal) (k0_pay221 x0 x1) : FVec Ideal S32x1 .f32) = maskOf (left x0 x1 12) := by
  simp only [e221]; rfl
theorem m11 : (k0_pay78 (k0_pay202 x0 x1) (k0_pay217 x0 x1) (k0_pay218 x0 x1) : FVec Ideal S32x1 .f32) = maskOf (left x0 x1 11) := by
  simp only [e202, e217, e218]; rfl
theorem m10 : (k0_pay72 (k0_pay202 x0 x1) (k0_pay216 x0 x1) : FVec Ideal S32x1 .f32) = maskOf (left x0 x1 10) := by
  simp only [e202, e216]; rfl
theorem m9 : (k0_pay66 (k0_pay216 x0 x1) : FVec Ideal S32x1 .f32) = maskOf (left x0 x1 9) := by
  simp only [e216]; rfl
theorem m8 : (k0_pay60 (k0_pay202 x0 x1) (k0_pay213 x0 x1) (k0_pay215 x0 x1) : FVec Ideal S32x1 .f32) = maskOf (left x0 x1 8) := by
  simp only [e202, e213, e215]; rfl
theorem m7 : (k0_pay54 (k0_pay214 x0 x1) : FVec Ideal S32x1 .f32) = maskOf (left x0 x1 7) := by
  simp only [e214]; rfl
theorem m6 : (k0_pay48 (k0_pay202 x0 x1) (k0_pay211 x0 x1) (k0_pay212 x0 x1) : FVec Ideal S32x1 .f32) = maskOf (left x0 x1 6) := by
  simp only [e202, e211, e212]; rfl
theorem m5 : (k0_pay42 (F := Ideal) (k0_pay40 (k0_pay202 x0 x1) (k0_pay209 x0 x1) (k0_pay210 x0 x1)) : FVec Ideal S32x1 .f32) = maskOf (left x0 x1 5) := by
  simp only [e202, e209, e210]; rfl
theorem m4 : (k0_pay36 (k0_pay202 x0 x1) (k0_pay209 x0 x1) (k0_pay210 x0 x1) : FVec Ideal S32x1 .f32) = maskOf (left x0 x1 4) := by
  simp only [e202, e209, e210]; rfl
theorem m3 : (k0_pay29 (k0_pay202 x0 x1) (k0_pay206 x0 x1) (k0_pay208 x0 x1) 1073741824#32 : FVec Ideal S32x1 .f32) = maskOf (left x0 x1 3) := by
  simp only [e202, e206, e208]; rfl
theorem m2 : (k0_pay23 (k0_pay207 x0 x1) : FVec Ideal S32x1 .f32) = maskOf (left x0 x1 2) := by
  simp only [e207]; rfl
theorem m1 : (k0_pay16 (k0_pay202 x0 x1) (k0_pay203 x0 x1) (k0_pay204 x0 x1) : FVec Ideal S32x1 .f32) = maskOf (left x0 x1 1) := by
  simp only [e202, e203, e204]; rfl
theorem m0 : (k0_pay10 (F := Ideal) (k0_pay205 x0 x1) : FVec Ideal S32x1 .f32) = maskOf (left x0 x1 0) := by
  simp only [e205]; rfl

/-- What the body leaves in output 1: round `k` in column `k`. -/
theorem out_3 : out0_3 x0 x1 = View.canon [⟨r0_33, maskOf (left x0 x1 31)⟩,
    ⟨r0_32, maskOf (left x0 x1 30)⟩,
    ⟨r0_31, maskOf (left x0 x1 29)⟩,
    ⟨r0_30, maskOf (left x0 x1 28)⟩,
    ⟨r0_29, maskOf (left x0 x1 27)⟩,
    ⟨r0_28, maskOf (left x0 x1 26)⟩,
    ⟨r0_27, maskOf (left x0 x1 25)⟩,
    ⟨r0_26, maskOf (left x0 x1 24)⟩,
    ⟨r0_25, maskOf (left x0 x1 23)⟩,
    ⟨r0_24, maskOf (left x0 x1 22)⟩,
    ⟨r0_23, maskOf (left x0 x1 21)⟩,
    ⟨r0_22, maskOf (left x0 x1 20)⟩,
    ⟨r0_21, maskOf (left x0 x1 19)⟩,
    ⟨r0_20, maskOf (left x0 x1 18)⟩,
    ⟨r0_19, maskOf (left x0 x1 17)⟩,
    ⟨r0_18, maskOf (left x0 x1 16)⟩,
    ⟨r0_17, maskOf (left x0 x1 15)⟩,
    ⟨r0_16, maskOf (left x0 x1 14)⟩,
    ⟨r0_15, maskOf (left x0 x1 13)⟩,
    ⟨r0_14, maskOf (left x0 x1 12)⟩,
    ⟨r0_13, maskOf (left x0 x1 11)⟩,
    ⟨r0_12, maskOf (left x0 x1 10)⟩,
    ⟨r0_11, maskOf (left x0 x1 9)⟩,
    ⟨r0_10, maskOf (left x0 x1 8)⟩,
    ⟨r0_9, maskOf (left x0 x1 7)⟩,
    ⟨r0_8, maskOf (left x0 x1 6)⟩,
    ⟨r0_7, maskOf (left x0 x1 5)⟩,
    ⟨r0_6, maskOf (left x0 x1 4)⟩,
    ⟨r0_5, maskOf (left x0 x1 3)⟩,
    ⟨r0_4, maskOf (left x0 x1 2)⟩,
    ⟨r0_3, maskOf (left x0 x1 1)⟩,
    ⟨r0_2, maskOf (left x0 x1 0)⟩] := by
  unfold out0_3
  rw [m31, m30, m29, m28, m27, m26, m25, m24, m23, m22, m21, m20, m19, m18, m17, m16, m15, m14, m13, m12, m11, m10, m9, m8, m7, m6, m5, m4, m3, m2, m1, m0]

end Cert.Kernel2Ideal.Sel

end
-- ==== Proof.SelMath.lean ====
/- Repeatedly taking the first least entry of a row and striking it out visits the columns in the order of a stable sort. -/
module

public import Idealize.ShloMosaic.PureOps.Ideal.Laws
public import Idealize.ShloMosaic.Lib.SortPrefix

@[expose] public section

noncomputable section

namespace Cert.SelMath

open Idealize.ShloMosaic

/-- `p` is the first place of the least entry. -/
def FirstMin {N : ℕ} (x : Fin N → EReal) (p : Fin N) : Prop := (∀ q, x p ≤ x q) ∧ ∀ q, q < p → x p < x q

theorem exists_firstMin {N : ℕ} (x : Fin N → EReal) (hN : 0 < N) : ∃ p, FirstMin x p := by
  classical
  obtain ⟨m, -, hm⟩ := Finset.exists_min_image (Finset.univ : Finset (Fin N)) x ⟨⟨0, hN⟩, Finset.mem_univ _⟩
  have hne : (Finset.univ.filter fun q => x q = x m).Nonempty := ⟨m, by simp⟩
  have hmem := Finset.min'_mem _ hne
  have hp : x ((Finset.univ.filter fun q => x q = x m).min' hne) = x m := (Finset.mem_filter.mp hmem).2
  refine ⟨_, fun q => hp.le.trans (hm q (Finset.mem_univ q)), fun q hq => ?_⟩
  refine lt_of_le_of_ne (hp.le.trans (hm q (Finset.mem_univ q))) fun e => ?_
  exact absurd (Finset.min'_le _ q (Finset.mem_filter.mpr ⟨Finset.mem_univ q, e.symm.trans hp⟩)) (not_le.mpr hq)

/-- Folding the minimum from infinity gives the least entry. -/
theorem fold_min {N : ℕ} (x : Fin N → EReal) (p : Fin N) (h : FirstMin x p) : (Finset.univ : Finset (Fin N)).fold min ⊤ x = x p :=
  le_antisymm ((Finset.fold_min_le _).mpr (Or.inr ⟨p, Finset.mem_univ p, le_rfl⟩))
    ((Finset.le_fold_min _).mpr ⟨le_top, fun q _ => h.1 q⟩)

theorem minsi_toInt (a b : BitVec 32) : (IntOp.minsi a b).toInt = min a.toInt b.toInt := by
  unfold IntOp.minsi
  split
  · rename_i h
    rw [BitVec.slt, decide_eq_true_eq] at h
    exact (min_eq_left h.le).symm
  · rename_i h
    rw [BitVec.slt, decide_eq_true_eq, not_lt] at h
    exact (min_eq_right h).symm

/-- Folding the signed minimum gives the entry that is least of all. -/
theorem fold_minsi {N : ℕ} (w : Fin N → BitVec 32) (init : BitVec 32) (p : Fin N) (h : ∀ q, (w p).toInt ≤ (w q).toInt) (hi : (w p).toInt ≤ init.toInt) :
    (Finset.univ : Finset (Fin N)).fold IntOp.minsi init w = w p := by
  classical
  have key : ∀ S : Finset (Fin N), (w p).toInt ≤ (S.fold IntOp.minsi init w).toInt ∧ (p ∈ S → (S.fold IntOp.minsi init w).toInt ≤ (w p).toInt) := by
    intro S
    induction S using Finset.induction_on with
    | empty => exact ⟨hi, fun h => absurd h (Finset.notMem_empty p)⟩
    | insert a S ha ih =>
      rw [Finset.fold_insert ha, minsi_toInt]
      refine ⟨le_min (h a) ih.1, fun hp => ?_⟩
      rcases Finset.mem_insert.mp hp with e | e
      · exact e ▸ min_le_left _ _
      · exact (min_le_right _ _).trans (ih.2 e)
  exact BitVec.eq_of_toInt_eq (le_antisymm ((key Finset.univ).2 (Finset.mem_univ p)) (key Finset.univ).1)

/-- The comparison of two columns: the greater value first. -/
def Bigger {n : ℕ} (g : Fin n → EReal) (a b : Fin n) : Bool := decide (g b < g a)
/-- The comparison with equal values ordered by column. -/
def Prior {n : ℕ} (g : Fin n → EReal) (a b : Fin n) : Bool := decide (g b < g a) || (decide (g a = g b) && decide (a < b))

theorem prior_total {n : ℕ} (g : Fin n → EReal) : StrictTotalBefore (Prior g) := by
  refine StrictTotalBefore.of_key_then_position (fun a b : EReal => decide (b < a)) g (fun a => ?_) (fun a b c h h' => ?_) fun a b => ?_
  · simp
  · rw [decide_eq_true_eq] at *; exact h'.trans h
  · simp only [decide_eq_true_eq]
    rcases lt_trichotomy a b with h | h | h
    · exact Or.inr (Or.inr h)
    · exact Or.inr (Or.inl h)
    · exact Or.inl h

/-- On an ascending list a stable sort by value is the sort by value and column. -/
theorem sort_prior {n : ℕ} (g : Fin n → EReal) (l : List (Fin n)) (hl : l.Pairwise (· < ·)) : stableSort (Bigger g) l = stableSort (Prior g) l := by
  induction l with
  | nil => rfl
  | cons a l ih =>
    obtain ⟨h1, h2⟩ := List.pairwise_cons.mp hl
    show insertBefore _ a (stableSort _ l) = insertBefore _ a (stableSort _ l)
    rw [ih h2]
    refine insertBefore_congr _ _ a _ fun b hb => ?_
    have hab : a < b := h1 b ((perm_stableSort _ l).mem_iff.mp hb)
    simp [Bigger, Prior, not_lt.mpr hab.le]

/-- The columns in the order of the sort. -/
def order {n : ℕ} (g : Fin n → EReal) : Fin n → Fin n := sortedFrom (Bigger g)

theorem order_eq {n : ℕ} (g : Fin n → EReal) : order g = sortedFrom (Prior g) := by
  funext k
  unfold order sortedFrom
  rw [List.get_of_eq (show sortPositions n (Bigger g) = sortPositions n (Prior g) from sort_prior g _ (List.pairwise_lt_finRange n))]
  rfl

theorem order_inj {n : ℕ} (g : Fin n → EReal) : Function.Injective (order g) := sortedFrom_injective _
theorem order_surj {n : ℕ} (g : Fin n → EReal) : Function.Surjective (order g) := sortedFrom_surjective _

/-- An earlier column of the order has the greater value, or the same value and the smaller number. -/
theorem order_lt {n : ℕ} (g : Fin n → EReal) (i j : Fin n) (h : i < j) : g (order g j) < g (order g i) ∨ (g (order g i) = g (order g j) ∧ order g i < order g j) := by
  have hne : order g i ≠ order g j := fun e => absurd (order_inj g e) h.ne
  have h0 : Prior g (order g j) (order g i) = false := by
    rw [order_eq]
    exact sortedFrom_noInversion (Prior g) (Prior g) (prior_total g).asymm (fun _ _ h => h) (prior_total g).negTrans i j h
  rcases (prior_total g).total _ _ hne with h' | h'
  · simpa [Prior] using h'
  · rw [h0] at h'; exact absurd h' (by decide)

/-- The columns struck out in the first `k` rounds. -/
def Struck {n N : ℕ} (g : Fin n → EReal) (k : ℕ) (j : Fin N) : Prop := ∃ i : Fin n, i.val < k ∧ (order g i).val = j.val

open Classical in
/-- The row before round `k`. -/
def rest {n N : ℕ} (g : Fin n → EReal) (f : Fin N → EReal) (k : ℕ) (j : Fin N) : EReal := if Struck g k j then ⊤ else f j

theorem rest_zero {n N : ℕ} (g : Fin n → EReal) (f : Fin N → EReal) : rest g f 0 = f := by
  funext j
  unfold rest
  rw [if_neg]
  rintro ⟨i, hi, -⟩
  exact absurd hi (Nat.not_lt_zero _)

section Round

variable {n N : ℕ} (hnN : n ≤ N) (g : Fin n → EReal) (f : Fin N → EReal)
  (hf : ∀ j : Fin N, ∀ h : j.val < n, f j = - g ⟨j.val, h⟩) (hf' : ∀ j : Fin N, n ≤ j.val → f j = ⊤)
include hf hf' hnN

/-- One round: it finds a finite entry exactly if the order's column has one, it is that column, and it is struck out. -/
theorem round (k : Fin n) (p : Fin N) (hp : FirstMin (rest g f k.val) p) :
    (rest g f k.val p < ⊤ ↔ ⊥ < g (order g k)) ∧ (rest g f k.val p < ⊤ → p.val = (order g k).val)
      ∧ ∀ j, (if j = p then ⊤ else rest g f k.val j) = rest g f (k.val + 1) j := by
  classical
  set s : Fin N := ⟨(order g k).val, (order g k).isLt.trans_le hnN⟩ with hs
  have hns : ¬ Struck g k.val s := by
    rintro ⟨i, hi, e⟩
    have : i = k := order_inj g (Fin.ext e)
    exact absurd hi (by rw [this]; exact lt_irrefl _)
  have hrs : rest g f k.val s = - g (order g k) := by
    unfold rest; rw [if_neg hns]; exact hf s (order g k).isLt
  have hfind : rest g f k.val p < ⊤ → p = s := by
    intro hlt
    have hnp : ¬ Struck g k.val p := fun h => by unfold rest at hlt; rw [if_pos h] at hlt; exact lt_irrefl _ hlt
    have hrp : rest g f k.val p = f p := by unfold rest; rw [if_neg hnp]
    have hpn : p.val < n := by
      by_contra hc
      rw [hrp, hf' p (not_lt.mp hc)] at hlt
      exact lt_irrefl _ hlt
    obtain ⟨i, hi⟩ := order_surj g ⟨p.val, hpn⟩
    have hki : k ≤ i := by
      by_contra hc
      exact hnp ⟨i, not_le.mp hc, congrArg Fin.val hi⟩
    rcases lt_or_eq_of_le hki with hlt' | e
    · exfalso
      have h1 : rest g f k.val p ≤ rest g f k.val s := hp.1 s
      rw [hrp, hrs, hf p hpn, EReal.neg_le_neg_iff, ← hi] at h1
      rcases order_lt g k i hlt' with h2 | ⟨h2, h3⟩
      · exact absurd h2 (not_lt.mpr h1)
      · have h4 : s < p := by
          show (order g k).val < p.val
          have : (order g k).val < (order g i).val := h3
          rw [hi] at this; exact this
        have h5 := hp.2 s h4
        rw [hrp, hrs, hf p hpn, ← hi, h2] at h5
        exact lt_irrefl _ h5
    · apply Fin.ext
      show p.val = (order g k).val
      rw [e, hi]
  have hiff : rest g f k.val p < ⊤ ↔ ⊥ < g (order g k) := by
    constructor
    · intro h
      have e := hfind h
      rw [e, hrs] at h
      refine bot_lt_iff_ne_bot.mpr fun hb => ?_
      rw [hb, EReal.neg_bot] at h
      exact lt_irrefl _ h
    · intro h
      refine (hp.1 s).trans_lt ?_
      rw [hrs]
      refine lt_top_iff_ne_top.mpr fun hb => ?_
      rw [EReal.neg_eq_top_iff] at hb
      exact absurd hb (bot_lt_iff_ne_bot.mp h)
  refine ⟨hiff, fun h => congrArg Fin.val (hfind h), fun j => ?_⟩
  have hsucc : Struck g (k.val + 1) j ↔ (Struck g k.val j ∨ j = s) := by
    constructor
    · rintro ⟨i, hi, e⟩
      rcases Nat.lt_succ_iff_lt_or_eq.mp hi with h | h
      · exact Or.inl ⟨i, h, e⟩
      · refine Or.inr (Fin.ext ?_)
        have : i = k := Fin.ext h
        rw [← e, this]
    · rintro (⟨i, hi, e⟩ | e)
      · exact ⟨i, Nat.lt_succ_of_lt hi, e⟩
      · exact ⟨k, Nat.lt_succ_self _, by rw [e]⟩
  by_cases hlt : rest g f k.val p < ⊤
  · have e := hfind hlt
    rw [e]
    unfold rest
    by_cases hj : j = s
    · rw [if_pos hj, if_pos (hsucc.mpr (Or.inr hj))]
    · rw [if_neg hj]
      by_cases h : Struck g k.val j
      · rw [if_pos h, if_pos (hsucc.mpr (Or.inl h))]
      · rw [if_neg h, if_neg (fun h' => (hsucc.mp h').elim h hj)]
  · have htop : ∀ q, rest g f k.val q = ⊤ := fun q => top_le_iff.mp ((not_lt.mp hlt).trans (hp.1 q))
    have hl : (if j = p then (⊤ : EReal) else rest g f k.val j) = ⊤ := by
      rw [htop j]; exact ite_self _
    rw [hl]
    symm
    unfold rest
    by_cases h : Struck g (k.val + 1) j
    · rw [if_pos h]
    · rw [if_neg h]
      have := htop j
      unfold rest at this
      rwa [if_neg (fun h' => h (hsucc.mpr (Or.inl h')))] at this

end Round

end Cert.SelMath

end
-- ==== Proof.SelBlock.lean ====
/- One block's rounds, row by row: the least entry, its first column and the entries left. -/
module

public import proofs.«01_k».proof.Proof.SelRounds
public import proofs.«01_k».proof.Proof.SelMath
public import Idealize.ShloMosaic.Lib.Pointwise

@[expose] public section

set_option maxRecDepth 16384

noncomputable section

namespace Cert.Kernel2Ideal.Sel

open Cert.Kernel2Ideal Cert.Kernel2Ideal.Gen Idealize.ShloMosaic Idealize.ShloMosaic.TcCoe Cert.SelMath

/-- A row of a block. -/
def row (d : FVec Ideal S32x10240 .f32) (r : Fin 32) : Fin 10240 → EReal := fun j => d (ix2 r j)

theorem inf_eq : Ideal.ofBits .f32 0x7F800000#32 = ⊤ := by simp [Ideal.ofBits, Ideal.ieee]
theorem one_iff (p : Bool) : (BitVec.ofBool p = 1#1) ↔ p = true := by cases p <;> decide

theorem least_fold (d : FVec Ideal S32x10240 .f32) (r : Fin 32) :
    least d (ix2 r 0) = (Finset.univ : Finset (Fin 10240)).fold min (Ideal.ofBits .f32 0x7F800000#32) (row d r) := by
  pointwise [least]
  rfl

theorem least_eq (d : FVec Ideal S32x10240 .f32) (r : Fin 32) (p : Fin 10240) (h : FirstMin (row d r) p) : least d (ix2 r 0) = row d r p := by
  rw [least_fold, inf_eq]; exact fold_min _ p h

theorem ties_apply (d : FVec Ideal S32x10240 .f32) (r : Fin 32) (j : Fin 10240) :
    ties d (ix2 r j) = BitVec.ofBool (decide (row d r j = least d (ix2 r 0))) := by
  pointwise [ties]
  rfl

theorem ties_iff (d : FVec Ideal S32x10240 .f32) (r : Fin 32) (j : Fin 10240) : ties d (ix2 r j) = 1#1 ↔ row d r j = least d (ix2 r 0) := by
  rw [ties_apply, one_iff, decide_eq_true_eq]

theorem eq_iff (a b : BitVec 32) : IntOp.cmpi .eq a b = 1#1 ↔ a = b := by simp [IntOp.cmpi, one_iff]

theorem colno_apply (r : Fin 32) (j : Fin 10240) : colno (ix2 r j) = BitVec.ofNat 32 j.val := by
  pointwise [colno]

theorem firstCol_fold (d : FVec Ideal S32x10240 .f32) (r : Fin 32) :
    firstCol d (ix2 r 0) = (Finset.univ : Finset (Fin 10240)).fold IntOp.minsi 2147483647#32
      fun j => if ties d (ix2 r j) = 1#1 then BitVec.ofNat 32 j.val else 1073741824#32 := by
  pointwise [firstCol]
  exact congrArg (fun w : Fin 10240 → BitVec 32 => (Finset.univ : Finset (Fin 10240)).fold IntOp.minsi 2147483647#32 w)
    (funext fun j => by rw [colno_apply]; rfl)

theorem toInt_ofNat (n : ℕ) (h : n < 2147483648) : (BitVec.ofNat 32 n).toInt = n := by
  rw [BitVec.toInt_eq_toNat_of_lt (by rw [BitVec.toNat_ofNat]; omega), BitVec.toNat_ofNat, Nat.mod_eq_of_lt (by omega)]

theorem firstCol_eq (d : FVec Ideal S32x10240 .f32) (r : Fin 32) (p : Fin 10240) (h : FirstMin (row d r) p) :
    firstCol d (ix2 r 0) = BitVec.ofNat 32 p.val := by
  have hp : (if ties d (ix2 r p) = 1#1 then BitVec.ofNat 32 p.val else 1073741824#32) = BitVec.ofNat 32 p.val :=
    if_pos ((ties_iff d r p).mpr (least_eq d r p h).symm)
  rw [firstCol_fold]
  refine (fold_minsi _ _ p (fun q => ?_) ?_).trans hp
  · rw [hp, toInt_ofNat _ (by omega)]
    by_cases e : row d r q = row d r p
    · rw [if_pos ((ties_iff d r q).mpr (e.trans (least_eq d r p h).symm)), toInt_ofNat _ (by omega)]
      have : p ≤ q := not_lt.mp fun hq => absurd e (ne_of_gt (h.2 q hq))
      exact_mod_cast this
    · rw [if_neg (fun h' => e (((ties_iff d r q).mp h').trans (least_eq d r p h)))]
      have : (1073741824#32 : BitVec 32).toInt = 1073741824 := by decide
      rw [this]; omega
  · rw [hp, toInt_ofNat _ (by omega)]
    have : (2147483647#32 : BitVec 32).toInt = 2147483647 := by decide
    rw [this]; omega

theorem strike_apply (d : FVec Ideal S32x10240 .f32) (r : Fin 32) (j : Fin 10240) :
    strike d (ix2 r j) = if BitVec.ofNat 32 j.val = firstCol d (ix2 r 0) then ⊤ else row d r j := by
  pointwise [strike, firstCols]
  rw [colno_apply, inf_eq]
  show (if IntOp.cmpi .eq (BitVec.ofNat 32 j.val) (firstCol d (ix2 r 0)) = 1#1 then (⊤ : EReal) else row d r j) = _
  by_cases e : BitVec.ofNat 32 j.val = firstCol d (ix2 r 0)
  · rw [if_pos ((eq_iff _ _).mpr e), if_pos e]
  · rw [if_neg (fun h => e ((eq_iff _ _).mp h)), if_neg e]

theorem strike_eq (d : FVec Ideal S32x10240 .f32) (r : Fin 32) (p : Fin 10240) (h : FirstMin (row d r) p) (j : Fin 10240) :
    row (strike d) r j = if j = p then ⊤ else row d r j := by
  show strike d (ix2 r j) = _
  rw [strike_apply, firstCol_eq d r p h]
  have : BitVec.ofNat 32 j.val = BitVec.ofNat 32 p.val ↔ j = p := by
    refine ⟨fun e => Fin.ext ?_, fun e => by rw [e]⟩
    have := congrArg BitVec.toNat e
    rw [BitVec.toNat_ofNat, BitVec.toNat_ofNat, Nat.mod_eq_of_lt (by omega), Nat.mod_eq_of_lt (by omega)] at this
    exact this
  by_cases e : j = p
  · rw [if_pos (this.mpr e), if_pos e]
  · rw [if_neg (fun h' => e (this.mp h')), if_neg e]

theorem colOf_apply (d : FVec Ideal S32x10240 .f32) (r : Fin 32) :
    colOf d (ix2 r 0) = if least d (ix2 r 0) < ⊤ then firstCol d (ix2 r 0) else 0#32 := by
  pointwise [colOf, found]
  rw [inf_eq]
theorem maskOf_apply (d : FVec Ideal S32x10240 .f32) (r : Fin 32) :
    maskOf d (ix2 r 0) = if least d (ix2 r 0) < ⊤ then 1 else (0 : EReal) := by
  pointwise [maskOf, found]
  rw [inf_eq]

section Rounds

variable (x0 : Vec Ideal S32x3 .f32) (x1 : Vec Ideal S8x10240 .f32) (r : Fin 32) (g : Fin 10000 → EReal)
  (hf : ∀ j : Fin 10240, ∀ h : j.val < 10000, row (left x0 x1 0) r j = - g ⟨j.val, h⟩)
  (hf' : ∀ j : Fin 10240, 10000 ≤ j.val → row (left x0 x1 0) r j = ⊤)
include hf hf'

theorem left_eq (k : ℕ) (hk : k ≤ 10000) : row (left x0 x1 k) r = rest g (row (left x0 x1 0) r) k := by
  induction k with
  | zero => exact (rest_zero g _).symm
  | succ k ih =>
    have ih := ih (by omega)
    obtain ⟨p, hp⟩ := exists_firstMin (row (left x0 x1 k) r) (by decide)
    funext j
    have h1 : row (left x0 x1 (k + 1)) r j = if j = p then ⊤ else row (left x0 x1 k) r j := strike_eq _ r p hp j
    rw [ih] at hp h1
    rw [h1]
    exact (round (by decide) g _ hf hf' ⟨k, hk⟩ p hp).2.2 j

/-- Round `k` stores the sort's `k`-th column, if its value is not the least possible. -/
theorem stored (k : Fin 10000) :
    colOf (left x0 x1 k.val) (ix2 r 0) = (if ⊥ < g (order g k) then BitVec.ofNat 32 (order g k).val else 0#32)
      ∧ maskOf (left x0 x1 k.val) (ix2 r 0) = if ⊥ < g (order g k) then 1 else (0 : EReal) := by
  obtain ⟨p, hp⟩ := exists_firstMin (row (left x0 x1 k.val) r) (by decide)
  have hl := left_eq x0 x1 r g hf hf' k.val k.isLt.le
  have hR := round (by decide) g _ hf hf' k p (hl ▸ hp)
  rw [← hl] at hR
  obtain ⟨h1, h2, -⟩ := hR
  rw [colOf_apply, maskOf_apply, least_eq _ r p hp, firstCol_eq _ r p hp]
  by_cases e : row (left x0 x1 k.val) r p < ⊤
  · rw [if_pos e, if_pos e, if_pos (h1.mp e), if_pos (h1.mp e), h2 e]; exact ⟨rfl, rfl⟩
  · rw [if_neg e, if_neg e, if_neg (fun h => e (h1.mpr h)), if_neg (fun h => e (h1.mpr h))]; exact ⟨rfl, rfl⟩

end Rounds

end Cert.Kernel2Ideal.Sel

end
-- ==== Proof.SelDist.lean ====
/- The first row of a block's rounds: the squared distances within the radius, infinity elsewhere. -/
module

public import proofs.«01_k».proof.Proof.SelBlock

@[expose] public section

set_option maxRecDepth 16384

noncomputable section

namespace Cert.SelMath

open Idealize.ShloMosaic

/-- The squared radius. -/
def radius : EReal := Ideal.ofBits .f32 0x3D23D70A#32

/-- The squared distance, expanded. -/
def sqDist (q p : Fin 3 → EReal) : EReal :=
  ((q 0 * q 0 + q 1 * q 1 + q 2 * q 2) + (p 0 * p 0 + p 1 * p 1 + p 2 * p 2)) - Ideal.ofBits .f32 0x40000000#32 * (q 0 * p 0 + q 1 * p 1 + q 2 * p 2)

open Classical in
/-- The squared distance within the radius, infinity outside. -/
def near (q p : Fin 3 → EReal) : EReal := if sqDist q p ≤ radius then sqDist q p else ⊤

end Cert.SelMath

namespace Cert.Kernel2Ideal.Sel

open Cert.Kernel2Ideal Cert.Kernel2Ideal.Gen Idealize.ShloMosaic Idealize.ShloMosaic.TcCoe Cert.SelMath

theorem hz : (![0, 0] : Fin 2 → Nat) = fun _ => 0 := funext fun a => by fin_cases a <;> rfl

theorem ld0 (x0 : Vec Ideal S32x3 .f32) : View.ld x0 r0_0 = x0 := View.ld_unit_zero (S := S32x3) hz _ x0
theorem ld1 (x1 : Vec Ideal S8x10240 .f32) : View.ld x1 r0_1 = x1 := View.ld_unit_zero (S := S8x10240) hz _ x1

theorem first_apply (x0 : Vec Ideal S32x3 .f32) (x1 : Vec Ideal S8x10240 .f32) (r : Fin 32) (j : Fin 10240) :
    left x0 x1 0 (ix2 r j) = near (fun d => x0 (ix2 r d)) (fun d => x1 (ix2 ⟨d.val, by omega⟩ j)) := by
  show k0_pay4 (View.ld x0 r0_0) (View.ld x1 r0_1) (ix2 r j) = _
  rw [ld0, ld1]
  unfold k0_pay4
  pointwise
  simp only [zero_mul, Finset.sum_const_zero, add_zero, Fin.sum_univ_three]
  rw [inf_eq]
  unfold near sqDist radius
  congr

end Cert.Kernel2Ideal.Sel

end
-- ==== Proof.SelHost.lean ====
/- The selection call's operands: the queries and the transposed points, both padded. -/
module

public import proofs.«01_k».proof.Proof.SelDist
public import Idealize.ShloMosaic.Lib.Pipeline.ValueKit
public import Idealize.ShloMosaic.Lib.KernelVsHost
public import Idealize.ShloMosaic.Lib.Routing.OpsOne
public import Idealize.ShloMosaic.Lib.Routing.OpsSet

@[expose] public section

set_option maxRecDepth 16384

noncomputable section

namespace Cert.Kernel2Ideal.Sel

open Cert.Kernel2Ideal Cert.Kernel2Ideal.Gen Idealize.ShloMosaic Idealize.ShloMosaic.TcCoe Idealize.ShloMosaic.StableHlo Idealize.SL.Sem Cert.SelMath Idealize.ShloMosaic.Routing

variable (m : (ℓ : Loc nD τ sig) → Buf (Elt Ideal) ℓ) (c : Dev nD)

/-- The points. -/
abbrev A0 : FVec Ideal S10000x3 .f32 := m ((c : Thread nD τ).loc main_arg0)
/-- The queries. -/
abbrev A1 : FVec Ideal S5000x3 .f32 := m ((c : Thread nD τ).loc main_arg1)

/-- The padded queries. -/
def queries (q : FVec Ideal S5000x3 .f32) : FVec Ideal S5120x3 .f32 :=
  pad S5120x3 ![0, 0] ![120, 0] ![0, 0] q (constant (F := Ideal) S_ .f32 0x4E6E6B28#32) pads_S5000x3_S5120x3_01200_000 h_S_

/-- The padded points, a coordinate per row. -/
def columns (p : FVec Ideal S10000x3 .f32) : FVec Ideal S8x10240 .f32 :=
  pad S8x10240 ![0, 0] ![5, 240] ![0, 0] (transpose S3x10000 [1, 0] p transposes_S10000x3_S3x10000_1_0) (constant (F := Ideal) S_ .f32 0xCE6E6B28#32) pads_S3x10000_S8x10240_050_02400 h_S_

theorem V0_eq : V m c main_v0 = queries (A1 m c) := by
  simp only [V, hostOps0, hostOps0_1, hostOps0_2, hostOps0_3, hostOps0_4, List.flatten_cons, List.flatten_nil, List.append_nil, List.cons_append, List.nil_append, TRef.unary, TRef.binary, TRef.toBuf, TRef.ofBuf, cast_eq]
  after_results_simp <;> rfl

theorem V5_eq : V m c main_v5 = Host.scatter scatter_S8x10240_S1_S5x10240_01_n_0_0 (fun _ b => b) (columns (A0 m c)) (broadcastInDim S1 ![] bcast_S_S1 (constantI S_ 32 3#32)) (broadcastInDim S5x10240 ![] bcast_S_S5x10240 (constant (F := Ideal) S_ .f32 0x00000000#32)) := by
  simp only [V, hostOps0, hostOps0_1, hostOps0_2, hostOps0_3, hostOps0_4, List.flatten_cons, List.flatten_nil, List.append_nil, List.cons_append, List.nil_append, TRef.unary, TRef.binary, TRef.toBuf, TRef.ofBuf, cast_eq]
  after_results_simp <;> rfl

/-- The zero rows are written below the coordinates. -/
theorem scatter_above (x : FVec Ideal S8x10240 .f32) (u : FVec Ideal S5x10240 .f32) (a : Fin 8) (h : a.val < 3) (j : Fin 10240) :
    Host.scatter scatter_S8x10240_S1_S5x10240_01_n_0_0 (fun _ b => b) x (broadcastInDim S1 ![] bcast_S_S1 (constantI S_ 32 3#32)) u (ix2 a j) = x (ix2 a j) := by
  refine scatter_set_miss _ _ _ _ _ fun k hk => ?_
  have hs : scatter_S8x10240_S1_S5x10240_01_n_0_0.start k (broadcastInDim S1 ![] bcast_S_S1 (constantI S_ 32 3#32)) 0 = 3 := rfl
  have hk' := (resultIdx?_ix2 _ _ _ _ _).mp hk
  rw [hs] at hk'
  omega

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem tlt (t : Fin cfg0.N) : t.val < 160 := t.isLt

theorem blk0' (t : Fin cfg0.N) (r : Fin 32) (d : Fin 3) : iblk m c 0 t (ix2 r d) = V m c main_v0 (ix2 ⟨t.val * 32 + r.val, by have := tlt t; omega⟩ d) := by
  blk_ext [iblk, idx t]
/-- The second window is its whole array. -/
theorem read1 (X : FVec Ideal S8x10240 .f32) (t : Fin cfg0.N) (a : Fin 8) (j : Fin 10240) :
    ((cfg0.win 1).blk t).view.read (Elt Ideal) X (ix2 a j) = X (ix2 a j) := by
  blk_ext [idx t]

theorem blk1' (t : Fin cfg0.N) (a : Fin 8) (j : Fin 10240) : iblk m c 1 t (ix2 a j) = V m c main_v5 (ix2 a j) :=
  read1 (V m c main_v5) t a j

theorem blk0 (t : Fin cfg0.N) (r : Fin 32) (d : Fin 3) (n : Fin 5120) (hn : n.val = t.val * 32 + r.val) : iblk m c 0 t (ix2 r d) = queries (A1 m c) (ix2 n d) := by
  have e : (⟨t.val * 32 + r.val, by have := tlt t; omega⟩ : Fin 5120) = n := Fin.ext hn.symm
  exact (blk0' m c t r d).trans (by rw [V0_eq, e])
theorem blk1 (t : Fin cfg0.N) (a : Fin 8) (h : a.val < 3) (j : Fin 10240) : iblk m c 1 t (ix2 a j) = columns (A0 m c) (ix2 a j) :=
  (blk1' m c t a j).trans (by rw [V5_eq, scatter_above _ _ a h j])

theorem queries_lo (q : FVec Ideal S5000x3 .f32) (n : Fin 5120) (i : Fin 5000) (h : n.val = i.val) (d : Fin 3) : queries q (ix2 n d) = q (ix2 i d) := by
  refine pad_apply_of_inside _ _ _ _ _ _ _ _ (ix2 i d) fun a => ?_
  match a with
  | ⟨0, _⟩ => show n.val = 0 + i.val * (0 + 1); omega
  | ⟨1, _⟩ => show d.val = 0 + d.val * (0 + 1); omega

theorem queries_hi (q : FVec Ideal S5000x3 .f32) (n : Fin 5120) (h : 5000 ≤ n.val) (d : Fin 3) : queries q (ix2 n d) = Ideal.ofBits .f32 0x4E6E6B28#32 := by
  pointwise [queries]
  exact dif_neg (by omega)

theorem columns_lo (p : FVec Ideal S10000x3 .f32) (j : Fin 10240) (i : Fin 10000) (h : j.val = i.val) (d : Fin 3) : columns p (ix2 ⟨d.val, by omega⟩ j) = p (ix2 i d) := by
  pointwise [columns]
  rw [dif_pos (show j.val < 10000 by omega)]
  exact congrArg p (congrArg₂ ix2 (Fin.ext h) rfl)

theorem columns_hi (p : FVec Ideal S10000x3 .f32) (j : Fin 10240) (h : 10000 ≤ j.val) (d : Fin 3) : columns p (ix2 ⟨d.val, by omega⟩ j) = Ideal.ofBits .f32 0xCE6E6B28#32 := by
  pointwise [columns]
  exact dif_neg (by omega)

end Cert.Kernel2Ideal.Sel

end
-- ==== Proof.SelRef.lean ====
/- The selection reference's two results: the columns of a stable sort by distance, and whether they lie within the radius. -/
module

public import proofs.«01_k».proof.Proof.SelDist
public import proofs.«01_k».proof.Proof.Gen.Reference2Ideal.Run
public import Idealize.ShloMosaic.Lib.KernelVsHost

@[expose] public section

set_option maxRecDepth 16384

noncomputable section

namespace Cert.Reference2Ideal.Sel

open Cert.Reference2Ideal Cert.Reference2Ideal.Gen Idealize.ShloMosaic Idealize.ShloMosaic.TcCoe Cert.SelMath

/-- The squared distances of the queries to the points. -/
def dists (p : FVec Ideal S10000x3 .f32) (q : FVec Ideal S5000x3 .f32) : FVec Ideal S5000x10000 .f32 :=
  subf (addf (broadcastInDim S5000x10000 ![0, 1] bcast_S5000x1_S5000x10000_0_1 (broadcastInDim S5000x1 ![0] bcast_S5000_S5000x1_0 (Host.reduceAdd (mulf q q) (constant S_ .f32 0x00000000#32) reducesTo_S5000x3_S5000_d1 h_S_))) (broadcastInDim S5000x10000 ![0, 1] bcast_S1x10000_S5000x10000_0_1 (broadcastInDim S1x10000 ![1] bcast_S10000_S1x10000_1 (Host.reduceAdd (mulf p p) (constant S_ .f32 0x00000000#32) reducesTo_S10000x3_S10000_d1 h_S_)))) (mulf (broadcastInDim S5000x10000 ![] bcast_S_S5000x10000 (constant S_ .f32 0x40000000#32)) (Host.dotGeneral dot_S5000x3_S3x10000_S5000x10000_1_0_0_1_n_n none q (transpose S3x10000 [1, 0] p transposes_S10000x3_S3x10000_1_0)))

/-- The negated distances within the radius, the least value outside. -/
def masked (p : FVec Ideal S10000x3 .f32) (q : FVec Ideal S5000x3 .f32) : FVec Ideal S5000x10000 .f32 :=
  select (cmpf .ole (dists p q) (broadcastInDim S5000x10000 ![] bcast_S_S5000x10000 (constant S_ .f32 0x3D23D70A#32))) (Host.negf (dists p q)) (broadcastInDim S5000x10000 ![] bcast_S_S5000x10000 (id (constant S_ .f32 0xFF800000#32)))

theorem dists_apply (p : FVec Ideal S10000x3 .f32) (q : FVec Ideal S5000x3 .f32) (i : Fin 5000) (j : Fin 10000) :
    dists p q (ix2 i j) = sqDist (fun d => q (ix2 i d)) (fun d => p (ix2 j d)) := by
  pointwise [dists]
  simp only [Fin.sum_univ_three]
  rfl

theorem ninf_eq : Ideal.ofBits .f32 0xFF800000#32 = ⊥ := by simp [Ideal.ofBits, Ideal.ieee]

theorem masked_apply (p : FVec Ideal S10000x3 .f32) (q : FVec Ideal S5000x3 .f32) (i : Fin 5000) (j : Fin 10000) :
    masked p q (ix2 i j) = - near (fun d => q (ix2 i d)) (fun d => p (ix2 j d)) := by
  pointwise [masked]
  rw [dists_apply]
  show (if sqDist _ _ ≤ radius then _ else Ideal.ofBits .f32 0xFF800000#32) = _
  rw [ninf_eq]
  unfold near
  by_cases h : sqDist (fun d => q (ix2 i d)) (fun d => p (ix2 j d)) ≤ radius
  · rw [if_pos h, if_pos h]
  · rw [if_neg h, if_neg h, EReal.neg_top]

theorem along_eq (i : Fin 5000) (n : Fin 10000) (k : Fin 10000) : (ix2 i n : S5000x10000.Idx).along (1 : Fin 2) k = ix2 i k := by
  funext a
  match a with
  | ⟨0, _⟩ => rfl
  | ⟨1, _⟩ => rfl

theorem bigger_eq (g : Fin 10000 → EReal) (a b : Fin 10000) : (FloatOps.cmpfTotal (F := Ideal) (φ := .f32) .gt (g a) (g b) == 1#1) = Bigger g a b := by
  show (BitVec.ofBool (decide (g b < g a)) == 1#1) = decide (g b < g a)
  cases decide (g b < g a) <;> rfl

/-- A row's comparison in the sort. -/
def before (x : FVec Ideal S5000x10000 .f32) (y : S5000x10000.Idx) (k k' : Fin 10000) : Bool :=
  FloatOps.cmpfTotal (F := Ideal) (φ := .f32) .gt (x (y.along (1 : Fin 2) k)) (x (y.along (1 : Fin 2) k')) == 1#1

theorem before_eq (x : FVec Ideal S5000x10000 .f32) (i : Fin 5000) (n : Fin 10000) : before x (ix2 i n) = Bigger (fun j => x (ix2 i j)) := by
  funext k k'
  refine Eq.trans ?_ (bigger_eq (fun j => x (ix2 i j)) k k')
  exact congrArg₂ (fun a b : S5000x10000.Idx => FloatOps.cmpfTotal (F := Ideal) (φ := .f32) .gt (x a) (x b) == 1#1) (along_eq i n k) (along_eq i n k')

theorem sorted_at (x : FVec Ideal S5000x10000 .f32) (i : Fin 5000) (n : Fin 10000) :
    (ix2 i n : S5000x10000.Idx).along (1 : Fin 2) (sortedFrom (before x (ix2 i n)) n) = ix2 i (order (fun j => x (ix2 i j)) n) := by
  rw [before_eq]
  exact along_eq i n _

/-- The values of the first 32 columns of the sort. -/
theorem top_values (x : FVec Ideal S5000x10000 .f32) (h) (i : Fin 5000) (k : Fin 32) :
    (Host.topK S5000x32 1 (FloatOps.cmpfTotal .gt) x h).1 (ix2 i k) = x (ix2 i (order (fun j => x (ix2 i j)) ⟨k.val, by omega⟩)) := by
  unfold Host.topK Host.sort2
  dsimp only
  rw [dif_pos (by decide)]
  pointwise
  exact congrArg (fun y : S5000x10000.Idx => x y) (sorted_at x i ⟨k.val, by omega⟩)

theorem second (i : Fin 5000) (n : Fin 10000) : ((ix2 i n : S5000x10000.Idx) 1).val = n.val := rfl

theorem top_columns (x : FVec Ideal S5000x10000 .f32) (h) (i : Fin 5000) (k : Fin 32) :
    (Host.topK S5000x32 1 (FloatOps.cmpfTotal .gt) x h).2 (ix2 i k) = BitVec.ofNat 32 (order (fun j => x (ix2 i j)) ⟨k.val, by omega⟩).val := by
  unfold Host.topK Host.sort2
  dsimp only
  rw [dif_pos (by decide)]
  pointwise
  have e := (congrArg (fun y : S5000x10000.Idx => (y 1).val) (sorted_at x i ⟨k.val, by omega⟩)).trans (second i _)
  exact congrArg (BitVec.ofNat 32) e

/-- The columns chosen, zero rows below. -/
def cols (p : FVec Ideal S10000x3 .f32) (q : FVec Ideal S5000x3 .f32) : IVec S5120x32 32 :=
  pad S5120x32 ![0, 0] ![120, 0] ![0, 0] (select (cmpf .ogt ((Host.topK S5000x32 1 (FloatOps.cmpfTotal .gt) (masked p q) sliceFits_S5000x10000_S5000x32).1) (broadcastInDim S5000x32 ![] bcast_S_S5000x32 (constant S_ .f32 0xFF800000#32))) ((Host.topK S5000x32 1 (FloatOps.cmpfTotal .gt) (masked p q) sliceFits_S5000x10000_S5000x32).2) (broadcastInDim S5000x32 ![] bcast_S_S5000x32 (id (constantI S_ 32 0#32)))) (id (constantI S_ 32 0#32)) pads_S5000x32_S5120x32_01200_000 h_S_

/-- The mask of the columns chosen, zero rows below. -/
def mask (p : FVec Ideal S10000x3 .f32) (q : FVec Ideal S5000x3 .f32) : FVec Ideal S5120x32 .f32 :=
  pad S5120x32 ![0, 0] ![120, 0] ![0, 0] (uitofp .f32 (cmpf .ogt ((Host.topK S5000x32 1 (FloatOps.cmpfTotal .gt) (masked p q) sliceFits_S5000x10000_S5000x32).1) (broadcastInDim S5000x32 ![] bcast_S_S5000x32 (constant S_ .f32 0xFF800000#32)))) (sitofp .f32 (constantI S_ 32 0#32)) pads_S5000x32_S5120x32_01200_000 h_S_

/-- A query's row of the table that is sorted. -/
def keys (p : FVec Ideal S10000x3 .f32) (q : FVec Ideal S5000x3 .f32) (i : Fin 5000) : Fin 10000 → EReal :=
  fun j => - near (fun d => q (ix2 i d)) (fun d => p (ix2 j d))

theorem row_keys (p : FVec Ideal S10000x3 .f32) (q : FVec Ideal S5000x3 .f32) (i : Fin 5000) : (fun j => masked p q (ix2 i j)) = keys p q i :=
  funext fun j => masked_apply p q i j

theorem value_eq (p : FVec Ideal S10000x3 .f32) (q : FVec Ideal S5000x3 .f32) (i : Fin 5000) (k : Fin 32) :
    (Host.topK S5000x32 1 (FloatOps.cmpfTotal .gt) (masked p q) sliceFits_S5000x10000_S5000x32).1 (ix2 i k) = keys p q i (order (keys p q i) ⟨k.val, by omega⟩) := by
  rw [top_values, masked_apply, row_keys]
  rfl
theorem column_eq (p : FVec Ideal S10000x3 .f32) (q : FVec Ideal S5000x3 .f32) (i : Fin 5000) (k : Fin 32) :
    (Host.topK S5000x32 1 (FloatOps.cmpfTotal .gt) (masked p q) sliceFits_S5000x10000_S5000x32).2 (ix2 i k) = BitVec.ofNat 32 (order (keys p q i) ⟨k.val, by omega⟩).val := by
  rw [top_columns, row_keys]

theorem cols_lo (p : FVec Ideal S10000x3 .f32) (q : FVec Ideal S5000x3 .f32) (n : Fin 5120) (i : Fin 5000) (h : n.val = i.val) (k : Fin 32) :
    cols p q (ix2 n k) = if ⊥ < keys p q i (order (keys p q i) ⟨k.val, by omega⟩) then BitVec.ofNat 32 (order (keys p q i) ⟨k.val, by omega⟩).val else 0#32 := by
  have e : (⟨n.val, by omega⟩ : Fin 5000) = i := Fin.ext h
  pointwise [cols]
  rw [dif_pos (show n.val < 5000 by omega), ninf_eq, e, value_eq, column_eq]
  rfl
theorem cols_hi (p : FVec Ideal S10000x3 .f32) (q : FVec Ideal S5000x3 .f32) (n : Fin 5120) (h : 5000 ≤ n.val) (k : Fin 32) :
    cols p q (ix2 n k) = 0#32 := by
  pointwise [cols]
  exact dif_neg (by omega)
theorem mask_lo (p : FVec Ideal S10000x3 .f32) (q : FVec Ideal S5000x3 .f32) (n : Fin 5120) (i : Fin 5000) (h : n.val = i.val) (k : Fin 32) :
    mask p q (ix2 n k) = if ⊥ < keys p q i (order (keys p q i) ⟨k.val, by omega⟩) then 1 else (0 : EReal) := by
  have e : (⟨n.val, by omega⟩ : Fin 5000) = i := Fin.ext h
  pointwise [mask]
  rw [dif_pos (show n.val < 5000 by omega), ninf_eq, e, value_eq]
  by_cases hb : ⊥ < keys p q i (order (keys p q i) ⟨k.val, by omega⟩)
  · rw [if_pos hb, decide_eq_true hb]
    show (((1 : ℕ) : ℝ) : EReal) = 1
    simp
  · rw [if_neg hb, decide_eq_false hb]
    show (((0 : ℕ) : ℝ) : EReal) = 0
    simp
theorem mask_hi (p : FVec Ideal S10000x3 .f32) (q : FVec Ideal S5000x3 .f32) (n : Fin 5120) (h : 5000 ≤ n.val) (k : Fin 32) :
    mask p q (ix2 n k) = (0 : EReal) := by
  pointwise [mask]
  rw [dif_neg (by omega)]
  show (((0#32 : BitVec 32).toInt : ℝ) : EReal) = 0
  simp

end Cert.Reference2Ideal.Sel

end
-- ==== Proof.SelPre.lean ====
/- What the selection's precondition says of its arrays, and why no padding is ever within the radius. -/
module

public import proofs.«01_k».proof.Proof.SelDist
public import proofs.«01_k».proof.Proof.Gen.Pre_pre_select
public import Idealize.ShloMosaic.Lib.ReduceAll
public import Idealize.ShloMosaic.Lib.WordCmp

@[expose] public section

noncomputable section

namespace Cert.SelPre

open Idealize.ShloMosaic Cert.Pre_pre_select Cert.Pre_pre_select.Facts Cert.SelMath

theorem ideal_two : Ideal.ofBits .f32 0x40000000#32 = ((2 : ℝ) : EReal) := by
  simp [Ideal.ofBits, Ideal.ieee]
  rw [← EReal.coe_mul, EReal.coe_eq_coe_iff]
  norm_num

theorem ideal_pad : Ideal.ofBits .f32 0x4E6E6B28#32 = ((1000000000 : ℝ) : EReal) := by
  simp [Ideal.ofBits, Ideal.ieee]
  rw [← EReal.coe_pow, ← EReal.coe_mul, EReal.coe_eq_coe_iff]
  norm_num

theorem ideal_neg_pad : Ideal.ofBits .f32 0xCE6E6B28#32 = ((-1000000000 : ℝ) : EReal) := by
  simp [Ideal.ofBits, Ideal.ieee]
  rw [← EReal.coe_pow, ← EReal.coe_mul, EReal.coe_eq_coe_iff]
  norm_num

theorem ideal_bound : Ideal.ofBits .f32 0x4CBEBC20#32 = ((100000000 : ℝ) : EReal) := by
  simp [Ideal.ofBits, Ideal.ieee]
  rw [← EReal.coe_pow, ← EReal.coe_mul, EReal.coe_eq_coe_iff]
  norm_num

theorem radius_lt : radius < ((1 : ℝ) : EReal) := by
  simp only [radius]
  simp [Ideal.ofBits, Ideal.ieee]
  rw [← EReal.coe_mul, ← EReal.coe_one, EReal.coe_lt_coe_iff]
  norm_num

/-- Two points more than one apart in their first coordinate are not near. -/
theorem near_top (q p : Fin 3 → EReal) (q' p' : Fin 3 → ℝ) (hq : ∀ d, q d = q' d) (hp : ∀ d, p d = p' d) (h : 1 ≤ |q' 0 - p' 0|) : near q p = ⊤ := by
  have e : sqDist q p = (((q' 0 * q' 0 + q' 1 * q' 1 + q' 2 * q' 2) + (p' 0 * p' 0 + p' 1 * p' 1 + p' 2 * p' 2)
      - 2 * (q' 0 * p' 0 + q' 1 * p' 1 + q' 2 * p' 2) : ℝ) : EReal) := by
    simp only [sqDist, hq, hp, ideal_two]
    push_cast
    rfl
  have h1 : (1 : ℝ) ≤ (q' 0 * q' 0 + q' 1 * q' 1 + q' 2 * q' 2) + (p' 0 * p' 0 + p' 1 * p' 1 + p' 2 * p' 2)
      - 2 * (q' 0 * p' 0 + q' 1 * p' 1 + q' 2 * p' 2) := by
    have h2 : 1 ≤ (q' 0 - p' 0) ^ 2 := by rw [← sq_abs]; nlinarith
    nlinarith [sq_nonneg (q' 1 - p' 1), sq_nonneg (q' 2 - p' 2)]
  refine if_neg (not_le.mpr (lt_of_lt_of_le radius_lt ?_))
  rw [e]
  exact EReal.coe_le_coe_iff.mpr h1

/-- Real and of absolute value below `10 ^ 8`. -/
def Bounded (x : EReal) : Prop := ∃ r : ℝ, x = r ∧ |r| < 100000000

/-- No point of the cloud is near a padding query. -/
theorem near_query (q p : Fin 3 → EReal) (hq : ∀ d, q d = Ideal.ofBits .f32 0x4E6E6B28#32) (hp : ∀ d, Bounded (p d)) : near q p = ⊤ := by
  choose p' h1 h2 using hp
  refine near_top q p (fun _ => 1000000000) p' (fun d => (hq d).trans ideal_pad) h1 ?_
  have := abs_lt.mp (h2 0)
  exact le_trans (by linarith) (le_abs_self _)

/-- No padding point is near a query of the cloud. -/
theorem near_point (q p : Fin 3 → EReal) (hq : ∀ d, Bounded (q d)) (hp : ∀ d, p d = Ideal.ofBits .f32 0xCE6E6B28#32) : near q p = ⊤ := by
  choose q' h1 h2 using hq
  refine near_top q p q' (fun _ => -1000000000) h1 (fun d => (hp d).trans ideal_neg_pad) ?_
  have := abs_lt.mp (h2 0)
  exact le_trans (by linarith) (le_abs_self _)

/-- No padding point is near a padding query. -/
theorem near_padding (q p : Fin 3 → EReal) (hq : ∀ d, q d = Ideal.ofBits .f32 0x4E6E6B28#32) (hp : ∀ d, p d = Ideal.ofBits .f32 0xCE6E6B28#32) : near q p = ⊤ := by
  refine near_top q p (fun _ => 1000000000) (fun _ => -1000000000) (fun d => (hq d).trans ideal_pad) (fun d => (hp d).trans ideal_neg_pad) ?_
  exact le_trans (by norm_num) (le_abs_self _)

instance : Subsingleton S_.Idx := ⟨fun a b => funext fun x => x.elim0⟩

theorem both {a b : BitVec 1} (h : IntOp.andi a b = 1#1) : a = 1#1 ∧ b = 1#1 := by
  revert a b; decide

theorem bounded_of_lt (x : Ideal .f32) (h : FloatOps.cmpf .olt (FloatOps.hostAbsf x) (FloatOps.ofBits (F := Ideal) .f32 0x4CBEBC20#32) = 1#1) : Bounded x := by
  have e : max x (-x) < ((100000000 : ℝ) : EReal) := by
    have h' : BitVec.ofBool (decide (max x (-x) < Ideal.ofBits .f32 0x4CBEBC20#32)) = 1#1 := h
    rw [ideal_bound] at h'
    by_contra hc
    rw [decide_eq_false hc] at h'
    exact absurd h' (by decide)
  obtain ⟨h1, h2⟩ := max_lt_iff.mp e
  have t1 : x ≠ (⊤ : EReal) := fun hx => absurd (hx ▸ h1) (not_lt.mpr le_top)
  have t2 : x ≠ (⊥ : EReal) := fun hx => by
    rw [hx, EReal.neg_bot] at h2
    exact absurd h2 (not_lt.mpr le_top)
  have hx := EReal.coe_toReal t1 t2
  refine ⟨EReal.toReal x, hx.symm, abs_lt.mpr ⟨?_, ?_⟩⟩
  · rw [← hx, ← EReal.coe_neg, EReal.coe_lt_coe_iff] at h2
    linarith
  · rw [← hx, EReal.coe_lt_coe_iff] at h1
    exact h1

/-- Under the precondition every coordinate is bounded. -/
theorem bounded (a0 : FVec Ideal S10000x3 .f32) (a1 : FVec Ideal S5000x3 .f32) (h : Cert.Pre_pre_select.fn a0 a1 = fun _ => 1#1) :
    (∀ y, Bounded (a0 y)) ∧ (∀ y, Bounded (a1 y)) := by
  have e := congrFun h (fun x => x.elim0)
  unfold Cert.Pre_pre_select.fn at e
  dsimp only at e
  obtain ⟨e1, e2⟩ := both e
  exact ⟨fun y => bounded_of_lt _ (Host.reduce_andi_all _ _ _ _ _ e1 y), fun y => bounded_of_lt _ (Host.reduce_andi_all _ _ _ _ _ e2 y)⟩

end Cert.SelPre

end
-- ==== Proof.SelFinal.lean ====
/- The selection kernel's two result arrays are the reference's terms over the same arguments. -/
module

public import proofs.«01_k».proof.Proof.SelBlock
public import proofs.«01_k».proof.Proof.SelHost
public import proofs.«01_k».proof.Proof.SelRef
public import proofs.«01_k».proof.Proof.SelPre

@[expose] public section

set_option maxRecDepth 16384

noncomputable section

namespace Cert.Kernel2Ideal.Sel

open Cert.Kernel2Ideal Cert.Kernel2Ideal.Gen Idealize.ShloMosaic Idealize.ShloMosaic.TcCoe Cert.SelMath

variable (m : (ℓ : Loc nD τ sig) → Buf (Elt Ideal) ℓ) (c : Dev nD)

section Block
variable (x0 : FVec Ideal S32x3 .f32) (x1 : FVec Ideal S8x10240 .f32)

/-- The columns stored, round `k` in column `k`. -/
def colsOf : IVec S32x32 32 := fun y => colOf (left x0 x1 (y 1).val) (ix2 ⟨(y 0).val, (y 0).isLt⟩ 0)
/-- The mask stored, round `k` in column `k`. -/
def masksOf : FVec Ideal S32x32 .f32 := fun y => maskOf (left x0 x1 (y 1).val) (ix2 ⟨(y 0).val, (y 0).isLt⟩ 0)

/-- A one-column rectangle's index `x` stands at row `x 0` of its column. -/
theorem emb_row (k : ℕ) (h : ∀ a, (![0, k] : Fin 2 → ℕ) a + S32x1.size a ≤ S32x32.size a) (x : S32x1.Idx) :
    (((Rect.unit (s := S32x32) ![0, k] S32x1.size h).emb x) 0).val = (x 0).val ∧ (((Rect.unit (s := S32x32) ![0, k] S32x1.size h).emb x) 1).val = k := by
  have hx : (x 1).val < 1 := (x 1).isLt
  refine ⟨?_, ?_⟩
  · show 0 + 1 * (x 0).val = _
    omega
  · show k + 1 * (x 1).val = _
    omega

theorem at_row (x : S32x1.Idx) : x = ix2 ⟨(x 0).val, (x 0).isLt⟩ 0 := by
  have hx : (x 1).val < 1 := (x 1).isLt
  refine (eq_ix2 x).trans (congrArg₂ ix2 rfl (Fin.ext (by show (x 1).val = 0; omega)))

theorem col_piece (k : ℕ) (h : ∀ a, (![0, k] : Fin 2 → ℕ) a + S32x1.size a ≤ S32x32.size a) (x : S32x1.Idx) :
    colOf (left x0 x1 k) x = colsOf x0 x1 ((Rect.unit (s := S32x32) ![0, k] S32x1.size h).emb x) := by
  obtain ⟨h0, h1⟩ := emb_row k h x
  unfold colsOf
  rw [h1]
  exact congrArg _ ((at_row x).trans (congrArg₂ ix2 (Fin.ext h0.symm) rfl))
theorem mask_piece (k : ℕ) (h : ∀ a, (![0, k] : Fin 2 → ℕ) a + S32x1.size a ≤ S32x32.size a) (x : S32x1.Idx) :
    maskOf (left x0 x1 k) x = masksOf x0 x1 ((Rect.unit (s := S32x32) ![0, k] S32x1.size h).emb x) := by
  obtain ⟨h0, h1⟩ := emb_row k h x
  unfold masksOf
  rw [h1]
  exact congrArg _ ((at_row x).trans (congrArg₂ ix2 (Fin.ext h0.symm) rfl))

/-- One-column pieces together are the function each of them is part of. -/
theorem joined_2 (f : ℕ → Vec Ideal S32x1 .i32) (G : Vec Ideal S32x32 .i32)
    (hG : ∀ (k : ℕ) (h : ∀ a, (![0, k] : Fin 2 → ℕ) a + S32x1.size a ≤ S32x32.size a) (x : S32x1.Idx), f k x = G ((Rect.unit (s := S32x32) ![0, k] S32x1.size h).emb x)) :
    (View.canon [⟨r0_33, f 31⟩, ⟨r0_32, f 30⟩, ⟨r0_31, f 29⟩, ⟨r0_30, f 28⟩, ⟨r0_29, f 27⟩, ⟨r0_28, f 26⟩, ⟨r0_27, f 25⟩, ⟨r0_26, f 24⟩, ⟨r0_25, f 23⟩, ⟨r0_24, f 22⟩, ⟨r0_23, f 21⟩, ⟨r0_22, f 20⟩, ⟨r0_21, f 19⟩, ⟨r0_20, f 18⟩, ⟨r0_19, f 17⟩, ⟨r0_18, f 16⟩, ⟨r0_17, f 15⟩, ⟨r0_16, f 14⟩, ⟨r0_15, f 13⟩, ⟨r0_14, f 12⟩, ⟨r0_13, f 11⟩, ⟨r0_12, f 10⟩, ⟨r0_11, f 9⟩, ⟨r0_10, f 8⟩, ⟨r0_9, f 7⟩, ⟨r0_8, f 6⟩, ⟨r0_7, f 5⟩, ⟨r0_6, f 4⟩, ⟨r0_5, f 3⟩, ⟨r0_4, f 2⟩, ⟨r0_3, f 1⟩, ⟨r0_2, f 0⟩] : Vec Ideal S32x32 .i32) = G := by
  funext y
  refine View.canon_apply_of_pieces G _ (fun p hp => ?_) y (cover0_2 (F := Ideal) (f 31) (f 30) (f 29) (f 28) (f 27) (f 26) (f 25) (f 24) (f 23) (f 22) (f 21) (f 20) (f 19) (f 18) (f 17) (f 16) (f 15) (f 14) (f 13) (f 12) (f 11) (f 10) (f 9) (f 8) (f 7) (f 6) (f 5) (f 4) (f 3) (f 2) (f 1) (f 0) y)
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact hG 31 inb_S32x32_S32x1_0_31
  · exact hG 30 inb_S32x32_S32x1_0_30
  · exact hG 29 inb_S32x32_S32x1_0_29
  · exact hG 28 inb_S32x32_S32x1_0_28
  · exact hG 27 inb_S32x32_S32x1_0_27
  · exact hG 26 inb_S32x32_S32x1_0_26
  · exact hG 25 inb_S32x32_S32x1_0_25
  · exact hG 24 inb_S32x32_S32x1_0_24
  · exact hG 23 inb_S32x32_S32x1_0_23
  · exact hG 22 inb_S32x32_S32x1_0_22
  · exact hG 21 inb_S32x32_S32x1_0_21
  · exact hG 20 inb_S32x32_S32x1_0_20
  · exact hG 19 inb_S32x32_S32x1_0_19
  · exact hG 18 inb_S32x32_S32x1_0_18
  · exact hG 17 inb_S32x32_S32x1_0_17
  · exact hG 16 inb_S32x32_S32x1_0_16
  · exact hG 15 inb_S32x32_S32x1_0_15
  · exact hG 14 inb_S32x32_S32x1_0_14
  · exact hG 13 inb_S32x32_S32x1_0_13
  · exact hG 12 inb_S32x32_S32x1_0_12
  · exact hG 11 inb_S32x32_S32x1_0_11
  · exact hG 10 inb_S32x32_S32x1_0_10
  · exact hG 9 inb_S32x32_S32x1_0_9
  · exact hG 8 inb_S32x32_S32x1_0_8
  · exact hG 7 inb_S32x32_S32x1_0_7
  · exact hG 6 inb_S32x32_S32x1_0_6
  · exact hG 5 inb_S32x32_S32x1_0_5
  · exact hG 4 inb_S32x32_S32x1_0_4
  · exact hG 3 inb_S32x32_S32x1_0_3
  · exact hG 2 inb_S32x32_S32x1_0_2
  · exact hG 1 inb_S32x32_S32x1_0_1
  · exact hG 0 inb_S32x32_S32x1_0_0

theorem block_2 : out0_2 (F := Ideal) x0 x1 = colsOf x0 x1 :=
  (out_2 x0 x1).trans (joined_2 (fun k => colOf (left x0 x1 k)) (colsOf x0 x1) (col_piece x0 x1))

/-- One-column pieces together are the function each of them is part of. -/
theorem joined_3 (f : ℕ → Vec Ideal S32x1 .f32) (G : Vec Ideal S32x32 .f32)
    (hG : ∀ (k : ℕ) (h : ∀ a, (![0, k] : Fin 2 → ℕ) a + S32x1.size a ≤ S32x32.size a) (x : S32x1.Idx), f k x = G ((Rect.unit (s := S32x32) ![0, k] S32x1.size h).emb x)) :
    (View.canon [⟨r0_33, f 31⟩, ⟨r0_32, f 30⟩, ⟨r0_31, f 29⟩, ⟨r0_30, f 28⟩, ⟨r0_29, f 27⟩, ⟨r0_28, f 26⟩, ⟨r0_27, f 25⟩, ⟨r0_26, f 24⟩, ⟨r0_25, f 23⟩, ⟨r0_24, f 22⟩, ⟨r0_23, f 21⟩, ⟨r0_22, f 20⟩, ⟨r0_21, f 19⟩, ⟨r0_20, f 18⟩, ⟨r0_19, f 17⟩, ⟨r0_18, f 16⟩, ⟨r0_17, f 15⟩, ⟨r0_16, f 14⟩, ⟨r0_15, f 13⟩, ⟨r0_14, f 12⟩, ⟨r0_13, f 11⟩, ⟨r0_12, f 10⟩, ⟨r0_11, f 9⟩, ⟨r0_10, f 8⟩, ⟨r0_9, f 7⟩, ⟨r0_8, f 6⟩, ⟨r0_7, f 5⟩, ⟨r0_6, f 4⟩, ⟨r0_5, f 3⟩, ⟨r0_4, f 2⟩, ⟨r0_3, f 1⟩, ⟨r0_2, f 0⟩] : Vec Ideal S32x32 .f32) = G := by
  funext y
  refine View.canon_apply_of_pieces G _ (fun p hp => ?_) y (cover0_3 (F := Ideal) (f 31) (f 30) (f 29) (f 28) (f 27) (f 26) (f 25) (f 24) (f 23) (f 22) (f 21) (f 20) (f 19) (f 18) (f 17) (f 16) (f 15) (f 14) (f 13) (f 12) (f 11) (f 10) (f 9) (f 8) (f 7) (f 6) (f 5) (f 4) (f 3) (f 2) (f 1) (f 0) y)
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact hG 31 inb_S32x32_S32x1_0_31
  · exact hG 30 inb_S32x32_S32x1_0_30
  · exact hG 29 inb_S32x32_S32x1_0_29
  · exact hG 28 inb_S32x32_S32x1_0_28
  · exact hG 27 inb_S32x32_S32x1_0_27
  · exact hG 26 inb_S32x32_S32x1_0_26
  · exact hG 25 inb_S32x32_S32x1_0_25
  · exact hG 24 inb_S32x32_S32x1_0_24
  · exact hG 23 inb_S32x32_S32x1_0_23
  · exact hG 22 inb_S32x32_S32x1_0_22
  · exact hG 21 inb_S32x32_S32x1_0_21
  · exact hG 20 inb_S32x32_S32x1_0_20
  · exact hG 19 inb_S32x32_S32x1_0_19
  · exact hG 18 inb_S32x32_S32x1_0_18
  · exact hG 17 inb_S32x32_S32x1_0_17
  · exact hG 16 inb_S32x32_S32x1_0_16
  · exact hG 15 inb_S32x32_S32x1_0_15
  · exact hG 14 inb_S32x32_S32x1_0_14
  · exact hG 13 inb_S32x32_S32x1_0_13
  · exact hG 12 inb_S32x32_S32x1_0_12
  · exact hG 11 inb_S32x32_S32x1_0_11
  · exact hG 10 inb_S32x32_S32x1_0_10
  · exact hG 9 inb_S32x32_S32x1_0_9
  · exact hG 8 inb_S32x32_S32x1_0_8
  · exact hG 7 inb_S32x32_S32x1_0_7
  · exact hG 6 inb_S32x32_S32x1_0_6
  · exact hG 5 inb_S32x32_S32x1_0_5
  · exact hG 4 inb_S32x32_S32x1_0_4
  · exact hG 3 inb_S32x32_S32x1_0_3
  · exact hG 2 inb_S32x32_S32x1_0_2
  · exact hG 1 inb_S32x32_S32x1_0_1
  · exact hG 0 inb_S32x32_S32x1_0_0

theorem block_3 : out0_3 (F := Ideal) x0 x1 = masksOf x0 x1 :=
  (out_3 x0 x1).trans (joined_3 (fun k => maskOf (left x0 x1 k)) (masksOf x0 x1) (mask_piece x0 x1))

end Block

open Cert.Reference2Ideal.Sel in
/-- One block's row is the reference's row. -/
theorem point (hp : ∀ y, Cert.SelPre.Bounded (A0 m c y)) (hq : ∀ y, Cert.SelPre.Bounded (A1 m c y)) (t : Fin cfg0.N) (r k : Fin 32) (n : Fin 5120) (hn : n.val = t.val * 32 + r.val) :
    colOf (left (iblk m c 0 t) (iblk m c 1 t) k.val) (ix2 r 0) = cols (A0 m c) (A1 m c) (ix2 n k)
      ∧ maskOf (left (iblk m c 0 t) (iblk m c 1 t) k.val) (ix2 r 0) = mask (A0 m c) (A1 m c) (ix2 n k) := by
  have hrow : ∀ j : Fin 10240, row (left (iblk m c 0 t) (iblk m c 1 t) 0) r j
      = near (fun d => queries (A1 m c) (ix2 n d)) (fun d => columns (A0 m c) (ix2 ⟨d.val, by omega⟩ j)) := fun j => by
    refine (first_apply _ _ r j).trans (congrArg₂ near (funext fun d => blk0 m c t r d n hn) (funext fun d => blk1 m c t _ d.isLt j))
  by_cases h : n.val < 5000
  · have hs := stored (iblk m c 0 t) (iblk m c 1 t) r (keys (A0 m c) (A1 m c) ⟨n.val, h⟩)
      (fun j hj => by
        rw [hrow]
        unfold keys
        rw [neg_neg]
        exact congrArg₂ near (funext fun d => queries_lo _ n ⟨n.val, h⟩ rfl d) (funext fun d => columns_lo _ j ⟨j.val, hj⟩ rfl d))
      (fun j hj => by
        rw [hrow]
        refine Cert.SelPre.near_point _ _ (fun d => ?_) (fun d => columns_hi _ j hj d)
        rw [queries_lo _ n ⟨n.val, h⟩ rfl d]
        exact hq _) ⟨k.val, by omega⟩
    exact ⟨hs.1.trans (cols_lo _ _ n ⟨n.val, h⟩ rfl k).symm, hs.2.trans (mask_lo _ _ n ⟨n.val, h⟩ rfl k).symm⟩
  · have htop : ∀ j, row (left (iblk m c 0 t) (iblk m c 1 t) 0) r j = ⊤ := fun j => by
      rw [hrow]
      by_cases hj : j.val < 10000
      · refine Cert.SelPre.near_query _ _ (fun d => queries_hi _ n (by omega) d) (fun d => ?_)
        rw [columns_lo _ j ⟨j.val, hj⟩ rfl d]
        exact hp _
      · exact Cert.SelPre.near_padding _ _ (fun d => queries_hi _ n (by omega) d) (fun d => columns_hi _ j (by omega) d)
    have hs := stored (iblk m c 0 t) (iblk m c 1 t) r (fun _ => ⊥) (fun j _ => (htop j).trans EReal.neg_bot.symm) (fun j _ => htop j) ⟨k.val, by omega⟩
    rw [if_neg (lt_irrefl _), if_neg (lt_irrefl _)] at hs
    exact ⟨hs.1.trans (cols_hi _ _ n (by omega) k).symm, hs.2.trans (mask_hi _ _ n (by omega) k).symm⟩

/-- Where a block's entry stands in the array. -/
theorem emb2 (t : Fin cfg0.N) (y : S32x32.Idx) : ((cfg0.win 2).blk t).view.emb y
    = ix2 ⟨t.val * 32 + (y 0).val, by have := tlt t; have h0 : (y 0).val < 32 := (y 0).isLt; omega⟩ (⟨(y 1).val, (y 1).isLt⟩ : Fin 32) := by
  blk_ext [idx t]
theorem emb3 (t : Fin cfg0.N) (y : S32x32.Idx) : ((cfg0.win 3).blk t).view.emb y
    = ix2 ⟨t.val * 32 + (y 0).val, by have := tlt t; have h0 : (y 0).val < 32 := (y 0).isLt; omega⟩ (⟨(y 1).val, (y 1).isLt⟩ : Fin 32) := by
  blk_ext [idx t]

/-- The neighbour table after the run. -/
theorem final_cols (hp : ∀ y, Cert.SelPre.Bounded (A0 m c y)) (hq : ∀ y, Cert.SelPre.Bounded (A1 m c y)) :
    (dats m 0 c).arrAt 2 (cfgs 0).N = Cert.Reference2Ideal.Sel.cols (A0 m c) (A1 m c) := by
  refine (dats m 0 c).arrAt_eq_of_covers 2 _ (by decide +kernel) fun t hf y => ?_
  blk_simp
  rw [after0_2, block_2, emb2]
  exact (point m c hp hq t ⟨(y 0).val, (y 0).isLt⟩ ⟨(y 1).val, (y 1).isLt⟩ _ rfl).1

/-- The validity mask after the run. -/
theorem final_mask (hp : ∀ y, Cert.SelPre.Bounded (A0 m c y)) (hq : ∀ y, Cert.SelPre.Bounded (A1 m c y)) :
    (dats m 0 c).arrAt 3 (cfgs 0).N = Cert.Reference2Ideal.Sel.mask (A0 m c) (A1 m c) := by
  refine (dats m 0 c).arrAt_eq_of_covers 3 _ (by decide +kernel) fun t hf y => ?_
  blk_simp
  rw [after0_3, block_3, emb3]
  exact (point m c hp hq t ⟨(y 0).val, (y 0).isLt⟩ ⟨(y 1).val, (y 1).isLt⟩ _ rfl).2

end Cert.Kernel2Ideal.Sel

end
-- ==== Proof.SelClaims.lean ====
/- The claims about the selection call: frames, and the value claim against the reference. -/
module

public import proofs.«01_k».proof.Defs
public import proofs.«01_k».proof.Proof.SelFinal
public import proofs.«01_k».proof.Proof.Gen.Kernel2.Frame
public import proofs.«01_k».proof.Proof.Gen.Kernel2Ideal.Value
public import proofs.«01_k».proof.Proof.Gen.Reference2Ideal.Run
public import Idealize.ShloMosaic.Adequacy
public import Idealize.ShloMosaic.Init

@[expose] public section

set_option maxRecDepth 16384

namespace Cert.SelClaims

open Idealize.ShloMosaic Idealize.ShloMosaic.TcCoe Idealize.SL.Sem

theorem frame_kernel : Cert.quiescent_Kernel2 := fun m g _ => Cert.Kernel2.Gen.frame m g

theorem frame_ideal : Cert.quiescent_Kernel2Ideal := fun m g _ => Cert.Kernel2Ideal.Gen.frame m g

theorem frame_ideal_pre : Cert.quiescent_Kernel2Ideal_pre_pre_select := fun m g _ => Cert.Kernel2Ideal.Gen.frame m g

theorem frame_reference : Cert.quiescent_Reference2Ideal := fun m g _ =>
  (θ_run Cert.Reference2Ideal.defs _ _).mono (fun r h => ⟨fun c => (h c).2.2, Idealize.ShloMosaic.sem_eq_zero_of_no_sems (by decide) r.2⟩)
    (Cert.Reference2Ideal.Value.run m g)

theorem frame_reference_pre : Cert.quiescent_Reference2Ideal_pre_pre_select := fun m g _ =>
  (θ_run Cert.Reference2Ideal.defs _ _).mono (fun r h => ⟨fun c => (h c).2.2, Idealize.ShloMosaic.sem_eq_zero_of_no_sems (by decide) r.2⟩)
    (Cert.Reference2Ideal.Value.run m g)

/-- The kernel's neighbour table and mask are the reference's. -/
theorem algebraic : Cert.algebraic_Kernel2Ideal_Reference2Ideal_pre_pre_select := by
  intro m g m' g' hpre hagree
  refine ⟨fun c => Cert.Reference2Ideal.Sel.cols (Cert.Kernel2Ideal.Sel.A0 m c) (Cert.Kernel2Ideal.Sel.A1 m c),
    fun c => Cert.Reference2Ideal.Sel.mask (Cert.Kernel2Ideal.Sel.A0 m c) (Cert.Kernel2Ideal.Sel.A1 m c), ?_, ?_⟩
  · refine (θ_run Cert.Kernel2Ideal.defs _ _).mono (fun r h c => ?_) (Cert.Kernel2Ideal.Value.run_blocks m g)
    have hb := Cert.SelPre.bounded _ _ (hpre c)
    obtain ⟨r0, r1, r2⟩ := h c
    exact ⟨r0.trans (Cert.Kernel2Ideal.Sel.final_cols m c hb.1 hb.2), r1.trans (Cert.Kernel2Ideal.Sel.final_mask m c hb.1 hb.2), r2⟩
  · refine (θ_run Cert.Reference2Ideal.defs _ _).mono (fun r h c => ?_) (Cert.Reference2Ideal.Value.run m' g')
    obtain ⟨h0, h1⟩ := hagree c
    obtain ⟨r0, r1, r2⟩ := h c
    refine ⟨r0.trans ?_, r1.trans ?_, r2⟩
    · show Cert.Reference2Ideal.Sel.cols _ _ = _
      rw [h0, h1]
    · show Cert.Reference2Ideal.Sel.mask _ _ = _
      rw [h0, h1]

end Cert.SelClaims
-- ==== Proof.WholeBlock.lean ====
/- The selection's body in the whole program leaves what it leaves in the selection alone. -/
module

public import proofs.«01_k».proof.Proof.Gen.Kernel2Ideal.Frame
public import proofs.«01_k».proof.Proof.Gen.Own.KernelIdeal.K1.Frame

@[expose] public section

set_option maxRecDepth 16384

noncomputable section

namespace Cert.Whole

open Cert.KernelIdeal Cert.KernelIdeal.Gen Cert.KernelIdeal.Own Idealize.ShloMosaic Idealize.ShloMosaic.TcCoe
open Idealize.SL Idealize.SL.Sem

variable {F : FTy → Type} [FloatOps F]
variable (c : Dev nD) (i : grid1.Coords) (arg1 : Memref sig .tc .vmem S32x3 .f32) (harg1 : arg1.IsWhole) (arg2 : Memref sig .tc .vmem S8x10240 .f32) (harg2 : arg2.IsWhole) (arg3 : Memref sig .tc .vmem S32x32 .i32) (harg3 : arg3.IsWhole) (arg4 : Memref sig .tc .vmem S32x32 .f32) (harg4 : arg4.IsWhole)
    (x0 : Vec F S32x3 .f32) (x1 : Vec F S8x10240 .f32)

/-- The neighbour table's block. -/
theorem sel_out_2 : K1.out1_A_2 (Ix := Unit) (U := UR sig nD τ) (Lvl := ℕ) Variants.none c i arg1 harg1 arg2 harg2 arg3 harg3 arg4 harg4 x0 x1 = Cert.Kernel2Ideal.Gen.out0_2 x0 x1 := by
  refine (View.read_writes_eq_canon _ _ _ (K1.cover1_A_2 (Ix := Unit) (U := UR sig nD τ) (Lvl := ℕ) Variants.none c i arg1 harg1 arg2 harg2 arg3 harg3 arg4 harg4 x0 x1)).trans ?_
  refine Eq.trans (b := Cert.Kernel2Ideal.Gen.out0_2 (arg1.view.read (Elt F) (harg1.unread x0)) (arg2.view.read (Elt F) (harg2.unread x1))) ?_ (by rw [harg1.read_unread, harg2.read_unread])
  exact rfl

/-- The mask's block. -/
theorem sel_out_3 : K1.out1_A_3 (Ix := Unit) (U := UR sig nD τ) (Lvl := ℕ) Variants.none c i arg1 harg1 arg2 harg2 arg3 harg3 arg4 harg4 x0 x1 = Cert.Kernel2Ideal.Gen.out0_3 x0 x1 := by
  refine (View.read_writes_eq_canon _ _ _ (K1.cover1_A_3 (Ix := Unit) (U := UR sig nD τ) (Lvl := ℕ) Variants.none c i arg1 harg1 arg2 harg2 arg3 harg3 arg4 harg4 x0 x1)).trans ?_
  refine Eq.trans (b := Cert.Kernel2Ideal.Gen.out0_3 (arg1.view.read (Elt F) (harg1.unread x0)) (arg2.view.read (Elt F) (harg2.unread x1))) ?_ (by rw [harg1.read_unread, harg2.read_unread])
  exact rfl

end Cert.Whole

end
-- ==== Proof.WholeTrip.lean ====
/- What the sampling kernel leaves in its output in the whole program: its trips are those of the sampling alone. -/
module

public import proofs.«01_k».proof.Proof.FpsBody
public import proofs.«01_k».proof.Proof.Gen.Own.KernelIdeal.K0.Frame

@[expose] public section

set_option maxRecDepth 65536

noncomputable section

namespace Cert.Whole

open Cert.KernelIdeal Cert.KernelIdeal.Gen Cert.KernelIdeal.Own Idealize.ShloMosaic Idealize.ShloMosaic.TcCoe
open Idealize.SL Idealize.SL.Sem Cert.FpsMath
open Cert.Kernel1Ideal.Fps (champion entrants newDist Holds Inv samples stored_eq r93_eq r94_eq r95_eq)

theorem fps_off1 : ∀ k : Fin k0_t1_loop.trips, k0_off1 k = ![k.val + 1] := by decide +kernel
theorem fps_trips : k0_t1_loop.trips = 4999 := by decide +kernel
theorem fps_hz : (![0, 0] : Fin 2 → Nat) = fun _ => 0 := funext fun a => by fin_cases a <;> rfl

section Trip

variable {F : FTy → Type} [FloatOps F]
variable (𝒱 : Variants) (c : Dev nD) (bd : Option 𝒱.V) (arg0 : Memref sig .tc .vmem S8x1280 .f32) (harg0 : arg0.IsWhole) (arg1 : Memref sig .tc .vmem S8x1280 .f32) (harg1 : arg1.IsWhole) (arg2 : Memref sig .tc .vmem S8x1280 .f32) (harg2 : arg2.IsWhole) (arg3 : Memref sig .tc .smem S5000 .i32) (harg3 : arg3.IsWhole)
variable (v0 v2 v4 : Vec F S8x1280 .f32) (acc : FVec F S1x1 .f32 × FVec F S1x1 .f32 × FVec F S1x1 .f32 × FVec F S8x1280 .f32)

theorem w93 : K0.trip_k0_t1.sl.r_93 (F := F) v0 v2 v4 acc = Cert.Kernel1Ideal.Gen.trip_k0_t1.sl.r_93 (F := F) v0 v2 v4 acc := rfl
theorem w94 : K0.trip_k0_t1.sl.r_94 (F := F) v0 v2 v4 acc = Cert.Kernel1Ideal.Gen.trip_k0_t1.sl.r_94 (F := F) v0 v2 v4 acc := rfl
theorem w95 : K0.trip_k0_t1.sl.r_95 (F := F) v0 v2 v4 acc = Cert.Kernel1Ideal.Gen.trip_k0_t1.sl.r_95 (F := F) v0 v2 v4 acc := rfl
theorem w376 : K0.trip_k0_t1.sl.v376 (F := F) v0 v2 v4 acc = Cert.Kernel1Ideal.Gen.trip_k0_t1.sl.v376 (F := F) v0 v2 v4 acc := rfl

/-- What a trip hands on: the champion's coordinates and the new distances. -/
theorem fps_tripR (k) :
    K0.tripR_k0_t1 (F := F) (Ix := Unit) (U := UR sig nD τ) (Lvl := ℕ) 𝒱 c bd arg0 harg0 arg1 harg1 arg2 harg2 arg3 harg3 v0 v2 v4 k acc
      = ((champion (entrants v0 v2 v4 acc)).x, (champion (entrants v0 v2 v4 acc)).y,
          (champion (entrants v0 v2 v4 acc)).z, newDist v0 v2 v4 acc) := by
  unfold K0.tripR_k0_t1 K0.trip_k0_t1
  dsimp only
  rw [w93, w94, w95, r93_eq, r94_eq, r95_eq]
  rfl

/-- What a trip stores: the champion's number. -/
theorem fps_tripL (k) :
    K0.tripL_k0_t1 (F := F) (Ix := Unit) (U := UR sig nD τ) (Lvl := ℕ) 𝒱 c bd arg0 harg0 arg1 harg1 arg2 harg2 arg3 harg3 v0 v2 v4 k acc
      = [⟨Rect.unit (k0_off1 k) S1.size (k0_off1_inb k), fun _ => (champion (entrants v0 v2 v4 acc)).n (ix2 0 0)⟩] := by
  unfold K0.tripL_k0_t1 K0.trip_k0_t1
  dsimp only
  rw [w376, stored_eq]

end Trip

section Loop

variable (𝒱 : Variants) (c : Dev nD) (bd : Option 𝒱.V) (arg0 : Memref sig .tc .vmem S8x1280 .f32) (harg0 : arg0.IsWhole) (arg1 : Memref sig .tc .vmem S8x1280 .f32) (harg1 : arg1.IsWhole) (arg2 : Memref sig .tc .vmem S8x1280 .f32) (harg2 : arg2.IsWhole) (arg3 : Memref sig .tc .smem S5000 .i32) (harg3 : arg3.IsWhole)

/-- Before trip `n` the carried values are those of the sequence, and the stores so far hold samples and cover entries 1 to `n`. -/
theorem fps_samples (P : Fin 10000 → Fin 3 → EReal) (v0 v2 v4 : Vec Ideal S8x1280 .f32) (h : Holds P v0 v2 v4) : ∀ n : ℕ, n ≤ 4999 →
    Inv P n (K0.st_k0_t1 (F := Ideal) (Ix := Unit) (U := UR sig nD τ) (Lvl := ℕ) 𝒱 c bd arg0 harg0 arg1 harg1 arg2 harg2 arg3 harg3 v0 v2 v4 (k0_pay5 v0, k0_pay6 v2, k0_pay7 v4, k0_pay8) n).1
    ∧ (∀ p ∈ (K0.st_k0_t1 (F := Ideal) (Ix := Unit) (U := UR sig nD τ) (Lvl := ℕ) 𝒱 c bd arg0 harg0 arg1 harg1 arg2 harg2 arg3 harg3 v0 v2 v4 (k0_pay5 v0, k0_pay6 v2, k0_pay7 v4, k0_pay8) n).2, ∀ x : p.1.shape.Idx, p.2 x = samples P (p.1.emb x))
    ∧ (∀ y : S5000.Idx, 0 < (y 0).val → (y 0).val ≤ n → ∃ p ∈ (K0.st_k0_t1 (F := Ideal) (Ix := Unit) (U := UR sig nD τ) (Lvl := ℕ) 𝒱 c bd arg0 harg0 arg1 harg1 arg2 harg2 arg3 harg3 v0 v2 v4 (k0_pay5 v0, k0_pay6 v2, k0_pay7 v4, k0_pay8) n).2, y ∈ p.1.set)
  | 0, _ => ⟨Inv.start h, fun p hp => absurd hp List.not_mem_nil, fun y h1 h2 => absurd h1 (by omega)⟩
  | n + 1, hn => by
    obtain ⟨i1, i2, i3⟩ := fps_samples P v0 v2 v4 h n (by omega)
    have hlt : n < k0_t1_loop.trips := by rw [fps_trips]; omega
    have e := K0.st_k0_t1_succ (F := Ideal) (Ix := Unit) (U := UR sig nD τ) (Lvl := ℕ) 𝒱 c bd arg0 harg0 arg1 harg1 arg2 harg2 arg3 harg3 v0 v2 v4 (k0_pay5 v0, k0_pay6 v2, k0_pay7 v4, k0_pay8) ⟨n, hlt⟩
    rw [fps_tripL, fps_tripR] at e
    change K0.st_k0_t1 (F := Ideal) (Ix := Unit) (U := UR sig nD τ) (Lvl := ℕ) 𝒱 c bd arg0 harg0 arg1 harg1 arg2 harg2 arg3 harg3 v0 v2 v4 (k0_pay5 v0, k0_pay6 v2, k0_pay7 v4, k0_pay8) (n + 1) = _ at e
    rw [e]
    obtain ⟨j1, j2⟩ := i1.next h
    refine ⟨j1, fun p hp => ?_, fun y h1 h2 => ?_⟩
    · rcases List.mem_append.mp hp with hp | hp
      · obtain rfl := List.mem_singleton.mp hp
        intro x
        refine j2.trans ?_
        have hx : (x 0).val < 1 := (x 0).isLt
        have hr : (((Rect.unit (s := S5000) (k0_off1 ⟨n, hlt⟩) S1.size (k0_off1_inb ⟨n, hlt⟩)).emb x) 0).val = n + 1 := by
          have ho : k0_off1 ⟨n, hlt⟩ 0 = n + 1 := by rw [fps_off1]; rfl
          show k0_off1 ⟨n, hlt⟩ 0 + 1 * (x 0).val = n + 1
          omega
        show _ = BitVec.ofNat 32 (far P (((Rect.unit (s := S5000) (k0_off1 ⟨n, hlt⟩) S1.size (k0_off1_inb ⟨n, hlt⟩)).emb x) 0).val).1.val
        rw [hr]
      · exact i2 p hp
    · by_cases hy : (y 0).val ≤ n
      · obtain ⟨p, hp, hm⟩ := i3 y h1 hy
        exact ⟨p, List.mem_append.mpr (Or.inr hp), hm⟩
      · refine ⟨_, List.mem_append.mpr (Or.inl (List.mem_singleton_self _)), ?_⟩
        show y ∈ (Rect.unit (s := S5000) (k0_off1 ⟨n, hlt⟩) S1.size (k0_off1_inb ⟨n, hlt⟩)).set
        rw [Rect.mem_set_unit]
        intro a
        rw [fps_off1]
        match a with
        | ⟨0, _⟩ => show n + 1 ≤ (y 0).val ∧ (y 0).val < n + 1 + 1; omega

end Loop

/-- What the sampling kernel leaves in its output. -/
theorem fps_out (c : Dev nD) (arg0 : Memref sig .tc .vmem S8x1280 .f32) (harg0 : arg0.IsWhole) (arg1 : Memref sig .tc .vmem S8x1280 .f32) (harg1 : arg1.IsWhole) (arg2 : Memref sig .tc .vmem S8x1280 .f32) (harg2 : arg2.IsWhole) (arg3 : Memref sig .tc .smem S5000 .i32) (harg3 : arg3.IsWhole) (P : Fin 10000 → Fin 3 → EReal) (x0 x1 x2 : Vec Ideal S8x1280 .f32) (h : Holds P x0 x1 x2) :
    K0.out0_A_3 (Ix := Unit) (U := UR sig nD τ) (Lvl := ℕ) Variants.none c arg0 harg0 arg1 harg1 arg2 harg2 arg3 harg3 x0 x1 x2 = samples P := by
  have hc := K0.cover0_A_3 (Ix := Unit) (U := UR sig nD τ) (Lvl := ℕ) Variants.none c arg0 harg0 arg1 harg1 arg2 harg2 arg3 harg3 x0 x1 x2
  unfold K0.out0_A_3
  rw [View.read_writes_eq_canon _ _ _ hc]
  funext y
  refine View.canon_apply_of_pieces _ _ (fun p hp => ?_) y (hc y)
  unfold K0.kernelRun0_A at hp
  dsimp only at hp
  have ht : Scf.trips 1#32 (Scalar.addi 1#32 4999#32) 1#32 = 4999 := by decide +kernel
  rw [ht] at hp
  simp only [View.readAt_eq_ld, harg0.read_unread, harg1.read_unread, harg2.read_unread] at hp
  erw [View.ld_unit_zero (S := S8x1280) fps_hz, View.ld_unit_zero (S := S8x1280) fps_hz, View.ld_unit_zero (S := S8x1280) fps_hz] at hp
  rcases List.mem_append.mp hp with hp | hp
  · exact (fps_samples Variants.none c none arg0 harg0 arg1 harg1 arg2 harg2 arg3 harg3 P x0 x1 x2 h 4999 le_rfl).2.1 p hp
  · obtain rfl := List.mem_singleton.mp hp
    intro x
    have hx : (x 0).val < 1 := (x 0).isLt
    have hr : (((Rect.unit (s := S5000) ![0] S1.size inb_S5000_S1_0).emb x) 0).val = 0 := by
      show 0 + 1 * (x 0).val = 0
      omega
    show _ = BitVec.ofNat 32 (far P (((Rect.unit (s := S5000) ![0] S1.size inb_S5000_S1_0).emb x) 0).val).1.val
    rw [hr]
    rfl

end Cert.Whole
-- ==== Proof.WholeMlp.lean ====
/- The MLP call inside the whole program, over any contents its arrays hold when it is entered. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.WholeMlp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

abbrev VO2_9 : View sig .tc .vmem S64x128 .f32 := (Memref.whole cc2_stg9_0 : Memref sig .tc .vmem S64x128 .f32).view
abbrev ms2_0 (t : Fin cfg2.N) : Memref sig .tc .smem S2048 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x136 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x8 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S136x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S8x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S128x128 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S1x128 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S64x128 .f32 := win2_9.stage (cfg2.slots t 9)
abbrev hs2_9 (t : Fin cfg2.N) : (ms2_9 t).IsWhole := hstage2_9 ((cfg2.slots t 9).cast nbuf2_9)

/-- Every row number the kernel reads names a row. -/
def Hyps : Prop :=
  ∀ (c : Dev nD) (t : Fin cfg2.N),
    (∀ (kq : ℕ) (hkq : kq < k2_t1_loop.trips), k2_chk1 ((ms2_0 t).view.readAt (Elt F) (Rect.unit (s := S2048) (k2_off1 ⟨kq, hkq⟩) S1.size (k2_off1_inb ⟨kq, hkq⟩)).toLoadRect ((hs2_0 t).unread (iblk V c 0 t)) (Shape.Idx.first (numel1_S1.symm ▸ Nat.one_pos))))

abbrev Hyps.p0 (c : Dev nD) (t : Fin cfg2.N) : Prop :=
  (∀ (kq : ℕ) (hkq : kq < k2_t1_loop.trips), k2_chk1 ((ms2_0 t).view.readAt (Elt F) (Rect.unit (s := S2048) (k2_off1 ⟨kq, hkq⟩) S1.size (k2_off1_inb ⟨kq, hkq⟩)).toLoadRect ((hs2_0 t).unread (iblk V c 0 t)) (Shape.Idx.first (numel1_S1.symm ▸ Nat.one_pos))))
variable {V} in
theorem Hyps.c0 (hH : Hyps V) (c : Dev nD) (t : Fin cfg2.N) :
    (∀ (kq : ℕ) (hkq : kq < k2_t1_loop.trips), k2_chk1 ((ms2_0 t).view.readAt (Elt F) (Rect.unit (s := S2048) (k2_off1 ⟨kq, hkq⟩) S1.size (k2_off1_inb ⟨kq, hkq⟩)).toLoadRect ((hs2_0 t).unread (iblk V c 0 t)) (Shape.Idx.first (numel1_S1.symm ▸ Nat.one_pos)))) := (hH c t)
variable {V} in
theorem Hyps.of
    (p0 : ∀ (c : Dev nD) (t : Fin cfg2.N), Hyps.p0 V c t) :
    Hyps V := fun c t =>
  p0 c t

abbrev scM2_0 : Memref sig .tc .vmem S2048x136 .f32 := Memref.whole cc2_scratch0

theorem PhiA2_eq (c : Dev nD) :
    (Pipeline.ΦA spec2 c : sProp 𝕄)
      = iprop(iprop((∃ f, (c : Thread nD τ).loc cc0_stg0_0 ↦{fullShare} f) ∗ (∃ f, (c : Thread nD τ).loc cc0_stg1_0 ↦{fullShare} f) ∗ (∃ f, (c : Thread nD τ).loc cc0_stg2_0 ↦{fullShare} f) ∗ (∃ f, (c : Thread nD τ).loc cc1_stg0_0 ↦{fullShare} f) ∗ (∃ f, (c : Thread nD τ).loc cc1_stg0_1 ↦{fullShare} f) ∗ (∃ f, (c : Thread nD τ).loc cc1_stg1_0 ↦{fullShare} f) ∗ (∃ f, (c : Thread nD τ).loc cc1_stg2_0 ↦{fullShare} f) ∗ (∃ f, (c : Thread nD τ).loc cc1_stg2_1 ↦{fullShare} f) ∗ (∃ f, (c : Thread nD τ).loc cc1_stg3_0 ↦{fullShare} f) ∗ (∃ f, (c : Thread nD τ).loc cc1_stg3_1 ↦{fullShare} f) ∗ (∃ d, owns (c : Thread nD τ) scM2_0 fullShare d) ∗ (∃ f, (c : Thread nD τ).loc cc0_stg3_0 ↦{fullShare} f)) ∗ (∃ r, prngReg c r)) := by
  unfold Pipeline.ΦA; rw [scopedRest2_eq]; simp only [scM2_0, owns_whole]; try rfl

-- (the run's proof term is large: the definition's epilogue — `abstractNestedProofs` — walks it past the default budget)
set_option backward.proofsInPublic true in
set_option maxHeartbeats 1000000 in
noncomputable def kernelRun2_A (c : Dev nD) (i : grid2.Coords) (arg1 : Memref sig .tc .smem S2048 .i32) (harg1 : arg1.IsWhole) (arg2 : Memref sig .tc .vmem S2048x1 .f32) (harg2 : arg2.IsWhole) (arg3 : Memref sig .tc .vmem S10000x136 .f32) (harg3 : arg3.IsWhole) (arg4 : Memref sig .tc .vmem S64x8 .f32) (harg4 : arg4.IsWhole) (arg5 : Memref sig .tc .vmem S136x128 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S2048x136 .f32) (harg11 : arg11.IsWhole)
    (x0 : Vec F S2048 .i32) (x1 : Vec F S2048x1 .f32) (x2 : Vec F S10000x136 .f32) (x3 : Vec F S64x8 .f32) (x4 : Vec F S136x128 .f32) (x5 : Vec F S8x128 .f32) (x6 : Vec F S1x128 .f32) (x7 : Vec F S128x128 .f32) (x8 : Vec F S1x128 .f32) (k2_hw1L : (∀ (kq : ℕ) (hkq : kq < k2_t1_loop.trips), k2_chk1 (arg1.view.readAt (Elt F) (Rect.unit (s := S2048) (k2_off1 ⟨kq, hkq⟩) S1.size (k2_off1_inb ⟨kq, hkq⟩)).toLoadRect (harg1.unread x0) (Shape.Idx.first (numel1_S1.symm ▸ Nat.one_pos))))) :
    { L9 : List (View.Piece (Elt F) S64x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc2__mlp_kernel i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc2__mlp_kernel_eq_skeleton]; unfold cc2__mlp_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    have hrd0 : ∀ (𝒱 : Variants) (c : Dev nD) (bd : Option 𝒱.V) (i : grid2.Coords) (arg1 : Memref sig .tc .smem S2048 .i32) (harg1 : arg1.IsWhole) (arg2 : Memref sig .tc .vmem S2048x1 .f32) (harg2 : arg2.IsWhole) (arg3 : Memref sig .tc .vmem S10000x136 .f32) (harg3 : arg3.IsWhole) (arg4 : Memref sig .tc .vmem S64x8 .f32) (harg4 : arg4.IsWhole) (arg5 : Memref sig .tc .vmem S136x128 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S2048x136 .f32) (harg11 : arg11.IsWhole) (X_arg1 : BufTy.Contents (Elt F) arg1.view.ty) (X_arg3 : BufTy.Contents (Elt F) arg3.view.ty) (k2_hw1L : ∀ (kq : ℕ) (hkq : kq < k2_t1_loop.trips), k2_chk1 (arg1.view.readAt (Elt F) (Rect.unit (s := S2048) (k2_off1 ⟨kq, hkq⟩) S1.size (k2_off1_inb ⟨kq, hkq⟩)).toLoadRect X_arg1 (Shape.Idx.first (numel1_S1.symm ▸ Nat.one_pos)))) (hrdF : BufTy.Contents (Elt F) arg11.view.ty) (hrdB : LoadRect S2048x136), arg11.view.readAt (Elt F) hrdB (arg11.view.writes (Elt F) hrdF (pb_k2_t1 (F := F) 𝒱 c bd i arg1 harg1 arg2 harg2 arg3 harg3 arg4 harg4 arg5 harg5 arg6 harg6 arg7 harg7 arg8 harg8 arg9 harg9 arg10 harg10 arg11 harg11 X_arg1 X_arg3 k2_hw1L (Scf.trips k2_t1_loop.lb k2_t1_loop.ub k2_t1_loop.st))) = arg11.view.readCov (pb_k2_t1 (F := F) 𝒱 c bd i arg1 harg1 arg2 harg2 arg3 harg3 arg4 harg4 arg5 harg5 arg6 harg6 arg7 harg7 arg8 harg8 arg9 harg9 arg10 harg10 arg11 harg11 X_arg1 X_arg3 k2_hw1L (Scf.trips k2_t1_loop.lb k2_t1_loop.ub k2_t1_loop.st)) hrdB := fun 𝒱 c bd i arg1 harg1 arg2 harg2 arg3 harg3 arg4 harg4 arg5 harg5 arg6 harg6 arg7 harg7 arg8 harg8 arg9 harg9 arg10 harg10 arg11 harg11 X_arg1 X_arg3 k2_hw1L hrdF hrdB => View.readAt_writes_of_cover _ hrdF _ hrdB (fun hrdJ => View.cover_of_tiledL (pb_k2_t1 (F := F) 𝒱 c bd i arg1 harg1 arg2 harg2 arg3 harg3 arg4 harg4 arg5 harg5 arg6 harg6 arg7 harg7 arg8 harg8 arg9 harg9 arg10 harg10 arg11 harg11 X_arg1 X_arg3 k2_hw1L (Scf.trips k2_t1_loop.lb k2_t1_loop.ub k2_t1_loop.st)) S1x136.size (by sl_kernel_rfl) (hrdB.idx hrdJ))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    iexists _, _; isplitr; swap; · iexact HS0
    ipureintro; rfl

theorem cover2_A_9 (c : Dev nD) (i : grid2.Coords) (arg1 : Memref sig .tc .smem S2048 .i32) (harg1 : arg1.IsWhole) (arg2 : Memref sig .tc .vmem S2048x1 .f32) (harg2 : arg2.IsWhole) (arg3 : Memref sig .tc .vmem S10000x136 .f32) (harg3 : arg3.IsWhole) (arg4 : Memref sig .tc .vmem S64x8 .f32) (harg4 : arg4.IsWhole) (arg5 : Memref sig .tc .vmem S136x128 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S2048x136 .f32) (harg11 : arg11.IsWhole)
    (x0 : Vec F S2048 .i32) (x1 : Vec F S2048x1 .f32) (x2 : Vec F S10000x136 .f32) (x3 : Vec F S64x8 .f32) (x4 : Vec F S136x128 .f32) (x5 : Vec F S8x128 .f32) (x6 : Vec F S1x128 .f32) (x7 : Vec F S128x128 .f32) (x8 : Vec F S1x128 .f32) (k2_hw1L : (∀ (kq : ℕ) (hkq : kq < k2_t1_loop.trips), k2_chk1 (arg1.view.readAt (Elt F) (Rect.unit (s := S2048) (k2_off1 ⟨kq, hkq⟩) S1.size (k2_off1_inb ⟨kq, hkq⟩)).toLoadRect (harg1.unread x0) (Shape.Idx.first (numel1_S1.symm ▸ Nat.one_pos))))) (y : S64x128.Idx) :
    ∃ pc ∈ (kernelRun2_A c i arg1 harg1 arg2 harg2 arg3 harg3 arg4 harg4 arg5 harg5 arg6 harg6 arg7 harg7 arg8 harg8 arg9 harg9 arg10 harg10 arg11 harg11 x0 x1 x2 x3 x4 x5 x6 x7 x8 k2_hw1L).1, y ∈ pc.1.set :=
  View.cover_of_tiledL (kernelRun2_A c i arg1 harg1 arg2 harg2 arg3 harg3 arg4 harg4 arg5 harg5 arg6 harg6 arg7 harg7 arg8 harg8 arg9 harg9 arg10 harg10 arg11 harg11 x0 x1 x2 x3 x4 x5 x6 x7 x8 k2_hw1L).1 S64x128.size (by sl_kernel_rfl) y

def out2_A_9 (c : Dev nD) (i : grid2.Coords) (arg1 : Memref sig .tc .smem S2048 .i32) (harg1 : arg1.IsWhole) (arg2 : Memref sig .tc .vmem S2048x1 .f32) (harg2 : arg2.IsWhole) (arg3 : Memref sig .tc .vmem S10000x136 .f32) (harg3 : arg3.IsWhole) (arg4 : Memref sig .tc .vmem S64x8 .f32) (harg4 : arg4.IsWhole) (arg5 : Memref sig .tc .vmem S136x128 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S2048x136 .f32) (harg11 : arg11.IsWhole)
    (x0 : Vec F S2048 .i32) (x1 : Vec F S2048x1 .f32) (x2 : Vec F S10000x136 .f32) (x3 : Vec F S64x8 .f32) (x4 : Vec F S136x128 .f32) (x5 : Vec F S8x128 .f32) (x6 : Vec F S1x128 .f32) (x7 : Vec F S128x128 .f32) (x8 : Vec F S1x128 .f32) (k2_hw1L : (∀ (kq : ℕ) (hkq : kq < k2_t1_loop.trips), k2_chk1 (arg1.view.readAt (Elt F) (Rect.unit (s := S2048) (k2_off1 ⟨kq, hkq⟩) S1.size (k2_off1_inb ⟨kq, hkq⟩)).toLoadRect (harg1.unread x0) (Shape.Idx.first (numel1_S1.symm ▸ Nat.one_pos))))) : Vec F S64x128 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 arg11 harg11 x0 x1 x2 x3 x4 x5 x6 x7 x8 k2_hw1L).1)

/-- What a grid point leaves in the output window. -/
def outsAt2 (hH : Hyps V) (c : Dev nD) (t : Fin cfg2.N) : Vec F S64x128 .f32 :=
  out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) scM2_0 (Memref.isWhole_whole _) (iblk V c 0 t) (iblk V c 1 t) (iblk V c 2 t) (iblk V c 3 t) (iblk V c 4 t) (iblk V c 5 t) (iblk V c 6 t) (iblk V c 7 t) (iblk V c 8 t) (Hyps.c0 hH c t)

/-- The call's proof data over any entry contents. -/
def dat (hH : Hyps V) (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt2 V hH c t)
  Φ _ := Pipeline.ΦA spec2 c
  q _ := fullShare
  owed _ := 0

theorem A_eq (hH : Hyps V) (c : Dev nD) (w : Fin cfg2.W) : (dat V hH c).A w = V c (Pipeline.arrRef spec2 w) := by
  dsimp only [dat]

theorem after2_0 (hH : Hyps V) (c : Dev nD) (t : Fin cfg2.N) : (dat V hH c).after 0 t = iblk V c 0 t := by dsimp only [dat]
theorem after2_1 (hH : Hyps V) (c : Dev nD) (t : Fin cfg2.N) : (dat V hH c).after 1 t = iblk V c 1 t := by dsimp only [dat]
theorem after2_2 (hH : Hyps V) (c : Dev nD) (t : Fin cfg2.N) : (dat V hH c).after 2 t = iblk V c 2 t := by dsimp only [dat]
theorem after2_3 (hH : Hyps V) (c : Dev nD) (t : Fin cfg2.N) : (dat V hH c).after 3 t = iblk V c 3 t := by dsimp only [dat]
theorem after2_4 (hH : Hyps V) (c : Dev nD) (t : Fin cfg2.N) : (dat V hH c).after 4 t = iblk V c 4 t := by dsimp only [dat]
theorem after2_5 (hH : Hyps V) (c : Dev nD) (t : Fin cfg2.N) : (dat V hH c).after 5 t = iblk V c 5 t := by dsimp only [dat]
theorem after2_6 (hH : Hyps V) (c : Dev nD) (t : Fin cfg2.N) : (dat V hH c).after 6 t = iblk V c 6 t := by dsimp only [dat]
theorem after2_7 (hH : Hyps V) (c : Dev nD) (t : Fin cfg2.N) : (dat V hH c).after 7 t = iblk V c 7 t := by dsimp only [dat]
theorem after2_8 (hH : Hyps V) (c : Dev nD) (t : Fin cfg2.N) : (dat V hH c).after 8 t = iblk V c 8 t := by dsimp only [dat]
theorem after2_9 (hH : Hyps V) (c : Dev nD) (t : Fin cfg2.N) : (dat V hH c).after 9 t = (outsAt2 V hH c t) := by dsimp only [dat]

theorem before2_0 (hH : Hyps V) (c : Dev nD) (t : Fin cfg2.N) (d) : (dat V hH c).before 0 t d = iblk V c 0 t :=
  before2_0_of V (dat V hH c) (A_eq V hH c 0) (after2_0 V hH c) t d
theorem before2_1 (hH : Hyps V) (c : Dev nD) (t : Fin cfg2.N) (d) : (dat V hH c).before 1 t d = iblk V c 1 t :=
  before2_1_of V (dat V hH c) (A_eq V hH c 1) (after2_1 V hH c) t d
theorem before2_2 (hH : Hyps V) (c : Dev nD) (t : Fin cfg2.N) (d) : (dat V hH c).before 2 t d = iblk V c 2 t :=
  before2_2_of V (dat V hH c) (A_eq V hH c 2) (after2_2 V hH c) t d
theorem before2_3 (hH : Hyps V) (c : Dev nD) (t : Fin cfg2.N) (d) : (dat V hH c).before 3 t d = iblk V c 3 t :=
  before2_3_of V (dat V hH c) (A_eq V hH c 3) (after2_3 V hH c) t d
theorem before2_4 (hH : Hyps V) (c : Dev nD) (t : Fin cfg2.N) (d) : (dat V hH c).before 4 t d = iblk V c 4 t :=
  before2_4_of V (dat V hH c) (A_eq V hH c 4) (after2_4 V hH c) t d
theorem before2_5 (hH : Hyps V) (c : Dev nD) (t : Fin cfg2.N) (d) : (dat V hH c).before 5 t d = iblk V c 5 t :=
  before2_5_of V (dat V hH c) (A_eq V hH c 5) (after2_5 V hH c) t d
theorem before2_6 (hH : Hyps V) (c : Dev nD) (t : Fin cfg2.N) (d) : (dat V hH c).before 6 t d = iblk V c 6 t :=
  before2_6_of V (dat V hH c) (A_eq V hH c 6) (after2_6 V hH c) t d
theorem before2_7 (hH : Hyps V) (c : Dev nD) (t : Fin cfg2.N) (d) : (dat V hH c).before 7 t d = iblk V c 7 t :=
  before2_7_of V (dat V hH c) (A_eq V hH c 7) (after2_7 V hH c) t d
theorem before2_8 (hH : Hyps V) (c : Dev nD) (t : Fin cfg2.N) (d) : (dat V hH c).before 8 t d = iblk V c 8 t :=
  before2_8_of V (dat V hH c) (A_eq V hH c 8) (after2_8 V hH c) t d

def bodyPre (hH : Hyps V) (c : Dev nD) (t : Fin cfg2.N) : sProp 𝕄 :=
  iprop((dat V hH c).Φ t.castSucc ∗ (dat V hH c).owesAt () t.castSucc
    ∗ (∃ d, owns (c : Thread nD τ) (ms2_0 t) fullShare ((dat V hH c).before 0 t d))
    ∗ (∃ d, owns (c : Thread nD τ) (ms2_1 t) fullShare ((dat V hH c).before 1 t d))
    ∗ (∃ d, owns (c : Thread nD τ) (ms2_2 t) fullShare ((dat V hH c).before 2 t d))
    ∗ (∃ d, owns (c : Thread nD τ) (ms2_3 t) fullShare ((dat V hH c).before 3 t d))
    ∗ (∃ d, owns (c : Thread nD τ) (ms2_4 t) fullShare ((dat V hH c).before 4 t d))
    ∗ (∃ d, owns (c : Thread nD τ) (ms2_5 t) fullShare ((dat V hH c).before 5 t d))
    ∗ (∃ d, owns (c : Thread nD τ) (ms2_6 t) fullShare ((dat V hH c).before 6 t d))
    ∗ (∃ d, owns (c : Thread nD τ) (ms2_7 t) fullShare ((dat V hH c).before 7 t d))
    ∗ (∃ d, owns (c : Thread nD τ) (ms2_8 t) fullShare ((dat V hH c).before 8 t d))
    ∗ (∃ d, owns (c : Thread nD τ) (ms2_9 t) fullShare ((dat V hH c).before 9 t d)))

def bodyPost (hH : Hyps V) (c : Dev nD) (t : Fin cfg2.N) : sProp 𝕄 :=
  iprop((dat V hH c).Φ t.succ ∗ (dat V hH c).owesAt () t.succ
    ∗ owns (c : Thread nD τ) (ms2_0 t) fullShare ((dat V hH c).after 0 t)
    ∗ owns (c : Thread nD τ) (ms2_1 t) fullShare ((dat V hH c).after 1 t)
    ∗ owns (c : Thread nD τ) (ms2_2 t) fullShare ((dat V hH c).after 2 t)
    ∗ owns (c : Thread nD τ) (ms2_3 t) fullShare ((dat V hH c).after 3 t)
    ∗ owns (c : Thread nD τ) (ms2_4 t) fullShare ((dat V hH c).after 4 t)
    ∗ owns (c : Thread nD τ) (ms2_5 t) fullShare ((dat V hH c).after 5 t)
    ∗ owns (c : Thread nD τ) (ms2_6 t) fullShare ((dat V hH c).after 6 t)
    ∗ owns (c : Thread nD τ) (ms2_7 t) fullShare ((dat V hH c).after 7 t)
    ∗ owns (c : Thread nD τ) (ms2_8 t) fullShare ((dat V hH c).after 8 t)
    ∗ owns (c : Thread nD τ) (ms2_9 t) fullShare ((dat V hH c).after 9 t))

set_option maxHeartbeats 800000 in
/-- One grid point. -/
theorem sound_body (hH : Hyps V) (c : Dev nD) (t : Fin cfg2.N) :
    bodyPre V hH c t ⊢ wp frame (wpE (defs₀ (F := F)) Variants.none c none) Set.univ (bodyAt2 t) (fun _ => bodyPost V hH c t) := by
  unfold bodyPre bodyPost bodyAt2
  simp only [before2_0, before2_1, before2_2, before2_3, before2_4, before2_5, before2_6, before2_7, before2_8]
  rw [show (dat V hH c).Φ t.succ = (dat V hH c).Φ t.castSucc from rfl,
    show (dat V hH c).owesAt () t.succ = (dat V hH c).owesAt () t.castSucc from rfl,
    after2_0, after2_1, after2_2, after2_3, after2_4, after2_5, after2_6, after2_7, after2_8, after2_9]
  rw [show (dat V hH c).Φ t.castSucc = Pipeline.ΦA spec2 c from rfl, PhiA2_eq]
  unfold outsAt2
  unfold out2_A_9
  iintro ⟨⟨⟨Q0, Q1, Q2, Q3, Q4, Q5, Q6, Q7, Q8, Q9, HS0, Q10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun2_A c (grid2.coords t) _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  iintro ⟨H0, H1, H2, H3, H4, H5, H6, H7, H8, ⟨%e9, H9⟩, HS0⟩
  isplitl [HS0 Hg Q0 Q1 Q2 Q3 Q4 Q5 Q6 Q7 Q8 Q9 Q10]
  · isplitl [HS0 Q0 Q1 Q2 Q3 Q4 Q5 Q6 Q7 Q8 Q9 Q10]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [HS0]; · iexact HS0
      iexact Q10
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr
  swap; · iexact H9
  ipureintro; exact View.read_writes_of_cover _ _ _ _ _ (cover2_A_9 c _ _ _ _ _ _ _ _ _ _ _ _ _ _ _ _ _ _ _ _ _ _ _ _ _ _ _ _ _ _ _ _ _)

theorem defs₀_row (t : Fin cfg2.N) :
    defs₀ (F := F) .tc cfg2.body (cfg2.bodyArgs t (cfg2.slots t)) = bodyAt2 t := by
  unfold defs₀; rw [Defs.onTc_tc]

/-- Every grid point. -/
theorem body_obligation (hH : Hyps V) (c : Dev nD) : BodyObligation (dat (F := F) V hH c) (defs₀ (F := F)) Variants.none () Set.univ := fun t => by
  rw [bigSep_W2, bigSep_W2, defs₀_row]
  exact triple_restated (sound_body V hH c t) rfl .rfl fun _ => .rfl

end Cert.WholeMlp

end
-- ==== Proof.WholeRun.lean ====
/- The whole program run: the three calls' regions, entered one after the other, and the results
   read off the valuation after the last host operation. -/
module

public import proofs.«01_k».proof.Proof.Gen.Own.KernelIdeal.RegionsD
public import proofs.«01_k».proof.Proof.WholeMlp
public import Idealize.ShloMosaic.Lib.Pipeline.Kit

@[expose] public section

noncomputable section

namespace Cert.Whole

open Cert.KernelIdeal Cert.KernelIdeal.Gen Cert.KernelIdeal.Own
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

/-- Every TensorCore semaphore has the one level. -/
abbrev L : GSem nD τ sig → Finset Unit := fun g => if g.1.2 = .tc then {()} else ∅
abbrev lv : GSem nD τ sig → Unit → ℕ := fun _ _ => 0

theorem cut (p : Fin 3) : Pipeline.LevelCut (pcfgs (F := F)) adm () L lv p (0 : Dev nD → CellTallies nD τ sig Unit) (fun _ => 0) where
  hι c w s := by
    show () ∈ (if (Proc.tc : Proc τ) = .tc then ({()} : Finset Unit) else ∅)
    rw [if_pos rfl]; exact Finset.mem_singleton_self _
  hιb c w s := le_refl _
  hD c g i h := absurd h (Nat.lt_irrefl 0)

variable (m : (ℓ : Loc nD τ sig) → Buf (Elt F) ℓ)

/-- The sampling's proof data. -/
abbrev fpsDat (c : Dev nD) : Dat τ (Elt F) Unit ℕ (UR sig nD τ) ℕ cfg0 c := K0.dat Variants.none (Ve0 m) (0 : Dev nD → CellTallies nD τ sig Unit) c

/-- What the sampling leaves. -/
def fpsOuts : (r : Ref sig .tc) → (c : Dev nD) → Buf (Elt F) ((c : Thread nD τ).loc r) :=
  Function.update (fun r c => m ((c : Thread nD τ).loc r)) main_v10 (fun c => (fpsDat m c).arrAt 3 cfg0.N)

/-- The unknowns with the sampling's alone named. -/
def outsF : Outs (F := F) := fun _ => fpsOuts m

/-- The selection's proof data. -/
abbrev selDat (c : Dev nD) : Dat τ (Elt F) Unit ℕ (UR sig nD τ) ℕ cfg1 c := K1.dat Variants.none (Ve1 m (outsF m)) (0 : Dev nD → CellTallies nD τ sig Unit) c

/-- What the sampling and the selection leave. -/
def selOuts : (r : Ref sig .tc) → (c : Dev nD) → Buf (Elt F) ((c : Thread nD τ).loc r) :=
  Function.update (Function.update (fpsOuts m) main_v18_0 (fun c => (selDat m c).arrAt 2 cfg1.N))
    main_v18_1 (fun c => (selDat m c).arrAt 3 cfg1.N)

/-- The unknowns with the MLP call's alone unnamed. -/
def outsS : Outs (F := F) := fun n =>
  match n with
  | 4 => fpsOuts m
  | _ => selOuts m

/-- What the MLP call is entered with. -/
abbrev Ve2 (c : Dev nD) (b : Ref sig .tc) : Buf (Elt F) ((c : Thread nD τ).loc b) := V14 m (outsS m) c (Proc.devRef .tc b)

variable (hH : WholeMlp.Hyps (Ve2 m))

/-- The MLP call's proof data. -/
abbrev mlpDat (c : Dev nD) : Dat τ (Elt F) Unit ℕ (UR sig nD τ) ℕ cfg2 c := WholeMlp.dat (Ve2 m) hH c

/-- What the three calls leave. -/
def outs : Outs (F := F) := fun n =>
  match n with
  | 4 => fpsOuts m
  | 15 => Function.update (selOuts m) main_v35 (fun c => (mlpDat m hH c).arrAt 9 cfg2.N)
  | _ => selOuts m

theorem fpsOuts_at (c : Dev nD) : fpsOuts m main_v10 c = (fpsDat m c).arrAt 3 cfg0.N := by
  unfold fpsOuts
  rw [Function.update_self]
theorem selOuts_0 (c : Dev nD) : selOuts m main_v18_0 c = (selDat m c).arrAt 2 cfg1.N := by
  unfold selOuts
  rw [Function.update_of_ne (by decide : (main_v18_0 : Ref sig .tc) ≠ main_v18_1), Function.update_self]
theorem selOuts_1 (c : Dev nD) : selOuts m main_v18_1 c = (selDat m c).arrAt 3 cfg1.N := by
  unfold selOuts
  rw [Function.update_self]
theorem outs_15 (c : Dev nD) : outs m hH 15 main_v35 c = (mlpDat m hH c).arrAt 9 cfg2.N := by
  show Function.update (selOuts m) main_v35 _ main_v35 c = _
  rw [Function.update_self]

theorem V4_outs (c : Dev nD) : V4 m (outs m hH) c = V4 m (outsF m) c := rfl
theorem V4_outsS (c : Dev nD) : V4 m (outsS m) c = V4 m (outsF m) c := rfl
theorem V10_outs (c : Dev nD) : V10 m (outs m hH) c = V10 m (outsF m) c := by
  unfold V10 V9 V8 V7 V6 V5
  rw [V4_outs]
theorem V10_outsS (c : Dev nD) : V10 m (outsS m) c = V10 m (outsF m) c := by
  unfold V10 V9 V8 V7 V6 V5
  rw [V4_outsS]
theorem V11_outs (c : Dev nD) : V11 m (outs m hH) c = V11 m (outsS m) c := by
  unfold V11
  rw [V10_outs, V10_outsS]
  rfl
theorem V14_outs (c : Dev nD) : V14 m (outs m hH) c = V14 m (outsS m) c := by
  unfold V14 V13 V12
  rw [V11_outs]
theorem Ve1_outs : Ve1 m (outs m hH) = Ve1 m (outsF m) := by
  funext c b
  exact congrFun (V10_outs m hH c) _

/-- The data of the three calls. -/
def pd : (p : Fin 3) → (c : Dev nD) → Dat τ (Elt F) Unit ℕ (UR sig nD τ) ℕ (cfgs p) c
  | ⟨0, _⟩ => fun c => fpsDat m c
  | ⟨1, _⟩ => fun c => selDat m c
  | ⟨2, _⟩ => fun c => mlpDat m hH c

abbrev pdD := pdatsD (U := UR sig nD τ) (Lvl := ℕ) m (outs m hH) Variants.none (pd m hH) (0 : Dev nD → CellTallies nD τ sig Unit) (0 : Dev nD → CellTallies nD τ sig Unit)

theorem hout0_3 (c : Dev nD) : outs m hH 4 main_v10 c = (pdD m hH 0 c).arrAt 3 cfg0.N := fpsOuts_at m c
theorem hout1_2 (c : Dev nD) : outs m hH 11 main_v18_0 c = (pdD m hH 1 c).arrAt 2 cfg1.N := by
  show selOuts m main_v18_0 c = (K1.dat Variants.none (Ve1 m (outs m hH)) (0 : Dev nD → CellTallies nD τ sig Unit) c).arrAt 2 cfg1.N
  rw [Ve1_outs]
  exact selOuts_0 m c
theorem hout1_3 (c : Dev nD) : outs m hH 11 main_v18_1 c = (pdD m hH 1 c).arrAt 3 cfg1.N := by
  show selOuts m main_v18_1 c = (K1.dat Variants.none (Ve1 m (outs m hH)) (0 : Dev nD → CellTallies nD τ sig Unit) c).arrAt 3 cfg1.N
  rw [Ve1_outs]
  exact selOuts_1 m c

theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
theorem arr2_S : Pipeline.arrRefs (τ := τ) spec2 ⊆ Pipeline.ucRefs τ sig :=
  Pipeline.arrRefs_sub_ucRefs spec2 (by decide)

theorem V15_at35 (c : Dev nD) : V15 m (outs m hH) c (Proc.devRef .tc main_v35) = outs m hH 15 main_v35 c := by
  simp only [V15, Function.update_self]

theorem rest2_eq (c : Dev nD) : ∀ b ∈ (Pipeline.ucRefs τ sig) \ Pipeline.arrRefs (τ := τ) spec2, V15 m (outs m hH) c b = V14 m (outs m hH) c b := fun b hb => by
  have hn : b ∉ Pipeline.arrRefs (τ := τ) spec2 := (Finset.mem_sdiff.mp hb).2
  have h23 : b ≠ Proc.devRef .tc main_v35 := by rintro rfl; exact hn (by first | exact arr2_mem 9 | decide)
  simp only [V15, Function.update_of_ne h23]

theorem in_eq (c : Dev nD) (w : Fin cfg2.W) (hw : (cfg2.win w).isOut = false) (hne : Pipeline.arrRef spec2 w ∉ ([main_v35] : List (Ref sig .tc))) :
    (mlpDat m hH c).arrAt w cfg2.N = V15 m (outs m hH) c (Proc.devRef .tc (Pipeline.arrRef spec2 w)) :=
  ((mlpDat m hH c).arrAt_in w hw _).trans ((WholeMlp.A_eq (Ve2 m) hH c w).trans
    ((congrFun (V14_outs m hH c) _).symm.trans (V15_of m (outs m hH) c (Pipeline.arrRef spec2 w) hne).symm))

theorem out_eq (c : Dev nD) : ∀ w : Fin cfg2.W, (mlpDat m hH c).arrAt w cfg2.N = V15 m (outs m hH) c (Proc.devRef .tc (Pipeline.arrRef spec2 w))
  | 0 => in_eq m hH c 0 rfl (by decide)
  | 1 => in_eq m hH c 1 rfl (by decide)
  | 2 => in_eq m hH c 2 rfl (by decide)
  | 3 => in_eq m hH c 3 rfl (by decide)
  | 4 => in_eq m hH c 4 rfl (by decide)
  | 5 => in_eq m hH c 5 rfl (by decide)
  | 6 => in_eq m hH c 6 rfl (by decide)
  | 7 => in_eq m hH c 7 rfl (by decide)
  | 8 => in_eq m hH c 8 rfl (by decide)
  | 9 => (outs_15 m hH c).symm.trans (V15_at35 m hH c).symm
  | ⟨_ + 10, h⟩ => absurd h (Nat.not_lt.2 (Nat.le_add_left _ _))

-- a library definition stated over a pinned configuration unifies only when unification may unfold plain definitions
set_option backward.isDefEq.respectTransparency.types false in
/-- The MLP call's region. -/
def R2 : RegionSeg (pcfgs (F := F)) adm (pdD m hH) () defs₀ Variants.none L lv 2 :=
  Pipeline.RegionSeg.ofHeld (pcfgs (F := F)) adm (pdD m hH) () defs₀ Variants.none L lv 2 (0 : Dev nD → CellTallies nD τ sig Unit)
    (fun c => iprop(∃ r, prngReg c r)) (fun c => iprop(∃ r, prngReg c r))
    launch2.toP rfl
    (fun c => (WholeMlp.body_obligation (Ve2 m) hH c).loose) (fun _ _ => rfl) (fun _ => rfl)
    (fun c => (mlpDat m hH c).share_full fun _ => rfl) (fun _ => .rfl) (fun _ => .rfl) (fun _ => 0) (cut 2)
    (fun c => iprop(StableHlo.held (c : Thread nD τ) ((Pipeline.ucRefs τ sig) \ Pipeline.arrRefs (τ := τ) spec2) (V14 m (outs m hH) c) ∗ emp))
    (V14 m (outs m hH)) (V15 m (outs m hH))
    (fun c w => (WholeMlp.A_eq (Ve2 m) hH c w).trans (congrFun (V14_outs m hH c) _).symm)
    (fun c w => out_eq m hH c w)

/-- Between items a core holds its random-number register and owes nothing. -/
def E : Fin 4 → Dev nD → sProp 𝕄 := fun _ c => iprop((∃ r, prngReg c r) ∗ (∃ W, owes (c : Thread nD τ) (0 : CellTallies nD τ sig Unit) W) ∗ emp)

theorem hpre2 (c : Dev nD) : iprop(StableHlo.held (c : Thread nD τ) (Pipeline.ucRefs τ sig) (V14 m (outs m hH) c) ∗ E (F := F) 2 c) ⊢ (R2 m hH).pre c := by
  show _ ⊢ iprop(StableHlo.held (c : Thread nD τ) (Pipeline.arrRefs (τ := τ) spec2) (V14 m (outs m hH) c) ∗ (∃ r, prngReg c r)
    ∗ (StableHlo.held (c : Thread nD τ) ((Pipeline.ucRefs τ sig) \ Pipeline.arrRefs (τ := τ) spec2) (V14 m (outs m hH) c) ∗ emp) ∗ ∃ W, owes (c : Thread nD τ) (0 : CellTallies nD τ sig Unit) W)
  rw [StableHlo.held_sub_split (c : Thread nD τ) arr2_S (V14 m (outs m hH) c)]
  unfold E
  iintro ⟨⟨Ha, Hr⟩, Hp, HO, Hx⟩
  isplitl [Ha]; · iexact Ha
  isplitl [Hp]; · iexact Hp
  isplitl [Hr Hx]; · isplitl [Hr] <;> iassumption
  iexact HO

theorem hpost2 (c : Dev nD) : (R2 m hH).post c ⊢ iprop(StableHlo.held (c : Thread nD τ) (Pipeline.ucRefs τ sig) (V15 m (outs m hH) c) ∗ E (F := F) 3 c) := by
  show iprop(StableHlo.held (c : Thread nD τ) (Pipeline.arrRefs (τ := τ) spec2) (V15 m (outs m hH) c) ∗ (∃ r, prngReg c r)
    ∗ (StableHlo.held (c : Thread nD τ) ((Pipeline.ucRefs τ sig) \ Pipeline.arrRefs (τ := τ) spec2) (V14 m (outs m hH) c) ∗ emp) ∗ ∃ W, owes (c : Thread nD τ) (0 : CellTallies nD τ sig Unit) W) ⊢ _
  rw [StableHlo.held_sub_split (c : Thread nD τ) arr2_S (V15 m (outs m hH) c),
    StableHlo.held_congr (c : Thread nD τ) (S := (Pipeline.ucRefs τ sig) \ Pipeline.arrRefs (τ := τ) spec2) (rest2_eq m hH c)]
  unfold E
  iintro ⟨Ha, Hp, ⟨Hr, Hx⟩, HO⟩
  isplitl [Ha Hr]; · isplitl [Ha] <;> iassumption
  isplitl [Hp]; · iexact Hp
  isplitl [HO]; · iexact HO
  iexact Hx

/-- The sampling's region. -/
def R0 : RegionSeg (pcfgs (F := F)) adm (pdD m hH) () defs₀ Variants.none L lv 0 :=
  R0D m (outs m hH) Variants.none L lv () (pd m hH) 0 0 (fun _ => 0) (cut 0) (fun _ => iprop(emp)) (hout0_3 m hH)

theorem hpre0 (c : Dev nD) : iprop(StableHlo.held (c : Thread nD τ) (Pipeline.ucRefs τ sig) (V3 m c) ∗ E (F := F) 0 c) ⊢ (R0 m hH).pre c :=
  hpre0D m (outs m hH) Variants.none L lv () (pd m hH) 0 0 (fun _ => 0) (cut 0) E (fun _ => iprop(emp)) (fun _ => .rfl) (hout0_3 m hH) c
theorem hpost0 (c : Dev nD) : (R0 m hH).post c ⊢ iprop(StableHlo.held (c : Thread nD τ) (Pipeline.ucRefs τ sig) (V4 m (outs m hH) c) ∗ E (F := F) 1 c) :=
  hpost0D m (outs m hH) Variants.none L lv () (pd m hH) 0 0 (fun _ => 0) (cut 0) E (fun _ => iprop(emp)) (fun _ => .rfl) (hout0_3 m hH) c

/-- The selection's region. -/
def R1 : RegionSeg (pcfgs (F := F)) adm (pdD m hH) () defs₀ Variants.none L lv 1 :=
  R1D m (outs m hH) Variants.none L lv () (pd m hH) 0 0 (fun _ => 0) (cut 1) (fun _ => iprop(emp)) (hout1_2 m hH) (hout1_3 m hH)

theorem hpre1 (c : Dev nD) : iprop(StableHlo.held (c : Thread nD τ) (Pipeline.ucRefs τ sig) (V10 m (outs m hH) c) ∗ E (F := F) 1 c) ⊢ (R1 m hH).pre c :=
  hpre1D m (outs m hH) Variants.none L lv () (pd m hH) 0 0 (fun _ => 0) (cut 1) E (fun _ => iprop(emp)) (fun _ => .rfl) (hout1_2 m hH) (hout1_3 m hH) c
theorem hpost1 (c : Dev nD) : (R1 m hH).post c ⊢ iprop(StableHlo.held (c : Thread nD τ) (Pipeline.ucRefs τ sig) (V11 m (outs m hH) c) ∗ E (F := F) 2 c) :=
  hpost1D m (outs m hH) Variants.none L lv () (pd m hH) 0 0 (fun _ => 0) (cut 1) E (fun _ => iprop(emp)) (fun _ => .rfl) (hout1_2 m hH) (hout1_3 m hH) c

/-- The launch's resources. -/
abbrev u₀ : UR sig nD τ := initOf (Pipeline.cells cfgs cellOf_inj) (Pipeline.launchToks cfgs cellOf_inj)

theorem hE0 (ρ : Dev nD → PrngReg) :
    iprop((bigSep Finset.univ fun c : Dev nD => iprop(unscopedSems0 c ∗ owes (c : Thread nD τ) (0 : CellTallies nD τ sig Unit) ∅ ∗ Pipeline.launchCred (0 : Dev nD → CellTallies nD τ sig Unit) c ∗ prngReg c (ρ c) ∗ emp)) ∗ levAts L lv)
      ⊢ (|={Set.univ}=> bigSep Finset.univ (E 0) : sProp 𝕄) := by
  iintro ⟨H, -⟩
  imodintro
  iapply (show (bigSep Finset.univ fun c : Dev nD => iprop(unscopedSems0 c ∗ owes (c : Thread nD τ) (0 : CellTallies nD τ sig Unit) ∅ ∗ Pipeline.launchCred (0 : Dev nD → CellTallies nD τ sig Unit) c ∗ prngReg c (ρ c) ∗ emp) : sProp 𝕄)
      ⊢ bigSep Finset.univ (E 0) from bigSep_mono fun c _ => by
    unfold E
    show iprop(unscopedSems0 c ∗ owes (c : Thread nD τ) (0 : CellTallies nD τ sig Unit) ∅ ∗ Pipeline.launchCred (0 : Dev nD → CellTallies nD τ sig Unit) c ∗ prngReg c (ρ c) ∗ emp)
      ⊢ (iprop((∃ r, prngReg c r) ∗ (∃ W, owes (c : Thread nD τ) (0 : CellTallies nD τ sig Unit) W) ∗ emp) : sProp 𝕄)
    iintro ⟨-, HO, -, Hp, He⟩
    isplitl [Hp]; · iexists _; iexact Hp
    isplitl [HO]; · iexists _; iexact HO
    iexact He)
  iexact H

-- the library theorem's implicit arguments are found by unification, which takes unfolding plain definitions
set_option backward.isDefEq.respectTransparency.types false in
/-- The program's run: every argument ends as launched, the results at what the three calls and the host operations make of
    the launch contents, every counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v36) = V17 m (outs m hH) c main_v36
      ∧ r.2.mem ((c.tc : Thread nD τ).loc main_v11) = V17 m (outs m hH) c main_v11
      ∧ r.2.mem ((c.tc : Thread nD τ).loc main_v37) = V17 m (outs m hH) c main_v37)
      ∧ r.2.sem = fun _ => 0) := by
  have hL : ∀ g : GSem nD τ sig, g.1.2 ≠ .tc → L g = ∅ := fun g hg => if_neg hg
  have hE3 : ∀ c : Dev nD, E (F := F) 3 c ⊢ (iprop(∃ W, owes (c : Thread nD τ) (0 : CellTallies nD τ sig Unit) W) : sProp 𝕄) := fun c => by
    unfold E; iintro ⟨-, HO, -⟩; iexact HO
  have hu₀ : (ownU u₀ : sProp 𝕄) ⊢ |={Set.univ}=> iprop(BI.own (emb₁ (initOf (Pipeline.cells cfgs cellOf_inj) (Pipeline.launchToks cfgs cellOf_inj))) ∗ bigSep Finset.univ fun _ : Dev nD => (iprop(emp) : sProp 𝕄)) := by
    iintro Hu; imodintro
    isplitl [Hu]; · iapply (show (ownU u₀ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  refine Pipeline.θ_run_regions_kit_dev_sems (pcfgs (F := F)) adm (pdD m hH) () cellOf_inj emb₁ defs₀ Variants.none L lv m ρ main
    (segs m (outs m hH) Variants.none L lv E () (pdD m hH) (R0 m hH) (R1 m hH) (R2 m hH))
    (fun c Q => by
      rewrite [main_chain c, Seg.run_eq_chain,
        show (segs m (outs m hH) Variants.none L lv E () (pdD m hH) (R0 m hH) (R1 m hH) (R2 m hH) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1 ] from rfl]
      dsimp (config := { failIfUnchanged := false }) only
      exact .rfl)
    (fun c => by simp only [segs, Seg.pipes_host, Seg.pipes_region, Seg.pipes_nil]; decide) 0 hL (fun _ => iprop(emp)) u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m (outs m hH) c))
    (hch := fun c => ⟨.rfl, .rfl, .rfl, hpre0 m hH c, hpost0 m hH c, .rfl, .rfl, .rfl, .rfl, .rfl, hpre1 m hH c, hpost1 m hH c, .rfl, .rfl, hpre2 m hH c, hpost2 m hH c, .rfl, sep_mono .rfl (hE3 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_v36) = V17 m (outs m hH) c main_v36 ∧ s.mem ((c.tc : Thread nD τ).loc main_v11) = V17 m (outs m hH) c main_v11 ∧ s.mem ((c.tc : Thread nD τ).loc main_v37) = V17 m (outs m hH) c main_v37)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (0 : Dev nD → CellTallies nD τ sig Unit) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (0 : Dev nD → CellTallies nD τ sig Unit) c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m (outs m hH) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V17_main_arg0 m (outs m hH) c),
        (h (Proc.devRef .tc main_arg1) (Finset.mem_filter.mpr ⟨StableHlo.devRef_mem_tcRefs main_arg1, by decide⟩)).trans (V17_main_arg1 m (outs m hH) c),
        (h (Proc.devRef .tc main_arg2) (Finset.mem_filter.mpr ⟨StableHlo.devRef_mem_tcRefs main_arg2, by decide⟩)).trans (V17_main_arg2 m (outs m hH) c),
        (h (Proc.devRef .tc main_arg3) (Finset.mem_filter.mpr ⟨StableHlo.devRef_mem_tcRefs main_arg3, by decide⟩)).trans (V17_main_arg3 m (outs m hH) c),
        (h (Proc.devRef .tc main_arg4) (Finset.mem_filter.mpr ⟨StableHlo.devRef_mem_tcRefs main_arg4, by decide⟩)).trans (V17_main_arg4 m (outs m hH) c),
        (h (Proc.devRef .tc main_arg5) (Finset.mem_filter.mpr ⟨StableHlo.devRef_mem_tcRefs main_arg5, by decide⟩)).trans (V17_main_arg5 m (outs m hH) c),
        (h (Proc.devRef .tc main_arg6) (Finset.mem_filter.mpr ⟨StableHlo.devRef_mem_tcRefs main_arg6, by decide⟩)).trans (V17_main_arg6 m (outs m hH) c),
        h (Proc.devRef .tc main_v36) (Finset.mem_filter.mpr ⟨StableHlo.devRef_mem_tcRefs main_v36, by decide⟩),
        h (Proc.devRef .tc main_v11) (Finset.mem_filter.mpr ⟨StableHlo.devRef_mem_tcRefs main_v11, by decide⟩),
        h (Proc.devRef .tc main_v37) (Finset.mem_filter.mpr ⟨StableHlo.devRef_mem_tcRefs main_v37, by decide⟩)⟩
    · iexact HSI

end Cert.Whole

end
-- ==== Proof.WholeFps.lean ====
/- The sampling's region in the whole program leaves the reference's samples, and the rows and batch numbers taken
   from them are the reference's. -/
module

public import proofs.«01_k».proof.Proof.WholeTrip
public import proofs.«01_k».proof.Proof.WholeRun
public import proofs.«01_k».proof.Proof.FpsFinal
public import proofs.«01_k».proof.Proof.FpsRefVal

@[expose] public section

set_option maxRecDepth 16384

noncomputable section

namespace Cert.Whole

open Cert.KernelIdeal Cert.KernelIdeal.Gen Cert.KernelIdeal.Own Idealize.ShloMosaic Idealize.ShloMosaic.TcCoe Idealize.ShloMosaic.StableHlo
open Idealize.SL Idealize.SL.Sem Cert.FpsMath
open Cert.Kernel1Ideal.Fps (Holds samples points)
open Cert.Reference1Ideal.Fps (state takePos takeBatch)

variable (m : (ℓ : Loc nD τ sig) → Buf (Elt Ideal) ℓ) (c : Dev nD)

abbrev A0 : FVec Ideal S10000x128 .f32 := m ((c : Thread nD τ).loc main_arg0)
abbrev A1 : FVec Ideal S10000x3 .f32 := m ((c : Thread nD τ).loc main_arg1)
abbrev AB : IVec S10000 32 := m ((c : Thread nD τ).loc main_arg2)
abbrev A3 : FVec Ideal S131x128 .f32 := m ((c : Thread nD τ).loc main_arg3)
abbrev A4 : FVec Ideal S128 .f32 := m ((c : Thread nD τ).loc main_arg4)
abbrev A5 : FVec Ideal S128x128 .f32 := m ((c : Thread nD τ).loc main_arg5)
abbrev A6 : FVec Ideal S128 .f32 := m ((c : Thread nD τ).loc main_arg6)

theorem fps_3 : Ve0 m c main_v3 = shapeCast S8x1280 (shapeCast S10240 (extractStridedSlice S10240x1 ![0, 0] (Cert.Kernel1Ideal.Fps.padded (A1 m c)) slices_S10240x3_S10240x1_0_0) shapeCasts_S10240x1_S10240) shapeCasts_S10240_S8x1280 := by
  simp only [Ve0, V3, V2, V1, V0, hostOps0, hostOps0_1, hostOps0_2, TRef.unary, TRef.binary, TRef.toBuf, TRef.ofBuf, cast_eq]
  after_results_simp <;> rfl
theorem fps_6 : Ve0 m c main_v6 = shapeCast S8x1280 (shapeCast S10240 (extractStridedSlice S10240x1 ![0, 1] (Cert.Kernel1Ideal.Fps.padded (A1 m c)) slices_S10240x3_S10240x1_0_1) shapeCasts_S10240x1_S10240) shapeCasts_S10240_S8x1280 := by
  simp only [Ve0, V3, V2, V1, V0, hostOps0, hostOps0_1, hostOps0_2, TRef.unary, TRef.binary, TRef.toBuf, TRef.ofBuf, cast_eq]
  after_results_simp <;> rfl
theorem fps_9 : Ve0 m c main_v9 = shapeCast S8x1280 (shapeCast S10240 (extractStridedSlice S10240x1 ![0, 2] (Cert.Kernel1Ideal.Fps.padded (A1 m c)) slices_S10240x3_S10240x1_0_2) shapeCasts_S10240x1_S10240) shapeCasts_S10240_S8x1280 := by
  simp only [Ve0, V3, V2, V1, V0, hostOps0, hostOps0_1, hostOps0_2, TRef.unary, TRef.binary, TRef.toBuf, TRef.ofBuf, cast_eq]
  after_results_simp <;> rfl

/-- Every window's block index is zero. -/
theorem fps_idx : ∀ t : Fin cfg0.N, win0_0.index t = ![0, 0] ∧ win0_1.index t = ![0, 0] ∧ win0_2.index t = ![0, 0] ∧ win0_3.index t = ![0] :=
  (by decide +kernel : ∀ t : Fin grid0.N, _)

theorem fps_blk0 (t : Fin cfg0.N) (r : Fin 8) (k : Fin 1280) : K0.iblk (Ve0 m) c 0 t (ix2 r k) = Ve0 m c main_v3 (ix2 r k) := by
  blk_ext [K0.iblk, fps_idx t]
theorem fps_blk1 (t : Fin cfg0.N) (r : Fin 8) (k : Fin 1280) : K0.iblk (Ve0 m) c 1 t (ix2 r k) = Ve0 m c main_v6 (ix2 r k) := by
  blk_ext [K0.iblk, fps_idx t]
theorem fps_blk2 (t : Fin cfg0.N) (r : Fin 8) (k : Fin 1280) : K0.iblk (Ve0 m) c 2 t (ix2 r k) = Ve0 m c main_v9 (ix2 r k) := by
  blk_ext [K0.iblk, fps_idx t]

theorem fps_holds (t : Fin cfg0.N) : Holds (points (A1 m c)) (K0.iblk (Ve0 m) c 0 t) (K0.iblk (Ve0 m) c 1 t) (K0.iblk (Ve0 m) c 2 t) := by
  intro r k N hN
  refine ⟨(fps_blk0 m c t r k).trans ?_, (fps_blk1 m c t r k).trans ?_, (fps_blk2 m c t r k).trans ?_⟩
  · rw [fps_3]; exact (Cert.Kernel1Ideal.Fps.entry0 r k _).trans (Cert.Kernel1Ideal.Fps.padded_apply _ _ N 0 hN.symm)
  · rw [fps_6]; exact (Cert.Kernel1Ideal.Fps.entry1 r k _).trans (Cert.Kernel1Ideal.Fps.padded_apply _ _ N 1 hN.symm)
  · rw [fps_9]; exact (Cert.Kernel1Ideal.Fps.entry2 r k _).trans (Cert.Kernel1Ideal.Fps.padded_apply _ _ N 2 hN.symm)

/-- The list after the sampling. -/
theorem fps_final : (fpsDat m c).arrAt 3 cfg0.N = samples (points (A1 m c)) := by
  refine (fpsDat m c).arrAt_eq_of_covers 3 _ (by decide +kernel) fun t hf y => ?_
  blk_simp
  rw [K0.after0_3]
  simp only [K0.outsAt0]
  rw [fps_out _ _ _ _ _ _ _ _ _ (points (A1 m c)) _ _ _ (fps_holds m c t)]
  refine congrArg (samples _) ?_
  blk_ext [fps_idx t]

/-- The samples are the reference's. -/
theorem samples_eq (pos : FVec Ideal S10000x3 .f32) : samples (points pos) = (state (F := Ideal) pos 4999).1 := by
  funext y
  have hy : y = ix1 (⟨(y 0).val, (y 0).isLt⟩ : Fin 5000) := by
    funext a; match a with | ⟨0, _⟩ => rfl
  refine Eq.trans ?_ (congrArg (state (F := Ideal) pos 4999).1 hy.symm)
  exact (Cert.Reference1Ideal.Fps.samples_apply pos ⟨(y 0).val, (y 0).isLt⟩).symm

section Tail
variable (W : Valuation τ sig (Elt Ideal))

theorem tail_pos : StableHlo.after hostOps1 W (Proc.devRef .tc main_v11)
    = takePos (F := Ideal) (W (Proc.devRef .tc main_arg1)) (W (Proc.devRef .tc main_v10)) := by
  simp only [hostOps1, TRef.quaternary, TRef.nullary, TRef.ternary, TRef.unary, TRef.binary, TRef.toBuf, TRef.ofBuf, cast_eq]
  after_results_simp_entrywise <;> rfl

theorem tail_batch : StableHlo.after hostOps3_1 W (Proc.devRef .tc main_v37)
    = takeBatch (W (Proc.devRef .tc main_arg2)) (W (Proc.devRef .tc main_v10)) := by
  simp only [hostOps3_1, TRef.quaternary, TRef.nullary, TRef.ternary, TRef.unary, TRef.binary, TRef.toBuf, TRef.ofBuf, cast_eq]
  after_results_simp_entrywise <;> rfl
end Tail

/-- The sampled points. -/
@[irreducible] def Q : FVec Ideal S5000x3 .f32 := takePos (F := Ideal) (A1 m c) (state (F := Ideal) (A1 m c) 4999).1

/-- An argument before the sampling is as at the start. -/
theorem V4_arg (outs : Outs (F := Ideal)) (r : Ref sig .tc) (h : r ∉ ([main_v10] : List (Ref sig .tc))) (h2 : r ∉ hostOps0_2_W) (h1 : r ∉ hostOps0_1_W) (h0 : r ∉ hostOps0_W) :
    V4 m outs c r = m ((c : Thread nD τ).loc r) :=
  (V4_of m outs c r h).trans ((V3_of m c r h2).trans ((V2_of m c r h1).trans (V1_of m c r h0)))

theorem V4_list : V4 m (outsF m) c main_v10 = (state (F := Ideal) (A1 m c) 4999).1 := by
  refine (V4_at_main_v10 m (outsF m) c).trans ((fpsOuts_at m c).trans ?_)
  rw [fps_final, samples_eq]

theorem V5_q : V5 m (outsF m) c main_v11 = Q m c := by
  unfold Q V5
  refine (tail_pos _).trans ?_
  exact congrArg₂ (takePos (F := Ideal)) (V4_arg m c (outsF m) main_arg1 (by decide) (by decide) (by decide) (by decide)) (V4_list m c)

theorem V5_arg (r : Ref sig .tc) (h5 : r ∉ hostOps1_W) (h : r ∉ ([main_v10] : List (Ref sig .tc))) (h2 : r ∉ hostOps0_2_W) (h1 : r ∉ hostOps0_1_W) (h0 : r ∉ hostOps0_W) :
    V5 m (outsF m) c r = m ((c : Thread nD τ).loc r) :=
  (V5_of m (outsF m) c r h5).trans (V4_arg m c (outsF m) r h h2 h1 h0)

end Cert.Whole

end
-- ==== Proof.WholeSel.lean ====
/- The selection's region in the whole program leaves the reference's neighbour table and mask. -/
module

public import proofs.«01_k».proof.Proof.WholeBlock
public import proofs.«01_k».proof.Proof.WholeFps
public import proofs.«01_k».proof.Proof.SelFinal

@[expose] public section

set_option maxRecDepth 16384

noncomputable section

namespace Cert.Whole

open Cert.KernelIdeal Cert.KernelIdeal.Gen Cert.KernelIdeal.Own Idealize.ShloMosaic Idealize.ShloMosaic.TcCoe Idealize.ShloMosaic.StableHlo Cert.SelMath

open Cert.Kernel2Ideal.Sel Cert.Reference2Ideal.Sel in
/-- One block's row is the reference's row. -/
theorem sel_point (p : FVec Ideal S10000x3 .f32) (q : FVec Ideal S5000x3 .f32) (x0 : FVec Ideal S32x3 .f32) (x1 : FVec Ideal S8x10240 .f32)
    (hp : ∀ y, Cert.SelPre.Bounded (p y)) (hq : ∀ y, Cert.SelPre.Bounded (q y)) (r k : Fin 32) (n : Fin 5120)
    (h0 : ∀ d, x0 (ix2 r d) = queries q (ix2 n d)) (h1 : ∀ (d : Fin 3) j, x1 (ix2 ⟨d.val, by omega⟩ j) = columns p (ix2 ⟨d.val, by omega⟩ j)) :
    colOf (left x0 x1 k.val) (ix2 r 0) = cols p q (ix2 n k)
      ∧ maskOf (left x0 x1 k.val) (ix2 r 0) = mask p q (ix2 n k) := by
  have hrow : ∀ j : Fin 10240, row (left x0 x1 0) r j
      = near (fun d => queries q (ix2 n d)) (fun d => columns p (ix2 ⟨d.val, by omega⟩ j)) := fun j => by
    refine (first_apply _ _ r j).trans (congrArg₂ near (funext h0) (funext fun d => h1 d j))
  by_cases h : n.val < 5000
  · have hs := stored x0 x1 r (keys p q ⟨n.val, h⟩)
      (fun j hj => by
        rw [hrow]
        unfold keys
        rw [neg_neg]
        exact congrArg₂ near (funext fun d => queries_lo _ n ⟨n.val, h⟩ rfl d) (funext fun d => columns_lo _ j ⟨j.val, hj⟩ rfl d))
      (fun j hj => by
        rw [hrow]
        refine Cert.SelPre.near_point _ _ (fun d => ?_) (fun d => columns_hi _ j hj d)
        rw [queries_lo _ n ⟨n.val, h⟩ rfl d]
        exact hq _) ⟨k.val, by omega⟩
    exact ⟨hs.1.trans (cols_lo _ _ n ⟨n.val, h⟩ rfl k).symm, hs.2.trans (mask_lo _ _ n ⟨n.val, h⟩ rfl k).symm⟩
  · have htop : ∀ j, row (left x0 x1 0) r j = ⊤ := fun j => by
      rw [hrow]
      by_cases hj : j.val < 10000
      · refine Cert.SelPre.near_query _ _ (fun d => queries_hi _ n (by omega) d) (fun d => ?_)
        rw [columns_lo _ j ⟨j.val, hj⟩ rfl d]
        exact hp _
      · exact Cert.SelPre.near_padding _ _ (fun d => queries_hi _ n (by omega) d) (fun d => columns_hi _ j (by omega) d)
    have hs := stored x0 x1 r (fun _ => ⊥) (fun j _ => (htop j).trans EReal.neg_bot.symm) (fun j _ => htop j) ⟨k.val, by omega⟩
    rw [if_neg (lt_irrefl _), if_neg (lt_irrefl _)] at hs
    exact ⟨hs.1.trans (cols_hi _ _ n (by omega) k).symm, hs.2.trans (mask_hi _ _ n (by omega) k).symm⟩

variable (m : (ℓ : Loc nD τ sig) → Buf (Elt Ideal) ℓ) (c : Dev nD)

section Host
variable (W : Valuation τ sig (Elt Ideal))

/-- The valuation after the host operations between the sampled rows and the selection. -/
abbrev X10 : Valuation τ sig (Elt Ideal) := StableHlo.after hostOps1_5 (StableHlo.after hostOps1_4 (StableHlo.after hostOps1_3 (StableHlo.after hostOps1_2 (StableHlo.after hostOps1_1 W))))

theorem X10_q : X10 W (Proc.devRef .tc main_v12) = Cert.Kernel2Ideal.Sel.queries (W (Proc.devRef .tc main_v11)) := by
  simp only [X10, hostOps1_1, hostOps1_2, hostOps1_3, hostOps1_4, hostOps1_5, TRef.unary, TRef.binary, TRef.toBuf, TRef.ofBuf, cast_eq]
  after_results_simp <;> rfl

theorem X10_p : X10 W (Proc.devRef .tc main_v17) = Host.scatter Cert.Kernel2Ideal.scatter_S8x10240_S1_S5x10240_01_n_0_0 (fun _ b => b) (Cert.Kernel2Ideal.Sel.columns (W (Proc.devRef .tc main_arg1))) (broadcastInDim S1 ![] bcast_S_S1 (constantI S_ 32 3#32)) (broadcastInDim S5x10240 ![] bcast_S_S5x10240 (constant (F := Ideal) S_ .f32 0x00000000#32)) := by
  simp only [X10, hostOps1_1, hostOps1_2, hostOps1_3, hostOps1_4, hostOps1_5, TRef.unary, TRef.binary, TRef.toBuf, TRef.ofBuf, cast_eq]
  after_results_simp <;> rfl

end Host

theorem Ve1_q : Ve1 m (outsF m) c main_v12 = Cert.Kernel2Ideal.Sel.queries (Q m c) :=
  (X10_q (V5 m (outsF m) c)).trans (congrArg Cert.Kernel2Ideal.Sel.queries (V5_q m c))

theorem Ve1_p : Ve1 m (outsF m) c main_v17 = Host.scatter Cert.Kernel2Ideal.scatter_S8x10240_S1_S5x10240_01_n_0_0 (fun _ b => b) (Cert.Kernel2Ideal.Sel.columns (A1 m c)) (broadcastInDim S1 ![] bcast_S_S1 (constantI S_ 32 3#32)) (broadcastInDim S5x10240 ![] bcast_S_S5x10240 (constant (F := Ideal) S_ .f32 0x00000000#32)) := by
  have e : (V5 m (outsF m) c (Proc.devRef .tc main_arg1) : FVec Ideal S10000x3 .f32) = A1 m c := V5_arg m c main_arg1 (by decide) (by decide) (by decide) (by decide) (by decide)
  refine (X10_p (V5 m (outsF m) c)).trans ?_
  rw [e]

theorem idx0 : ∀ t : Fin cfg1.N, win1_0.index t = ![t.val, 0] ∧ win1_1.index t = ![0, 0] ∧ win1_2.index t = ![t.val, 0] ∧ win1_3.index t = ![t.val, 0] :=
  (by decide +kernel : ∀ t : Fin grid1.N, _)

theorem tlt0 (t : Fin cfg1.N) : t.val < 160 := t.isLt

theorem sel_blk0' (t : Fin cfg1.N) (r : Fin 32) (d : Fin 3) : K1.iblk (Ve1 m (outsF m)) c 0 t (ix2 r d) = Ve1 m (outsF m) c main_v12 (ix2 ⟨t.val * 32 + r.val, by have := tlt0 t; omega⟩ d) := by
  blk_ext [K1.iblk, idx0 t]
/-- The second window is its whole array. -/
theorem sel_read1 (X : FVec Ideal S8x10240 .f32) (t : Fin cfg1.N) (a : Fin 8) (j : Fin 10240) :
    ((cfg1.win 1).blk t).view.read (Elt Ideal) X (ix2 a j) = X (ix2 a j) := by
  blk_ext [idx0 t]

theorem sel_blk0 (t : Fin cfg1.N) (r : Fin 32) (d : Fin 3) (n : Fin 5120) (hn : n.val = t.val * 32 + r.val) :
    K1.iblk (Ve1 m (outsF m)) c 0 t (ix2 r d) = Cert.Kernel2Ideal.Sel.queries (Q m c) (ix2 n d) := by
  have e : (⟨t.val * 32 + r.val, by have := tlt0 t; omega⟩ : Fin 5120) = n := Fin.ext hn.symm
  exact (sel_blk0' m c t r d).trans (by rw [Ve1_q, e])
theorem sel_blk1 (t : Fin cfg1.N) (d : Fin 3) (j : Fin 10240) :
    K1.iblk (Ve1 m (outsF m)) c 1 t (ix2 ⟨d.val, by omega⟩ j) = Cert.Kernel2Ideal.Sel.columns (A1 m c) (ix2 ⟨d.val, by omega⟩ j) :=
  (sel_read1 (Ve1 m (outsF m) c main_v17) t _ j).trans (by rw [Ve1_p]; exact Cert.Kernel2Ideal.Sel.scatter_above _ _ _ d.isLt j)

theorem sel_emb2 (t : Fin cfg1.N) (y : S32x32.Idx) : ((cfg1.win 2).blk t).view.emb y
    = ix2 ⟨t.val * 32 + (y 0).val, by have := tlt0 t; have h0 : (y 0).val < 32 := (y 0).isLt; omega⟩ (⟨(y 1).val, (y 1).isLt⟩ : Fin 32) := by
  blk_ext [idx0 t]
theorem sel_emb3 (t : Fin cfg1.N) (y : S32x32.Idx) : ((cfg1.win 3).blk t).view.emb y
    = ix2 ⟨t.val * 32 + (y 0).val, by have := tlt0 t; have h0 : (y 0).val < 32 := (y 0).isLt; omega⟩ (⟨(y 1).val, (y 1).isLt⟩ : Fin 32) := by
  blk_ext [idx0 t]

/-- The neighbour table after the selection. -/
theorem sel_cols (hp : ∀ y, Cert.SelPre.Bounded (A1 m c y)) (hq : ∀ y, Cert.SelPre.Bounded (Q m c y)) :
    (selDat m c).arrAt 2 cfg1.N = Cert.Reference2Ideal.Sel.cols (A1 m c) (Q m c) := by
  refine (selDat m c).arrAt_eq_of_covers 2 _ (by decide +kernel) fun t hf y => ?_
  blk_simp
  rw [K1.after1_2]
  simp only [K1.outsAt1]
  rw [sel_out_2, Cert.Kernel2Ideal.Sel.block_2, sel_emb2]
  exact (sel_point (A1 m c) (Q m c) _ _ hp hq ⟨(y 0).val, (y 0).isLt⟩ ⟨(y 1).val, (y 1).isLt⟩ _ (fun d => sel_blk0 m c t _ d _ rfl) (fun d j => sel_blk1 m c t d j)).1

/-- The mask after the selection. -/
theorem sel_mask (hp : ∀ y, Cert.SelPre.Bounded (A1 m c y)) (hq : ∀ y, Cert.SelPre.Bounded (Q m c y)) :
    (selDat m c).arrAt 3 cfg1.N = Cert.Reference2Ideal.Sel.mask (A1 m c) (Q m c) := by
  refine (selDat m c).arrAt_eq_of_covers 3 _ (by decide +kernel) fun t hf y => ?_
  blk_simp
  rw [K1.after1_3]
  simp only [K1.outsAt1]
  rw [sel_out_3, Cert.Kernel2Ideal.Sel.block_3, sel_emb3]
  exact (sel_point (A1 m c) (Q m c) _ _ hp hq ⟨(y 0).val, (y 0).isLt⟩ ⟨(y 1).val, (y 1).isLt⟩ _ (fun d => sel_blk0 m c t _ d _ rfl) (fun d j => sel_blk1 m c t d j)).2

end Cert.Whole

end
-- ==== Proof.WholePoint.lean ====
/- One block of the MLP over any operand arrays: where the blocks are rows of the padded arrays, the block is the reference's
   rows. -/
module

public import proofs.«01_k».proof.Proof.MlpPay
public import proofs.«01_k».proof.Proof.MlpRef
public import proofs.«01_k».proof.Proof.MlpMath

@[expose] public section

set_option maxRecDepth 16384

noncomputable section

namespace Cert.WholePoint

open Cert.Kernel3Ideal Cert.Kernel3Ideal.Gen Idealize.ShloMosaic Cert.Kernel3Ideal.Mlp

variable (a0 : FVec Ideal S10000x128 .f32) (a1 : FVec Ideal S10000x3 .f32) (a2 : FVec Ideal S5120x3 .f32) (a3 : IVec S5120x32 32) (a4 : FVec Ideal S5120x32 .f32)
  (a5 : FVec Ideal S131x128 .f32) (a6 : FVec Ideal S128 .f32) (a7 : FVec Ideal S128x128 .f32) (a8 : FVec Ideal S128 .f32)

/-- The feature table: features, positions, zeros. -/
def table : FVec Ideal S10000x136 .f32 :=
  concatenate S10000x136 1 [⟨S10000x128, a0⟩, ⟨S10000x3, a1⟩, ⟨S10000x5, broadcastInDim S10000x5 ![] bcast_S_S10000x5 (constant (F := Ideal) S_ .f32 0x00000000#32)⟩] concatenates_S10000x128_S10000x3_S10000x5_S10000x136_d1
/-- The queries' positions with zero columns. -/
def centres : FVec Ideal S5120x8 .f32 :=
  pad S5120x8 ![0, 0] ![0, 5] ![0, 0] a2 (sitofp (F := Ideal) .f32 (constantI S_ 32 0#32)) pads_S5120x3_S5120x8_000_050 h_S_
/-- The first weights with zero rows. -/
def weights : FVec Ideal S136x128 .f32 :=
  concatenate S136x128 0 [⟨S131x128, a5⟩, ⟨S5x128, broadcastInDim S5x128 ![] bcast_S_S5x128 (constant (F := Ideal) S_ .f32 0x00000000#32)⟩] concatenates_S131x128_S5x128_S136x128_d0
/-- The coordinate rows of the first weights with zero rows. -/
def weights3 : FVec Ideal S8x128 .f32 :=
  concatenate S8x128 0 [⟨S3x128, extractStridedSlice S3x128 ![128, 0] a5 slices_S131x128_S3x128_128_0⟩, ⟨S5x128, broadcastInDim S5x128 ![] bcast_S_S5x128 (constant (F := Ideal) S_ .f32 0x00000000#32)⟩] concatenates_S3x128_S5x128_S8x128_d0

/-- The first layer before its bias, at neighbour row `i` and centroid row `M`. -/
theorem layer1 (i : Fin 10000) (M : Fin 5120) (k : Fin 128)
    (hp : ∀ y, ∃ r : ℝ, a1 y = r) (hq : ∀ y, ∃ r : ℝ, a2 y = r) (hw : ∀ (a : Fin 3) (k : Fin 128), ∃ r : ℝ, a5 (ix2 ⟨128 + a.val, by omega⟩ k) = r) :
    (∑ a : Fin 136, table a0 a1 (ix2 i a) * weights a5 (ix2 a k)) - (∑ a : Fin 8, centres a2 (ix2 M a) * weights3 a5 (ix2 a k))
    = (∑ a : Fin 128, a0 (ix2 i a) * a5 (ix2 ⟨a.val, by omega⟩ k)) + ∑ a : Fin 3, (a1 (ix2 i a) - a2 (ix2 M a)) * a5 (ix2 ⟨128 + a.val, by omega⟩ k) := by
  have hM : M.val < 5120 := M.isLt
  unfold table weights centres weights3
  rw [Cert.MlpMath.sum136]
  pointwise []
  simp only [hM, dif_pos, mul_zero, Finset.sum_const_zero, add_zero, Nat.add_sub_cancel_left, Fin.is_lt]
  have e1 : ∀ x : Fin 128, (if h : x.val < 131 then a5 (ix2 ⟨x.val, h⟩ k) else 0) = a5 (ix2 ⟨x.val, by omega⟩ k) := fun x => dif_pos (by omega)
  have e2 : ∀ x : Fin 3, (if h : 128 + x.val < 131 then a5 (ix2 ⟨128 + x.val, h⟩ k) else 0) = a5 (ix2 ⟨128 + x.val, by omega⟩ k) := fun x => dif_pos (by omega)
  simp only [e1, e2]
  exact Cert.MlpMath.diff3 _ (fun a => a1 (ix2 i a)) (fun a => a2 (ix2 M a)) (fun a => a5 (ix2 ⟨128 + a.val, by omega⟩ k))
    (fun a => hp _) (fun a => hq _) (fun a => hw a k)

variable (b0 : Vec Ideal S2048 .i32) (b1 : FVec Ideal S2048x1 .f32) (b2 : FVec Ideal S10000x136 .f32) (b3 : FVec Ideal S64x8 .f32) (b4 : FVec Ideal S136x128 .f32) (b5 : FVec Ideal S8x128 .f32) (b6 : FVec Ideal S1x128 .f32) (b7 : FVec Ideal S128x128 .f32) (b8 : FVec Ideal S1x128 .f32)

/-- A grid point's block is the reference's rows. -/
theorem point (r : Fin 64) (j : Fin 128) (M : Fin 5120)
    (h0 : ∀ s : Fin 32, b0 (ix1 ⟨s.val * 64 + r.val, by omega⟩) = a3 (ix2 M s))
    (h1 : ∀ s : Fin 32, b1 (ix2 ⟨s.val * 64 + r.val, by omega⟩ 0) = a4 (ix2 M s))
    (h2 : ∀ (i : Fin 10000) (a : Fin 136), b2 (ix2 i a) = table a0 a1 (ix2 i a))
    (h3 : ∀ a : Fin 8, b3 (ix2 r a) = centres a2 (ix2 M a))
    (h4 : ∀ (i : Fin 136) (a : Fin 128), b4 (ix2 i a) = weights a5 (ix2 i a))
    (h5 : ∀ (i : Fin 8) (a : Fin 128), b5 (ix2 i a) = weights3 a5 (ix2 i a))
    (h6 : ∀ a : Fin 128, b6 (ix2 0 a) = a6 (ix1 a))
    (h7 : ∀ (i a : Fin 128), b7 (ix2 i a) = a7 (ix2 i a))
    (h8 : ∀ a : Fin 128, b8 (ix2 0 a) = a8 (ix1 a))
    (hcol : ∀ y, (a3 y).toNat < 10000)
    (hp : ∀ y, ∃ r : ℝ, a1 y = r) (hq : ∀ y, ∃ r : ℝ, a2 y = r) (hw : ∀ (a : Fin 3) (k : Fin 128), ∃ r : ℝ, a5 (ix2 ⟨128 + a.val, by omega⟩ k) = r) :
    block b0 b1 b2 b3 b4 b5 b6 b7 b8 (ix2 r j) = Cert.Reference3Ideal.Mlp.REF a0 a1 a2 a3 a4 a5 a6 a7 a8 (ix2 M j) := by
  rw [block_apply]
  refine Eq.trans ?_ (Cert.Reference3Ideal.Mlp.ref_apply a0 a1 a2 a3 a4 a5 a6 a7 a8 M j hcol).symm
  congr 1
  funext s
  rw [pay3_apply, h1 s]
  have hg : ∀ a : Fin 136, gathered b0 b2 (ix2 ⟨s.val * 64 + r.val, by omega⟩ a) = table a0 a1 (ix2 (Cert.Reference3Ideal.Mlp.rowOf (a3 (ix2 M s))) a) := fun a => by
    refine Eq.trans ?_ (h2 _ a)
    show b2 (ix2 (rowOf (b0 (ix1 ⟨s.val * 64 + r.val, by omega⟩))) a) = _
    rw [h0 s]
    rfl
  have hr : (⟨(s.val * 64 + r.val) % 64, Nat.mod_lt _ (by decide)⟩ : Fin 64) = r := Fin.ext (by show (s.val * 64 + r.val) % 64 = r.val; omega)
  refine if_congr Iff.rfl ?_ rfl
  refine congrArg (max · 0) ?_
  refine Ideal.add_congr ?_ (h8 j)
  refine Finset.sum_congr rfl fun k _ => ?_
  refine Ideal.mul_congr ?_ (h7 k j)
  refine congrArg (max · 0) ?_
  refine Ideal.add_congr ?_ (h6 k)
  refine Eq.trans ?_ (layer1 a0 a1 a2 a5 _ M k hp hq hw)
  rw [hr]
  refine congrArg₂ (· - ·) (Finset.sum_congr rfl fun a _ => Ideal.mul_congr (hg a) (h4 a k)) (Finset.sum_congr rfl fun a _ => Ideal.mul_congr (h3 a) (h5 a k))

end Cert.WholePoint

end
-- ==== Proof.WholeHost.lean ====
/- The MLP call's operands in the whole program, over the arrays the selection leaves and the arguments. -/
module

public import proofs.«01_k».proof.Proof.WholeSel
public import proofs.«01_k».proof.Proof.WholePoint

@[expose] public section

set_option maxRecDepth 16384

noncomputable section

namespace Cert.Whole

open Cert.KernelIdeal Cert.KernelIdeal.Gen Cert.KernelIdeal.Own Idealize.ShloMosaic Idealize.ShloMosaic.TcCoe Idealize.ShloMosaic.StableHlo
open Cert.WholePoint (table centres weights weights3)

section Host
variable (W : Valuation τ sig (Elt Ideal))

/-- The valuation after the host operations between the calls. -/
abbrev X9 : Valuation τ sig (Elt Ideal) := StableHlo.after hostOps2_2 (StableHlo.after hostOps2_1 (StableHlo.after hostOps2 W))

abbrev w0 : FVec Ideal S10000x128 .f32 := W (Proc.devRef .tc main_arg0)
abbrev w1 : FVec Ideal S10000x3 .f32 := W (Proc.devRef .tc main_arg1)
abbrev w2 : FVec Ideal S5000x3 .f32 := W (Proc.devRef .tc main_v11)
abbrev w3 : FVec Ideal S131x128 .f32 := W (Proc.devRef .tc main_arg3)
abbrev w4 : FVec Ideal S128 .f32 := W (Proc.devRef .tc main_arg4)
abbrev w6 : FVec Ideal S128 .f32 := W (Proc.devRef .tc main_arg6)
abbrev wc : IVec S5120x32 32 := W (Proc.devRef .tc main_v18_0)
abbrev wm : FVec Ideal S5120x32 .f32 := W (Proc.devRef .tc main_v18_1)

theorem X9_9 : X9 W (Proc.devRef .tc main_v21) = shapeCast S163840 (transpose S80x32x64 [0, 2, 1] (shapeCast S80x64x32 (wc W) shapeCasts_S5120x32_S80x64x32) transposes_S80x64x32_S80x32x64_0_2_1) shapeCasts_S80x32x64_S163840 := by
  simp only [X9, hostOps2, hostOps2_1, hostOps2_2, TRef.unary, TRef.binary, TRef.toBuf, TRef.ofBuf, cast_eq]
  after_results_simp <;> rfl

theorem X9_12 : X9 W (Proc.devRef .tc main_v24) = shapeCast S163840x1 (transpose S80x32x64 [0, 2, 1] (shapeCast S80x64x32 (wm W) shapeCasts_S5120x32_S80x64x32) transposes_S80x64x32_S80x32x64_0_2_1) shapeCasts_S80x32x64_S163840x1 := by
  simp only [X9, hostOps2, hostOps2_1, hostOps2_2, TRef.unary, TRef.binary, TRef.toBuf, TRef.ofBuf, cast_eq]
  after_results_simp <;> rfl

theorem X9_14 : X9 W (Proc.devRef .tc main_v26) = table (w0 W) (w1 W) := by
  simp only [X9, hostOps2, hostOps2_1, hostOps2_2, TRef.unary, TRef.binary, TRef.toBuf, TRef.ofBuf, cast_eq]
  after_results_simp <;> rfl

theorem X9_15 : X9 W (Proc.devRef .tc main_v27) = pad S5120x8 ![0, 0] ![120, 5] ![0, 0] (w2 W) (sitofp (F := Ideal) .f32 (constantI S_ 32 0#32)) pads_S5000x3_S5120x8_01200_050 h_S_ := by
  simp only [X9, hostOps2, hostOps2_1, hostOps2_2, TRef.unary, TRef.binary, TRef.toBuf, TRef.ofBuf, cast_eq]
  after_results_simp <;> rfl

theorem X9_17 : X9 W (Proc.devRef .tc main_v29) = weights (w3 W) := by
  simp only [X9, hostOps2, hostOps2_1, hostOps2_2, TRef.unary, TRef.binary, TRef.toBuf, TRef.ofBuf, cast_eq]
  after_results_simp <;> rfl

theorem X9_20 : X9 W (Proc.devRef .tc main_v32) = weights3 (w3 W) := by
  simp only [X9, hostOps2, hostOps2_1, hostOps2_2, TRef.unary, TRef.binary, TRef.toBuf, TRef.ofBuf, cast_eq]
  after_results_simp <;> rfl

theorem X9_21 : X9 W (Proc.devRef .tc main_v33) = broadcastInDim S1x128 ![1] bcast_S128_S1x128_1 (w4 W) := by
  simp only [X9, hostOps2, hostOps2_1, hostOps2_2, TRef.unary, TRef.binary, TRef.toBuf, TRef.ofBuf, cast_eq]
  after_results_simp <;> rfl

theorem X9_22 : X9 W (Proc.devRef .tc main_v34) = broadcastInDim S1x128 ![1] bcast_S128_S1x128_1 (w6 W) := by
  simp only [X9, hostOps2, hostOps2_1, hostOps2_2, TRef.unary, TRef.binary, TRef.toBuf, TRef.ofBuf, cast_eq]
  after_results_simp <;> rfl

end Host

/-- The queries padded with zero rows. -/
def padded (q : FVec Ideal S5000x3 .f32) : FVec Ideal S5120x3 .f32 :=
  pad S5120x3 ![0, 0] ![120, 0] ![0, 0] q (sitofp (F := Ideal) .f32 (constantI S_ 32 0#32)) pads_S5000x3_S5120x3_01200_000 h_S_

theorem padded_lo (q : FVec Ideal S5000x3 .f32) (n : Fin 5120) (i : Fin 5000) (h : n.val = i.val) (d : Fin 3) : padded q (ix2 n d) = q (ix2 i d) := by
  have e : (⟨n.val, by omega⟩ : Fin 5000) = i := Fin.ext h
  pointwise [padded]
  rw [dif_pos (show n.val < 5000 by omega), e]

theorem padded_hi (q : FVec Ideal S5000x3 .f32) (n : Fin 5120) (h : 5000 ≤ n.val) (d : Fin 3) : padded q (ix2 n d) = (0 : EReal) := by
  pointwise [padded]
  rw [dif_neg (by omega)]
  show (((0#32 : BitVec 32).toInt : ℝ) : EReal) = 0
  simp

/-- Padding rows and columns at once is padding the rows, then the columns. -/
theorem pad_both (q : FVec Ideal S5000x3 .f32) (n : Fin 5120) (a : Fin 8) :
    pad S5120x8 ![0, 0] ![120, 5] ![0, 0] q (sitofp (F := Ideal) .f32 (constantI S_ 32 0#32)) pads_S5000x3_S5120x8_01200_050 h_S_ (ix2 n a) = centres (padded q) (ix2 n a) := by
  pointwise [centres, padded]
  by_cases h1 : n.val < 5000 <;> by_cases h2 : a.val < 3 <;> simp [h1, h2, n.isLt]

/-- Real queries are real after padding. -/
theorem padded_real (q : FVec Ideal S5000x3 .f32) (hq : ∀ y, ∃ r : ℝ, q y = r) (y : S5120x3.Idx) : ∃ r : ℝ, padded q y = r := by
  have key : ∀ (n : Fin 5120) (d : Fin 3), ∃ r : ℝ, padded q (ix2 n d) = r := fun n d => by
    by_cases h : n.val < 5000
    · rw [padded_lo q n ⟨n.val, h⟩ rfl d]; exact hq _
    · exact ⟨0, padded_hi q n (by omega) d⟩
  exact (congrArg (fun z : S5120x3.Idx => ∃ r : ℝ, padded q z = r) (eq_ix2 y)).mpr (key (y 0) (y 1))

theorem cols_lt' (p : FVec Ideal S10000x3 .f32) (q : FVec Ideal S5000x3 .f32) (n : Fin 5120) (k : Fin 32) : (Cert.Reference2Ideal.Sel.cols p q (ix2 n k)).toNat < 10000 := by
  by_cases h : n.val < 5000
  · rw [Cert.Reference2Ideal.Sel.cols_lo p q n ⟨n.val, h⟩ rfl k]
    split
    · have := (Cert.SelMath.order (Cert.Reference2Ideal.Sel.keys p q ⟨n.val, h⟩) ⟨k.val, by omega⟩).isLt
      rw [BitVec.toNat_ofNat, Nat.mod_eq_of_lt (by omega)]
      exact this
    · decide
  · rw [Cert.Reference2Ideal.Sel.cols_hi p q n (by omega) k]
    decide
/-- Every column names a row of the table. -/
theorem cols_lt (p : FVec Ideal S10000x3 .f32) (q : FVec Ideal S5000x3 .f32) (y : S5120x32.Idx) : (Cert.Reference2Ideal.Sel.cols p q y).toNat < 10000 :=
  (congrArg (fun z : S5120x32.Idx => (Cert.Reference2Ideal.Sel.cols p q z).toNat < 10000) (eq_ix2 y)).mpr (cols_lt' p q (y 0) (y 1))

variable (m : (ℓ : Loc nD τ sig) → Buf (Elt Ideal) ℓ) (c : Dev nD)

/-- What the selection and its padding do not write is as after the sampled rows. -/
theorem V11_keep (r : Ref sig .tc) (h : r ∉ ([main_v18_0, main_v18_1] : List (Ref sig .tc))) (h5 : r ∉ hostOps1_5_W) (h4 : r ∉ hostOps1_4_W) (h3 : r ∉ hostOps1_3_W) (h2 : r ∉ hostOps1_2_W) (h1 : r ∉ hostOps1_1_W) :
    V11 m (outsS m) c r = V5 m (outsF m) c r := by
  refine (V11_of m (outsS m) c r h).trans ((congrFun (V10_outsS m c) _).trans ?_)
  exact (V10_of m (outsF m) c r h5).trans ((V9_of m (outsF m) c r h4).trans ((V8_of m (outsF m) c r h3).trans ((V7_of m (outsF m) c r h2).trans (V6_of m (outsF m) c r h1))))

/-- An argument is as at the start after the selection. -/
theorem V11_arg (r : Ref sig .tc) (h : r ∉ ([main_v18_0, main_v18_1] : List (Ref sig .tc))) (h5 : r ∉ hostOps1_5_W) (h4 : r ∉ hostOps1_4_W) (h3 : r ∉ hostOps1_3_W) (h2 : r ∉ hostOps1_2_W) (h1 : r ∉ hostOps1_1_W) (h6 : r ∉ hostOps1_W) (h7 : r ∉ ([main_v10] : List (Ref sig .tc)))
    (h8 : r ∉ hostOps0_2_W) (h9 : r ∉ hostOps0_1_W) (h10 : r ∉ hostOps0_W) :
    V11 m (outsS m) c r = m ((c : Thread nD τ).loc r) :=
  (V11_keep m c r h h5 h4 h3 h2 h1).trans (V5_arg m c r h6 h7 h8 h9 h10)

theorem a0_eq : w0 (V11 m (outsS m) c) = A0 m c := V11_arg m c main_arg0 (by decide) (by decide) (by decide) (by decide) (by decide) (by decide) (by decide) (by decide) (by decide) (by decide) (by decide)
theorem a1_eq : w1 (V11 m (outsS m) c) = A1 m c := V11_arg m c main_arg1 (by decide) (by decide) (by decide) (by decide) (by decide) (by decide) (by decide) (by decide) (by decide) (by decide) (by decide)
theorem a2_eq : w2 (V11 m (outsS m) c) = Q m c := (V11_keep m c main_v11 (by decide) (by decide) (by decide) (by decide) (by decide) (by decide)).trans (V5_q m c)
theorem a3_eq : w3 (V11 m (outsS m) c) = A3 m c := V11_arg m c main_arg3 (by decide) (by decide) (by decide) (by decide) (by decide) (by decide) (by decide) (by decide) (by decide) (by decide) (by decide)
theorem a4_eq : w4 (V11 m (outsS m) c) = A4 m c := V11_arg m c main_arg4 (by decide) (by decide) (by decide) (by decide) (by decide) (by decide) (by decide) (by decide) (by decide) (by decide) (by decide)
theorem a6_eq : w6 (V11 m (outsS m) c) = A6 m c := V11_arg m c main_arg6 (by decide) (by decide) (by decide) (by decide) (by decide) (by decide) (by decide) (by decide) (by decide) (by decide) (by decide)
theorem a5_eq : Ve2 m c main_arg5 = A5 m c :=
  (V14_of m (outsS m) c main_arg5 (by decide)).trans ((V13_of m (outsS m) c main_arg5 (by decide)).trans ((V12_of m (outsS m) c main_arg5 (by decide)).trans
    (V11_arg m c main_arg5 (by decide) (by decide) (by decide) (by decide) (by decide) (by decide) (by decide) (by decide) (by decide) (by decide) (by decide))))

section Sel
variable (hp : ∀ y, Cert.SelPre.Bounded (A1 m c y)) (hq : ∀ y, Cert.SelPre.Bounded (Q m c y))
include hp hq

theorem c_eq : wc (V11 m (outsS m) c) = Cert.Reference2Ideal.Sel.cols (A1 m c) (Q m c) := by
  refine Eq.trans ?_ ((selOuts_0 m c).trans (sel_cols m c hp hq))
  show V11 m (outsS m) c (Proc.devRef .tc main_v18_0) = _
  simp only [V11, Function.update_of_ne (StableHlo.devRef_ne_of_ne (by decide : (main_v18_0 : Ref sig .tc) ≠ main_v18_1) : (Proc.devRef .tc main_v18_0 : DevRef τ sig) ≠ Proc.devRef .tc main_v18_1), Function.update_self]
  rfl
theorem m_eq : wm (V11 m (outsS m) c) = Cert.Reference2Ideal.Sel.mask (A1 m c) (Q m c) := by
  refine Eq.trans ?_ ((selOuts_1 m c).trans (sel_mask m c hp hq))
  show V11 m (outsS m) c (Proc.devRef .tc main_v18_1) = _
  simp only [V11, Function.update_self]
  rfl

end Sel

/-- Every window's block index at grid point `t`. -/
theorem idx1 : ∀ t : Fin cfg2.N, win2_0.index t = ![t.val] ∧ win2_1.index t = ![t.val, 0] ∧ win2_2.index t = ![0, 0] ∧ win2_3.index t = ![t.val, 0]
    ∧ win2_4.index t = ![0, 0] ∧ win2_5.index t = ![0, 0] ∧ win2_6.index t = ![0, 0] ∧ win2_7.index t = ![0, 0] ∧ win2_8.index t = ![0, 0] ∧ win2_9.index t = ![t.val, 0] :=
  (by decide +kernel : ∀ t : Fin grid2.N, _)

theorem tlt1 (t : Fin cfg2.N) : t.val < 80 := t.isLt

theorem Ve2_21 (hp : ∀ y, Cert.SelPre.Bounded (A1 m c y)) (hq : ∀ y, Cert.SelPre.Bounded (Q m c y)) :
    Ve2 m c main_v21 = shapeCast S163840 (transpose S80x32x64 [0, 2, 1] (shapeCast S80x64x32 (Cert.Reference2Ideal.Sel.cols (A1 m c) (Q m c)) shapeCasts_S5120x32_S80x64x32) transposes_S80x64x32_S80x32x64_0_2_1) shapeCasts_S80x32x64_S163840 :=
  (X9_9 (V11 m (outsS m) c)).trans (by rw [c_eq m c hp hq])
theorem Ve2_24 (hp : ∀ y, Cert.SelPre.Bounded (A1 m c y)) (hq : ∀ y, Cert.SelPre.Bounded (Q m c y)) :
    Ve2 m c main_v24 = shapeCast S163840x1 (transpose S80x32x64 [0, 2, 1] (shapeCast S80x64x32 (Cert.Reference2Ideal.Sel.mask (A1 m c) (Q m c)) shapeCasts_S5120x32_S80x64x32) transposes_S80x64x32_S80x32x64_0_2_1) shapeCasts_S80x32x64_S163840x1 :=
  (X9_12 (V11 m (outsS m) c)).trans (by rw [m_eq m c hp hq])

theorem blk0 (hp : ∀ y, Cert.SelPre.Bounded (A1 m c y)) (hq : ∀ y, Cert.SelPre.Bounded (Q m c y)) (t : Fin cfg2.N) (r : Fin 64) (s : Fin 32) :
    WholeMlp.iblk (Ve2 m) c 0 t (ix1 ⟨s.val * 64 + r.val, by omega⟩) = Cert.Reference2Ideal.Sel.cols (A1 m c) (Q m c) (ix2 ⟨t.val * 64 + r.val, by have := tlt1 t; omega⟩ s) := by
  have ht := tlt1 t
  have e : WholeMlp.iblk (Ve2 m) c 0 t (ix1 ⟨s.val * 64 + r.val, by omega⟩) = Ve2 m c main_v21 (ix1 ⟨t.val * 2048 + (s.val * 64 + r.val), by omega⟩) := by
    blk_ext [WholeMlp.iblk, idx1 t]
  rw [e, Ve2_21 m c hp hq]
  generalize Cert.Reference2Ideal.Sel.cols (A1 m c) (Q m c) = C
  pointwise []

theorem blk1 (hp : ∀ y, Cert.SelPre.Bounded (A1 m c y)) (hq : ∀ y, Cert.SelPre.Bounded (Q m c y)) (t : Fin cfg2.N) (r : Fin 64) (s : Fin 32) :
    WholeMlp.iblk (Ve2 m) c 1 t (ix2 ⟨s.val * 64 + r.val, by omega⟩ 0) = Cert.Reference2Ideal.Sel.mask (A1 m c) (Q m c) (ix2 ⟨t.val * 64 + r.val, by have := tlt1 t; omega⟩ s) := by
  have ht := tlt1 t
  have e : WholeMlp.iblk (Ve2 m) c 1 t (ix2 ⟨s.val * 64 + r.val, by omega⟩ 0) = Ve2 m c main_v24 (ix2 ⟨t.val * 2048 + (s.val * 64 + r.val), by omega⟩ 0) := by
    blk_ext [WholeMlp.iblk, idx1 t]
  rw [e, Ve2_24 m c hp hq]
  generalize Cert.Reference2Ideal.Sel.mask (A1 m c) (Q m c) = C
  pointwise []

theorem blk2 (t : Fin cfg2.N) (i : Fin 10000) (a : Fin 136) : WholeMlp.iblk (Ve2 m) c 2 t (ix2 i a) = table (A0 m c) (A1 m c) (ix2 i a) := by
  have e : WholeMlp.iblk (Ve2 m) c 2 t (ix2 i a) = Ve2 m c main_v26 (ix2 i a) := by blk_ext [WholeMlp.iblk, idx1 t]
  exact e.trans ((congrFun (X9_14 (V11 m (outsS m) c)) _).trans (by rw [a0_eq, a1_eq]))

theorem blk3 (t : Fin cfg2.N) (r : Fin 64) (a : Fin 8) : WholeMlp.iblk (Ve2 m) c 3 t (ix2 r a) = centres (padded (Q m c)) (ix2 ⟨t.val * 64 + r.val, by have := tlt1 t; omega⟩ a) := by
  have e : WholeMlp.iblk (Ve2 m) c 3 t (ix2 r a) = Ve2 m c main_v27 (ix2 ⟨t.val * 64 + r.val, by have := tlt1 t; omega⟩ a) := by blk_ext [WholeMlp.iblk, idx1 t]
  exact e.trans ((congrFun (X9_15 (V11 m (outsS m) c)) _).trans (by rw [a2_eq]; exact pad_both _ _ a))

theorem blk4 (t : Fin cfg2.N) (i : Fin 136) (a : Fin 128) : WholeMlp.iblk (Ve2 m) c 4 t (ix2 i a) = weights (A3 m c) (ix2 i a) := by
  have e : WholeMlp.iblk (Ve2 m) c 4 t (ix2 i a) = Ve2 m c main_v29 (ix2 i a) := by blk_ext [WholeMlp.iblk, idx1 t]
  exact e.trans ((congrFun (X9_17 (V11 m (outsS m) c)) _).trans (by rw [a3_eq]))

theorem blk5 (t : Fin cfg2.N) (i : Fin 8) (a : Fin 128) : WholeMlp.iblk (Ve2 m) c 5 t (ix2 i a) = weights3 (A3 m c) (ix2 i a) := by
  have e : WholeMlp.iblk (Ve2 m) c 5 t (ix2 i a) = Ve2 m c main_v32 (ix2 i a) := by blk_ext [WholeMlp.iblk, idx1 t]
  exact e.trans ((congrFun (X9_20 (V11 m (outsS m) c)) _).trans (by rw [a3_eq]))

theorem blk6 (t : Fin cfg2.N) (a : Fin 128) : WholeMlp.iblk (Ve2 m) c 6 t (ix2 0 a) = A4 m c (ix1 a) := by
  have e : WholeMlp.iblk (Ve2 m) c 6 t (ix2 0 a) = Ve2 m c main_v33 (ix2 0 a) := by blk_ext [WholeMlp.iblk, idx1 t]
  refine e.trans ((congrFun (X9_21 (V11 m (outsS m) c)) _).trans ?_)
  rw [a4_eq]
  pointwise []

theorem blk7 (t : Fin cfg2.N) (i a : Fin 128) : WholeMlp.iblk (Ve2 m) c 7 t (ix2 i a) = A5 m c (ix2 i a) := by
  have e : WholeMlp.iblk (Ve2 m) c 7 t (ix2 i a) = Ve2 m c main_arg5 (ix2 i a) := by blk_ext [WholeMlp.iblk, idx1 t]
  exact e.trans (congrFun (a5_eq m c) _)

theorem blk8 (t : Fin cfg2.N) (a : Fin 128) : WholeMlp.iblk (Ve2 m) c 8 t (ix2 0 a) = A6 m c (ix1 a) := by
  have e : WholeMlp.iblk (Ve2 m) c 8 t (ix2 0 a) = Ve2 m c main_v34 (ix2 0 a) := by blk_ext [WholeMlp.iblk, idx1 t]
  refine e.trans ((congrFun (X9_22 (V11 m (outsS m) c)) _).trans ?_)
  rw [a6_eq]
  pointwise []

end Cert.Whole

end
-- ==== Proof.WholeBody.lean ====
/- What one grid point of the MLP call leaves in its output block in the whole program, over its input blocks: the gather loop
   fills the scratch with the rows of the feature table that the point's words name, and the one store writes the
   payloads applied to that scratch and to the other blocks. -/
module

public import proofs.«01_k».proof.Proof.WholeMlp
public import proofs.«01_k».proof.Proof.MlpBody
public import Idealize.ShloMosaic.Lib.Pointwise

@[expose] public section

set_option maxRecDepth 16384

noncomputable section

namespace Cert.WholeBody

open Cert.KernelIdeal Cert.KernelIdeal.Gen Idealize.ShloMosaic Idealize.ShloMosaic.TcCoe Idealize.SL.Sem

variable {F : FTy → Type} [FloatOps F]

/-- The gathered rows: row `t` is the table's row named by word `t`. -/
def gathered (x0 : Vec F S2048 .i32) (x2 : Vec F S10000x136 .f32) : Vec F S2048x136 .f32 :=
  fun j => x2 (ix2 (Cert.Kernel3Ideal.Mlp.rowOf (x0 (ix1 (j 0)))) (j 1))

theorem off3 : ∀ k : Fin k2_t1_loop.trips, k2_off3 k = ![k.val, 0] := by decide +kernel
theorem off1 : ∀ k : Fin k2_t1_loop.trips, k2_off1 k = ![k.val] := by decide +kernel
theorem trips_eq : k2_t1_loop.trips = 2048 := by decide +kernel

theorem hz : (![0, 0] : Fin 2 → Nat) = fun _ => 0 := funext fun a => by fin_cases a <;> rfl

section Loop

variable (𝒱 : Variants) (c : Dev nD) (bd : Option 𝒱.V) (i : grid2.Coords) (arg1 : Memref sig .tc .smem S2048 .i32) (harg1 : arg1.IsWhole) (arg2 : Memref sig .tc .vmem S2048x1 .f32) (harg2 : arg2.IsWhole) (arg3 : Memref sig .tc .vmem S10000x136 .f32) (harg3 : arg3.IsWhole) (arg4 : Memref sig .tc .vmem S64x8 .f32) (harg4 : arg4.IsWhole) (arg5 : Memref sig .tc .vmem S136x128 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S2048x136 .f32) (harg11 : arg11.IsWhole)

/-- One trip stores one piece: the payload of the row loaded at the trip's word, at row `k` of the scratch. -/
theorem tripL_eq (X1 X3 k hw) :
    tripL_k2_t1 (F := F) 𝒱 c bd i arg1 harg1 arg2 harg2 arg3 harg3 arg4 harg4 arg5 harg5 arg6 harg6 arg7 harg7 arg8 harg8 arg9 harg9 arg10 harg10 arg11 harg11 X1 X3 k hw
      = [⟨Rect.unit (k2_off3 k) S1x136.size (k2_off3_inb k),
          k2_pay2 (View.readAt (Elt F) arg3.view (Rect.unit (s := S10000x136) (k2_off2 (arg1.view.readAt (Elt F) (Rect.unit (s := S2048) (k2_off1 k) S1.size (k2_off1_inb k)).toLoadRect X1 (Shape.Idx.first (numel1_S1.symm ▸ Nat.one_pos)))) S1x136.size (k2_off2_inb _ hw)).toLoadRect X3)⟩] := by
  unfold tripL_k2_t1 trip_k2_t1
  dsimp only
  sl_unfold_words
  rfl

variable (x0 : Vec F S2048 .i32) (x2 : Vec F S10000x136 .f32)

/-- The word trip `k` reads is word `k` of the block. -/
theorem word_eq (k : Fin k2_t1_loop.trips) :
    arg1.view.readAt (Elt F) (Rect.unit (s := S2048) (k2_off1 k) S1.size (k2_off1_inb k)).toLoadRect (harg1.unread x0) (Shape.Idx.first (numel1_S1.symm ▸ Nat.one_pos))
      = x0 (ix1 ⟨k.val, trips_eq ▸ k.isLt⟩) := by
  rw [View.readAt_eq_ld, harg1.read_unread]
  show x0 _ = x0 _
  congr 1
  funext a
  apply Fin.ext
  match a with
  | ⟨0, _⟩ =>
    show k2_off1 k 0 + 1 * 0 = k.val
    rw [off1]; rfl

/-- The row trip `k` stores is row `k` of the gathered table. -/
theorem piece_eq (k : Fin k2_t1_loop.trips) (w : BitVec 32) (hk : w = x0 (ix1 ⟨k.val, trips_eq ▸ k.isLt⟩)) (hw : k2_chk1 w) (x : S1x136.Idx) :
    k2_pay2 (View.readAt (Elt F) arg3.view (Rect.unit (s := S10000x136) (k2_off2 w) S1x136.size (k2_off2_inb w hw)).toLoadRect (harg3.unread x2)) x
      = gathered x0 x2 ((Rect.unit (s := S2048x136) (k2_off3 k) S1x136.size (k2_off3_inb k)).emb x) := by
  unfold k2_pay2 gathered
  simp only [shapeCast_self, View.readAt_eq_ld, harg3.read_unread]
  have hx : (x 0).val < 1 := (x 0).isLt
  have h1 : ((Rect.unit (s := S2048x136) (k2_off3 k) S1x136.size (k2_off3_inb k)).emb x) 0 = (⟨k.val, trips_eq ▸ k.isLt⟩ : Fin 2048) := by
    apply Fin.ext
    show k2_off3 k 0 + 1 * (x 0).val = k.val
    rw [off3]
    show k.val + 1 * (x 0).val = k.val
    omega
  have h2 : (((Rect.unit (s := S2048x136) (k2_off3 k) S1x136.size (k2_off3_inb k)).emb x) 1).val = (x 1).val := by
    show k2_off3 k 1 + 1 * (x 1).val = _
    rw [off3]
    show 0 + 1 * (x 1).val = _
    omega
  rw [h1, ← hk]
  have hb : w.toNat + 1 ≤ 10000 := hw 0
  show x2 _ = x2 _
  congr 1
  funext a
  apply Fin.ext
  match a with
  | ⟨0, _⟩ =>
    show w.toNat + 1 * (x 0).val = w.toNat % 10000
    rw [Nat.mod_eq_of_lt (by omega)]
    omega
  | ⟨1, _⟩ =>
    show 0 + 1 * (x 1).val = _
    rw [Nat.zero_add, Nat.one_mul]
    exact h2.symm

/-- Every piece of the trips before `n` is a piece of the gathered table, and those pieces cover its first `n` rows. -/
theorem pb_pieces (hw) : ∀ n : ℕ, n ≤ 2048 →
    (∀ p ∈ pb_k2_t1 (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw n, ∀ x : p.1.shape.Idx, p.2 x = gathered x0 x2 (p.1.emb x))
    ∧ (∀ y : S2048x136.Idx, (y 0).val < n → ∃ p ∈ pb_k2_t1 (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw n, y ∈ p.1.set)
  | 0, _ => ⟨fun p hp => absurd hp List.not_mem_nil, fun y hy => absurd hy (Nat.not_lt_zero _)⟩
  | n + 1, hn => by
    have ih := pb_pieces hw n (by omega)
    have hlt : n < k2_t1_loop.trips := by rw [trips_eq]; omega
    have e := pb_k2_t1_succ (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw ⟨n, hlt⟩
    rw [tripL_eq] at e
    change pb_k2_t1 (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw (n + 1) = _ at e
    rw [e]
    refine ⟨fun p hp => ?_, fun y hy => ?_⟩
    · rcases List.mem_append.mp hp with h | h
      · obtain rfl := List.mem_singleton.mp h
        intro x
        exact piece_eq arg3 harg3 x0 x2 ⟨n, hlt⟩ _ (word_eq arg1 harg1 x0 ⟨n, hlt⟩) (hw n hlt) x
      · exact ih.1 p h
    · by_cases hyn : (y 0).val < n
      · obtain ⟨p, hp, hm⟩ := ih.2 y hyn
        exact ⟨p, List.mem_append.mpr (Or.inr hp), hm⟩
      · refine ⟨_, List.mem_append.mpr (Or.inl (List.mem_singleton_self _)), ?_⟩
        show y ∈ (Rect.unit (s := S2048x136) (k2_off3 ⟨n, hlt⟩) S1x136.size (k2_off3_inb ⟨n, hlt⟩)).set
        rw [Rect.mem_set_unit]
        intro a
        have h1 : (y 1).val < 136 := (y 1).isLt
        rw [off3]
        match a with
        | ⟨0, _⟩ => show n ≤ (y 0).val ∧ (y 0).val < n + 1; omega
        | ⟨1, _⟩ => show 0 ≤ (y 1).val ∧ (y 1).val < 0 + 136; omega

/-- The scratch read back after the loop is the gathered table. -/
theorem scratch_eq (hw) :
    arg11.view.readCov (pb_k2_t1 (F := F) 𝒱 c bd i arg1 harg1 arg2 harg2 arg3 harg3 arg4 harg4 arg5 harg5 arg6 harg6 arg7 harg7 arg8 harg8 arg9 harg9 arg10 harg10 arg11 harg11 (harg1.unread x0) (harg3.unread x2) hw (Scf.trips k2_t1_loop.lb k2_t1_loop.ub k2_t1_loop.st))
      (Rect.unit ![0, 0] S2048x136.size inb_S2048x136_S2048x136_0_0).toLoadRect = gathered x0 x2 := by
  have hn : Scf.trips k2_t1_loop.lb k2_t1_loop.ub k2_t1_loop.st = 2048 := trips_eq
  rw [hn]
  have h := pb_pieces 𝒱 c bd i arg1 harg1 arg2 harg2 arg3 harg3 arg4 harg4 arg5 harg5 arg6 harg6 arg7 harg7 arg8 harg8 arg9 harg9 arg10 harg10 arg11 harg11 x0 x2 hw 2048 le_rfl
  have hc := fun y : S2048x136.Idx => h.2 y (y 0).isLt
  rw [View.readCov_eq_canon_ld _ _ _ hc, View.ld_unit_zero hz]
  funext y
  exact View.canon_apply_of_pieces _ _ h.1 y (hc y)

end Loop

/-- What the run leaves in the output's staging buffer is that block. -/
theorem out_eq (c : Dev nD) (i : grid2.Coords) (arg1 : Memref sig .tc .smem S2048 .i32) (harg1 : arg1.IsWhole) (arg2 : Memref sig .tc .vmem S2048x1 .f32) (harg2 : arg2.IsWhole) (arg3 : Memref sig .tc .vmem S10000x136 .f32) (harg3 : arg3.IsWhole) (arg4 : Memref sig .tc .vmem S64x8 .f32) (harg4 : arg4.IsWhole) (arg5 : Memref sig .tc .vmem S136x128 .f32) (harg5 : arg5.IsWhole) (arg6 : Memref sig .tc .vmem S8x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S64x128 .f32) (harg10 : arg10.IsWhole) (arg11 : Memref sig .tc .vmem S2048x136 .f32) (harg11 : arg11.IsWhole)
    (x0 : Vec F S2048 .i32) (x1 : Vec F S2048x1 .f32) (x2 : Vec F S10000x136 .f32) (x3 : Vec F S64x8 .f32) (x4 : Vec F S136x128 .f32) (x5 : Vec F S8x128 .f32) (x6 : Vec F S1x128 .f32) (x7 : Vec F S128x128 .f32) (x8 : Vec F S1x128 .f32) (hw) :
    WholeMlp.out2_A_9 c i arg1 harg1 arg2 harg2 arg3 harg3 arg4 harg4 arg5 harg5 arg6 harg6 arg7 harg7 arg8 harg8 arg9 harg9 arg10 harg10 arg11 harg11 x0 x1 x2 x3 x4 x5 x6 x7 x8 hw
      = Cert.Kernel3Ideal.Mlp.block x0 x1 x2 x3 x4 x5 x6 x7 x8 := by
  unfold WholeMlp.out2_A_9
  rw [View.read_writes_eq_canon _ _ _ (WholeMlp.cover2_A_9 c i arg1 harg1 arg2 harg2 arg3 harg3 arg4 harg4 arg5 harg5 arg6 harg6 arg7 harg7 arg8 harg8 arg9 harg9 arg10 harg10 arg11 harg11 x0 x1 x2 x3 x4 x5 x6 x7 x8 hw)]
  unfold WholeMlp.kernelRun2_A
  dsimp only
  sl_unfold_words
  rw [View.canon_unit_zero (S := S64x128) hz]
  rw [scratch_eq]
  simp only [View.readAt_eq_ld, harg2.read_unread, harg4.read_unread, harg5.read_unread, harg6.read_unread, harg7.read_unread, harg8.read_unread, harg9.read_unread,
    View.ld_unit_zero (S := S2048x1) hz, View.ld_unit_zero (S := S64x8) hz, View.ld_unit_zero (S := S136x128) hz, View.ld_unit_zero (S := S8x128) hz, View.ld_unit_zero (S := S1x128) hz, View.ld_unit_zero (S := S128x128) hz]
  rfl

end Cert.WholeBody

end
-- ==== Proof.WholeRef.lean ====
/- The whole reference's result read at an index, over the extended reals. -/
module

public import proofs.«01_k».proof.Proof.Gen.ReferenceIdeal
public import proofs.«01_k».proof.Proof.SelRef
public import proofs.«01_k».proof.Proof.MlpRef

@[expose] public section

set_option maxRecDepth 16384

noncomputable section

namespace Cert.ReferenceIdeal.Whole

open Cert.ReferenceIdeal Cert.ReferenceIdeal.Gen Idealize.ShloMosaic Idealize.ShloMosaic.TcCoe Cert.SelMath
open Cert.Reference3Ideal.Mlp (rowOf)
open Cert.Reference2Ideal.Sel (masked keys value_eq column_eq ninf_eq)

/-- Whether a neighbour is within the radius. -/
def valid (p : FVec Ideal S10000x3 .f32) (q : FVec Ideal S5000x3 .f32) : IVec S5000x32 1 :=
  cmpf .ogt ((Host.topK S5000x32 1 (FloatOps.cmpfTotal .gt) (masked p q) sliceFits_S5000x10000_S5000x32).1) (broadcastInDim S5000x32 ![] bcast_S_S5000x32 (constant S_ .f32 0xFF800000#32))

/-- The neighbours' columns, zero where there is none. -/
def chosen (p : FVec Ideal S10000x3 .f32) (q : FVec Ideal S5000x3 .f32) : IVec S5000x32 32 :=
  select (valid p q) ((Host.topK S5000x32 1 (FloatOps.cmpfTotal .gt) (masked p q) sliceFits_S5000x10000_S5000x32).2) (broadcastInDim S5000x32 ![] bcast_S_S5000x32 (id (constantI S_ 32 0#32)))

/-- The column numbers as gather indices: one per (centroid, neighbour) pair, negative ones counted from the end. -/
def colIdx (a3 : IVec S5000x32 32) : IVec S160000x1 32 :=
  broadcastInDim S160000x1 ![0] bcast_S160000_S160000x1_0 (select (cmpi .slt (shapeCast S160000 a3 shapeCasts_S5000x32_S160000) (broadcastInDim S160000 ![] bcast_S_S160000 (constantI S_ 32 0#32))) (addi (shapeCast S160000 a3 shapeCasts_S5000x32_S160000) (broadcastInDim S160000 ![] bcast_S_S160000 (constantI S_ 32 10000#32))) (shapeCast S160000 a3 shapeCasts_S5000x32_S160000))

/-- The neighbours' features. -/
def rowsX (a0 : FVec Ideal S10000x128 .f32) (a3 : IVec S5000x32 32) : FVec Ideal S160000x128 .f32 :=
  Host.gather gather_S10000x128_S160000x1_S160000x128_1_0_n_n_0_1_1128 a0 (colIdx a3)

/-- The neighbours' positions. -/
def rowsP (a1 : FVec Ideal S10000x3 .f32) (a3 : IVec S5000x32 32) : FVec Ideal S160000x3 .f32 :=
  Host.gather gather_S10000x3_S160000x1_S160000x3_1_0_n_n_0_1_13 a1 (colIdx a3)

/-- The messages' maximum over the neighbours, from the columns and their validity. -/
def REF (a0 : FVec Ideal S10000x128 .f32) (a1 : FVec Ideal S10000x3 .f32) (a2 : FVec Ideal S5000x3 .f32) (cs : IVec S5000x32 32) (ok : IVec S5000x32 1)
    (a3 : FVec Ideal S131x128 .f32) (a4 : FVec Ideal S128 .f32) (a5 : FVec Ideal S128x128 .f32) (a6 : FVec Ideal S128 .f32) : FVec Ideal S5000x128 .f32 :=
  Host.reduce FloatOps.maximumf (shapeCast S5000x32x128 (select (broadcastInDim S160000x128 ![0, 1] bcast_S160000x1_S160000x128_0_1 (broadcastInDim S160000x1 ![0] bcast_S160000_S160000x1_0 (shapeCast S160000 ok shapeCasts_S5000x32_S160000))) (maximumf (addf (Host.dotGeneral dot_S160000x128_S128x128_S160000x128_1_0_0_1_n_n none (maximumf (addf (Host.dotGeneral dot_S160000x131_S131x128_S160000x128_1_0_0_1_n_n none (concatenate S160000x131 1 [⟨S160000x128, (rowsX a0 cs)⟩, ⟨S160000x3, (subf (rowsP a1 cs) (shapeCast S160000x3 (broadcastInDim S5000x32x3 ![0, 1, 2] bcast_S5000x1x3_S5000x32x3_0_1_2 (broadcastInDim S5000x1x3 ![0, 2] bcast_S5000x3_S5000x1x3_0_2 a2)) shapeCasts_S5000x32x3_S160000x3))⟩] concatenates_S160000x128_S160000x3_S160000x131_d1) a3) (broadcastInDim S160000x128 ![0, 1] bcast_S1x128_S160000x128_0_1 (broadcastInDim S1x128 ![1] bcast_S128_S1x128_1 a4))) (broadcastInDim S160000x128 ![] bcast_S_S160000x128 (constant S_ .f32 0x00000000#32))) a5) (broadcastInDim S160000x128 ![0, 1] bcast_S1x128_S160000x128_0_1 (broadcastInDim S1x128 ![1] bcast_S128_S1x128_1 a6))) (broadcastInDim S160000x128 ![] bcast_S_S160000x128 (constant S_ .f32 0x00000000#32))) (broadcastInDim S160000x128 ![] bcast_S_S160000x128 (id (constant S_ .f32 0xFF800000#32)))) shapeCasts_S160000x128_S5000x32x128) (constant S_ .f32 0xFF800000#32) reducesTo_S5000x32x128_S5000x128_d1 h_S_

/-- For a column in range the gather index is the column. -/
theorem colIdx_apply (a3 : IVec S5000x32 32) (M : Fin 5000) (s : Fin 32) (h : (a3 (ix2 M s)).toNat < 10000) :
    colIdx a3 (ix2 ⟨M.val * 32 + s.val, by omega⟩ 0) = BitVec.ofNat 32 (rowOf (a3 (ix2 M s))).val := by
  pointwise [colIdx]
  generalize a3 (ix2 M s) = w at h
  have hs : IntOp.cmpi CmpIPredicate.slt w 0#32 = 0#1 := by
    have ofBool_eq_zero (p : Bool) : (BitVec.ofBool p = 0#1) ↔ p = false := by cases p <;> decide
    simp only [IntOp.cmpi, ofBool_eq_zero, BitVec.slt, decide_eq_false_iff_not, BitVec.toInt, BitVec.toNat_ofNat]
    omega
  rw [hs]
  show w = BitVec.ofNat 32 (w.toNat % 10000)
  rw [Nat.mod_eq_of_lt h, BitVec.ofNat_toNat, BitVec.setWidth_eq]

/-- A neighbour's features are the row its column names. -/
theorem rowsX_apply (a0 : FVec Ideal S10000x128 .f32) (a3 : IVec S5000x32 32) (M : Fin 5000) (s : Fin 32) (h : (a3 (ix2 M s)).toNat < 10000) (y : Fin 128) :
    rowsX a0 a3 (ix2 ⟨M.val * 32 + s.val, by omega⟩ y) = a0 (ix2 (rowOf (a3 (ix2 M s))) y) := by
  unfold rowsX
  simp only [ix2_eq_valueIdx]
  exact Routing.gather_row _ rfl rfl rfl rfl rfl _ _ _ _ _ (colIdx_apply a3 M s h) (by decide)

/-- A neighbour's position is the row its column names. -/
theorem rowsP_apply (a1 : FVec Ideal S10000x3 .f32) (a3 : IVec S5000x32 32) (M : Fin 5000) (s : Fin 32) (h : (a3 (ix2 M s)).toNat < 10000) (y : Fin 3) :
    rowsP a1 a3 (ix2 ⟨M.val * 32 + s.val, by omega⟩ y) = a1 (ix2 (rowOf (a3 (ix2 M s))) y) := by
  unfold rowsP
  simp only [ix2_eq_valueIdx]
  exact Routing.gather_row _ rfl rfl rfl rfl rfl _ _ _ _ _ (colIdx_apply a3 M s h) (by decide)

/-- The reference's entry: the maximum over the valid neighbours of the two-layer message. -/
theorem ref_apply (a0 : FVec Ideal S10000x128 .f32) (a1 : FVec Ideal S10000x3 .f32) (a2 : FVec Ideal S5000x3 .f32) (cs : IVec S5000x32 32) (ok : IVec S5000x32 1)
    (a3 : FVec Ideal S131x128 .f32) (a4 : FVec Ideal S128 .f32) (a5 : FVec Ideal S128x128 .f32) (a6 : FVec Ideal S128 .f32) (M : Fin 5000) (j : Fin 128) (h : ∀ y, (cs y).toNat < 10000) :
    REF a0 a1 a2 cs ok a3 a4 a5 a6 (ix2 M j)
      = Finset.univ.fold max ⊥ fun s : Fin 32 => if ok (ix2 M s) = 1#1 then
          max ((∑ k : Fin 128, max (((∑ a : Fin 128, a0 (ix2 (rowOf (cs (ix2 M s))) a) * a3 (ix2 ⟨a.val, by omega⟩ k))
              + ∑ a : Fin 3, (a1 (ix2 (rowOf (cs (ix2 M s))) a) - a2 (ix2 M a)) * a3 (ix2 ⟨128 + a.val, by omega⟩ k)) + a4 (ix1 k)) 0 * a5 (ix2 k j)) + a6 (ix1 j)) 0
        else ⊥ := by
  have hbot : Ideal.ofBits .f32 4286578688#32 = ⊥ := by simp [Ideal.ofBits, Ideal.ieee]
  pointwise [REF, id_eq]
  rw [hbot]
  congr 1
  funext s
  simp only [rowsX_apply a0 cs M s (h _), rowsP_apply a1 cs M s (h _)]
  rfl

/-- A neighbour is valid where its key is not the least. -/
theorem valid_iff (p : FVec Ideal S10000x3 .f32) (q : FVec Ideal S5000x3 .f32) (i : Fin 5000) (k : Fin 32) :
    valid p q (ix2 i k) = 1#1 ↔ ⊥ < keys p q i (order (keys p q i) ⟨k.val, by omega⟩) := by
  pointwise [valid]
  rw [ninf_eq, value_eq]
  have ofBool_eq_one (b : Bool) : (BitVec.ofBool b = 1#1) ↔ b = true := by cases b <;> decide
  rw [ofBool_eq_one, decide_eq_true_eq]

theorem chosen_apply (p : FVec Ideal S10000x3 .f32) (q : FVec Ideal S5000x3 .f32) (i : Fin 5000) (k : Fin 32) :
    chosen p q (ix2 i k) = if ⊥ < keys p q i (order (keys p q i) ⟨k.val, by omega⟩) then BitVec.ofNat 32 (order (keys p q i) ⟨k.val, by omega⟩).val else 0#32 := by
  refine Eq.trans ?_ (if_congr (valid_iff p q i k) rfl rfl)
  rw [← column_eq]
  pointwise [chosen]
  rfl

theorem chosen_lt' (p : FVec Ideal S10000x3 .f32) (q : FVec Ideal S5000x3 .f32) (i : Fin 5000) (k : Fin 32) : (chosen p q (ix2 i k)).toNat < 10000 := by
  rw [chosen_apply]
  split
  · have := (order (keys p q i) ⟨k.val, by omega⟩).isLt
    rw [BitVec.toNat_ofNat, Nat.mod_eq_of_lt (by omega)]
    exact this
  · decide

/-- The columns name rows of the table. -/
theorem chosen_lt (p : FVec Ideal S10000x3 .f32) (q : FVec Ideal S5000x3 .f32) (y : S5000x32.Idx) : (chosen p q y).toNat < 10000 :=
  (congrArg (fun z : S5000x32.Idx => (chosen p q z).toNat < 10000) (eq_ix2 y)).mpr (chosen_lt' p q (y 0) (y 1))

end Cert.ReferenceIdeal.Whole

end
-- ==== Proof.WholeFinal.lean ====
/- The whole program's result is the reference's. -/
module

public import proofs.«01_k».proof.Proof.WholeHost
public import proofs.«01_k».proof.Proof.WholeBody
public import proofs.«01_k».proof.Proof.WholeRef

@[expose] public section

set_option maxRecDepth 16384

noncomputable section

namespace Cert.Whole

open Cert.KernelIdeal Cert.KernelIdeal.Gen Cert.KernelIdeal.Own Idealize.ShloMosaic Idealize.ShloMosaic.TcCoe Idealize.ShloMosaic.StableHlo

variable (m : (ℓ : Loc nD τ sig) → Buf (Elt Ideal) ℓ)

/-- The gather's side condition: the words staged are words of the selection's table. -/
theorem hyps (hp : ∀ c y, Cert.SelPre.Bounded (A1 m c y)) (hq : ∀ c y, Cert.SelPre.Bounded (Q m c y)) : WholeMlp.Hyps (Ve2 m) := by
  refine WholeMlp.Hyps.of fun c t kq hkq => ?_
  have hV : ∀ y, (Ve2 m c main_v21 y).toNat < 10000 := fun y => by
    rw [Ve2_21 m c (hp c) (hq c)]
    exact cols_lt _ _ _
  have rd : ∀ i, (WholeMlp.iblk (Ve2 m) c 0 t i).toNat < 10000 := fun i => by
    unfold WholeMlp.iblk; rw [View.read_apply, cast_eq]; exact hV _
  simp only [View.readAt_apply, Memref.IsWhole.read_unread]
  have hr := rd ((Rect.unit (s := S2048) (k2_off1 ⟨kq, hkq⟩) S1.size (k2_off1_inb ⟨kq, hkq⟩)).toLoadRect.idx (Shape.Idx.first (numel1_S1.symm ▸ Nat.one_pos)))
  intro a
  match a with
  | ⟨0, _⟩ =>
    show BitVec.toNat _ + 1 ≤ 10000
    exact hr
  | ⟨1, _⟩ =>
    show 0 + 136 ≤ 136
    omega

/-- The coordinate rows of the first weight matrix are real. -/
def RealRows (a3 : FVec Ideal S131x128 .f32) : Prop := ∀ (a : Fin 3) (k : Fin 128), ∃ r : ℝ, a3 (ix2 ⟨128 + a.val, by omega⟩ k) = r

variable (hH : WholeMlp.Hyps (Ve2 m)) (c : Dev nD)
  (hp : ∀ y, Cert.SelPre.Bounded (A1 m c y)) (hq : ∀ y, Cert.SelPre.Bounded (Q m c y)) (hw : RealRows (A3 m c))

/-- The padded result, over the selection's table and mask. -/
abbrev whole : FVec Ideal S5120x128 .f32 :=
  Cert.Reference3Ideal.Mlp.REF (A0 m c) (A1 m c) (padded (Q m c)) (Cert.Reference2Ideal.Sel.cols (A1 m c) (Q m c)) (Cert.Reference2Ideal.Sel.mask (A1 m c) (Q m c)) (A3 m c) (A4 m c) (A5 m c) (A6 m c)

theorem real_of_bounded (x : EReal) (h : Cert.SelPre.Bounded x) : ∃ r : ℝ, x = r := ⟨h.choose, h.choose_spec.1⟩

include hp hq hw in
theorem mlp_final : (mlpDat m hH c).arrAt 9 cfg2.N = whole m c := by
  refine (mlpDat m hH c).arrAt_eq_of_covers 9 _ (by decide +kernel) fun t hf y => ?_
  blk_simp
  rw [WholeMlp.after2_9]
  simp only [WholeMlp.outsAt2]
  rw [WholeBody.out_eq]
  have hy : ((cfg2.win 9).blk t).view.emb y = ix2 ⟨t.val * 64 + (y 0).val, by have := tlt1 t; have h0 : (y 0).val < 64 := (y 0).isLt; omega⟩ (⟨(y 1).val, (y 1).isLt⟩ : Fin 128) := by
    blk_ext [idx1 t]
  rw [hy]
  refine Eq.trans ?_ (Cert.WholePoint.point (A0 m c) (A1 m c) (padded (Q m c)) (Cert.Reference2Ideal.Sel.cols (A1 m c) (Q m c)) (Cert.Reference2Ideal.Sel.mask (A1 m c) (Q m c)) (A3 m c) (A4 m c) (A5 m c) (A6 m c)
    _ _ _ _ _ _ _ _ _ ⟨(y 0).val, (y 0).isLt⟩ ⟨(y 1).val, (y 1).isLt⟩ _ (fun s => blk0 m c hp hq t _ s) (fun s => blk1 m c hp hq t _ s) (fun i a => blk2 m c t i a) (fun a => blk3 m c t _ a) (fun i a => blk4 m c t i a) (fun i a => blk5 m c t i a)
    (fun a => blk6 m c t a) (fun i a => blk7 m c t i a) (fun a => blk8 m c t a) (fun y => cols_lt _ _ y) (fun y => real_of_bounded _ (hp y)) (padded_real _ fun y => real_of_bounded _ (hq y)) hw)
  congr 1
  exact eq_ix2 _

/-- The reference's result over the kernel's arguments. -/
abbrev target : FVec Ideal S5000x128 .f32 :=
  Cert.ReferenceIdeal.Whole.REF (A0 m c) (A1 m c) (Q m c) (Cert.ReferenceIdeal.Whole.chosen (A1 m c) (Q m c)) (Cert.ReferenceIdeal.Whole.valid (A1 m c) (Q m c)) (A3 m c) (A4 m c) (A5 m c) (A6 m c)

theorem ideal_half : Ideal.ofBits .f32 0x3F000000#32 = ((1 / 2 : ℝ) : EReal) := by
  simp [Ideal.ofBits, Ideal.ieee]
  rw [← EReal.coe_mul, EReal.coe_eq_coe_iff]
  norm_num

/-- The mask's word exceeds a half where it is one. -/
theorem half (b : Prop) [Decidable b] : Ideal.ofBits .f32 0x3F000000#32 < (if b then 1 else (0 : EReal)) ↔ b := by
  rw [ideal_half]
  by_cases h : b
  · rw [if_pos h, ← EReal.coe_one, EReal.coe_lt_coe_iff]
    exact ⟨fun _ => h, fun _ => by norm_num⟩
  · rw [if_neg h, ← EReal.coe_zero, EReal.coe_lt_coe_iff]
    exact ⟨fun x => absurd x (by norm_num), fun x => absurd x h⟩

/-- The padded result's first rows are the reference's. -/
theorem rows_eq (n : Fin 5000) (j : Fin 128) : whole m c (ix2 ⟨n.val, by omega⟩ j) = target m c (ix2 n j) := by
  refine (Cert.Reference3Ideal.Mlp.ref_apply _ _ _ _ _ _ _ _ _ _ j (fun y => cols_lt _ _ y)).trans (Eq.trans ?_ (Cert.ReferenceIdeal.Whole.ref_apply _ _ _ _ _ _ _ _ _ n j (fun y => Cert.ReferenceIdeal.Whole.chosen_lt _ _ y)).symm)
  congr 1
  funext s
  rw [Cert.Reference2Ideal.Sel.mask_lo _ _ _ n rfl s, Cert.Reference2Ideal.Sel.cols_lo _ _ _ n rfl s, ← Cert.ReferenceIdeal.Whole.chosen_apply]
  refine if_congr ((half _).trans (Cert.ReferenceIdeal.Whole.valid_iff _ _ n s).symm) ?_ rfl
  simp only [padded_lo (Q m c) ⟨n.val, by omega⟩ n rfl]

include hp hq hw in
/-- The returned rows are the reference's. -/
theorem final : V17 m (outs m hH) c main_v36 = target m c := by
  refine (V17_of m (outs m hH) c main_v36 (by decide)).trans ?_
  have e : V16 m (outs m hH) c main_v36 = extractStridedSlice S5000x128 ![0, 0] (whole m c) slices_S5120x128_S5000x128_0_0 := by
    rw [← mlp_final m hH c hp hq hw, ← outs_15, ← V15_at35]
    simp only [V16, hostOps3]
    generalize V15 m (outs m hH) c = W
    after_results_simp <;> rfl
  rw [e]
  funext y
  have k : ∀ (n : Fin 5000) (j : Fin 128), extractStridedSlice S5000x128 ![0, 0] (whole m c) slices_S5120x128_S5000x128_0_0 (ix2 n j) = target m c (ix2 n j) := fun n j => by
    rw [← rows_eq]
    generalize whole m c = Y
    pointwise []
  exact (congrArg (fun z : S5000x128.Idx => extractStridedSlice S5000x128 ![0, 0] (whole m c) slices_S5120x128_S5000x128_0_0 z = target m c z) (eq_ix2 y)).mpr (k (y 0) (y 1))

/-- The returned positions are the sampled points. -/
theorem final_pos : V17 m (outs m hH) c main_v11 = Q m c := by
  refine (V17_of m (outs m hH) c main_v11 (by decide)).trans ((V16_of m (outs m hH) c main_v11 (by decide)).trans ((V15_of m (outs m hH) c main_v11 (by decide)).trans ((congrFun (V14_outs m hH c) _).trans ?_)))
  refine (V14_of m (outsS m) c main_v11 (by decide)).trans ((V13_of m (outsS m) c main_v11 (by decide)).trans ((V12_of m (outsS m) c main_v11 (by decide)).trans ?_))
  exact a2_eq m c

/-- The list of samples and the batch numbers reach the last host operation. -/
theorem V16_keep (r : Ref sig .tc) (h16 : r ∉ hostOps3_W) (h15 : r ∉ ([main_v35] : List (Ref sig .tc))) (h14 : r ∉ hostOps2_2_W) (h13 : r ∉ hostOps2_1_W) (h12 : r ∉ hostOps2_W)
    (h : r ∉ ([main_v18_0, main_v18_1] : List (Ref sig .tc))) (h5 : r ∉ hostOps1_5_W) (h4 : r ∉ hostOps1_4_W) (h3 : r ∉ hostOps1_3_W) (h2 : r ∉ hostOps1_2_W) (h1 : r ∉ hostOps1_1_W) : V16 m (outs m hH) c r = V5 m (outsF m) c r :=
  (V16_of m (outs m hH) c r h16).trans ((V15_of m (outs m hH) c r h15).trans ((congrFun (V14_outs m hH c) _).trans
    ((V14_of m (outsS m) c r h14).trans ((V13_of m (outsS m) c r h13).trans ((V12_of m (outsS m) c r h12).trans (V11_keep m c r h h5 h4 h3 h2 h1))))))

/-- The returned batch numbers are the reference's. -/
theorem final_batch : V17 m (outs m hH) c main_v37 = Cert.Reference1Ideal.Fps.takeBatch (AB m c) (Cert.Reference1Ideal.Fps.state (F := Ideal) (A1 m c) 4999).1 := by
  refine (tail_batch (V16 m (outs m hH) c)).trans ?_
  exact congrArg₂ Cert.Reference1Ideal.Fps.takeBatch
    ((V16_keep m hH c main_arg2 (by decide) (by decide) (by decide) (by decide) (by decide) (by decide) (by decide) (by decide) (by decide) (by decide) (by decide)).trans (V5_arg m c main_arg2 (by decide) (by decide) (by decide) (by decide) (by decide)))
    ((V16_keep m hH c main_v10 (by decide) (by decide) (by decide) (by decide) (by decide) (by decide) (by decide) (by decide) (by decide) (by decide) (by decide)).trans ((V5_of m (outsF m) c main_v10 (by decide)).trans (V4_list m c)))

end Cert.Whole

end
-- ==== Proof.WholeTake.lean ====
/- The sampled points are bounded where the points are. -/
module

public import proofs.«01_k».proof.Proof.FpsRefVal
public import proofs.«01_k».proof.Proof.SelPre
public import Idealize.ShloMosaic.Lib.ReduceAll

@[expose] public section

set_option maxRecDepth 16384

noncomputable section

namespace Cert.WholeTake

open Cert.Reference1Ideal Cert.Reference1Ideal.Gen Idealize.ShloMosaic Idealize.ShloMosaic.TcCoe
open Cert.Reference1Ideal.Fps (state takePos takeBatch samples_apply)

/-- The numbers of the rows taken, a negative one counted from the end. -/
def rows (idx : IVec S5000 32) : IVec S5000x1 32 :=
  broadcastInDim S5000x1 ![0] bcast_S5000_S5000x1_0 (select (cmpi .slt idx (broadcastInDim S5000 ![] bcast_S_S5000 (constantI S_ 32 0#32)))
    (addi idx (broadcastInDim S5000 ![] bcast_S_S5000 (constantI S_ 32 10000#32))) idx)

/-- Which of them are in range. -/
def inside (idx : IVec S5000 32) : IVec S5000x1 1 :=
  andi (cmpi .sge (rows idx) (broadcastInDim S5000x1 ![] bcast_S_S5000x1 (constantI S_ 32 0#32)))
    (cmpi .sle (rows idx) (broadcastInDim S5000x1 ![0, 1] bcast_S1x1_S5000x1_0_1 (broadcastInDim S1x1 ![1] bcast_S1_S1x1_1 (constantI S1 32 9999#32))))

theorem inside_word (w : BitVec 32) (h : w.toNat < 10000) :
    IntOp.andi (IntOp.cmpi CmpIPredicate.sge (Scalar.select (IntOp.cmpi CmpIPredicate.slt w 0#32) (IntOp.addi w 10000#32) w) 0#32)
      (IntOp.cmpi CmpIPredicate.sle (Scalar.select (IntOp.cmpi CmpIPredicate.slt w 0#32) (IntOp.addi w 10000#32) w) 9999#32) = 1#1 := by
  have hs : IntOp.cmpi CmpIPredicate.slt w 0#32 = 0#1 := by
    have ofBool_eq_zero (p : Bool) : (BitVec.ofBool p = 0#1) ↔ p = false := by cases p <;> decide
    simp only [IntOp.cmpi, ofBool_eq_zero, BitVec.slt, decide_eq_false_iff_not, BitVec.toInt, BitVec.toNat_ofNat]
    omega
  rw [hs]
  show IntOp.andi (IntOp.cmpi CmpIPredicate.sge w 0#32) (IntOp.cmpi CmpIPredicate.sle w 9999#32) = 1#1
  have a : IntOp.cmpi CmpIPredicate.sge w 0#32 = 1#1 := by
    simp only [IntOp.cmpi, Cert.Reference1Ideal.Fps.ofBool_one, BitVec.sle, BitVec.slt, Bool.not_eq_true', decide_eq_false_iff_not, decide_eq_true_eq, BitVec.toInt, BitVec.toNat_ofNat]
    omega
  have b : IntOp.cmpi CmpIPredicate.sle w 9999#32 = 1#1 := by
    simp only [IntOp.cmpi, Cert.Reference1Ideal.Fps.ofBool_one, BitVec.sle, BitVec.slt, Bool.not_eq_true', decide_eq_false_iff_not, decide_eq_true_eq, BitVec.toInt, BitVec.toNat_ofNat]
    omega
  rw [a, b]; rfl

theorem inside_apply (idx : IVec S5000 32) (h : ∀ i, (idx (ix1 i)).toNat < 10000) (i : Fin 5000) : inside idx (ix2 i 0) = 1#1 := by
  pointwise [inside, rows]
  exact inside_word _ (h i)

theorem inside_all (idx : IVec S5000 32) (h : ∀ i, (idx (ix1 i)).toNat < 10000) (y : S5000x1.Idx) : inside idx y = 1#1 := by
  have hy : y = ix2 (⟨(y 0).val, (y 0).isLt⟩ : Fin 5000) (0 : Fin 1) := by
    funext a
    match a with
    | ⟨0, _⟩ => rfl
    | ⟨1, _⟩ => exact Subsingleton.elim (α := Fin 1) _ _
  rw [hy]
  exact inside_apply idx h _

/-- An entry taken is an entry of the array. -/
theorem take_entry (pos : FVec Ideal S10000x3 .f32) (idx : IVec S5000 32) (h : ∀ i, (idx (ix1 i)).toNat < 10000) (i : Fin 5000) (d : Fin 3) :
    ∃ z, takePos (F := Ideal) pos idx (ix2 i d) = pos z := by
  have e : Host.reduce IntOp.andi (inside idx) (constantI S_ 1 1#1) reducesTo_S5000x1_S5000_d1 h_S_ (ix1 i) = 1#1 :=
    Host.reduce_andi_one _ _ _ _ _ rfl (inside_all idx h)
  refine ⟨_, Eq.trans (b := Host.gather gather_S10000x3_S5000x1_S5000x3_1_0_n_n_0_1_13 pos (rows idx) (ix2 i d)) ?_ rfl⟩
  show Scalar.select (broadcastInDim S5000x3 ![0] bcast_S5000_S5000x3_0 (Host.reduce IntOp.andi (inside idx) (constantI S_ 1 1#1) reducesTo_S5000x1_S5000_d1 h_S_) (ix2 i d)) _ _ = _
  generalize Host.reduce IntOp.andi (inside idx) (constantI S_ 1 1#1) reducesTo_S5000x1_S5000_d1 h_S_ = w at e
  have eb : broadcastInDim S5000x3 ![0] bcast_S5000_S5000x3_0 w (ix2 i d) = w (ix1 i) := by pointwise []
  rw [eb, e]
  rfl

/-- The samples of bounded points are bounded. -/
theorem bounded (pos : FVec Ideal S10000x3 .f32) (hp : ∀ y, Cert.SelPre.Bounded (pos y)) (y : S5000x3.Idx) :
    Cert.SelPre.Bounded (takePos (F := Ideal) pos (state (F := Ideal) pos 4999).1 y) := by
  have hy : y = ix2 (⟨(y 0).val, (y 0).isLt⟩ : Fin 5000) (⟨(y 1).val, (y 1).isLt⟩ : Fin 3) := by
    funext a
    match a with
    | ⟨0, _⟩ => rfl
    | ⟨1, _⟩ => rfl
  have hN : ∀ i, ((state (F := Ideal) pos 4999).1 (ix1 i)).toNat < 10000 := fun i => by
    rw [samples_apply]
    have := (Cert.FpsMath.far (Cert.Reference1Ideal.Fps.points pos) i.val).1.isLt
    rw [BitVec.toNat_ofNat, Nat.mod_eq_of_lt (by omega)]
    exact this
  rw [hy]
  generalize (state (F := Ideal) pos 4999).1 = idx at hN
  obtain ⟨z, hz⟩ := take_entry pos idx hN ⟨(y 0).val, (y 0).isLt⟩ ⟨(y 1).val, (y 1).isLt⟩
  rw [hz]
  exact hp z

end Cert.WholeTake
-- ==== Proof.WholeRefOps.lean ====
/- The whole reference's run: its operations as lists around the sampling loop, and from them what every buffer holds
   when @main ends. -/
module

public import proofs.«01_k».proof.Proof.Gen.ReferenceIdeal
public import proofs.«01_k».proof.Proof.FpsRefRun
public import Idealize.ShloMosaic.Lib.StableHlo.RunLoop
public import Idealize.ShloMosaic.Lib.Scf.Counter
public import Idealize.ShloMosaic.Lib.Scf.ExitTest
public import Idealize.ShloMosaic.Lib.Pointwise

@[expose] public section

set_option maxRecDepth 16384

noncomputable section

namespace Cert.ReferenceIdeal.Whole

open Cert.ReferenceIdeal Cert.ReferenceIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Cert.Reference1Ideal.Fps (distOf setAt farthest state takePos takeBatch)

variable {F : FTy → Type} [FloatOps F]

/-- What stands before the loop. -/
abbrev preOps : List (HloOp τ sig (Elt F)) :=
  [ nullary main_c (constantI S_ 32 0#32),
    unary main_c main_v0 (broadcastInDim S5000 ![] bcast_S_S5000 : (⟨S_, .i32⟩ : BufTy).Contents (Elt F) → (⟨S5000, .i32⟩ : BufTy).Contents (Elt F)),
    nullary main_cst (constant S_ .f32 0x7F800000#32),
    unary main_cst main_v1 (broadcastInDim S10000 ![] bcast_S_S10000 : (⟨S_, .f32⟩ : BufTy).Contents (Elt F) → (⟨S10000, .f32⟩ : BufTy).Contents (Elt F)),
    nullary main_c_0 (constantI S_ 32 1#32),
    nullary main_c_1 (constantI S_ 32 0#32),
    unary main_arg1 main_v2_0 id,
    unary main_c_1 main_v2_1 id,
    unary main_c_0 main_v2_2 id,
    unary main_v0 main_v2_3 id,
    unary main_v1 main_v2_4 id ]

theorem preOps_sub : (preOps : List (HloOp τ sig (Elt F))).Forall fun op => op.bufs ⊆ tcRefs τ sig :=
  ⟨nullary_bufs_sub .., unary_bufs_sub .., nullary_bufs_sub .., unary_bufs_sub .., nullary_bufs_sub .., nullary_bufs_sub .., unary_bufs_sub .., unary_bufs_sub .., unary_bufs_sub .., unary_bufs_sub .., unary_bufs_sub ..⟩

/-- The loop's condition. -/
abbrev condOps : List (HloOp τ sig (Elt F)) :=
  [ nullary main_while0c_c_21 (constantI S_ 32 4999#32),
    binary main_v2_1 main_while0c_c_21 main_while0c_v63 (cmpi .slt : (⟨S_, .i32⟩ : BufTy).Contents (Elt F) → (⟨S_, .i32⟩ : BufTy).Contents (Elt F) → (⟨S_, .i1⟩ : BufTy).Contents (Elt F)) ]

theorem condOps_sub : (condOps : List (HloOp τ sig (Elt F))).Forall fun op => op.bufs ⊆ tcRefs τ sig :=
  ⟨nullary_bufs_sub .., binary_bufs_sub ..⟩

/-- A trip up to the new distances. -/
abbrev stepOps : List (HloOp τ sig (Elt F)) :=
  [ nullary main_while0b_c_21 (constantI S_ 32 1#32),
    binary main_v2_2 main_while0b_c_21 main_while0b_v63 (addi : (⟨S_, .i32⟩ : BufTy).Contents (Elt F) → (⟨S_, .i32⟩ : BufTy).Contents (Elt F) → (⟨S_, .i32⟩ : BufTy).Contents (Elt F)),
    nullary main_while0b_c_22 (constantI S_ 32 1#32),
    binary main_v2_2 main_while0b_c_22 main_while0b_v64 (subi : (⟨S_, .i32⟩ : BufTy).Contents (Elt F) → (⟨S_, .i32⟩ : BufTy).Contents (Elt F) → (⟨S_, .i32⟩ : BufTy).Contents (Elt F)),
    nullary main_while0b_c_23 (constantI S_ 32 0#32),
    binary main_while0b_v64 main_while0b_c_23 main_while0b_v65 (cmpi .slt : (⟨S_, .i32⟩ : BufTy).Contents (Elt F) → (⟨S_, .i32⟩ : BufTy).Contents (Elt F) → (⟨S_, .i1⟩ : BufTy).Contents (Elt F)),
    unary main_while0b_v64 main_while0b_v66 (id : (⟨S_, .i32⟩ : BufTy).Contents (Elt F) → (⟨S_, .i32⟩ : BufTy).Contents (Elt F)),
    nullary main_while0b_c_24 (constantI S_ 32 5000#32),
    binary main_while0b_v66 main_while0b_c_24 main_while0b_v67 (addi : (⟨S_, .i32⟩ : BufTy).Contents (Elt F) → (⟨S_, .i32⟩ : BufTy).Contents (Elt F) → (⟨S_, .i32⟩ : BufTy).Contents (Elt F)),
    ternary main_while0b_v65 main_while0b_v67 main_while0b_v64 main_while0b_v68 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v2_3 ![main_while0b_v68] ⟨S_, .i32⟩ main_while0b_v69 ((fun x i => Host.dynamicSlice S1 x (fun k => (i k (Shape.Idx.first h_S_)).toInt) sliceFits_S5000_S1) : (⟨S5000, .i32⟩ : BufTy).Contents (Elt F) → (Fin 1 → (⟨S_, .i32⟩ : BufTy).Contents (Elt F)) → (⟨S1, .i32⟩ : BufTy).Contents (Elt F)),
    reshape main_while0b_v69 main_while0b_v70 (rfl : (.i32 : EltTy) = .i32) shapeCasts_S1_S_,
    nullary main_while0b_c_25 (constantI S_ 32 0#32),
    binary main_while0b_v70 main_while0b_c_25 main_while0b_v71 (cmpi .slt : (⟨S_, .i32⟩ : BufTy).Contents (Elt F) → (⟨S_, .i32⟩ : BufTy).Contents (Elt F) → (⟨S_, .i1⟩ : BufTy).Contents (Elt F)),
    nullary main_while0b_c_26 (constantI S_ 32 10000#32),
    binary main_while0b_v70 main_while0b_c_26 main_while0b_v72 (addi : (⟨S_, .i32⟩ : BufTy).Contents (Elt F) → (⟨S_, .i32⟩ : BufTy).Contents (Elt F) → (⟨S_, .i32⟩ : BufTy).Contents (Elt F)),
    ternary main_while0b_v71 main_while0b_v72 main_while0b_v70 main_while0b_v73 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_while0b_c_27 (constantI S_ 32 0#32),
    nullary main_while0b_c_28 (constantI S_ 32 0#32),
    binary main_while0b_c_27 main_while0b_c_28 main_while0b_v74 (cmpi .slt : (⟨S_, .i32⟩ : BufTy).Contents (Elt F) → (⟨S_, .i32⟩ : BufTy).Contents (Elt F) → (⟨S_, .i1⟩ : BufTy).Contents (Elt F)),
    nullary main_while0b_c_29 (constantI S_ 32 0#32),
    nullary main_while0b_c_30 (constantI S_ 32 3#32),
    binary main_while0b_c_29 main_while0b_c_30 main_while0b_v75 (addi : (⟨S_, .i32⟩ : BufTy).Contents (Elt F) → (⟨S_, .i32⟩ : BufTy).Contents (Elt F) → (⟨S_, .i32⟩ : BufTy).Contents (Elt F)),
    nullary main_while0b_c_31 (constantI S_ 32 0#32),
    ternary main_while0b_v74 main_while0b_v75 main_while0b_c_31 main_while0b_v76 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v2_0 ![main_while0b_v73, main_while0b_v76] ⟨S_, .i32⟩ main_while0b_v77 ((fun x i => Host.dynamicSlice S1x3 x (fun k => (i k (Shape.Idx.first h_S_)).toInt) sliceFits_S10000x3_S1x3) : (⟨S10000x3, .f32⟩ : BufTy).Contents (Elt F) → (Fin 2 → (⟨S_, .i32⟩ : BufTy).Contents (Elt F)) → (⟨S1x3, .f32⟩ : BufTy).Contents (Elt F)),
    reshape main_while0b_v77 main_while0b_v78 (rfl : (.f32 : EltTy) = .f32) shapeCasts_S1x3_S3,
    unary main_while0b_v78 main_while0b_v79 (broadcastInDim S1x3 ![1] bcast_S3_S1x3_1 : (⟨S3, .f32⟩ : BufTy).Contents (Elt F) → (⟨S1x3, .f32⟩ : BufTy).Contents (Elt F)),
    unary main_while0b_v79 main_while0b_v80 (broadcastInDim S10000x3 ![0, 1] bcast_S1x3_S10000x3_0_1 : (⟨S1x3, .f32⟩ : BufTy).Contents (Elt F) → (⟨S10000x3, .f32⟩ : BufTy).Contents (Elt F)),
    binary main_v2_0 main_while0b_v80 main_while0b_v81 (subf : (⟨S10000x3, .f32⟩ : BufTy).Contents (Elt F) → (⟨S10000x3, .f32⟩ : BufTy).Contents (Elt F) → (⟨S10000x3, .f32⟩ : BufTy).Contents (Elt F)),
    binary main_while0b_v81 main_while0b_v81 main_while0b_v82 (mulf : (⟨S10000x3, .f32⟩ : BufTy).Contents (Elt F) → (⟨S10000x3, .f32⟩ : BufTy).Contents (Elt F) → (⟨S10000x3, .f32⟩ : BufTy).Contents (Elt F)),
    nullary main_while0b_cst_32 (constant S_ .f32 0x00000000#32),
    binary main_while0b_v82 main_while0b_cst_32 main_while0b_v83 ((fun x v => Host.reduceAdd x v reducesTo_S10000x3_S10000_d1 h_S_) : (⟨S10000x3, .f32⟩ : BufTy).Contents (Elt F) → (⟨S_, .f32⟩ : BufTy).Contents (Elt F) → (⟨S10000, .f32⟩ : BufTy).Contents (Elt F)),
    binary main_v2_4 main_while0b_v83 main_while0b_v84 (minimumf : (⟨S10000, .f32⟩ : BufTy).Contents (Elt F) → (⟨S10000, .f32⟩ : BufTy).Contents (Elt F) → (⟨S10000, .f32⟩ : BufTy).Contents (Elt F)) ]

theorem stepOps_sub : (stepOps : List (HloOp τ sig (Elt F))).Forall fun op => op.bufs ⊆ tcRefs τ sig :=
  ⟨nullary_bufs_sub .., binary_bufs_sub .., nullary_bufs_sub .., binary_bufs_sub .., nullary_bufs_sub .., binary_bufs_sub .., unary_bufs_sub .., nullary_bufs_sub .., binary_bufs_sub .., ternary_bufs_sub .., unaryIndexed_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., unary_bufs_sub .., binary_bufs_sub .., binary_bufs_sub .., nullary_bufs_sub .., binary_bufs_sub .., binary_bufs_sub ..⟩

/-- The farthest point. -/
abbrev argmaxOps : List (HloOp τ sig (Elt F)) :=
  [ TRef.nullary main_while0b_call0.v0 (iotaInDim S10000 32 0),
    TRef.nullary main_while0b_call0.cst (constant S_ .f32 0xFF800000#32),
    TRef.nullary main_while0b_call0.c (constantI S_ 32 0#32),
    TRef.quaternary (.of main_while0b_v84) main_while0b_call0.v0 main_while0b_call0.cst main_while0b_call0.c main_while0b_call0.v1_0 (fun x y u v j => (Host.argReduce reducer_argmax_f32_i32 x y u v reducesTo_S10000_S_d0 h_S_ j).1),
    TRef.quaternary (.of main_while0b_v84) main_while0b_call0.v0 main_while0b_call0.cst main_while0b_call0.c main_while0b_call0.v1_1 (fun x y u v j => (Host.argReduce reducer_argmax_f32_i32 x y u v reducesTo_S10000_S_d0 h_S_ j).2) ]

theorem argmaxOps_sub : (argmaxOps : List (HloOp τ sig (Elt F))).Forall fun op => op.bufs ⊆ tcRefs τ sig :=
  ⟨nullary_bufs_sub .., nullary_bufs_sub .., nullary_bufs_sub .., quaternary_bufs_sub .., quaternary_bufs_sub ..⟩

/-- The point's number into the list, and the carried values back. -/
abbrev carryOps : List (HloOp τ sig (Elt F)) :=
  [ nullary main_while0b_c_33 (constantI S_ 32 0#32),
    binary main_v2_2 main_while0b_c_33 main_while0b_v86 (cmpi .slt : (⟨S_, .i32⟩ : BufTy).Contents (Elt F) → (⟨S_, .i32⟩ : BufTy).Contents (Elt F) → (⟨S_, .i1⟩ : BufTy).Contents (Elt F)),
    nullary main_while0b_c_34 (constantI S_ 32 5000#32),
    binary main_v2_2 main_while0b_c_34 main_while0b_v87 (addi : (⟨S_, .i32⟩ : BufTy).Contents (Elt F) → (⟨S_, .i32⟩ : BufTy).Contents (Elt F) → (⟨S_, .i32⟩ : BufTy).Contents (Elt F)),
    ternary main_while0b_v86 main_while0b_v87 main_v2_2 main_while0b_v88 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v88 main_while0b_v89 (id : (⟨S_, .i32⟩ : BufTy).Contents (Elt F) → (⟨S_, .i32⟩ : BufTy).Contents (Elt F)),
    unary main_while0b_v89 main_while0b_v90 (broadcastInDim S1 ![] bcast_S_S1 : (⟨S_, .i32⟩ : BufTy).Contents (Elt F) → (⟨S1, .i32⟩ : BufTy).Contents (Elt F)),
    ternary main_v2_3 main_while0b_v90 main_while0b_v85 main_while0b_v91 ((fun x i u => Host.scatter scatter_S5000_S1_S__n_0_0_0 (fun _ b => b) x i u) : (⟨S5000, .i32⟩ : BufTy).Contents (Elt F) → (⟨S1, .i32⟩ : BufTy).Contents (Elt F) → (⟨S_, .i32⟩ : BufTy).Contents (Elt F) → (⟨S5000, .i32⟩ : BufTy).Contents (Elt F)),
    nullary main_while0b_c_35 (constantI S_ 32 1#32),
    binary main_v2_1 main_while0b_c_35 main_while0b_v92 (addi : (⟨S_, .i32⟩ : BufTy).Contents (Elt F) → (⟨S_, .i32⟩ : BufTy).Contents (Elt F) → (⟨S_, .i32⟩ : BufTy).Contents (Elt F)),
    unary main_while0b_v92 main_v2_1 id,
    unary main_while0b_v63 main_v2_2 id,
    unary main_while0b_v91 main_v2_3 id,
    unary main_while0b_v84 main_v2_4 id ]

theorem carryOps_sub : (carryOps : List (HloOp τ sig (Elt F))).Forall fun op => op.bufs ⊆ tcRefs τ sig :=
  ⟨nullary_bufs_sub .., binary_bufs_sub .., nullary_bufs_sub .., binary_bufs_sub .., ternary_bufs_sub .., unary_bufs_sub .., unary_bufs_sub .., ternary_bufs_sub .., nullary_bufs_sub .., binary_bufs_sub .., unary_bufs_sub .., unary_bufs_sub .., unary_bufs_sub .., unary_bufs_sub ..⟩

/-- The sampled positions. -/
abbrev takePosOps : List (HloOp τ sig (Elt F)) :=
  [ TRef.nullary main_call1.c (constantI S_ 32 0#32),
    TRef.unary main_call1.c main_call1.v0 (broadcastInDim S5000 ![] bcast_S_S5000),
    TRef.binary (.of main_v2_3) main_call1.v0 main_call1.v1 (cmpi .slt),
    TRef.nullary main_call1.c_0 (constantI S_ 32 10000#32),
    TRef.unary main_call1.c_0 main_call1.v2 (broadcastInDim S5000 ![] bcast_S_S5000),
    TRef.binary (.of main_v2_3) main_call1.v2 main_call1.v3 addi,
    TRef.ternary main_call1.v1 main_call1.v3 (.of main_v2_3) main_call1.call0.v0 select,
    TRef.unary main_call1.call0.v0 main_call1.v5 (broadcastInDim S5000x1 ![0] bcast_S5000_S5000x1_0),
    TRef.nullary main_call1.c_1 (constantI S1 32 9999#32),
    TRef.nullary main_call1.c_2 (constantI S_ 32 0#32),
    TRef.unary main_call1.c_2 main_call1.v6 (broadcastInDim S5000x1 ![] bcast_S_S5000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S5000x1 ![0, 1] bcast_S1x1_S5000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S5000x1_S5000_d1 h_S_),
    TRef.binary (.of main_arg1) main_call1.v5 main_call1.v13 (fun x i => Host.gather gather_S10000x3_S5000x1_S5000x3_1_0_n_n_0_1_13 x i),
    TRef.unary main_call1.v12 main_call1.v14 (broadcastInDim S5000x3 ![0] bcast_S5000_S5000x3_0),
    TRef.nullary main_call1.cst (constant S_ .f32 0x7FC00000#32),
    TRef.unary main_call1.cst main_call1.v15 (broadcastInDim S5000x3 ![] bcast_S_S5000x3),
    TRef.ternary main_call1.v14 main_call1.v13 main_call1.v15 main_call1.v16 select ]

theorem takePosOps_sub : (takePosOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The sampled batch numbers. -/
abbrev takeBatchOps : List (HloOp τ sig (Elt F)) :=
  [ TRef.nullary main_call2.c (constantI S_ 32 0#32),
    TRef.unary main_call2.c main_call2.v0 (broadcastInDim S5000 ![] bcast_S_S5000),
    TRef.binary (.of main_v2_3) main_call2.v0 main_call2.v1 (cmpi .slt),
    TRef.nullary main_call2.c_0 (constantI S_ 32 10000#32),
    TRef.unary main_call2.c_0 main_call2.v2 (broadcastInDim S5000 ![] bcast_S_S5000),
    TRef.binary (.of main_v2_3) main_call2.v2 main_call2.v3 addi,
    TRef.ternary main_call2.v1 main_call2.v3 (.of main_v2_3) main_call2.call0.v0 select,
    TRef.unary main_call2.call0.v0 main_call2.v5 (broadcastInDim S5000x1 ![0] bcast_S5000_S5000x1_0),
    TRef.nullary main_call2.c_1 (constantI S1 32 9999#32),
    TRef.nullary main_call2.c_2 (constantI S_ 32 0#32),
    TRef.unary main_call2.c_2 main_call2.v6 (broadcastInDim S5000x1 ![] bcast_S_S5000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S5000x1 ![0, 1] bcast_S1x1_S5000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S5000x1_S5000_d1 h_S_),
    TRef.binary (.of main_arg2) main_call2.v5 main_call2.v13 (fun x i => Host.gather gather_S10000_S5000x1_S5000_n_0_n_n_0_1_1 x i),
    TRef.nullary main_call2.c_4 (constantI S_ 32 2147483648#32),
    TRef.unary main_call2.c_4 main_call2.v14 (broadcastInDim S5000 ![] bcast_S_S5000),
    TRef.ternary main_call2.v12 main_call2.v13 main_call2.v14 main_call2.v15 select ]

theorem takeBatchOps_sub : (takeBatchOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The features beside the relative positions. -/
def joined (a : (⟨S160000x128, .f32⟩ : BufTy).Contents (Elt F)) (b : (⟨S160000x3, .f32⟩ : BufTy).Contents (Elt F)) : (⟨S160000x131, .f32⟩ : BufTy).Contents (Elt F) :=
  concatenate S160000x131 1 [⟨S160000x128, a⟩, ⟨S160000x3, b⟩] concatenates_S160000x128_S160000x3_S160000x131_d1

/-- The neighbours: which, and whether within the radius. -/
abbrev selOps : List (HloOp τ sig (Elt F)) :=
  [ binary main_v3 main_v3 main_v5 (mulf : (⟨S5000x3, .f32⟩ : BufTy).Contents (Elt F) → (⟨S5000x3, .f32⟩ : BufTy).Contents (Elt F) → (⟨S5000x3, .f32⟩ : BufTy).Contents (Elt F)),
    nullary main_cst_2 (constant S_ .f32 0x00000000#32),
    binary main_v5 main_cst_2 main_v6 ((fun x v => Host.reduceAdd x v reducesTo_S5000x3_S5000_d1 h_S_) : (⟨S5000x3, .f32⟩ : BufTy).Contents (Elt F) → (⟨S_, .f32⟩ : BufTy).Contents (Elt F) → (⟨S5000, .f32⟩ : BufTy).Contents (Elt F)),
    unary main_v6 main_v7 (broadcastInDim S5000x1 ![0] bcast_S5000_S5000x1_0 : (⟨S5000, .f32⟩ : BufTy).Contents (Elt F) → (⟨S5000x1, .f32⟩ : BufTy).Contents (Elt F)),
    binary main_arg1 main_arg1 main_v8 (mulf : (⟨S10000x3, .f32⟩ : BufTy).Contents (Elt F) → (⟨S10000x3, .f32⟩ : BufTy).Contents (Elt F) → (⟨S10000x3, .f32⟩ : BufTy).Contents (Elt F)),
    nullary main_cst_3 (constant S_ .f32 0x00000000#32),
    binary main_v8 main_cst_3 main_v9 ((fun x v => Host.reduceAdd x v reducesTo_S10000x3_S10000_d1 h_S_) : (⟨S10000x3, .f32⟩ : BufTy).Contents (Elt F) → (⟨S_, .f32⟩ : BufTy).Contents (Elt F) → (⟨S10000, .f32⟩ : BufTy).Contents (Elt F)),
    unary main_v9 main_v10 (broadcastInDim S1x10000 ![1] bcast_S10000_S1x10000_1 : (⟨S10000, .f32⟩ : BufTy).Contents (Elt F) → (⟨S1x10000, .f32⟩ : BufTy).Contents (Elt F)),
    unary main_v7 main_v11 (broadcastInDim S5000x10000 ![0, 1] bcast_S5000x1_S5000x10000_0_1 : (⟨S5000x1, .f32⟩ : BufTy).Contents (Elt F) → (⟨S5000x10000, .f32⟩ : BufTy).Contents (Elt F)),
    unary main_v10 main_v12 (broadcastInDim S5000x10000 ![0, 1] bcast_S1x10000_S5000x10000_0_1 : (⟨S1x10000, .f32⟩ : BufTy).Contents (Elt F) → (⟨S5000x10000, .f32⟩ : BufTy).Contents (Elt F)),
    binary main_v11 main_v12 main_v13 (addf : (⟨S5000x10000, .f32⟩ : BufTy).Contents (Elt F) → (⟨S5000x10000, .f32⟩ : BufTy).Contents (Elt F) → (⟨S5000x10000, .f32⟩ : BufTy).Contents (Elt F)),
    unary main_arg1 main_v14 ((transpose S3x10000 [1, 0] · transposes_S10000x3_S3x10000_1_0) : (⟨S10000x3, .f32⟩ : BufTy).Contents (Elt F) → (⟨S3x10000, .f32⟩ : BufTy).Contents (Elt F)),
    binary main_v3 main_v14 main_v15 ((fun l r => Host.dotGeneral dot_S5000x3_S3x10000_S5000x10000_1_0_0_1_n_n none l r) : (⟨S5000x3, .f32⟩ : BufTy).Contents (Elt F) → (⟨S3x10000, .f32⟩ : BufTy).Contents (Elt F) → (⟨S5000x10000, .f32⟩ : BufTy).Contents (Elt F)),
    nullary main_cst_4 (constant S_ .f32 0x40000000#32),
    unary main_cst_4 main_v16 (broadcastInDim S5000x10000 ![] bcast_S_S5000x10000 : (⟨S_, .f32⟩ : BufTy).Contents (Elt F) → (⟨S5000x10000, .f32⟩ : BufTy).Contents (Elt F)),
    binary main_v16 main_v15 main_v17 (mulf : (⟨S5000x10000, .f32⟩ : BufTy).Contents (Elt F) → (⟨S5000x10000, .f32⟩ : BufTy).Contents (Elt F) → (⟨S5000x10000, .f32⟩ : BufTy).Contents (Elt F)),
    binary main_v13 main_v17 main_v18 (subf : (⟨S5000x10000, .f32⟩ : BufTy).Contents (Elt F) → (⟨S5000x10000, .f32⟩ : BufTy).Contents (Elt F) → (⟨S5000x10000, .f32⟩ : BufTy).Contents (Elt F)),
    nullary main_cst_5 (constant S_ .f32 0x3D23D70A#32),
    unary main_cst_5 main_v19 (broadcastInDim S5000x10000 ![] bcast_S_S5000x10000 : (⟨S_, .f32⟩ : BufTy).Contents (Elt F) → (⟨S5000x10000, .f32⟩ : BufTy).Contents (Elt F)),
    binary main_v18 main_v19 main_v20 (cmpf .ole : (⟨S5000x10000, .f32⟩ : BufTy).Contents (Elt F) → (⟨S5000x10000, .f32⟩ : BufTy).Contents (Elt F) → (⟨S5000x10000, .i1⟩ : BufTy).Contents (Elt F)),
    unary main_v18 main_v21 (Host.negf : (⟨S5000x10000, .f32⟩ : BufTy).Contents (Elt F) → (⟨S5000x10000, .f32⟩ : BufTy).Contents (Elt F)),
    nullary main_cst_6 (constant S_ .f32 0xFF800000#32),
    TRef.unary (.of main_cst_6) main_call3.v0 id,
    TRef.unary main_call3.v0 main_call3.v1 (broadcastInDim S5000x10000 ![] bcast_S_S5000x10000),
    TRef.ternary (.of main_v20) (.of main_v21) main_call3.v1 main_call3.v2 select,
    unary main_v22 main_values ((fun x => (Host.topK S5000x32 1 (FloatOps.cmpfTotal .gt) x sliceFits_S5000x10000_S5000x32).1) : (⟨S5000x10000, .f32⟩ : BufTy).Contents (Elt F) → (⟨S5000x32, .f32⟩ : BufTy).Contents (Elt F)),
    unary main_v22 main_indices ((fun x => (Host.topK S5000x32 1 (FloatOps.cmpfTotal .gt) x sliceFits_S5000x10000_S5000x32).2) : (⟨S5000x10000, .f32⟩ : BufTy).Contents (Elt F) → (⟨S5000x32, .i32⟩ : BufTy).Contents (Elt F)),
    nullary main_cst_7 (constant S_ .f32 0xFF800000#32),
    unary main_cst_7 main_v23 (broadcastInDim S5000x32 ![] bcast_S_S5000x32 : (⟨S_, .f32⟩ : BufTy).Contents (Elt F) → (⟨S5000x32, .f32⟩ : BufTy).Contents (Elt F)),
    binary main_values main_v23 main_v24 (cmpf .ogt : (⟨S5000x32, .f32⟩ : BufTy).Contents (Elt F) → (⟨S5000x32, .f32⟩ : BufTy).Contents (Elt F) → (⟨S5000x32, .i1⟩ : BufTy).Contents (Elt F)),
    nullary main_c_8 (constantI S_ 32 0#32),
    TRef.unary (.of main_c_8) main_call4.v0 id,
    TRef.unary main_call4.v0 main_call4.v1 (broadcastInDim S5000x32 ![] bcast_S_S5000x32),
    TRef.ternary (.of main_v24) (.of main_indices) main_call4.v1 main_call4.v2 select ]

theorem selOps_sub : (selOps : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., unary_bufs_sub .., ternary_bufs_sub .., unary_bufs_sub .., unary_bufs_sub .., nullary_bufs_sub .., unary_bufs_sub .., binary_bufs_sub .., nullary_bufs_sub .., unary_bufs_sub .., unary_bufs_sub .., ternary_bufs_sub ..⟩

/-- The messages and their maximum. -/
abbrev mlpOps : List (HloOp τ sig (Elt F)) :=
  [ reshape main_v25 main_v26 (rfl : (.i32 : EltTy) = .i32) shapeCasts_S5000x32_S160000,
    unary main_v3 main_v27 (broadcastInDim S5000x1x3 ![0, 2] bcast_S5000x3_S5000x1x3_0_2 : (⟨S5000x3, .f32⟩ : BufTy).Contents (Elt F) → (⟨S5000x1x3, .f32⟩ : BufTy).Contents (Elt F)),
    unary main_v27 main_v28 (broadcastInDim S5000x32x3 ![0, 1, 2] bcast_S5000x1x3_S5000x32x3_0_1_2 : (⟨S5000x1x3, .f32⟩ : BufTy).Contents (Elt F) → (⟨S5000x32x3, .f32⟩ : BufTy).Contents (Elt F)),
    reshape main_v28 main_v29 (rfl : (.f32 : EltTy) = .f32) shapeCasts_S5000x32x3_S160000x3,
    nullary main_c_9 (constantI S_ 32 0#32),
    unary main_c_9 main_v30 (broadcastInDim S160000 ![] bcast_S_S160000 : (⟨S_, .i32⟩ : BufTy).Contents (Elt F) → (⟨S160000, .i32⟩ : BufTy).Contents (Elt F)),
    binary main_v26 main_v30 main_v31 (cmpi .slt : (⟨S160000, .i32⟩ : BufTy).Contents (Elt F) → (⟨S160000, .i32⟩ : BufTy).Contents (Elt F) → (⟨S160000, .i1⟩ : BufTy).Contents (Elt F)),
    nullary main_c_10 (constantI S_ 32 10000#32),
    unary main_c_10 main_v32 (broadcastInDim S160000 ![] bcast_S_S160000 : (⟨S_, .i32⟩ : BufTy).Contents (Elt F) → (⟨S160000, .i32⟩ : BufTy).Contents (Elt F)),
    binary main_v26 main_v32 main_v33 (addi : (⟨S160000, .i32⟩ : BufTy).Contents (Elt F) → (⟨S160000, .i32⟩ : BufTy).Contents (Elt F) → (⟨S160000, .i32⟩ : BufTy).Contents (Elt F)),
    ternary main_v31 main_v33 main_v26 main_v34 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v34 main_v35 (broadcastInDim S160000x1 ![0] bcast_S160000_S160000x1_0 : (⟨S160000, .i32⟩ : BufTy).Contents (Elt F) → (⟨S160000x1, .i32⟩ : BufTy).Contents (Elt F)),
    binary main_arg0 main_v35 main_v36 ((fun x i => Host.gather gather_S10000x128_S160000x1_S160000x128_1_0_n_n_0_1_1128 x i) : (⟨S10000x128, .f32⟩ : BufTy).Contents (Elt F) → (⟨S160000x1, .i32⟩ : BufTy).Contents (Elt F) → (⟨S160000x128, .f32⟩ : BufTy).Contents (Elt F)),
    nullary main_c_11 (constantI S_ 32 0#32),
    unary main_c_11 main_v37 (broadcastInDim S160000 ![] bcast_S_S160000 : (⟨S_, .i32⟩ : BufTy).Contents (Elt F) → (⟨S160000, .i32⟩ : BufTy).Contents (Elt F)),
    binary main_v26 main_v37 main_v38 (cmpi .slt : (⟨S160000, .i32⟩ : BufTy).Contents (Elt F) → (⟨S160000, .i32⟩ : BufTy).Contents (Elt F) → (⟨S160000, .i1⟩ : BufTy).Contents (Elt F)),
    nullary main_c_12 (constantI S_ 32 10000#32),
    unary main_c_12 main_v39 (broadcastInDim S160000 ![] bcast_S_S160000 : (⟨S_, .i32⟩ : BufTy).Contents (Elt F) → (⟨S160000, .i32⟩ : BufTy).Contents (Elt F)),
    binary main_v26 main_v39 main_v40 (addi : (⟨S160000, .i32⟩ : BufTy).Contents (Elt F) → (⟨S160000, .i32⟩ : BufTy).Contents (Elt F) → (⟨S160000, .i32⟩ : BufTy).Contents (Elt F)),
    ternary main_v38 main_v40 main_v26 main_v41 (select : (⟨S160000, .i1⟩ : BufTy).Contents (Elt F) → (⟨S160000, .i32⟩ : BufTy).Contents (Elt F) → (⟨S160000, .i32⟩ : BufTy).Contents (Elt F) → (⟨S160000, .i32⟩ : BufTy).Contents (Elt F)),
    unary main_v41 main_v42 (broadcastInDim S160000x1 ![0] bcast_S160000_S160000x1_0 : (⟨S160000, .i32⟩ : BufTy).Contents (Elt F) → (⟨S160000x1, .i32⟩ : BufTy).Contents (Elt F)),
    binary main_arg1 main_v42 main_v43 ((fun x i => Host.gather gather_S10000x3_S160000x1_S160000x3_1_0_n_n_0_1_13 x i) : (⟨S10000x3, .f32⟩ : BufTy).Contents (Elt F) → (⟨S160000x1, .i32⟩ : BufTy).Contents (Elt F) → (⟨S160000x3, .f32⟩ : BufTy).Contents (Elt F)),
    binary main_v43 main_v29 main_v44 (subf : (⟨S160000x3, .f32⟩ : BufTy).Contents (Elt F) → (⟨S160000x3, .f32⟩ : BufTy).Contents (Elt F) → (⟨S160000x3, .f32⟩ : BufTy).Contents (Elt F)),
    binary main_v36 main_v44 main_v45 (joined (F := F)),
    binary main_v45 main_arg3 main_v46 ((fun l r => Host.dotGeneral dot_S160000x131_S131x128_S160000x128_1_0_0_1_n_n none l r) : (⟨S160000x131, .f32⟩ : BufTy).Contents (Elt F) → (⟨S131x128, .f32⟩ : BufTy).Contents (Elt F) → (⟨S160000x128, .f32⟩ : BufTy).Contents (Elt F)),
    unary main_arg4 main_v47 (broadcastInDim S1x128 ![1] bcast_S128_S1x128_1 : (⟨S128, .f32⟩ : BufTy).Contents (Elt F) → (⟨S1x128, .f32⟩ : BufTy).Contents (Elt F)),
    unary main_v47 main_v48 (broadcastInDim S160000x128 ![0, 1] bcast_S1x128_S160000x128_0_1 : (⟨S1x128, .f32⟩ : BufTy).Contents (Elt F) → (⟨S160000x128, .f32⟩ : BufTy).Contents (Elt F)),
    binary main_v46 main_v48 main_v49 (addf : (⟨S160000x128, .f32⟩ : BufTy).Contents (Elt F) → (⟨S160000x128, .f32⟩ : BufTy).Contents (Elt F) → (⟨S160000x128, .f32⟩ : BufTy).Contents (Elt F)),
    nullary main_cst_13 (constant S_ .f32 0x00000000#32),
    unary main_cst_13 main_v50 (broadcastInDim S160000x128 ![] bcast_S_S160000x128 : (⟨S_, .f32⟩ : BufTy).Contents (Elt F) → (⟨S160000x128, .f32⟩ : BufTy).Contents (Elt F)),
    binary main_v49 main_v50 main_v51 (maximumf : (⟨S160000x128, .f32⟩ : BufTy).Contents (Elt F) → (⟨S160000x128, .f32⟩ : BufTy).Contents (Elt F) → (⟨S160000x128, .f32⟩ : BufTy).Contents (Elt F)),
    binary main_v51 main_arg5 main_v52 ((fun l r => Host.dotGeneral dot_S160000x128_S128x128_S160000x128_1_0_0_1_n_n none l r) : (⟨S160000x128, .f32⟩ : BufTy).Contents (Elt F) → (⟨S128x128, .f32⟩ : BufTy).Contents (Elt F) → (⟨S160000x128, .f32⟩ : BufTy).Contents (Elt F)),
    unary main_arg6 main_v53 (broadcastInDim S1x128 ![1] bcast_S128_S1x128_1 : (⟨S128, .f32⟩ : BufTy).Contents (Elt F) → (⟨S1x128, .f32⟩ : BufTy).Contents (Elt F)),
    unary main_v53 main_v54 (broadcastInDim S160000x128 ![0, 1] bcast_S1x128_S160000x128_0_1 : (⟨S1x128, .f32⟩ : BufTy).Contents (Elt F) → (⟨S160000x128, .f32⟩ : BufTy).Contents (Elt F)),
    binary main_v52 main_v54 main_v55 (addf : (⟨S160000x128, .f32⟩ : BufTy).Contents (Elt F) → (⟨S160000x128, .f32⟩ : BufTy).Contents (Elt F) → (⟨S160000x128, .f32⟩ : BufTy).Contents (Elt F)),
    nullary main_cst_14 (constant S_ .f32 0x00000000#32),
    unary main_cst_14 main_v56 (broadcastInDim S160000x128 ![] bcast_S_S160000x128 : (⟨S_, .f32⟩ : BufTy).Contents (Elt F) → (⟨S160000x128, .f32⟩ : BufTy).Contents (Elt F)),
    binary main_v55 main_v56 main_v57 (maximumf : (⟨S160000x128, .f32⟩ : BufTy).Contents (Elt F) → (⟨S160000x128, .f32⟩ : BufTy).Contents (Elt F) → (⟨S160000x128, .f32⟩ : BufTy).Contents (Elt F)),
    reshape main_v24 main_v58 (rfl : (.i1 : EltTy) = .i1) shapeCasts_S5000x32_S160000,
    unary main_v58 main_v59 (broadcastInDim S160000x1 ![0] bcast_S160000_S160000x1_0 : (⟨S160000, .i1⟩ : BufTy).Contents (Elt F) → (⟨S160000x1, .i1⟩ : BufTy).Contents (Elt F)),
    nullary main_cst_15 (constant S_ .f32 0xFF800000#32),
    TRef.unary (.of main_cst_15) main_call5.v0 id,
    TRef.unary (TRef.of (T := ⟨S160000x1, .i1⟩) main_v59) main_call5.v1 (broadcastInDim S160000x128 ![0, 1] bcast_S160000x1_S160000x128_0_1),
    TRef.unary main_call5.v0 main_call5.v2 (broadcastInDim S160000x128 ![] bcast_S_S160000x128),
    TRef.ternary main_call5.v1 (.of main_v57) main_call5.v2 main_call5.v3 select,
    reshape main_v60 main_v61 (rfl : (.f32 : EltTy) = .f32) shapeCasts_S160000x128_S5000x32x128,
    nullary main_cst_16 (constant S_ .f32 0xFF800000#32),
    binary main_v61 main_cst_16 main_v62 ((fun x v => Host.reduce FloatOps.maximumf x v reducesTo_S5000x32x128_S5000x128_d1 h_S_) : (⟨S5000x32x128, .f32⟩ : BufTy).Contents (Elt F) → (⟨S_, .f32⟩ : BufTy).Contents (Elt F) → (⟨S5000x128, .f32⟩ : BufTy).Contents (Elt F)) ]

theorem mlpOps_sub : (mlpOps : List (HloOp τ sig (Elt F))).Forall fun op => op.bufs ⊆ tcRefs τ sig :=
  ⟨reshape_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., reshape_bufs_sub .., unary_bufs_sub .., nullary_bufs_sub .., unary_bufs_sub .., unary_bufs_sub .., unary_bufs_sub .., ternary_bufs_sub .., reshape_bufs_sub .., nullary_bufs_sub .., binary_bufs_sub ..⟩

abbrev preI : List (List (HloOp τ sig (Elt F))) := [preOps]
abbrev bodyI : List (List (HloOp τ sig (Elt F))) := [stepOps, argmaxOps, carryOps]
abbrev postI : List (List (HloOp τ sig (Elt F))) := [takePosOps, takeBatchOps, selOps, mlpOps]

theorem hpre : Plain (preI (F := F)) := Plain.cons preOps_sub Plain.nil
theorem hbodyI : Plain (bodyI (F := F)) := Plain.cons stepOps_sub (Plain.cons argmaxOps_sub (Plain.cons carryOps_sub Plain.nil))
theorem hpost : Plain (postI (F := F)) := Plain.cons takePosOps_sub (Plain.cons takeBatchOps_sub (Plain.cons selOps_sub (Plain.cons mlpOps_sub Plain.nil)))

theorem body_chain : main_while0_body (F := F) = Pipeline.chain (bodyI.map fun ops => (seq ops : Prog _ PUnit)) := by
  chain_rfl

theorem main_chain (c : Dev nD) : main (F := F) c
    = Pipeline.chain ((preI.map fun ops => (seq ops : Prog _ PUnit)) ++ HostLoop.enter 0 :: postI.map fun ops => (seq ops : Prog _ PUnit)) := by
  chain_rfl

/-- One turn of the loop over a valuation. -/
abbrev turn (V : Valuation τ sig (Elt F)) : Valuation τ sig (Elt F) := afterL bodyI (after condOps V)

theorem turn_0 (V : Valuation τ sig (Elt F)) : turn V main_v2_0 = V main_v2_0 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

theorem turn_1 (V : Valuation τ sig (Elt F)) : turn V main_v2_1 = addi (V main_v2_1) (constantI S_ 32 1#32) := by
  simp only [turn, bodyI, afterL_cons, afterL_nil, stepOps, argmaxOps, carryOps, condOps, TRef.quaternary, TRef.nullary, TRef.ternary, TRef.unary, TRef.binary, TRef.toBuf, TRef.ofBuf, cast_eq]
  after_results_simp <;> rfl

theorem turn_2 (V : Valuation τ sig (Elt F)) : turn V main_v2_2 = addi (V main_v2_2) (constantI S_ 32 1#32) := by
  simp only [turn, bodyI, afterL_cons, afterL_nil, stepOps, argmaxOps, carryOps, condOps, TRef.quaternary, TRef.nullary, TRef.ternary, TRef.unary, TRef.binary, TRef.toBuf, TRef.ofBuf, cast_eq]
  after_results_simp <;> rfl

theorem turn_4 (V : Valuation τ sig (Elt F)) : turn V main_v2_4 = distOf (V main_v2_0) (V main_v2_2) (V main_v2_3) (V main_v2_4) := by
  simp only [turn, bodyI, afterL_cons, afterL_nil, stepOps, argmaxOps, carryOps, condOps, TRef.quaternary, TRef.nullary, TRef.ternary, TRef.unary, TRef.binary, TRef.toBuf, TRef.ofBuf, cast_eq]
  after_results_simp_entrywise <;> rfl

theorem turn_3 (V : Valuation τ sig (Elt F)) : turn V main_v2_3 = setAt (V main_v2_3) (V main_v2_2)
    (farthest (distOf (V main_v2_0) (V main_v2_2) (V main_v2_3) (V main_v2_4))) := by
  simp only [turn, bodyI, afterL_cons, afterL_nil, stepOps, argmaxOps, carryOps, condOps, TRef.quaternary, TRef.nullary, TRef.ternary, TRef.unary, TRef.binary, TRef.toBuf, TRef.ofBuf, cast_eq]
  after_results_simp_entrywise <;> rfl

theorem turn_arg0 (V : Valuation τ sig (Elt F)) : turn V main_arg0 = V main_arg0 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

theorem turn_arg1 (V : Valuation τ sig (Elt F)) : turn V main_arg1 = V main_arg1 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

theorem turn_arg2 (V : Valuation τ sig (Elt F)) : turn V main_arg2 = V main_arg2 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

theorem turn_arg3 (V : Valuation τ sig (Elt F)) : turn V main_arg3 = V main_arg3 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

theorem turn_arg4 (V : Valuation τ sig (Elt F)) : turn V main_arg4 = V main_arg4 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

theorem turn_arg5 (V : Valuation τ sig (Elt F)) : turn V main_arg5 = V main_arg5 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

theorem turn_arg6 (V : Valuation τ sig (Elt F)) : turn V main_arg6 = V main_arg6 := by
  simp only [turn, bodyI, afterL_cons, afterL_nil, stepOps, argmaxOps, carryOps, condOps, TRef.quaternary, TRef.nullary, TRef.ternary, TRef.unary, TRef.binary, TRef.toBuf, TRef.ofBuf, cast_eq]
  after_results_simp

/-- The loop's counter before trip `k`. -/
theorem counter (m : (ℓ : Loc nD τ sig) → Buf (Elt F) ℓ) (c : Dev nD) (k : Nat) :
    atTrip condOps bodyI (entryContents preI m) k c main_v2_1 = fun _ => Scf.iv 0#32 1#32 k := by
  induction k with
  | zero =>
    rw [atTrip_zero]
    simp only [entryContents, preI, afterL_cons, afterL_nil, preOps]
    after_results_simp
    funext _
    rfl
  | succ k ih =>
    rw [atTrip_succ]
    refine (turn_1 _).trans ?_
    rw [ih]
    funext _
    exact (Scf.iv_succ ..).symm

set_option backward.isDefEq.respectTransparency.types false in
theorem cond_spec (m : (ℓ : Loc nD τ sig) → Buf (Elt F) ℓ) :
    CondSpec (pcfgs (F := F)) defs₀ loops (main_while0_cond (F := F)) condOps bodyI (entryContents preI m) 4999 := by
  intro k hk c bd
  have hctr := counter (F := F) m c k
  generalize atTrip condOps bodyI (entryContents preI m) k c = W at hctr ⊢
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ W main_v2_1 HostLoop.idx0) (HloOp.result _ W main_while0c_c_21 HostLoop.idx0) = 1#1) (k < 4999)
    rw [nullary_result_ne _ _ _ _ (by decide), nullary_result, hctr]
    have ht : Scf.trips 0#32 4999#32 1#32 = 4999 := by decide +kernel
    have hx := Scf.cmpi_slt_iv_ub_iff (lb := 0#32) (ub := 4999#32) (st := 1#32) (k := k) (by decide +kernel) (by rw [ht]; exact hk)
    rw [ht] at hx
    generalize Scf.iv 0#32 1#32 k = w at hx ⊢
    simp only [constantI]
    exact hx
  isplitl [Hb]; · iexact Hb
  rw [after_cons, after_cons, after_nil]; iexact Hh

/-- What every carried buffer holds before trip `k`. -/
theorem carried (m : (ℓ : Loc nD τ sig) → Buf (Elt F) ℓ) (c : Dev nD) (k : ℕ) :
    atTrip condOps bodyI (entryContents preI m) k c main_v2_0 = m ((c.tc : Thread nD τ).loc main_arg1)
    ∧ (atTrip condOps bodyI (entryContents preI m) k c main_v2_2 = fun _ => Scf.iv 1#32 1#32 k)
    ∧ atTrip condOps bodyI (entryContents preI m) k c main_v2_3 = (state (m ((c.tc : Thread nD τ).loc main_arg1)) k).1
    ∧ atTrip condOps bodyI (entryContents preI m) k c main_v2_4 = (state (m ((c.tc : Thread nD τ).loc main_arg1)) k).2 := by
  induction k with
  | zero =>
    rw [atTrip_zero]
    refine ⟨?_, ?_, ?_, ?_⟩ <;> simp only [entryContents, preI, afterL_cons, afterL_nil, preOps] <;> after_results_simp <;> rfl
  | succ k ih =>
    obtain ⟨h2, h3, h4, h5⟩ := ih
    rw [atTrip_succ]
    refine ⟨(turn_0 _).trans h2, (turn_2 _).trans ?_, (turn_3 _).trans ?_, (turn_4 _).trans ?_⟩
    · rw [h3]; funext _; exact (Scf.iv_succ ..).symm
    · rw [h2, h3, h4, h5]; rfl
    · rw [h2, h3, h4, h5]; rfl

theorem carried_arg0 (m : (ℓ : Loc nD τ sig) → Buf (Elt F) ℓ) (c : Dev nD) (k : ℕ) :
    atTrip condOps bodyI (entryContents preI m) k c main_arg0 = m ((c.tc : Thread nD τ).loc main_arg0) := by
  induction k with
  | zero =>
    rw [atTrip_zero]
    simp only [entryContents, preI, afterL_cons, afterL_nil, preOps]
    after_results_simp
  | succ k ih =>
    rw [atTrip_succ]
    exact (turn_arg0 _).trans ih

theorem carried_arg1 (m : (ℓ : Loc nD τ sig) → Buf (Elt F) ℓ) (c : Dev nD) (k : ℕ) :
    atTrip condOps bodyI (entryContents preI m) k c main_arg1 = m ((c.tc : Thread nD τ).loc main_arg1) := by
  induction k with
  | zero =>
    rw [atTrip_zero]
    simp only [entryContents, preI, afterL_cons, afterL_nil, preOps]
    after_results_simp
  | succ k ih =>
    rw [atTrip_succ]
    exact (turn_arg1 _).trans ih

theorem carried_arg2 (m : (ℓ : Loc nD τ sig) → Buf (Elt F) ℓ) (c : Dev nD) (k : ℕ) :
    atTrip condOps bodyI (entryContents preI m) k c main_arg2 = m ((c.tc : Thread nD τ).loc main_arg2) := by
  induction k with
  | zero =>
    rw [atTrip_zero]
    simp only [entryContents, preI, afterL_cons, afterL_nil, preOps]
    after_results_simp
  | succ k ih =>
    rw [atTrip_succ]
    exact (turn_arg2 _).trans ih

theorem carried_arg3 (m : (ℓ : Loc nD τ sig) → Buf (Elt F) ℓ) (c : Dev nD) (k : ℕ) :
    atTrip condOps bodyI (entryContents preI m) k c main_arg3 = m ((c.tc : Thread nD τ).loc main_arg3) := by
  induction k with
  | zero =>
    rw [atTrip_zero]
    simp only [entryContents, preI, afterL_cons, afterL_nil, preOps]
    after_results_simp
  | succ k ih =>
    rw [atTrip_succ]
    exact (turn_arg3 _).trans ih

theorem carried_arg4 (m : (ℓ : Loc nD τ sig) → Buf (Elt F) ℓ) (c : Dev nD) (k : ℕ) :
    atTrip condOps bodyI (entryContents preI m) k c main_arg4 = m ((c.tc : Thread nD τ).loc main_arg4) := by
  induction k with
  | zero =>
    rw [atTrip_zero]
    simp only [entryContents, preI, afterL_cons, afterL_nil, preOps]
    after_results_simp
  | succ k ih =>
    rw [atTrip_succ]
    exact (turn_arg4 _).trans ih

theorem carried_arg5 (m : (ℓ : Loc nD τ sig) → Buf (Elt F) ℓ) (c : Dev nD) (k : ℕ) :
    atTrip condOps bodyI (entryContents preI m) k c main_arg5 = m ((c.tc : Thread nD τ).loc main_arg5) := by
  induction k with
  | zero =>
    rw [atTrip_zero]
    simp only [entryContents, preI, afterL_cons, afterL_nil, preOps]
    after_results_simp
  | succ k ih =>
    rw [atTrip_succ]
    exact (turn_arg5 _).trans ih

theorem carried_arg6 (m : (ℓ : Loc nD τ sig) → Buf (Elt F) ℓ) (c : Dev nD) (k : ℕ) :
    atTrip condOps bodyI (entryContents preI m) k c main_arg6 = m ((c.tc : Thread nD τ).loc main_arg6) := by
  induction k with
  | zero =>
    rw [atTrip_zero]
    simp only [entryContents, preI, afterL_cons, afterL_nil, preOps]
    after_results_simp
  | succ k ih =>
    rw [atTrip_succ]
    exact (turn_arg6 _).trans ih

theorem cond_v2_3 (V : Valuation τ sig (Elt F)) : after condOps V main_v2_3 = V main_v2_3 := by
  simp only [condOps]
  after_results_simp

theorem cond_arg0 (V : Valuation τ sig (Elt F)) : after condOps V main_arg0 = V main_arg0 := by
  simp only [condOps]
  after_results_simp

theorem cond_arg1 (V : Valuation τ sig (Elt F)) : after condOps V main_arg1 = V main_arg1 := by
  simp only [condOps]
  after_results_simp

theorem cond_arg2 (V : Valuation τ sig (Elt F)) : after condOps V main_arg2 = V main_arg2 := by
  simp only [condOps]
  after_results_simp

theorem cond_arg3 (V : Valuation τ sig (Elt F)) : after condOps V main_arg3 = V main_arg3 := by
  simp only [condOps]
  after_results_simp

theorem cond_arg4 (V : Valuation τ sig (Elt F)) : after condOps V main_arg4 = V main_arg4 := by
  simp only [condOps]
  after_results_simp

theorem cond_arg5 (V : Valuation τ sig (Elt F)) : after condOps V main_arg5 = V main_arg5 := by
  simp only [condOps]
  after_results_simp

theorem cond_arg6 (V : Valuation τ sig (Elt F)) : after condOps V main_arg6 = V main_arg6 := by
  simp only [condOps]
  after_results_simp

theorem takePosOps_arg0 (V : Valuation τ sig (Elt F)) : after takePosOps V main_arg0 = V main_arg0 := by
  simp only [takePosOps, TRef.quaternary, TRef.nullary, TRef.ternary, TRef.unary, TRef.binary, TRef.toBuf, TRef.ofBuf, cast_eq]
  after_results_simp

theorem takePosOps_arg1 (V : Valuation τ sig (Elt F)) : after takePosOps V main_arg1 = V main_arg1 := by
  simp only [takePosOps, TRef.quaternary, TRef.nullary, TRef.ternary, TRef.unary, TRef.binary, TRef.toBuf, TRef.ofBuf, cast_eq]
  after_results_simp

theorem takePosOps_arg2 (V : Valuation τ sig (Elt F)) : after takePosOps V main_arg2 = V main_arg2 := by
  simp only [takePosOps, TRef.quaternary, TRef.nullary, TRef.ternary, TRef.unary, TRef.binary, TRef.toBuf, TRef.ofBuf, cast_eq]
  after_results_simp

theorem takePosOps_arg3 (V : Valuation τ sig (Elt F)) : after takePosOps V main_arg3 = V main_arg3 := by
  simp only [takePosOps, TRef.quaternary, TRef.nullary, TRef.ternary, TRef.unary, TRef.binary, TRef.toBuf, TRef.ofBuf, cast_eq]
  after_results_simp

theorem takePosOps_arg4 (V : Valuation τ sig (Elt F)) : after takePosOps V main_arg4 = V main_arg4 := by
  simp only [takePosOps, TRef.quaternary, TRef.nullary, TRef.ternary, TRef.unary, TRef.binary, TRef.toBuf, TRef.ofBuf, cast_eq]
  after_results_simp

theorem takePosOps_arg5 (V : Valuation τ sig (Elt F)) : after takePosOps V main_arg5 = V main_arg5 := by
  simp only [takePosOps, TRef.quaternary, TRef.nullary, TRef.ternary, TRef.unary, TRef.binary, TRef.toBuf, TRef.ofBuf, cast_eq]
  after_results_simp

theorem takePosOps_arg6 (V : Valuation τ sig (Elt F)) : after takePosOps V main_arg6 = V main_arg6 := by
  simp only [takePosOps, TRef.quaternary, TRef.nullary, TRef.ternary, TRef.unary, TRef.binary, TRef.toBuf, TRef.ofBuf, cast_eq]
  after_results_simp

theorem takeBatchOps_arg0 (V : Valuation τ sig (Elt F)) : after takeBatchOps V main_arg0 = V main_arg0 := by
  simp only [takeBatchOps, TRef.quaternary, TRef.nullary, TRef.ternary, TRef.unary, TRef.binary, TRef.toBuf, TRef.ofBuf, cast_eq]
  after_results_simp

theorem takeBatchOps_arg1 (V : Valuation τ sig (Elt F)) : after takeBatchOps V main_arg1 = V main_arg1 := by
  simp only [takeBatchOps, TRef.quaternary, TRef.nullary, TRef.ternary, TRef.unary, TRef.binary, TRef.toBuf, TRef.ofBuf, cast_eq]
  after_results_simp

theorem takeBatchOps_arg2 (V : Valuation τ sig (Elt F)) : after takeBatchOps V main_arg2 = V main_arg2 := by
  simp only [takeBatchOps, TRef.quaternary, TRef.nullary, TRef.ternary, TRef.unary, TRef.binary, TRef.toBuf, TRef.ofBuf, cast_eq]
  after_results_simp

theorem takeBatchOps_arg3 (V : Valuation τ sig (Elt F)) : after takeBatchOps V main_arg3 = V main_arg3 := by
  simp only [takeBatchOps, TRef.quaternary, TRef.nullary, TRef.ternary, TRef.unary, TRef.binary, TRef.toBuf, TRef.ofBuf, cast_eq]
  after_results_simp

theorem takeBatchOps_arg4 (V : Valuation τ sig (Elt F)) : after takeBatchOps V main_arg4 = V main_arg4 := by
  simp only [takeBatchOps, TRef.quaternary, TRef.nullary, TRef.ternary, TRef.unary, TRef.binary, TRef.toBuf, TRef.ofBuf, cast_eq]
  after_results_simp

theorem takeBatchOps_arg5 (V : Valuation τ sig (Elt F)) : after takeBatchOps V main_arg5 = V main_arg5 := by
  simp only [takeBatchOps, TRef.quaternary, TRef.nullary, TRef.ternary, TRef.unary, TRef.binary, TRef.toBuf, TRef.ofBuf, cast_eq]
  after_results_simp

theorem takeBatchOps_arg6 (V : Valuation τ sig (Elt F)) : after takeBatchOps V main_arg6 = V main_arg6 := by
  simp only [takeBatchOps, TRef.quaternary, TRef.nullary, TRef.ternary, TRef.unary, TRef.binary, TRef.toBuf, TRef.ofBuf, cast_eq]
  after_results_simp

theorem selOps_arg0 (V : Valuation τ sig (Elt F)) : after selOps V main_arg0 = V main_arg0 := by
  simp only [selOps, TRef.quaternary, TRef.nullary, TRef.ternary, TRef.unary, TRef.binary, TRef.toBuf, TRef.ofBuf, cast_eq]
  after_results_simp

theorem selOps_arg1 (V : Valuation τ sig (Elt F)) : after selOps V main_arg1 = V main_arg1 := by
  simp only [selOps, TRef.quaternary, TRef.nullary, TRef.ternary, TRef.unary, TRef.binary, TRef.toBuf, TRef.ofBuf, cast_eq]
  after_results_simp

theorem selOps_arg2 (V : Valuation τ sig (Elt F)) : after selOps V main_arg2 = V main_arg2 := by
  simp only [selOps, TRef.quaternary, TRef.nullary, TRef.ternary, TRef.unary, TRef.binary, TRef.toBuf, TRef.ofBuf, cast_eq]
  after_results_simp

theorem selOps_arg3 (V : Valuation τ sig (Elt F)) : after selOps V main_arg3 = V main_arg3 := by
  simp only [selOps, TRef.quaternary, TRef.nullary, TRef.ternary, TRef.unary, TRef.binary, TRef.toBuf, TRef.ofBuf, cast_eq]
  after_results_simp

theorem selOps_arg4 (V : Valuation τ sig (Elt F)) : after selOps V main_arg4 = V main_arg4 := by
  simp only [selOps, TRef.quaternary, TRef.nullary, TRef.ternary, TRef.unary, TRef.binary, TRef.toBuf, TRef.ofBuf, cast_eq]
  after_results_simp

theorem selOps_arg5 (V : Valuation τ sig (Elt F)) : after selOps V main_arg5 = V main_arg5 := by
  simp only [selOps, TRef.quaternary, TRef.nullary, TRef.ternary, TRef.unary, TRef.binary, TRef.toBuf, TRef.ofBuf, cast_eq]
  after_results_simp

theorem selOps_arg6 (V : Valuation τ sig (Elt F)) : after selOps V main_arg6 = V main_arg6 := by
  simp only [selOps, TRef.quaternary, TRef.nullary, TRef.ternary, TRef.unary, TRef.binary, TRef.toBuf, TRef.ofBuf, cast_eq]
  after_results_simp

theorem mlpOps_arg0 (V : Valuation τ sig (Elt F)) : after mlpOps V main_arg0 = V main_arg0 := by
  simp only [mlpOps, TRef.quaternary, TRef.nullary, TRef.ternary, TRef.unary, TRef.binary, TRef.toBuf, TRef.ofBuf, cast_eq]
  after_results_simp

theorem mlpOps_arg1 (V : Valuation τ sig (Elt F)) : after mlpOps V main_arg1 = V main_arg1 := by
  simp only [mlpOps, TRef.quaternary, TRef.nullary, TRef.ternary, TRef.unary, TRef.binary, TRef.toBuf, TRef.ofBuf, cast_eq]
  after_results_simp

theorem mlpOps_arg2 (V : Valuation τ sig (Elt F)) : after mlpOps V main_arg2 = V main_arg2 := by
  simp only [mlpOps, TRef.quaternary, TRef.nullary, TRef.ternary, TRef.unary, TRef.binary, TRef.toBuf, TRef.ofBuf, cast_eq]
  after_results_simp

theorem mlpOps_arg3 (V : Valuation τ sig (Elt F)) : after mlpOps V main_arg3 = V main_arg3 := by
  simp only [mlpOps, TRef.quaternary, TRef.nullary, TRef.ternary, TRef.unary, TRef.binary, TRef.toBuf, TRef.ofBuf, cast_eq]
  after_results_simp

theorem mlpOps_arg4 (V : Valuation τ sig (Elt F)) : after mlpOps V main_arg4 = V main_arg4 := by
  simp only [mlpOps, TRef.quaternary, TRef.nullary, TRef.ternary, TRef.unary, TRef.binary, TRef.toBuf, TRef.ofBuf, cast_eq]
  after_results_simp

theorem mlpOps_arg5 (V : Valuation τ sig (Elt F)) : after mlpOps V main_arg5 = V main_arg5 := by
  simp only [mlpOps, TRef.quaternary, TRef.nullary, TRef.ternary, TRef.unary, TRef.binary, TRef.toBuf, TRef.ofBuf, cast_eq]
  after_results_simp

theorem mlpOps_arg6 (V : Valuation τ sig (Elt F)) : after mlpOps V main_arg6 = V main_arg6 := by
  simp only [mlpOps, TRef.quaternary, TRef.nullary, TRef.ternary, TRef.unary, TRef.binary, TRef.toBuf, TRef.ofBuf, cast_eq]
  after_results_simp

theorem takePosOps_v2_3 (V : Valuation τ sig (Elt F)) : after takePosOps V main_v2_3 = V main_v2_3 := by
  simp only [takePosOps, TRef.quaternary, TRef.nullary, TRef.ternary, TRef.unary, TRef.binary, TRef.toBuf, TRef.ofBuf, cast_eq]
  after_results_simp

theorem takeBatchOps_v3 (V : Valuation τ sig (Elt F)) : after takeBatchOps V main_v3 = V main_v3 := by
  simp only [takeBatchOps, TRef.quaternary, TRef.nullary, TRef.ternary, TRef.unary, TRef.binary, TRef.toBuf, TRef.ofBuf, cast_eq]
  after_results_simp

theorem selOps_v3 (V : Valuation τ sig (Elt F)) : after selOps V main_v3 = V main_v3 := by
  simp only [selOps, TRef.quaternary, TRef.nullary, TRef.ternary, TRef.unary, TRef.binary, TRef.toBuf, TRef.ofBuf, cast_eq]
  after_results_simp

theorem mlpOps_v3 (V : Valuation τ sig (Elt F)) : after mlpOps V main_v3 = V main_v3 := by
  simp only [mlpOps, TRef.quaternary, TRef.nullary, TRef.ternary, TRef.unary, TRef.binary, TRef.toBuf, TRef.ofBuf, cast_eq]
  after_results_simp

theorem selOps_v4 (V : Valuation τ sig (Elt F)) : after selOps V main_v4 = V main_v4 := by
  simp only [selOps, TRef.quaternary, TRef.nullary, TRef.ternary, TRef.unary, TRef.binary, TRef.toBuf, TRef.ofBuf, cast_eq]
  after_results_simp

theorem mlpOps_v4 (V : Valuation τ sig (Elt F)) : after mlpOps V main_v4 = V main_v4 := by
  simp only [mlpOps, TRef.quaternary, TRef.nullary, TRef.ternary, TRef.unary, TRef.binary, TRef.toBuf, TRef.ofBuf, cast_eq]
  after_results_simp

theorem takePosOps_v3 (V : Valuation τ sig (Elt F)) : after takePosOps V main_v3 = takePos (V main_arg1) (V main_v2_3) := by
  simp only [takePosOps, TRef.quaternary, TRef.nullary, TRef.ternary, TRef.unary, TRef.binary, TRef.toBuf, TRef.ofBuf, cast_eq]
  after_results_simp <;> rfl

theorem takeBatchOps_v4 (V : Valuation τ sig (Elt F)) : after takeBatchOps V main_v4 = takeBatch (V main_arg2) (V main_v2_3) := by
  simp only [takeBatchOps, TRef.quaternary, TRef.nullary, TRef.ternary, TRef.unary, TRef.binary, TRef.toBuf, TRef.ofBuf, cast_eq]
  after_results_simp <;> rfl

end Cert.ReferenceIdeal.Whole

end
-- ==== Proof.WholeRefRun.lean ====
/- The reference run to its end: the sampling loop's list, the rows and batch numbers it takes, the selection and the
   MLP after it, read off the valuation after the last operation. -/
module

public import proofs.«01_k».proof.Proof.WholeRefOps
public import proofs.«01_k».proof.Proof.WholeRef

@[expose] public section

set_option maxRecDepth 16384

noncomputable section

namespace Cert.ReferenceIdeal.Whole

open Cert.ReferenceIdeal Cert.ReferenceIdeal.Gen Idealize.ShloMosaic Idealize.ShloMosaic.TcCoe Idealize.ShloMosaic.Tactic
open Idealize.SL Idealize.SL.Sem
open Idealize.ShloMosaic.StableHlo
open Cert.Reference1Ideal.Fps (state takePos takeBatch)

theorem selOps_v24 (V : Valuation τ sig (Elt Ideal)) : after selOps V main_v24 = valid (V main_arg1) (V main_v3) := by
  simp only [selOps, TRef.quaternary, TRef.nullary, TRef.ternary, TRef.unary, TRef.binary, TRef.toBuf, TRef.ofBuf, cast_eq]
  after_results_simp <;> rfl

theorem selOps_v25 (V : Valuation τ sig (Elt Ideal)) : after selOps V main_v25 = chosen (V main_arg1) (V main_v3) := by
  simp only [selOps, TRef.quaternary, TRef.nullary, TRef.ternary, TRef.unary, TRef.binary, TRef.toBuf, TRef.ofBuf, cast_eq]
  after_results_simp <;> rfl

theorem mlpOps_v62 (V : Valuation τ sig (Elt Ideal)) : after mlpOps V main_v62
    = REF (V main_arg0) (V main_arg1) (V main_v3) (V main_v25) (V main_v24) (V main_arg3) (V main_arg4) (V main_arg5) (V main_arg6) := by
  simp only [mlpOps, TRef.quaternary, TRef.nullary, TRef.ternary, TRef.unary, TRef.binary, TRef.toBuf, TRef.ofBuf, cast_eq]
  after_results_simp <;> rfl

/-- The sampled points. -/
@[irreducible] def sampled (p : FVec Ideal S10000x3 .f32) : FVec Ideal S5000x3 .f32 := takePos p (state p 4999).1

/-- The result: the MLP's maximum over the neighbours of the sampled points. -/
def out (x : FVec Ideal S10000x128 .f32) (p : FVec Ideal S10000x3 .f32) (w₁ : FVec Ideal S131x128 .f32) (b₁ : FVec Ideal S128 .f32)
    (w₂ : FVec Ideal S128x128 .f32) (b₂ : FVec Ideal S128 .f32) : FVec Ideal S5000x128 .f32 :=
  REF x p (sampled p) (chosen p (sampled p)) (valid p (sampled p)) w₁ b₁ w₂ b₂

theorem post_eq (V : Valuation τ sig (Elt Ideal)) : afterL postI V = after mlpOps (after selOps (after takeBatchOps (after takePosOps V))) := by
  simp only [postI, afterL_cons, afterL_nil]

theorem post_arg0 (V : Valuation τ sig (Elt Ideal)) : afterL postI V main_arg0 = V main_arg0 := by
  rw [post_eq, mlpOps_arg0, selOps_arg0, takeBatchOps_arg0, takePosOps_arg0]
theorem post_arg1 (V : Valuation τ sig (Elt Ideal)) : afterL postI V main_arg1 = V main_arg1 := by
  rw [post_eq, mlpOps_arg1, selOps_arg1, takeBatchOps_arg1, takePosOps_arg1]
theorem post_arg2 (V : Valuation τ sig (Elt Ideal)) : afterL postI V main_arg2 = V main_arg2 := by
  rw [post_eq, mlpOps_arg2, selOps_arg2, takeBatchOps_arg2, takePosOps_arg2]
theorem post_arg3 (V : Valuation τ sig (Elt Ideal)) : afterL postI V main_arg3 = V main_arg3 := by
  rw [post_eq, mlpOps_arg3, selOps_arg3, takeBatchOps_arg3, takePosOps_arg3]
theorem post_arg4 (V : Valuation τ sig (Elt Ideal)) : afterL postI V main_arg4 = V main_arg4 := by
  rw [post_eq, mlpOps_arg4, selOps_arg4, takeBatchOps_arg4, takePosOps_arg4]
theorem post_arg5 (V : Valuation τ sig (Elt Ideal)) : afterL postI V main_arg5 = V main_arg5 := by
  rw [post_eq, mlpOps_arg5, selOps_arg5, takeBatchOps_arg5, takePosOps_arg5]
theorem post_arg6 (V : Valuation τ sig (Elt Ideal)) : afterL postI V main_arg6 = V main_arg6 := by
  rw [post_eq, mlpOps_arg6, selOps_arg6, takeBatchOps_arg6, takePosOps_arg6]
theorem post_v3 (V : Valuation τ sig (Elt Ideal)) : afterL postI V main_v3 = takePos (F := Ideal) (V main_arg1) (V main_v2_3) := by
  rw [post_eq, mlpOps_v3, selOps_v3, takeBatchOps_v3, takePosOps_v3]
theorem post_v4 (V : Valuation τ sig (Elt Ideal)) : afterL postI V main_v4 = takeBatch (V main_arg2) (V main_v2_3) := by
  rw [post_eq, mlpOps_v4, selOps_v4, takeBatchOps_v4, takePosOps_arg2, takePosOps_v2_3]
theorem post_v62 (V : Valuation τ sig (Elt Ideal)) : afterL postI V main_v62
    = REF (V main_arg0) (V main_arg1) (takePos (F := Ideal) (V main_arg1) (V main_v2_3)) (chosen (V main_arg1) (takePos (F := Ideal) (V main_arg1) (V main_v2_3)))
        (valid (V main_arg1) (takePos (F := Ideal) (V main_arg1) (V main_v2_3))) (V main_arg3) (V main_arg4) (V main_arg5) (V main_arg6) := by
  rw [post_eq, mlpOps_v62, selOps_v24, selOps_v25, selOps_v3, selOps_arg0, selOps_arg1, selOps_arg3, selOps_arg4, selOps_arg5, selOps_arg6,
    takeBatchOps_v3, takeBatchOps_arg0, takeBatchOps_arg1, takeBatchOps_arg3, takeBatchOps_arg4, takeBatchOps_arg5, takeBatchOps_arg6,
    takePosOps_v3, takePosOps_arg0, takePosOps_arg1, takePosOps_arg3, takePosOps_arg4, takePosOps_arg5, takePosOps_arg6]

/-- The reference's results and its arguments when it ends. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v62) = out (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v3) = sampled (m ((c.tc : Thread nD τ).loc main_arg1))
      ∧ r.2.mem ((c.tc : Thread nD τ).loc main_v4) = takeBatch (m ((c.tc : Thread nD τ).loc main_arg2)) (state (F := Ideal) (m ((c.tc : Thread nD τ).loc main_arg1)) 4999).1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_)
    (run_loop (F := Ideal) pcfgs defs₀ loops main 0 main_while0_cond main_while0_body rfl preI bodyI postI condOps hpre hbodyI hpost main_chain body_chain 4999 m ρ (cond_spec m))
  have h3 := (carried m c 4999).2.2.1
  refine ⟨(h c main_v62 rfl).trans ((post_v62 _).trans ?_), (h c main_v3 rfl).trans ((post_v3 _).trans ?_), (h c main_v4 rfl).trans ((post_v4 _).trans ?_),
    (h c main_arg0 rfl).trans ((post_arg0 _).trans ((cond_arg0 _).trans (carried_arg0 m c 4999))),
    (h c main_arg1 rfl).trans ((post_arg1 _).trans ((cond_arg1 _).trans (carried_arg1 m c 4999))),
    (h c main_arg2 rfl).trans ((post_arg2 _).trans ((cond_arg2 _).trans (carried_arg2 m c 4999))),
    (h c main_arg3 rfl).trans ((post_arg3 _).trans ((cond_arg3 _).trans (carried_arg3 m c 4999))),
    (h c main_arg4 rfl).trans ((post_arg4 _).trans ((cond_arg4 _).trans (carried_arg4 m c 4999))),
    (h c main_arg5 rfl).trans ((post_arg5 _).trans ((cond_arg5 _).trans (carried_arg5 m c 4999))),
    (h c main_arg6 rfl).trans ((post_arg6 _).trans ((cond_arg6 _).trans (carried_arg6 m c 4999)))⟩
  · rw [cond_v2_3, cond_arg0, cond_arg1, cond_arg3, cond_arg4, cond_arg5, cond_arg6, carried_arg0, carried_arg1, carried_arg3, carried_arg4, carried_arg5, carried_arg6, h3]
    unfold out sampled
    rfl
  · rw [cond_v2_3, cond_arg1, carried_arg1, h3]
    unfold sampled
    rfl
  · rw [cond_v2_3, cond_arg2, carried_arg2, h3]

end Cert.ReferenceIdeal.Whole
-- ==== Proof.WholeClaims.lean ====
/- The claims about the whole program: frames, and the value claim about its three results against the reference. -/
module

public import proofs.«01_k».proof.Defs
public import proofs.«01_k».proof.Proof.WholeFinal
public import proofs.«01_k».proof.Proof.WholeTake
public import proofs.«01_k».proof.Proof.WholeRefRun
public import proofs.«01_k».proof.Proof.MlpPre
public import proofs.«01_k».proof.Proof.Gen.Pre_pre_whole
public import Idealize.ShloMosaic.Adequacy
public import Idealize.ShloMosaic.Init

@[expose] public section

set_option maxRecDepth 16384

namespace Cert.WholeClaims

open Idealize.ShloMosaic Idealize.ShloMosaic.TcCoe Idealize.SL.Sem

section Pre

open Cert.Pre_pre_whole Cert.Pre_pre_whole.Facts

instance : Subsingleton S_.Idx := ⟨fun a b => funext fun x => x.elim0⟩

/-- What the precondition says of the cloud and the weights. -/
theorem split (a0 : FVec Ideal S10000x128 .f32) (a1 : FVec Ideal S10000x3 .f32) (a2 : IVec S10000 32) (a3 : FVec Ideal S131x128 .f32) (a4 : FVec Ideal S128 .f32) (a5 : FVec Ideal S128x128 .f32) (a6 : FVec Ideal S128 .f32)
    (h : Cert.Pre_pre_whole.fn a0 a1 a2 a3 a4 a5 a6 = fun _ => 1#1) :
    (∀ y, Cert.SelPre.Bounded (a1 y)) ∧ Cert.Whole.RealRows a3 := by
  have e := congrFun h (fun x => x.elim0)
  unfold Cert.Pre_pre_whole.fn at e
  dsimp only at e
  obtain ⟨e1, e3⟩ := Cert.SelPre.both e
  refine ⟨fun y => Cert.SelPre.bounded_of_lt _ (Host.reduce_andi_all _ _ _ _ _ e1 y), fun a k => ?_⟩
  obtain ⟨r, hr⟩ := Cert.MlpPre.real_of_lt _ (Host.reduce_andi_all _ _ _ _ _ e3 (ix2 a k))
  refine ⟨r, Eq.trans ?_ hr⟩
  pointwise []

end Pre

theorem frame_reference : Cert.quiescent_ReferenceIdeal := fun m g _ =>
  (θ_run Cert.ReferenceIdeal.defs _ _).mono (fun r h => ⟨fun c => (h c).2.2.2, Idealize.ShloMosaic.sem_eq_zero_of_no_sems (by decide) r.2⟩)
    (Cert.ReferenceIdeal.Whole.run m g)

theorem frame_reference_pre : Cert.quiescent_ReferenceIdeal_pre_pre_whole := fun m g _ =>
  (θ_run Cert.ReferenceIdeal.defs _ _).mono (fun r h => ⟨fun c => (h c).2.2.2, Idealize.ShloMosaic.sem_eq_zero_of_no_sems (by decide) r.2⟩)
    (Cert.ReferenceIdeal.Whole.run m g)

section Kernel

variable (m : (ℓ : Loc Cert.KernelIdeal.nD Cert.KernelIdeal.τ Cert.KernelIdeal.sig) → Buf (Elt Ideal) ℓ) (hpre : Cert.Pre_KernelIdeal m)
include hpre

theorem cloud (c : Dev Cert.KernelIdeal.nD) (y : Cert.KernelIdeal.S10000x3.Idx) : Cert.SelPre.Bounded (Cert.Whole.A1 m c y) :=
  (split _ _ _ _ _ _ _ (hpre c)).1 y

theorem samples (c : Dev Cert.KernelIdeal.nD) (y : Cert.KernelIdeal.S5000x3.Idx) : Cert.SelPre.Bounded (Cert.Whole.Q m c y) := by
  unfold Cert.Whole.Q
  exact Cert.WholeTake.bounded _ (cloud m hpre c) y

/-- Under the precondition the gather's side condition holds. -/
theorem hyps : Cert.WholeMlp.Hyps (Cert.Whole.Ve2 m) := Cert.Whole.hyps m (cloud m hpre) (samples m hpre)

end Kernel

theorem frame_ideal : Cert.quiescent_KernelIdeal := fun m g hpre =>
  (θ_run Cert.KernelIdeal.defs _ _).mono (fun r h => ⟨fun c => by
    obtain ⟨h0, h1, h2, h3, h4, h5, h6, _⟩ := h.1 c
    exact ⟨h0, h1, h2, h3, h4, h5, h6⟩, h.2⟩) (Cert.Whole.run m (hyps m hpre) g)

/-- The kernel's sampled positions are the reference's. -/
theorem q_eq (m : (ℓ : Loc Cert.KernelIdeal.nD Cert.KernelIdeal.τ Cert.KernelIdeal.sig) → Buf (Elt Ideal) ℓ) (c : Dev Cert.KernelIdeal.nD) :
    Cert.Whole.Q m c = Cert.ReferenceIdeal.Whole.sampled (Cert.Whole.A1 m c) := by
  unfold Cert.Whole.Q Cert.ReferenceIdeal.Whole.sampled
  rfl

/-- The features expected are the reference's. -/
theorem target_eq (m : (ℓ : Loc Cert.KernelIdeal.nD Cert.KernelIdeal.τ Cert.KernelIdeal.sig) → Buf (Elt Ideal) ℓ) (c : Dev Cert.KernelIdeal.nD) :
    Cert.Whole.target m c = Cert.ReferenceIdeal.Whole.out (Cert.Whole.A0 m c) (Cert.Whole.A1 m c) (Cert.Whole.A3 m c) (Cert.Whole.A4 m c) (Cert.Whole.A5 m c) (Cert.Whole.A6 m c) := by
  unfold Cert.Whole.target Cert.ReferenceIdeal.Whole.out
  rw [q_eq m c]

/-- The whole program leaves the reference's three results. -/
theorem algebraic : Cert.algebraic_KernelIdeal_ReferenceIdeal := by
  intro m g m' g' hpre hagree
  refine ⟨fun c => Cert.Whole.target m c, fun c => Cert.Whole.Q m c,
    fun c => Cert.Reference1Ideal.Fps.takeBatch (Cert.Whole.AB m c) (Cert.Reference1Ideal.Fps.state (F := Ideal) (Cert.Whole.A1 m c) 4999).1, ?_, ?_⟩
  · refine (θ_run Cert.KernelIdeal.defs _ _).mono (fun r h c => ?_) (Cert.Whole.run m (hyps m hpre) g)
    obtain ⟨h0, h1, h2, h3, h4, h5, h6, hv, hq, hb⟩ := h.1 c
    exact ⟨hv.trans (Cert.Whole.final m (hyps m hpre) c (cloud m hpre c) (samples m hpre c) (split _ _ _ _ _ _ _ (hpre c)).2),
      hq.trans (Cert.Whole.final_pos m (hyps m hpre) c), hb.trans (Cert.Whole.final_batch m (hyps m hpre) c), h0, h1, h2, h3, h4, h5, h6⟩
  · refine (θ_run Cert.ReferenceIdeal.defs _ _).mono (fun r h c => ?_) (Cert.ReferenceIdeal.Whole.run m' g')
    obtain ⟨h0, h1, h2, h3, h4, h5, h6⟩ := hagree c
    obtain ⟨r0, r1, r2, rest⟩ := h c
    refine ⟨r0.trans ?_, r1.trans ?_, r2.trans ?_, rest⟩
    · rw [h0, h1, h3, h4, h5, h6]
      exact (target_eq m c).symm
    · rw [h1]
      exact (q_eq m c).symm
    · rw [h1, h2]

end Cert.WholeClaims
-- ==== Proof.lean ====
module

public import proofs.«01_k».proof.Defs
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel1
public import proofs.«01_k».proof.Proof.Gen.Kernel1.Skeleton
public import proofs.«01_k».proof.Proof.Gen.Kernel1.Loops
public import proofs.«01_k».proof.Proof.Gen.Kernel1.Launch
public import proofs.«01_k».proof.Proof.Gen.Kernel1.Points
public import proofs.«01_k».proof.Proof.Gen.Kernel1.Frame
public import proofs.«01_k».proof.Proof.Gen.Kernel1Ideal
public import proofs.«01_k».proof.Proof.Gen.Kernel1Ideal.Skeleton
public import proofs.«01_k».proof.Proof.Gen.Kernel1Ideal.Loops
public import proofs.«01_k».proof.Proof.Gen.Kernel1Ideal.Launch
public import proofs.«01_k».proof.Proof.Gen.Kernel1Ideal.Points
public import proofs.«01_k».proof.Proof.Gen.Kernel1Ideal.Frame
public import proofs.«01_k».proof.Proof.Gen.Reference1Ideal
public import proofs.«01_k».proof.Proof.Gen.Pre_pre_mlp
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Pre_pre_select
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.Pre_pre_whole
public import proofs.«01_k».proof.Proof.Gen.Own.KernelIdeal.RegionsD
public import proofs.«01_k».proof.Proof.MlpClaims
public import proofs.«01_k».proof.Proof.FpsClaims
public import proofs.«01_k».proof.Proof.SelClaims
public import proofs.«01_k».proof.Proof.WholeClaims
public import Idealize.ShloMosaic.Adequacy
public import Idealize.ShloMosaic.Init

@[expose] public section

noncomputable section

namespace Cert.Proof

open Idealize.ShloMosaic Idealize.SL.Sem Cert.Kernel3

theorem claim : Cert.Claim := ⟨Cert.Kernel3.Gen.facts, Cert.Kernel3Ideal.Gen.facts, Cert.Reference3Ideal.Gen.facts, Cert.Kernel1.Gen.facts, Cert.Kernel1Ideal.Gen.facts, Cert.Reference1Ideal.Gen.facts, Cert.Kernel2.Gen.facts, Cert.Kernel2Ideal.Gen.facts, Cert.Reference2Ideal.Gen.facts, Cert.KernelIdeal.Gen.facts, Cert.ReferenceIdeal.Gen.facts, Cert.Pre_pre_mlp.Gen.facts, Cert.Pre_pre_select.Gen.facts, Cert.Pre_pre_whole.Gen.facts,
  MlpClaims.frame_kernel, MlpClaims.frame_ideal, MlpClaims.frame_reference, MlpClaims.frame_reference_pre,
  FpsClaims.frame_kernel, FpsClaims.frame_ideal, FpsClaims.frame_reference,
  SelClaims.frame_kernel, SelClaims.frame_ideal, SelClaims.frame_ideal_pre, SelClaims.frame_reference, SelClaims.frame_reference_pre,
  WholeClaims.frame_ideal, WholeClaims.frame_reference, WholeClaims.frame_reference_pre,
  trivial, MlpClaims.algebraic, trivial, FpsClaims.algebraic, trivial, SelClaims.algebraic, WholeClaims.algebraic⟩

end Cert.Proof

end
